-- ==== Defs.lean ====
def Pre_Kernel [hPre_plan_in_range : Cert.Pre_plan_in_range.Facts] (m : (ℓ : Loc Cert.Kernel.nD Cert.Kernel.τ Cert.Kernel.sig) → Buf (Elt Bits) ℓ) : Prop :=
  ∀ c : Dev Cert.Kernel.nD,
    (Cert.Pre_plan_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_plan_in_range : Cert.Pre_plan_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_plan_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_plan_in_range : Cert.Pre_plan_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_rows_in_range : Cert.Pre_rows_in_range.Facts] (m : (ℓ : Loc Cert.Kernel3.nD Cert.Kernel3.τ Cert.Kernel3.sig) → Buf (Elt Bits) ℓ) : Prop :=
  ∀ c : Dev Cert.Kernel3.nD,
    (Cert.Pre_rows_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_rows_in_range : Cert.Pre_rows_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_rows_in_range : Cert.Pre_rows_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_plan_in_range : Cert.Pre_plan_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_plan_in_range : Cert.Pre_plan_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_plan_in_range : Cert.Pre_plan_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_rows_in_range : Cert.Pre_rows_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_rows_in_range : Cert.Pre_rows_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan_in_range : Cert.Pre_plan_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v53) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_plan_in_range : Cert.Pre_plan_in_range.Facts) (hPre_rows_in_range : Cert.Pre_rows_in_range.Facts),
    quiescent_Kernel (hKernel := hKernel) (hPre_plan_in_range := hPre_plan_in_range)
    ∧ quiescent_KernelIdeal (hKernelIdeal := hKernelIdeal) (hPre_plan_in_range := hPre_plan_in_range)
    ∧ quiescent_ReferenceIdeal (hReferenceIdeal := hReferenceIdeal) (hPre_plan_in_range := hPre_plan_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_rows_in_range := hPre_rows_in_range)
    ∧ quiescent_Kernel3Ideal (hKernel3Ideal := hKernel3Ideal) (hPre_rows_in_range := hPre_rows_in_range)
    ∧ quiescent_Reference3Ideal (hReference3Ideal := hReference3Ideal) (hPre_rows_in_range := hPre_rows_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_plan_in_range := hPre_plan_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_rows_in_range := hPre_rows_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_plan_in_range.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S73728x1024 .f32) (main_arg3 : FVec F S1x8x1024x3584 .f32) (main_arg4 : FVec F S1x8x1024x3584 .f32) (main_arg5 : FVec F S1x8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 72#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_rows_in_range.lean ====
abbrev S65536 : Shape := ⟨1, ![65536]⟩
abbrev S73728x1024 : Shape := ⟨2, ![73728, 1024]⟩
abbrev S32768x1024 : Shape := ⟨2, ![32768, 1024]⟩
abbrev S32768x128 : Shape := ⟨2, ![32768, 128]⟩
abbrev S288x1x1024 : Shape := ⟨3, ![288, 1, 1024]⟩
abbrev S1024 : Shape := ⟨1, ![1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S73728x1024 .f32) (main_arg2 : FVec F S32768x1024 .f32) (main_arg3 : FVec F S32768x128 .f32) (main_arg4 : FVec F S288x1x1024 .f32) (main_arg5 : FVec F S1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 73728#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Kernel.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S3x1024x512 : Shape := ⟨3, ![3, 1024, 512]⟩
abbrev S3x512x1024 : Shape := ⟨3, ![3, 512, 1024]⟩
abbrev S3x3 : Shape := ⟨2, ![3, 3]⟩
abbrev S1x1 : Shape := ⟨2, ![1, 1]⟩
abbrev S_ : Shape := ⟨0, ![]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 8
  | .vmem => 8
  | .smem => 2
  | _ => 0

abbrev bufTy : (tb : Table) → Fin (tcTables nBuf tb) → BufTy
  | .hbm, ⟨0, _⟩ => ⟨S73728x1024, .f32⟩
  | .hbm, ⟨1, _⟩ => ⟨S1x8x1024x3584, .f32⟩
  | .hbm, ⟨2, _⟩ => ⟨S1x8x1024x3584, .f32⟩
  | .hbm, ⟨3, _⟩ => ⟨S1x8x3584x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S3x1024x512, .f32⟩
  | .local _ .vmem, ⟨6, _⟩ => ⟨S3x1024x512, .f32⟩
  | .local _ .vmem, ⟨7, _⟩ => ⟨S3x512x1024, .f32⟩
  | .local _ .smem, ⟨0, _⟩ => ⟨S72, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32 : BitVec 32 := 0#32
  let v4 : BitVec 1 := Scalar.cmpi .eq v3 c0_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_12 : BitVec 32 := 0#32
  let v27 : BitVec 32 := Scalar.addi v3 c0_i32_12
  let c0_i32_10 : BitVec 32 := 0#32
  let v25 : BitVec 32 := Scalar.addi v3 c0_i32_10
  let c7_i32_11 : BitVec 32 := 7#32
  let v26 : BitVec 32 := Scalar.divsi v25 c7_i32_11
  let c7_i32_13 : BitVec 32 := 7#32
  let v28 : BitVec 32 := Scalar.muli v26 c7_i32_13
  let v29 : BitVec 32 := Scalar.subi v27 v28
  let c512_i32 : BitVec 32 := 512#32
  let v47 : BitVec 32 := Scalar.muli v29 c512_i32
  v47
def k0_off1 (i : grid0.Coords) : Fin 1 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_10 : BitVec 32 := 0#32
  let v25 : BitVec 32 := Scalar.addi v3 c0_i32_10
  let c7_i32_11 : BitVec 32 := 7#32
  let v26 : BitVec 32 := Scalar.divsi v25 c7_i32_11
  let c71_i32_14 : BitVec 32 := 71#32
  let v30 : BitVec 32 := Scalar.minsi v26 c71_i32_14
  let v49 : Index := Scalar.indexCast v30
  ![v49.toNat]
def k0_off2 (i : grid0.Coords) : Fin 2 → Nat :=
  let c0_i32_26 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  ![0, v46.toNat]
def k0_off3 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  let c0_i32_27 : BitVec 32 := 0#32
  let c0_i32_28 : BitVec 32 := 0#32
  ![v46.toNat, 0, 0]
def k0_off4 (i : grid0.Coords) (v50 : BitVec 32) : Fin 3 → Nat :=
  let c0_i32_25 : BitVec 32 := 0#32
  let v51 : BitVec 32 := Scalar.addi c0_i32_25 v50
  let c0_i32_29 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_12 : BitVec 32 := 0#32
  let v27 : BitVec 32 := Scalar.addi v3 c0_i32_12
  let c0_i32_10 : BitVec 32 := 0#32
  let v25 : BitVec 32 := Scalar.addi v3 c0_i32_10
  let c7_i32_11 : BitVec 32 := 7#32
  let v26 : BitVec 32 := Scalar.divsi v25 c7_i32_11
  let c7_i32_13 : BitVec 32 := 7#32
  let v28 : BitVec 32 := Scalar.muli v26 c7_i32_13
  let v29 : BitVec 32 := Scalar.subi v27 v28
  let c512_i32 : BitVec 32 := 512#32
  let v47 : BitVec 32 := Scalar.muli v29 c512_i32
  let v48 : BitVec 32 := v47
  ![v51.toNat, 0, v48.toNat]
def k0_cond2 (i : grid0.Coords) (v0 : BitVec 32) : BitVec 1 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_15 : BitVec 32 := 0#32
  let v31 : BitVec 32 := Scalar.addi v3 c0_i32_15
  let c7_i32 : BitVec 32 := 7#32
  let v1 : BitVec 32 := Scalar.muli v0 c7_i32
  let v32 : BitVec 1 := Scalar.cmpi .slt v31 v1
  let v33 : BitVec 32 := Scalar.extui v32
  let c0_i32_16 : BitVec 32 := 0#32
  let v34 : BitVec 1 := Scalar.cmpi .ne v33 c0_i32_16
  v34

def k0_off5 (i : grid0.Coords) : Fin 2 → Nat :=
  let c1_i32_30 : BitVec 32 := 1#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  ![1, v46.toNat]
def k0_off6 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  let c0_i32_31 : BitVec 32 := 0#32
  let c0_i32_32 : BitVec 32 := 0#32
  ![v46.toNat, 0, 0]
def k0_off7 (i : grid0.Coords) : Fin 2 → Nat :=
  let c2_i32_34 : BitVec 32 := 2#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  ![2, v46.toNat]
def k0_off8 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_23 : BitVec 32 := 0#32
  let v45 : BitVec 32 := Scalar.addi v3 c0_i32_23
  let c3_i32_24 : BitVec 32 := 3#32
  let v46 : BitVec 32 := Scalar.remsi v45 c3_i32_24
  let c0_i32_35 : BitVec 32 := 0#32
  let c0_i32_36 : BitVec 32 := 0#32
  ![v46.toNat, 0, 0]
def k0_off9 (i : grid0.Coords) (v50 : BitVec 32) : Fin 3 → Nat :=
  let c0_i32_25 : BitVec 32 := 0#32
  let v51 : BitVec 32 := Scalar.addi c0_i32_25 v50
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c0_i32_12 : BitVec 32 := 0#32
  let v27 : BitVec 32 := Scalar.addi v3 c0_i32_12
  let c0_i32_10 : BitVec 32 := 0#32
  let v25 : BitVec 32 := Scalar.addi v3 c0_i32_10
  let c7_i32_11 : BitVec 32 := 7#32
  let v26 : BitVec 32 := Scalar.divsi v25 c7_i32_11
  let c7_i32_13 : BitVec 32 := 7#32
  let v28 : BitVec 32 := Scalar.muli v26 c7_i32_13
  let v29 : BitVec 32 := Scalar.subi v27 v28
  let c512_i32 : BitVec 32 := 512#32
  let v47 : BitVec 32 := Scalar.muli v29 c512_i32
  let v48 : BitVec 32 := v47
  let c0_i32_37 : BitVec 32 := 0#32
  ![v51.toNat, v48.toNat, 0]

def k0_chk1 (i : grid0.Coords) (v0 : BitVec 32) (v50 : BitVec 32) : Prop :=
  (∀ (k0_h1 : k0_cond1 i = 1#1), ∀ (k0_h2 : k0_cond2 i v0 = 1#1), ∀ a, (k0_off4 i v50) a + S1x1024x512.size a ≤ S8x1024x3584.size a) ∧
  (∀ (k0_h1 : k0_cond1 i = 1#1), ∀ (k0_h2 : k0_cond2 i v0 = 1#1), ∀ a, (k0_off9 i v50) a + S1x512x1024.size a ≤ S8x3584x1024.size a)
theorem k0_off4_inb : ∀ (i : grid0.Coords) (v0 : BitVec 32) (v50 : BitVec 32) (k0_hw1 : k0_chk1 i v0 v50), ∀ (k0_h1 : k0_cond1 i = 1#1), ∀ (k0_h2 : k0_cond2 i v0 = 1#1), ∀ a, (k0_off4 i v50) a + S1x1024x512.size a ≤ S8x1024x3584.size a := fun i v0 v50 k0_hw1 k0_h1 k0_h2 => k0_hw1.1 k0_h1 k0_h2
theorem k0_off9_inb : ∀ (i : grid0.Coords) (v0 : BitVec 32) (v50 : BitVec 32) (k0_hw1 : k0_chk1 i v0 v50), ∀ (k0_h1 : k0_cond1 i = 1#1), ∀ (k0_h2 : k0_cond2 i v0 = 1#1), ∀ a, (k0_off9 i v50) a + S1x512x1024.size a ≤ S8x3584x1024.size a := fun i v0 v50 k0_hw1 k0_h1 k0_h2 => k0_hw1.2 k0_h1 k0_h2

def k0_mult2 (i : grid0.Coords) : BitVec 32 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_18 : BitVec 32 := 1#32
  let v37 : BitVec 32 := Scalar.addi v3 c1_i32_18
  let c1_i32 : BitVec 32 := 1#32
  let v35 : BitVec 32 := Scalar.addi v3 c1_i32
  let c7_i32_17 : BitVec 32 := 7#32
  let v36 : BitVec 32 := Scalar.divsi v35 c7_i32_17
  let c7_i32_19 : BitVec 32 := 7#32
  let v38 : BitVec 32 := Scalar.muli v36 c7_i32_19
  let v39 : BitVec 32 := Scalar.subi v37 v38
  let c512_i32 : BitVec 32 := 512#32
  let v47 : BitVec 32 := Scalar.muli v39 c512_i32
  v47
def k0_off10 (i : grid0.Coords) : Fin 1 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32 : BitVec 32 := 1#32
  let v35 : BitVec 32 := Scalar.addi v3 c1_i32
  let c7_i32_17 : BitVec 32 := 7#32
  let v36 : BitVec 32 := Scalar.divsi v35 c7_i32_17
  let c71_i32_20 : BitVec 32 := 71#32
  let v40 : BitVec 32 := Scalar.minsi v36 c71_i32_20
  let v49 : Index := Scalar.indexCast v40
  ![v49.toNat]
def k0_off11 (i : grid0.Coords) : Fin 2 → Nat :=
  let c0_i32_26 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  ![0, v46.toNat]
def k0_off12 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  let c0_i32_27 : BitVec 32 := 0#32
  let c0_i32_28 : BitVec 32 := 0#32
  ![v46.toNat, 0, 0]
def k0_off13 (i : grid0.Coords) (v50 : BitVec 32) : Fin 3 → Nat :=
  let c0_i32_25 : BitVec 32 := 0#32
  let v51 : BitVec 32 := Scalar.addi c0_i32_25 v50
  let c0_i32_29 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_18 : BitVec 32 := 1#32
  let v37 : BitVec 32 := Scalar.addi v3 c1_i32_18
  let c1_i32 : BitVec 32 := 1#32
  let v35 : BitVec 32 := Scalar.addi v3 c1_i32
  let c7_i32_17 : BitVec 32 := 7#32
  let v36 : BitVec 32 := Scalar.divsi v35 c7_i32_17
  let c7_i32_19 : BitVec 32 := 7#32
  let v38 : BitVec 32 := Scalar.muli v36 c7_i32_19
  let v39 : BitVec 32 := Scalar.subi v37 v38
  let c512_i32 : BitVec 32 := 512#32
  let v47 : BitVec 32 := Scalar.muli v39 c512_i32
  let v48 : BitVec 32 := v47
  ![v51.toNat, 0, v48.toNat]
def k0_cond3 (i : grid0.Coords) (v0 : BitVec 32) : BitVec 1 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_21 : BitVec 32 := 1#32
  let v41 : BitVec 32 := Scalar.addi v3 c1_i32_21
  let c7_i32 : BitVec 32 := 7#32
  let v1 : BitVec 32 := Scalar.muli v0 c7_i32
  let v42 : BitVec 1 := Scalar.cmpi .slt v41 v1
  let v43 : BitVec 32 := Scalar.extui v42
  let c0_i32_22 : BitVec 32 := 0#32
  let v44 : BitVec 1 := Scalar.cmpi .ne v43 c0_i32_22
  v44

def k0_off14 (i : grid0.Coords) : Fin 2 → Nat :=
  let c1_i32_30 : BitVec 32 := 1#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  ![1, v46.toNat]
def k0_off15 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  let c0_i32_31 : BitVec 32 := 0#32
  let c0_i32_32 : BitVec 32 := 0#32
  ![v46.toNat, 0, 0]
def k0_off16 (i : grid0.Coords) : Fin 2 → Nat :=
  let c2_i32_34 : BitVec 32 := 2#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  ![2, v46.toNat]
def k0_off17 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_23 : BitVec 32 := 1#32
  let v45 : BitVec 32 := Scalar.addi v3 c1_i32_23
  let c3_i32_24 : BitVec 32 := 3#32
  let v46 : BitVec 32 := Scalar.remsi v45 c3_i32_24
  let c0_i32_35 : BitVec 32 := 0#32
  let c0_i32_36 : BitVec 32 := 0#32
  ![v46.toNat, 0, 0]
def k0_off18 (i : grid0.Coords) (v50 : BitVec 32) : Fin 3 → Nat :=
  let c0_i32_25 : BitVec 32 := 0#32
  let v51 : BitVec 32 := Scalar.addi c0_i32_25 v50
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c1_i32_18 : BitVec 32 := 1#32
  let v37 : BitVec 32 := Scalar.addi v3 c1_i32_18
  let c1_i32 : BitVec 32 := 1#32
  let v35 : BitVec 32 := Scalar.addi v3 c1_i32
  let c7_i32_17 : BitVec 32 := 7#32
  let v36 : BitVec 32 := Scalar.divsi v35 c7_i32_17
  let c7_i32_19 : BitVec 32 := 7#32
  let v38 : BitVec 32 := Scalar.muli v36 c7_i32_19
  let v39 : BitVec 32 := Scalar.subi v37 v38
  let c512_i32 : BitVec 32 := 512#32
  let v47 : BitVec 32 := Scalar.muli v39 c512_i32
  let v48 : BitVec 32 := v47
  let c0_i32_37 : BitVec 32 := 0#32
  ![v51.toNat, v48.toNat, 0]

def k0_chk2 (i : grid0.Coords) (v0 : BitVec 32) (v50 : BitVec 32) : Prop :=
  (∀ (k0_h1 : k0_cond1 i = 1#1), ∀ (k0_h3 : k0_cond3 i v0 = 1#1), ∀ a, (k0_off13 i v50) a + S1x1024x512.size a ≤ S8x1024x3584.size a) ∧
  (∀ (k0_h1 : k0_cond1 i = 1#1), ∀ (k0_h3 : k0_cond3 i v0 = 1#1), ∀ a, (k0_off18 i v50) a + S1x512x1024.size a ≤ S8x3584x1024.size a)
theorem k0_off13_inb : ∀ (i : grid0.Coords) (v0 : BitVec 32) (v50 : BitVec 32) (k0_hw2 : k0_chk2 i v0 v50), ∀ (k0_h1 : k0_cond1 i = 1#1), ∀ (k0_h3 : k0_cond3 i v0 = 1#1), ∀ a, (k0_off13 i v50) a + S1x1024x512.size a ≤ S8x1024x3584.size a := fun i v0 v50 k0_hw2 k0_h1 k0_h3 => k0_hw2.1 k0_h1 k0_h3
theorem k0_off18_inb : ∀ (i : grid0.Coords) (v0 : BitVec 32) (v50 : BitVec 32) (k0_hw2 : k0_chk2 i v0 v50), ∀ (k0_h1 : k0_cond1 i = 1#1), ∀ (k0_h3 : k0_cond3 i v0 = 1#1), ∀ a, (k0_off18 i v50) a + S1x512x1024.size a ≤ S8x3584x1024.size a := fun i v0 v50 k0_hw2 k0_h1 k0_h3 => k0_hw2.2 k0_h1 k0_h3

def k0_mult3 (i : grid0.Coords) : BitVec 32 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_3 : BitVec 32 := 2#32
  let v9 : BitVec 32 := Scalar.addi v3 c2_i32_3
  let c2_i32 : BitVec 32 := 2#32
  let v7 : BitVec 32 := Scalar.addi v3 c2_i32
  let c7_i32_2 : BitVec 32 := 7#32
  let v8 : BitVec 32 := Scalar.divsi v7 c7_i32_2
  let c7_i32_4 : BitVec 32 := 7#32
  let v10 : BitVec 32 := Scalar.muli v8 c7_i32_4
  let v11 : BitVec 32 := Scalar.subi v9 v10
  let c512_i32 : BitVec 32 := 512#32
  let v27 : BitVec 32 := Scalar.muli v11 c512_i32
  v27
def k0_off19 (i : grid0.Coords) : Fin 1 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32 : BitVec 32 := 2#32
  let v7 : BitVec 32 := Scalar.addi v3 c2_i32
  let c7_i32_2 : BitVec 32 := 7#32
  let v8 : BitVec 32 := Scalar.divsi v7 c7_i32_2
  let c71_i32 : BitVec 32 := 71#32
  let v12 : BitVec 32 := Scalar.minsi v8 c71_i32
  let v29 : Index := Scalar.indexCast v12
  ![v29.toNat]
def k0_off20 (i : grid0.Coords) : Fin 2 → Nat :=
  let c0_i32_13 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  ![0, v26.toNat]
def k0_off21 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  let c0_i32_14 : BitVec 32 := 0#32
  let c0_i32_15 : BitVec 32 := 0#32
  ![v26.toNat, 0, 0]
def k0_off22 (i : grid0.Coords) (v30 : BitVec 32) : Fin 3 → Nat :=
  let c0_i32_12 : BitVec 32 := 0#32
  let v31 : BitVec 32 := Scalar.addi c0_i32_12 v30
  let c0_i32_16 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_3 : BitVec 32 := 2#32
  let v9 : BitVec 32 := Scalar.addi v3 c2_i32_3
  let c2_i32 : BitVec 32 := 2#32
  let v7 : BitVec 32 := Scalar.addi v3 c2_i32
  let c7_i32_2 : BitVec 32 := 7#32
  let v8 : BitVec 32 := Scalar.divsi v7 c7_i32_2
  let c7_i32_4 : BitVec 32 := 7#32
  let v10 : BitVec 32 := Scalar.muli v8 c7_i32_4
  let v11 : BitVec 32 := Scalar.subi v9 v10
  let c512_i32 : BitVec 32 := 512#32
  let v27 : BitVec 32 := Scalar.muli v11 c512_i32
  let v28 : BitVec 32 := v27
  ![v31.toNat, 0, v28.toNat]
def k0_cond4 (i : grid0.Coords) (v0 : BitVec 32) : BitVec 1 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_5 : BitVec 32 := 2#32
  let v13 : BitVec 32 := Scalar.addi v3 c2_i32_5
  let c7_i32 : BitVec 32 := 7#32
  let v1 : BitVec 32 := Scalar.muli v0 c7_i32
  let v14 : BitVec 1 := Scalar.cmpi .slt v13 v1
  let v15 : BitVec 32 := Scalar.extui v14
  let c0_i32_6 : BitVec 32 := 0#32
  let v16 : BitVec 1 := Scalar.cmpi .ne v15 c0_i32_6
  v16

def k0_off23 (i : grid0.Coords) : Fin 2 → Nat :=
  let c1_i32 : BitVec 32 := 1#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  ![1, v26.toNat]
def k0_off24 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  let c0_i32_17 : BitVec 32 := 0#32
  let c0_i32_18 : BitVec 32 := 0#32
  ![v26.toNat, 0, 0]
def k0_off25 (i : grid0.Coords) : Fin 2 → Nat :=
  let c2_i32_20 : BitVec 32 := 2#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  ![2, v26.toNat]
def k0_off26 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_10 : BitVec 32 := 2#32
  let v25 : BitVec 32 := Scalar.addi v3 c2_i32_10
  let c3_i32_11 : BitVec 32 := 3#32
  let v26 : BitVec 32 := Scalar.remsi v25 c3_i32_11
  let c0_i32_21 : BitVec 32 := 0#32
  let c0_i32_22 : BitVec 32 := 0#32
  ![v26.toNat, 0, 0]
def k0_off27 (i : grid0.Coords) (v30 : BitVec 32) : Fin 3 → Nat :=
  let c0_i32_12 : BitVec 32 := 0#32
  let v31 : BitVec 32 := Scalar.addi c0_i32_12 v30
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c2_i32_3 : BitVec 32 := 2#32
  let v9 : BitVec 32 := Scalar.addi v3 c2_i32_3
  let c2_i32 : BitVec 32 := 2#32
  let v7 : BitVec 32 := Scalar.addi v3 c2_i32
  let c7_i32_2 : BitVec 32 := 7#32
  let v8 : BitVec 32 := Scalar.divsi v7 c7_i32_2
  let c7_i32_4 : BitVec 32 := 7#32
  let v10 : BitVec 32 := Scalar.muli v8 c7_i32_4
  let v11 : BitVec 32 := Scalar.subi v9 v10
  let c512_i32 : BitVec 32 := 512#32
  let v27 : BitVec 32 := Scalar.muli v11 c512_i32
  let v28 : BitVec 32 := v27
  let c0_i32_23 : BitVec 32 := 0#32
  ![v31.toNat, v28.toNat, 0]

def k0_chk3 (i : grid0.Coords) (v0 : BitVec 32) (v30 : BitVec 32) : Prop :=
  (∀ (k0_h4 : k0_cond4 i v0 = 1#1), ∀ a, (k0_off22 i v30) a + S1x1024x512.size a ≤ S8x1024x3584.size a) ∧
  (∀ (k0_h4 : k0_cond4 i v0 = 1#1), ∀ a, (k0_off27 i v30) a + S1x512x1024.size a ≤ S8x3584x1024.size a)
theorem k0_off22_inb : ∀ (i : grid0.Coords) (v0 : BitVec 32) (v30 : BitVec 32) (k0_hw3 : k0_chk3 i v0 v30), ∀ (k0_h4 : k0_cond4 i v0 = 1#1), ∀ a, (k0_off22 i v30) a + S1x1024x512.size a ≤ S8x1024x3584.size a := fun i v0 v30 k0_hw3 k0_h4 => k0_hw3.1 k0_h4
theorem k0_off27_inb : ∀ (i : grid0.Coords) (v0 : BitVec 32) (v30 : BitVec 32) (k0_hw3 : k0_chk3 i v0 v30), ∀ (k0_h4 : k0_cond4 i v0 = 1#1), ∀ a, (k0_off27 i v30) a + S1x512x1024.size a ≤ S8x3584x1024.size a := fun i v0 v30 k0_hw3 k0_h4 => k0_hw3.2 k0_h4

def k0_mult4 (i : grid0.Coords) : BitVec 32 :=
  let arg1 : BitVec 32 := BitVec.ofNat 32 (i 1).val
  let c512_i32 : BitVec 32 := 512#32
  let v25 : BitVec 32 := Scalar.muli arg1 c512_i32
  v25
def k0_off28 (i : grid0.Coords) : Fin 1 → Nat :=
  let arg0 : BitVec 32 := BitVec.ofNat 32 (i 0).val
  let v27 : Index := Scalar.indexCast arg0
  ![v27.toNat]
def k0_off29 (i : grid0.Coords) : Fin 2 → Nat :=
  let c0_i32_11 : BitVec 32 := 0#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  ![0, v17.toNat]
def k0_off30 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  let c0_i32_12 : BitVec 32 := 0#32
  let c0_i32_13 : BitVec 32 := 0#32
  ![v17.toNat, 0, 0]
def k0_off31 (i : grid0.Coords) (v28 : BitVec 32) : Fin 3 → Nat :=
  let c0_i32_10 : BitVec 32 := 0#32
  let v29 : BitVec 32 := Scalar.addi c0_i32_10 v28
  let c0_i32_14 : BitVec 32 := 0#32
  let arg1 : BitVec 32 := BitVec.ofNat 32 (i 1).val
  let c512_i32 : BitVec 32 := 512#32
  let v25 : BitVec 32 := Scalar.muli arg1 c512_i32
  let v26 : BitVec 32 := v25
  ![v29.toNat, 0, v26.toNat]
def k0_cond5 (i : grid0.Coords) (v0 : BitVec 32) : BitVec 1 :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c7_i32 : BitVec 32 := 7#32
  let v1 : BitVec 32 := Scalar.muli v0 c7_i32
  let v18 : BitVec 1 := Scalar.cmpi .slt v3 v1
  let v19 : BitVec 32 := Scalar.extui v18
  let c0_i32_7 : BitVec 32 := 0#32
  let v20 : BitVec 1 := Scalar.cmpi .ne v19 c0_i32_7
  v20

def k0_off32 (i : grid0.Coords) : Fin 2 → Nat :=
  let c1_i32 : BitVec 32 := 1#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  ![1, v17.toNat]
def k0_off33 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  let c0_i32_15 : BitVec 32 := 0#32
  let c0_i32_16 : BitVec 32 := 0#32
  ![v17.toNat, 0, 0]
def k0_off34 (i : grid0.Coords) : Fin 2 → Nat :=
  let c2_i32_18 : BitVec 32 := 2#32
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  ![2, v17.toNat]
def k0_off35 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  let c0_i32_19 : BitVec 32 := 0#32
  let c0_i32_20 : BitVec 32 := 0#32
  ![v17.toNat, 0, 0]
def k0_off36 (i : grid0.Coords) (v28 : BitVec 32) : Fin 3 → Nat :=
  let c0_i32_10 : BitVec 32 := 0#32
  let v29 : BitVec 32 := Scalar.addi c0_i32_10 v28
  let arg1 : BitVec 32 := BitVec.ofNat 32 (i 1).val
  let c512_i32 : BitVec 32 := 512#32
  let v25 : BitVec 32 := Scalar.muli arg1 c512_i32
  let v26 : BitVec 32 := v25
  let c0_i32_21 : BitVec 32 := 0#32
  ![v29.toNat, v26.toNat, 0]

def k0_chk4 (i : grid0.Coords) (v0 : BitVec 32) (v28 : BitVec 32) : Prop :=
  (∀ (k0_h5 : k0_cond5 i v0 = 1#1), ∀ a, (k0_off31 i v28) a + S1x1024x512.size a ≤ S8x1024x3584.size a) ∧
  (∀ (k0_h5 : k0_cond5 i v0 = 1#1), ∀ a, (k0_off36 i v28) a + S1x512x1024.size a ≤ S8x3584x1024.size a)
theorem k0_off31_inb : ∀ (i : grid0.Coords) (v0 : BitVec 32) (v28 : BitVec 32) (k0_hw4 : k0_chk4 i v0 v28), ∀ (k0_h5 : k0_cond5 i v0 = 1#1), ∀ a, (k0_off31 i v28) a + S1x1024x512.size a ≤ S8x1024x3584.size a := fun i v0 v28 k0_hw4 k0_h5 => k0_hw4.1 k0_h5
theorem k0_off36_inb : ∀ (i : grid0.Coords) (v0 : BitVec 32) (v28 : BitVec 32) (k0_hw4 : k0_chk4 i v0 v28), ∀ (k0_h5 : k0_cond5 i v0 = 1#1), ∀ a, (k0_off36 i v28) a + S1x512x1024.size a ≤ S8x3584x1024.size a := fun i v0 v28 k0_hw4 k0_h5 => k0_hw4.2 k0_h5

def k0_off37 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  let v29 : Index := Scalar.indexCast v17
  let c0_14 : Index := 0#32
  let c0_15 : Index := 0#32
  ![v29.toNat, 0, 0]
def k0_off38 (i : grid0.Coords) : Fin 3 → Nat :=
  let arg0 : BitVec 32 := BitVec.ofNat 32 (i 0).val
  let c7_i32_0 : BitVec 32 := 7#32
  let v2 : BitVec 32 := Scalar.muli arg0 c7_i32_0
  let arg1 : BitVec 32 := BitVec.ofNat 32 (i 1).val
  let v3 : BitVec 32 := Scalar.addi v2 arg1
  let c3_i32 : BitVec 32 := 3#32
  let v17 : BitVec 32 := Scalar.remsi v3 c3_i32
  let v45 : Index := Scalar.indexCast v17
  let c0_21 : Index := 0#32
  let c0_22 : Index := 0#32
  ![v45.toNat, 0, 0]
def k0_cond6 (i : grid0.Coords) (v21 : BitVec 32) : BitVec 1 :=
  let arg0 : BitVec 32 := BitVec.ofNat 32 (i 0).val
  let v22 : BitVec 1 := Scalar.cmpi .slt arg0 v21
  let v23 : BitVec 32 := Scalar.extui v22
  let c0_i32_9 : BitVec 32 := 0#32
  let v24 : BitVec 1 := Scalar.cmpi .ne v23 c0_i32_9
  v24

def k0_cond7 (i : grid0.Coords) : BitVec 1 :=
  let arg1 : BitVec 32 := BitVec.ofNat 32 (i 1).val
  let c0_i32_10 : BitVec 32 := 0#32
  let v25 : BitVec 1 := Scalar.cmpi .eq arg1 c0_i32_10
  let v26 : BitVec 32 := Scalar.extui v25
  let c0_i32_11 : BitVec 32 := 0#32
  let v27 : BitVec 1 := Scalar.cmpi .ne v26 c0_i32_11
  v27

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S72x1024x1024 : Shape := ⟨3, ![72, 1024, 1024]⟩
abbrev S8x1024x3584 : Shape := ⟨3, ![8, 1024, 3584]⟩
abbrev S72x1 : Shape := ⟨2, ![72, 1]⟩
abbrev S72x1024x3584 : Shape := ⟨3, ![72, 1024, 3584]⟩
abbrev S8x3584x1024 : Shape := ⟨3, ![8, 3584, 1024]⟩
abbrev S72x3584x1024 : Shape := ⟨3, ![72, 3584, 1024]⟩
abbrev S_ : Shape := ⟨0, ![]⟩
abbrev S72x1x1 : Shape := ⟨3, ![72, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S72x1024x1024, .f32⟩
  | .hbm, ⟨7, _⟩ => ⟨S8x1024x3584, .f32⟩
  | .hbm, ⟨8, _⟩ => ⟨S72x1, .i32⟩
  | .hbm, ⟨9, _⟩ => ⟨S72x1024x3584, .f32⟩
  | .hbm, ⟨10, _⟩ => ⟨S8x1024x3584, .f32⟩
  | .hbm, ⟨11, _⟩ => ⟨S72x1, .i32⟩
  | .hbm, ⟨12, _⟩ => ⟨S72x1024x3584, .f32⟩
  | .hbm, ⟨13, _⟩ => ⟨S8x3584x1024, .f32⟩
  | .hbm, ⟨14, _⟩ => ⟨S72x1, .i32⟩
  | .hbm, ⟨15, _⟩ => ⟨S72x3584x1024, .f32⟩
  | .hbm, ⟨16, _⟩ => ⟨S72x1024x3584, .f32⟩
  | .hbm, ⟨17, _⟩ => ⟨S72x1024x3584, .f32⟩
  | .hbm, ⟨18, _⟩ => ⟨S72x1024x3584, .f32⟩
  | .hbm, ⟨19, _⟩ => ⟨S_, .f32⟩
  | .hbm, ⟨20, _⟩ => ⟨S72x1024x3584, .f32⟩
  | .hbm, ⟨21, _⟩ => ⟨S72x1024x3584, .f32⟩
  | .hbm, ⟨22, _⟩ => ⟨S_, .f32⟩
  | .hbm, ⟨23, _⟩ => ⟨S72x1024x3584, .f32⟩
  | .hbm, ⟨24, _⟩ => ⟨S72x1024x3584, .f32⟩
  | .hbm, ⟨25, _⟩ => ⟨S72x1024x3584, .f32⟩
  | .hbm, ⟨26, _⟩ => ⟨S72x1024x3584, .f32⟩
  | .hbm, ⟨27, _⟩ => ⟨S72x1024x3584, .f32⟩
  | .hbm, ⟨28, _⟩ => ⟨S72x1024x1024, .f32⟩
  | .hbm, ⟨29, _⟩ => ⟨S72, .i32⟩
  | .hbm, ⟨30, _⟩ => ⟨S_, .i32⟩
  | .hbm, ⟨31, _⟩ => ⟨S72, .i32⟩
  | .hbm, ⟨32, _⟩ => ⟨S72, .i1⟩
  | .hbm, ⟨33, _⟩ => ⟨S72x1x1, .i1⟩
  | .hbm, ⟨34, _⟩ => ⟨S72x1024x1024, .i1⟩
  | .hbm, ⟨35, _⟩ => ⟨S72x1024x1024, .f32⟩
  | .hbm, ⟨36, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_call3_v0 : Ref sig .tc := ⟨.hbm, 17, rfl⟩
abbrev main_call3_v1 : Ref sig .tc := ⟨.hbm, 18, rfl⟩
abbrev main_call3_cst : Ref sig .tc := ⟨.hbm, 19, rfl⟩
abbrev main_call3_v2 : Ref sig .tc := ⟨.hbm, 20, rfl⟩
abbrev main_call3_v3 : Ref sig .tc := ⟨.hbm, 21, rfl⟩
abbrev main_call3_cst_0 : Ref sig .tc := ⟨.hbm, 22, rfl⟩
abbrev main_call3_v4 : Ref sig .tc := ⟨.hbm, 23, rfl⟩
abbrev main_call3_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call4_v0 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel2.lean ====
abbrev S16x2048x1024 : Shape := ⟨3, ![16, 2048, 1024]⟩
abbrev S2048x1024 : Shape := ⟨2, ![2048, 1024]⟩
abbrev S288x1x1024 : Shape := ⟨3, ![288, 1, 1024]⟩
abbrev S2x1024 : Shape := ⟨2, ![2, 1024]⟩
abbrev S2x1024x3072 : Shape := ⟨3, ![2, 1024, 3072]⟩
abbrev S2x1x1024 : Shape := ⟨3, ![2, 1, 1024]⟩
abbrev S16x2048x512 : Shape := ⟨3, ![16, 2048, 512]⟩
abbrev S1x512x1024 : Shape := ⟨3, ![1, 512, 1024]⟩
abbrev S512x1024 : Shape := ⟨2, ![512, 1024]⟩
abbrev S1x1x1024 : Shape := ⟨3, ![1, 1, 1024]⟩
abbrev S1x1024x3072 : Shape := ⟨3, ![1, 1024, 3072]⟩
abbrev S1x512x512 : Shape := ⟨3, ![1, 512, 512]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x1024 : Shape := ⟨3, ![1, 1024, 1024]⟩
abbrev S1024x1024 : Shape := ⟨2, ![1024, 1024]⟩

abbrev nBuf : Space → Nat
  | .hbm => 12
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S288x1x1024, .f32⟩
  | .hbm, ⟨3, _⟩ => ⟨S2x1024, .f32⟩
  | .hbm, ⟨4, _⟩ => ⟨S2x1024x3072, .f32⟩
  | .hbm, ⟨5, _⟩ => ⟨S2x1024x3072, .bf16⟩
  | .hbm, ⟨6, _⟩ => ⟨S2x1x1024, .f32⟩
  | .hbm, ⟨7, _⟩ => ⟨S16x2048x1024, .f32⟩
  | .hbm, ⟨8, _⟩ => ⟨S16x2048x512, .bf16⟩
  | .hbm, ⟨9, _⟩ => ⟨S16x2048x512, .bf16⟩
  | .hbm, ⟨10, _⟩ => ⟨S16x2048x1024, .bf16⟩
  | .hbm, ⟨11, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x3072, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x2048x1024 : Shape := ⟨3, ![16, 2048, 1024]⟩
abbrev S2048x1024 : Shape := ⟨2, ![2048, 1024]⟩
abbrev S288x1x1024 : Shape := ⟨3, ![288, 1, 1024]⟩
abbrev S2x1024 : Shape := ⟨2, ![2, 1024]⟩
abbrev S2x1024x3072 : Shape := ⟨3, ![2, 1024, 3072]⟩
abbrev S2x24x6x1024 : Shape := ⟨4, ![2, 24, 6, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x2048x1024 : Shape := ⟨3, ![1, 2048, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S16x2048x512 : Shape := ⟨3, ![16, 2048, 512]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S288x1x1024, .f32⟩
  | .hbm, ⟨3, _⟩ => ⟨S2x1024, .f32⟩
  | .hbm, ⟨4, _⟩ => ⟨S2x1024x3072, .f32⟩
  | .hbm, ⟨5, _⟩ => ⟨S2x24x6x1024, .f32⟩
  | .hbm, ⟨6, _⟩ => ⟨S1x16x1x1024, .f32⟩
  | .hbm, ⟨7, _⟩ => ⟨S16x1024, .f32⟩
  | .hbm, ⟨8, _⟩ => ⟨S16x1x1024, .f32⟩
  | .hbm, ⟨9, _⟩ => ⟨S1x16x1x1024, .f32⟩
  | .hbm, ⟨10, _⟩ => ⟨S16x1024, .f32⟩
  | .hbm, ⟨11, _⟩ => ⟨S16x1x1024, .f32⟩
  | .hbm, ⟨12, _⟩ => ⟨S1x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S1x1024x3072, .f32⟩
  | .hbm, ⟨41, _⟩ => ⟨S1024x3072, .f32⟩
  | .hbm, ⟨42, _⟩ => ⟨S16x2048x3072, .f32⟩
  | .hbm, ⟨43, _⟩ => ⟨S16x2048x512, .f32⟩
  | .hbm, ⟨44, _⟩ => ⟨S16x2048x512, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S16x2048x512, .bf16⟩
  | .hbm, ⟨64, _⟩ => ⟨S16x2048x512, .bf16⟩
  | .hbm, ⟨65, _⟩ => ⟨S16x2048x1024, .bf16⟩
  | .hbm, ⟨66, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel3.lean ====
abbrev S65536 : Shape := ⟨1, ![65536]⟩
abbrev S73728x1024 : Shape := ⟨2, ![73728, 1024]⟩
abbrev S32768x1024 : Shape := ⟨2, ![32768, 1024]⟩
abbrev S32768x128 : Shape := ⟨2, ![32768, 128]⟩
abbrev S288x1x1024 : Shape := ⟨3, ![288, 1, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1x1024 : Shape := ⟨3, ![1, 1, 1024]⟩
abbrev S2x2x512x1024 : Shape := ⟨4, ![2, 2, 512, 1024]⟩
abbrev S2 : Shape := ⟨1, ![2]⟩
abbrev S1 : Shape := ⟨1, ![1]⟩
abbrev S_ : Shape := ⟨0, ![]⟩
abbrev S1x1x1x1024 : Shape := ⟨4, ![1, 1, 1, 1024]⟩
abbrev S512x1 : Shape := ⟨2, ![512, 1]⟩
abbrev S1x1x512x1024 : Shape := ⟨4, ![1, 1, 512, 1024]⟩
abbrev S512 : Shape := ⟨1, ![512]⟩

abbrev nBuf : Space → Nat
  | .hbm => 7
  | .vmem => 10
  | .smem => 1
  | _ => 0

abbrev bufTy : (tb : Table) → Fin (tcTables nBuf tb) → BufTy
  | .hbm, ⟨0, _⟩ => ⟨S73728x1024, .f32⟩
  | .hbm, ⟨1, _⟩ => ⟨S32768x1024, .f32⟩
  | .hbm, ⟨2, _⟩ => ⟨S32768x128, .f32⟩
  | .hbm, ⟨3, _⟩ => ⟨S288x1x1024, .f32⟩
  | .hbm, ⟨4, _⟩ => ⟨S1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S2x2x512x1024, .f32⟩
  | .local _ .smem, ⟨0, _⟩ => ⟨S65536, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_26 : BitVec 32 := 0#32
  let c512_i32_27 : BitVec 32 := 512#32
  let v46 : BitVec 32 := Scalar.addi c0_i32_26 c512_i32_27
  let c1_i32_28 : BitVec 32 := 1#32
  ⟨c0_i32_26, v46, c1_i32_28⟩
def k0_off1 (i : grid0.Coords) (k0_t1 : Fin k0_t1_loop.trips) : Fin 1 → Nat :=
  let arg0 : BitVec 32 := BitVec.ofNat 32 (i 0).val
  let c1024_i32 : BitVec 32 := 1024#32
  let v45 : BitVec 32 := Scalar.muli arg0 c1024_i32
  let c2_i32_30 : BitVec 32 := 2#32
  let c0_i32_26 : BitVec 32 := 0#32
  let c1_i32_28 : BitVec 32 := 1#32
  let arg10 : BitVec 32 := Scf.iv c0_i32_26 c1_i32_28 k0_t1
  let v47 : BitVec 32 := Scalar.muli c2_i32_30 arg10
  let v48 : BitVec 32 := Scalar.addi v45 v47
  let c0_i32_31 : BitVec 32 := 0#32
  let v49 : BitVec 32 := Scalar.addi v48 c0_i32_31
  let v50 : Index := Scalar.indexCast v49
  ![v50.toNat]
def k0_off2 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off3 (i : grid0.Coords) (k0_t1 : Fin k0_t1_loop.trips) : Fin 4 → Nat :=
  let arg0 : BitVec 32 := BitVec.ofNat 32 (i 0).val
  let c2_i32 : BitVec 32 := 2#32
  let v0 : BitVec 32 := Scalar.remsi arg0 c2_i32
  let c0_i32_32 : BitVec 32 := 0#32
  let c0_i32_26 : BitVec 32 := 0#32
  let c1_i32_28 : BitVec 32 := 1#32
  let arg10 : BitVec 32 := Scf.iv c0_i32_26 c1_i32_28 k0_t1
  let c0_i32_33 : BitVec 32 := 0#32
  ![v0.toNat, 0, arg10.toNat, 0]
def k0_off4 (v51 : BitVec 32) : Fin 2 → Nat :=
  let c0_i32_34 : BitVec 32 := 0#32
  ![v51.toNat, 0]

def k0_chk1 (i : grid0.Coords) (v51 : BitVec 32) : Prop :=
  (∀ (k0_h1 : k0_cond1 i = 1#1), ∀ a, (k0_off4 v51) a + S1x1024.size a ≤ S73728x1024.size a)
theorem k0_off4_inb : ∀ (i : grid0.Coords) (v51 : BitVec 32) (k0_hw1 : k0_chk1 i v51), ∀ (k0_h1 : k0_cond1 i = 1#1), ∀ a, (k0_off4 v51) a + S1x1024.size a ≤ S73728x1024.size a := fun i v51 k0_hw1 k0_h1 => k0_hw1 k0_h1

def k0_off5 (i : grid0.Coords) (k0_t1 : Fin k0_t1_loop.trips) : Fin 1 → Nat :=
  let arg0 : BitVec 32 := BitVec.ofNat 32 (i 0).val
  let c1024_i32 : BitVec 32 := 1024#32
  let v45 : BitVec 32 := Scalar.muli arg0 c1024_i32
  let c2_i32_35 : BitVec 32 := 2#32
  let c0_i32_26 : BitVec 32 := 0#32
  let c1_i32_28 : BitVec 32 := 1#32
  let arg10 : BitVec 32 := Scf.iv c0_i32_26 c1_i32_28 k0_t1
  let v57 : BitVec 32 := Scalar.muli c2_i32_35 arg10
  let v58 : BitVec 32 := Scalar.addi v45 v57
  let c1_i32_36 : BitVec 32 := 1#32
  let v59 : BitVec 32 := Scalar.addi v58 c1_i32_36
  let v60 : Index := Scalar.indexCast v59
  ![v60.toNat]
def k0_off6 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off7 (i : grid0.Coords) (k0_t1 : Fin k0_t1_loop.trips) : Fin 4 → Nat :=
  let arg0 : BitVec 32 := BitVec.ofNat 32 (i 0).val
  let c2_i32 : BitVec 32 := 2#32
  let v0 : BitVec 32 := Scalar.remsi arg0 c2_i32
  let c1_i32_37 : BitVec 32 := 1#32
  let c0_i32_26 : BitVec 32 := 0#32
  let c1_i32_28 : BitVec 32 := 1#32
  let arg10 : BitVec 32 := Scf.iv c0_i32_26 c1_i32_28 k0_t1
  let c0_i32_38 : BitVec 32 := 0#32
  ![v0.toNat, 1, arg10.toNat, 0]
def k0_off8 (v61 : BitVec 32) : Fin 2 → Nat :=
  let c0_i32_39 : BitVec 32 := 0#32
  ![v61.toNat, 0]

def k0_chk2 (i : grid0.Coords) (v61 : BitVec 32) : Prop :=
  (∀ (k0_h1 : k0_cond1 i = 1#1), ∀ a, (k0_off8 v61) a + S1x1024.size a ≤ S73728x1024.size a)
theorem k0_off8_inb : ∀ (i : grid0.Coords) (v61 : BitVec 32) (k0_hw2 : k0_chk2 i v61), ∀ (k0_h1 : k0_cond1 i = 1#1), ∀ a, (k0_off8 v61) a + S1x1024.size a ≤ S73728x1024.size a := fun i v61 k0_hw2 k0_h1 => k0_hw2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_28 : BitVec 32 := 0#32
  let c512_i32_29 : BitVec 32 := 512#32
  let v48 : BitVec 32 := Scalar.addi c0_i32_28 c512_i32_29
  let c1_i32_30 : BitVec 32 := 1#32
  ⟨c0_i32_28, v48, c1_i32_30⟩
def k0_off9 (i : grid0.Coords) (k0_t2 : Fin k0_t2_loop.trips) : Fin 1 → Nat :=
  let arg0 : BitVec 32 := BitVec.ofNat 32 (i 0).val
  let c1_i32_26 : BitVec 32 := 1#32
  let v45 : BitVec 32 := Scalar.addi arg0 c1_i32_26
  let c1024_i32 : BitVec 32 := 1024#32
  let v47 : BitVec 32 := Scalar.muli v45 c1024_i32
  let c2_i32_32 : BitVec 32 := 2#32
  let c0_i32_28 : BitVec 32 := 0#32
  let c1_i32_30 : BitVec 32 := 1#32
  let arg10 : BitVec 32 := Scf.iv c0_i32_28 c1_i32_30 k0_t2
  let v49 : BitVec 32 := Scalar.muli c2_i32_32 arg10
  let v50 : BitVec 32 := Scalar.addi v47 v49
  let c0_i32_33 : BitVec 32 := 0#32
  let v51 : BitVec 32 := Scalar.addi v50 c0_i32_33
  let v52 : Index := Scalar.indexCast v51
  ![v52.toNat]
def k0_off10 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v46 : BitVec 32 := Scalar.subi c1_i32_27 v0
  ![v46.toNat]
def k0_off11 (i : grid0.Coords) (k0_t2 : Fin k0_t2_loop.trips) : Fin 4 → Nat :=
  let c1_i32_27 : BitVec 32 := 1#32
  let arg0 : BitVec 32 := BitVec.ofNat 32 (i 0).val
  let c2_i32 : BitVec 32 := 2#32
  let v0 : BitVec 32 := Scalar.remsi arg0 c2_i32
  let v46 : BitVec 32 := Scalar.subi c1_i32_27 v0
  let c0_i32_34 : BitVec 32 := 0#32
  let c0_i32_28 : BitVec 32 := 0#32
  let c1_i32_30 : BitVec 32 := 1#32
  let arg10 : BitVec 32 := Scf.iv c0_i32_28 c1_i32_30 k0_t2
  let c0_i32_35 : BitVec 32 := 0#32
  ![v46.toNat, 0, arg10.toNat, 0]
def k0_off12 (v53 : BitVec 32) : Fin 2 → Nat :=
  let c0_i32_36 : BitVec 32 := 0#32
  ![v53.toNat, 0]

def k0_chk3 (i : grid0.Coords) (v53 : BitVec 32) : Prop :=
  (∀ (k0_h2 : k0_cond2 i = 1#1), ∀ a, (k0_off12 v53) a + S1x1024.size a ≤ S73728x1024.size a)
theorem k0_off12_inb : ∀ (i : grid0.Coords) (v53 : BitVec 32) (k0_hw3 : k0_chk3 i v53), ∀ (k0_h2 : k0_cond2 i = 1#1), ∀ a, (k0_off12 v53) a + S1x1024.size a ≤ S73728x1024.size a := fun i v53 k0_hw3 k0_h2 => k0_hw3 k0_h2

def k0_off13 (i : grid0.Coords) (k0_t2 : Fin k0_t2_loop.trips) : Fin 1 → Nat :=
  let arg0 : BitVec 32 := BitVec.ofNat 32 (i 0).val
  let c1_i32_26 : BitVec 32 := 1#32
  let v45 : BitVec 32 := Scalar.addi arg0 c1_i32_26
  let c1024_i32 : BitVec 32 := 1024#32
  let v47 : BitVec 32 := Scalar.muli v45 c1024_i32
  let c2_i32_37 : BitVec 32 := 2#32
  let c0_i32_28 : BitVec 32 := 0#32
  let c1_i32_30 : BitVec 32 := 1#32
  let arg10 : BitVec 32 := Scf.iv c0_i32_28 c1_i32_30 k0_t2
  let v59 : BitVec 32 := Scalar.muli c2_i32_37 arg10
  let v60 : BitVec 32 := Scalar.addi v47 v59
  let c1_i32_38 : BitVec 32 := 1#32
  let v61 : BitVec 32 := Scalar.addi v60 c1_i32_38
  let v62 : Index := Scalar.indexCast v61
  ![v62.toNat]
def k0_off14 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v46 : BitVec 32 := Scalar.subi c1_i32_27 v0
  ![v46.toNat]
def k0_off15 (i : grid0.Coords) (k0_t2 : Fin k0_t2_loop.trips) : Fin 4 → Nat :=
  let c1_i32_27 : BitVec 32 := 1#32
  let arg0 : BitVec 32 := BitVec.ofNat 32 (i 0).val
  let c2_i32 : BitVec 32 := 2#32
  let v0 : BitVec 32 := Scalar.remsi arg0 c2_i32
  let v46 : BitVec 32 := Scalar.subi c1_i32_27 v0
  let c1_i32_39 : BitVec 32 := 1#32
  let c0_i32_28 : BitVec 32 := 0#32
  let c1_i32_30 : BitVec 32 := 1#32
  let arg10 : BitVec 32 := Scf.iv c0_i32_28 c1_i32_30 k0_t2
  let c0_i32_40 : BitVec 32 := 0#32
  ![v46.toNat, 1, arg10.toNat, 0]
def k0_off16 (v63 : BitVec 32) : Fin 2 → Nat :=
  let c0_i32_41 : BitVec 32 := 0#32
  ![v63.toNat, 0]

def k0_chk4 (i : grid0.Coords) (v63 : BitVec 32) : Prop :=
  (∀ (k0_h2 : k0_cond2 i = 1#1), ∀ a, (k0_off16 v63) a + S1x1024.size a ≤ S73728x1024.size a)
theorem k0_off16_inb : ∀ (i : grid0.Coords) (v63 : BitVec 32) (k0_hw4 : k0_chk4 i v63), ∀ (k0_h2 : k0_cond2 i = 1#1), ∀ a, (k0_off16 v63) a + S1x1024.size a ≤ S73728x1024.size a := fun i v63 k0_hw4 k0_h2 => k0_hw4 k0_h2

@[reducible] def k0_t3_loop : Scf.Loop 32 :=
  let c0_i32_2 : BitVec 32 := 0#32
  let c512_i32 : BitVec 32 := 512#32
  let v8 : BitVec 32 := Scalar.addi c0_i32_2 c512_i32
  let c1_i32_3 : BitVec 32 := 1#32
  ⟨c0_i32_2, v8, c1_i32_3⟩
def k0_off17 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off18 (i : grid0.Coords) (k0_t3 : Fin k0_t3_loop.trips) : Fin 4 → Nat :=
  let arg0 : BitVec 32 := BitVec.ofNat 32 (i 0).val
  let c2_i32 : BitVec 32 := 2#32
  let v0 : BitVec 32 := Scalar.remsi arg0 c2_i32
  let c0_i32_26 : BitVec 32 := 0#32
  let c0_i32_2 : BitVec 32 := 0#32
  let c1_i32_3 : BitVec 32 := 1#32
  let arg10 : BitVec 32 := Scf.iv c0_i32_2 c1_i32_3 k0_t3
  let c0_i32_27 : BitVec 32 := 0#32
  ![v0.toNat, 0, arg10.toNat, 0]
@[reducible] def k0_t4_loop : Scf.Loop 32 :=
  let c0_i32_5 : BitVec 32 := 0#32
  let c512_i32_6 : BitVec 32 := 512#32
  let v9 : BitVec 32 := Scalar.addi c0_i32_5 c512_i32_6
  let c1_i32_7 : BitVec 32 := 1#32
  ⟨c0_i32_5, v9, c1_i32_7⟩
def k0_off19 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off20 (i : grid0.Coords) (k0_t4 : Fin k0_t4_loop.trips) : Fin 4 → Nat :=
  let arg0 : BitVec 32 := BitVec.ofNat 32 (i 0).val
  let c2_i32 : BitVec 32 := 2#32
  let v0 : BitVec 32 := Scalar.remsi arg0 c2_i32
  let c1_i32_26 : BitVec 32 := 1#32
  let c0_i32_5 : BitVec 32 := 0#32
  let c1_i32_7 : BitVec 32 := 1#32
  let arg10 : BitVec 32 := Scf.iv c0_i32_5 c1_i32_7 k0_t4
  let c0_i32_27 : BitVec 32 := 0#32
  ![v0.toNat, 1, arg10.toNat, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let v12 : Index := Scalar.indexCast v0
  let c0_10 : Index := 0#32
  let c0_11 : Index := 0#32
  let c0_12 : Index := 0#32
  ![v12.toNat, 0, 0, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let v18 : Index := Scalar.indexCast v0
  let c1 : Index := 1#32
  let c0_13 : Index := 0#32
  let c0_14 : Index := 0#32
  ![v18.toNat, 1, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c144_i32 : BitVec 32 := 144#32
  let v18 : BitVec 32 := Scalar.addi c144_i32 v17
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S65536 : Shape := ⟨1, ![65536]⟩
abbrev S73728x1024 : Shape := ⟨2, ![73728, 1024]⟩
abbrev S32768x1024 : Shape := ⟨2, ![32768, 1024]⟩
abbrev S32768x128 : Shape := ⟨2, ![32768, 128]⟩
abbrev S288x1x1024 : Shape := ⟨3, ![288, 1, 1024]⟩
abbrev S1024 : Shape := ⟨1, ![1024]⟩
abbrev S65536x1 : Shape := ⟨2, ![65536, 1]⟩
abbrev S65536x1024 : Shape := ⟨2, ![65536, 1024]⟩
abbrev S16x2048x2x1024 : Shape := ⟨4, ![16, 2048, 2, 1024]⟩
abbrev S16x2048x128 : Shape := ⟨3, ![16, 2048, 128]⟩
abbrev S16x2048x2 : Shape := ⟨3, ![16, 2048, 2]⟩
abbrev S2x24x6x1024 : Shape := ⟨4, ![2, 24, 6, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048x1 : Shape := ⟨3, ![16, 2048, 1]⟩
abbrev S16x2048x1x1024 : Shape := ⟨4, ![16, 2048, 1, 1024]⟩
abbrev S_ : Shape := ⟨0, ![]⟩
abbrev S16x2048 : Shape := ⟨2, ![16, 2048]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S65536, .i32⟩
  | .hbm, ⟨1, _⟩ => ⟨S73728x1024, .f32⟩
  | .hbm, ⟨2, _⟩ => ⟨S32768x1024, .f32⟩
  | .hbm, ⟨3, _⟩ => ⟨S32768x128, .f32⟩
  | .hbm, ⟨4, _⟩ => ⟨S288x1x1024, .f32⟩
  | .hbm, ⟨5, _⟩ => ⟨S1024, .f32⟩
  | .hbm, ⟨6, _⟩ => ⟨S65536x1, .i32⟩
  | .hbm, ⟨7, _⟩ => ⟨S65536x1024, .f32⟩
  | .hbm, ⟨8, _⟩ => ⟨S16x2048x2x1024, .f32⟩
  | .hbm, ⟨9, _⟩ => ⟨S16x2048x128, .f32⟩
  | .hbm, ⟨10, _⟩ => ⟨S16x2048x2, .f32⟩
  | .hbm, ⟨11, _⟩ => ⟨S2x24x6x1024, .f32⟩
  | .hbm, ⟨12, _⟩ => ⟨S1x16x1x1024, .f32⟩
  | .hbm, ⟨13, _⟩ => ⟨S16x1024, .f32⟩
  | .hbm, ⟨14, _⟩ => ⟨S16x1x1024, .f32⟩
  | .hbm, ⟨15, _⟩ => ⟨S16x2048x1024, .f32⟩
  | .hbm, ⟨16, _⟩ => ⟨S16x2048x1, .f32⟩
  | .hbm, ⟨17, _⟩ => ⟨S16x2048x1x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1, .f32⟩
  | .hbm, ⟨22, _⟩ => ⟨S16x2048x1x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S32768x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x512 : Shape := ⟨3, ![16, 2048, 512]⟩
abbrev S16x2304x512 : Shape := ⟨3, ![16, 2304, 512]⟩
abbrev S288x1x1024 : Shape := ⟨3, ![288, 1, 1024]⟩
abbrev S2x1024 : Shape := ⟨2, ![2, 1024]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S1x1024x1024 : Shape := ⟨3, ![1, 1024, 1024]⟩
abbrev S512x512 : Shape := ⟨2, ![512, 512]⟩
abbrev S512x1024 : Shape := ⟨2, ![512, 1024]⟩
abbrev S1x1024 : Shape := ⟨2, ![1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2304x512, .bf16⟩
  | .hbm, ⟨3, _⟩ => ⟨S16x2048x1024, .bf16⟩
  | .hbm, ⟨4, _⟩ => ⟨S16x2048x1024, .bf16⟩
  | .hbm, ⟨5, _⟩ => ⟨S288x1x1024, .f32⟩
  | .hbm, ⟨6, _⟩ => ⟨S2x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x512x1024, .bf16⟩
  | .hbm, ⟨12, _⟩ => ⟨S2x512x1024, .bf16⟩
  | .hbm, ⟨13, _⟩ => ⟨S2x512x1024, .bf16⟩
  | .hbm, ⟨14, _⟩ => ⟨S2x1024x1024, .bf16⟩
  | .hbm, ⟨15, _⟩ => ⟨S2x1x1024, .f32⟩
  | .hbm, ⟨16, _⟩ => ⟨S16x2048x1024, .f32⟩
  | .hbm, ⟨17, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .bf16⟩
  | .local _ .vmem, ⟨21, _⟩ => ⟨S1x512x1024, .f32⟩
  | .local _ .vmem, ⟨22, _⟩ => ⟨S1x512x1024, .f32⟩
  | .local _ .vmem, ⟨23, _⟩ => ⟨S1x512x1024, .bf16⟩
  | .local _ .vmem, ⟨24, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16x2048x1024 : Shape := ⟨3, ![16, 2048, 1024]⟩
abbrev S16x2048x512 : Shape := ⟨3, ![16, 2048, 512]⟩
abbrev S16x2304x512 : Shape := ⟨3, ![16, 2304, 512]⟩
abbrev S288x1x1024 : Shape := ⟨3, ![288, 1, 1024]⟩
abbrev S2x1024 : Shape := ⟨2, ![2, 1024]⟩
abbrev S2x512x1024 : Shape := ⟨3, ![2, 512, 1024]⟩
abbrev S2x1024x1024 : Shape := ⟨3, ![2, 1024, 1024]⟩
abbrev S2x24x6x1024 : Shape := ⟨4, ![2, 24, 6, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2304x512, .bf16⟩
  | .hbm, ⟨3, _⟩ => ⟨S16x2048x1024, .bf16⟩
  | .hbm, ⟨4, _⟩ => ⟨S16x2048x1024, .bf16⟩
  | .hbm, ⟨5, _⟩ => ⟨S288x1x1024, .f32⟩
  | .hbm, ⟨6, _⟩ => ⟨S2x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S2x24x6x1024, .f32⟩
  | .hbm, ⟨12, _⟩ => ⟨S1x16x1x1024, .f32⟩
  | .hbm, ⟨13, _⟩ => ⟨S16x1024, .f32⟩
  | .hbm, ⟨14, _⟩ => ⟨S16x1x1024, .f32⟩
  | .hbm, ⟨15, _⟩ => ⟨S1x16x1x1024, .f32⟩
  | .hbm, ⟨16, _⟩ => ⟨S16x1024, .f32⟩
  | .hbm, ⟨17, _⟩ => ⟨S16x1x1024, .f32⟩
  | .hbm, ⟨18, _⟩ => ⟨S1x16x1x1024, .f32⟩
  | .hbm, ⟨19, _⟩ => ⟨S16x1024, .f32⟩
  | .hbm, ⟨20, _⟩ => ⟨S16x1x1024, .f32⟩
  | .hbm, ⟨21, _⟩ => ⟨S16x2048x512, .bf16⟩
  | .hbm, ⟨22, _⟩ => ⟨S16x2048x512, .f32⟩
  | .hbm, ⟨23, _⟩ => ⟨S16x2048x512, .f32⟩
  | .hbm, ⟨24, _⟩ => ⟨S16x2048x1024, .f32⟩
  | .hbm, ⟨25, _⟩ => ⟨S16x2048x1024, .f32⟩
  | .hbm, ⟨26, _⟩ => ⟨S1x512x1024, .f32⟩
  | .hbm, ⟨27, _⟩ => ⟨S512x1024, .f32⟩
  | .hbm, ⟨28, _⟩ => ⟨S16x2048x1024, .f32⟩
  | .hbm, ⟨29, _⟩ => ⟨S1x512x1024, .f32⟩
  | .hbm, ⟨30, _⟩ => ⟨S512x1024, .f32⟩
  | .hbm, ⟨31, _⟩ => ⟨S16x2048x1024, .f32⟩
  | .hbm, ⟨32, _⟩ => ⟨S1x512x1024, .f32⟩
  | .hbm, ⟨33, _⟩ => ⟨S512x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1x1024x1024, .f32⟩
  | .hbm, ⟨48, _⟩ => ⟨S1024x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1024, .f32⟩
  | .hbm, ⟨67, _⟩ => ⟨S1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x1x1024, .f32⟩
  | .hbm, ⟨73, _⟩ => ⟨S16x1x1024, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel5.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S288x1x1024 : Shape := ⟨3, ![288, 1, 1024]⟩
abbrev S_ : Shape := ⟨0, ![]⟩
abbrev S1024 : Shape := ⟨1, ![1024]⟩
abbrev S1x1024 : Shape := ⟨2, ![1, 1024]⟩
abbrev S1024x1024 : Shape := ⟨2, ![1024, 1024]⟩
abbrev S1x1x1024 : Shape := ⟨3, ![1, 1, 1024]⟩
abbrev S3x1024x256 : Shape := ⟨3, ![3, 1024, 256]⟩
abbrev S3x256x1024 : Shape := ⟨3, ![3, 256, 1024]⟩
abbrev S3x3 : Shape := ⟨2, ![3, 3]⟩
abbrev S1x1 : Shape := ⟨2, ![1, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S32768x1024, .f32⟩
  | .hbm, ⟨5, _⟩ => ⟨S288x1x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S3x1024x256, .f32⟩
  | .local _ .vmem, ⟨11, _⟩ => ⟨S3x1024x256, .f32⟩
  | .local _ .vmem, ⟨12, _⟩ => ⟨S3x256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_28 : BitVec 32 := 0#32
  let v54 : BitVec 32 := Scalar.addi v1 c0_i32_28
  let c352_i32_29 : BitVec 32 := 352#32
  let v55 : BitVec 1 := Scalar.cmpi .slt v54 c352_i32_29
  let v56 : BitVec 32 := Scalar.extui v55
  let c0_i32_30 : BitVec 32 := 0#32
  let v57 : BitVec 1 := Scalar.cmpi .ne v56 c0_i32_30
  v57

def k0_mult1 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_26 : BitVec 32 := 0#32
  let v51 : BitVec 32 := Scalar.addi v1 c0_i32_26
  let c0_i32_24 : BitVec 32 := 0#32
  let v49 : BitVec 32 := Scalar.addi v1 c0_i32_24
  let c11_i32_25 : BitVec 32 := 11#32
  let v50 : BitVec 32 := Scalar.divsi v49 c11_i32_25
  let c11_i32_27 : BitVec 32 := 11#32
  let v52 : BitVec 32 := Scalar.muli v50 c11_i32_27
  let v53 : BitVec 32 := Scalar.subi v51 v52
  let c256_i32 : BitVec 32 := 256#32
  let v69 : BitVec 32 := Scalar.muli v53 c256_i32
  v69
def k0_off1 (i : grid0.Coords) : Fin 2 → Nat :=
  let c0_i32_40 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_37 : BitVec 32 := 0#32
  let v67 : BitVec 32 := Scalar.addi v1 c0_i32_37
  let c3_i32_38 : BitVec 32 := 3#32
  let v68 : BitVec 32 := Scalar.remsi v67 c3_i32_38
  ![0, v68.toNat]
def k0_off2 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_37 : BitVec 32 := 0#32
  let v67 : BitVec 32 := Scalar.addi v1 c0_i32_37
  let c3_i32_38 : BitVec 32 := 3#32
  let v68 : BitVec 32 := Scalar.remsi v67 c3_i32_38
  let c0_i32_41 : BitVec 32 := 0#32
  let c0_i32_42 : BitVec 32 := 0#32
  ![v68.toNat, 0, 0]
def k0_off3 (i : grid0.Coords) : Fin 3 → Nat :=
  let c0_i32_39 : BitVec 32 := 0#32
  let c0_i32_43 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_26 : BitVec 32 := 0#32
  let v51 : BitVec 32 := Scalar.addi v1 c0_i32_26
  let c0_i32_24 : BitVec 32 := 0#32
  let v49 : BitVec 32 := Scalar.addi v1 c0_i32_24
  let c11_i32_25 : BitVec 32 := 11#32
  let v50 : BitVec 32 := Scalar.divsi v49 c11_i32_25
  let c11_i32_27 : BitVec 32 := 11#32
  let v52 : BitVec 32 := Scalar.muli v50 c11_i32_27
  let v53 : BitVec 32 := Scalar.subi v51 v52
  let c256_i32 : BitVec 32 := 256#32
  let v69 : BitVec 32 := Scalar.muli v53 c256_i32
  let v70 : BitVec 32 := v69
  ![0, 0, v70.toNat]
def k0_off4 (i : grid0.Coords) : Fin 2 → Nat :=
  let c1_i32_45 : BitVec 32 := 1#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_37 : BitVec 32 := 0#32
  let v67 : BitVec 32 := Scalar.addi v1 c0_i32_37
  let c3_i32_38 : BitVec 32 := 3#32
  let v68 : BitVec 32 := Scalar.remsi v67 c3_i32_38
  ![1, v68.toNat]
def k0_off5 (i : grid0.Coords) : Fin 2 → Nat :=
  let c2_i32_50 : BitVec 32 := 2#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_37 : BitVec 32 := 0#32
  let v67 : BitVec 32 := Scalar.addi v1 c0_i32_37
  let c3_i32_38 : BitVec 32 := 3#32
  let v68 : BitVec 32 := Scalar.remsi v67 c3_i32_38
  ![2, v68.toNat]
def k0_off6 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_37 : BitVec 32 := 0#32
  let v67 : BitVec 32 := Scalar.addi v1 c0_i32_37
  let c3_i32_38 : BitVec 32 := 3#32
  let v68 : BitVec 32 := Scalar.remsi v67 c3_i32_38
  let c0_i32_51 : BitVec 32 := 0#32
  let c0_i32_52 : BitVec 32 := 0#32
  ![v68.toNat, 0, 0]
def k0_off7 (i : grid0.Coords) : Fin 3 → Nat :=
  let c0_i32_49 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32_26 : BitVec 32 := 0#32
  let v51 : BitVec 32 := Scalar.addi v1 c0_i32_26
  let c0_i32_24 : BitVec 32 := 0#32
  let v49 : BitVec 32 := Scalar.addi v1 c0_i32_24
  let c11_i32_25 : BitVec 32 := 11#32
  let v50 : BitVec 32 := Scalar.divsi v49 c11_i32_25
  let c11_i32_27 : BitVec 32 := 11#32
  let v52 : BitVec 32 := Scalar.muli v50 c11_i32_27
  let v53 : BitVec 32 := Scalar.subi v51 v52
  let c256_i32 : BitVec 32 := 256#32
  let v69 : BitVec 32 := Scalar.muli v53 c256_i32
  let v70 : BitVec 32 := v69
  let c0_i32_53 : BitVec 32 := 0#32
  ![0, v70.toNat, 0]
def k0_cond3 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_34 : BitVec 32 := 1#32
  let v63 : BitVec 32 := Scalar.addi v1 c1_i32_34
  let c352_i32_35 : BitVec 32 := 352#32
  let v64 : BitVec 1 := Scalar.cmpi .slt v63 c352_i32_35
  let v65 : BitVec 32 := Scalar.extui v64
  let c0_i32_36 : BitVec 32 := 0#32
  let v66 : BitVec 1 := Scalar.cmpi .ne v65 c0_i32_36
  v66

def k0_mult2 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_32 : BitVec 32 := 1#32
  let v60 : BitVec 32 := Scalar.addi v1 c1_i32_32
  let c1_i32 : BitVec 32 := 1#32
  let v58 : BitVec 32 := Scalar.addi v1 c1_i32
  let c11_i32_31 : BitVec 32 := 11#32
  let v59 : BitVec 32 := Scalar.divsi v58 c11_i32_31
  let c11_i32_33 : BitVec 32 := 11#32
  let v61 : BitVec 32 := Scalar.muli v59 c11_i32_33
  let v62 : BitVec 32 := Scalar.subi v60 v61
  let c256_i32 : BitVec 32 := 256#32
  let v69 : BitVec 32 := Scalar.muli v62 c256_i32
  v69
def k0_off8 (i : grid0.Coords) : Fin 2 → Nat :=
  let c0_i32_40 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_37 : BitVec 32 := 1#32
  let v67 : BitVec 32 := Scalar.addi v1 c1_i32_37
  let c3_i32_38 : BitVec 32 := 3#32
  let v68 : BitVec 32 := Scalar.remsi v67 c3_i32_38
  ![0, v68.toNat]
def k0_off9 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_37 : BitVec 32 := 1#32
  let v67 : BitVec 32 := Scalar.addi v1 c1_i32_37
  let c3_i32_38 : BitVec 32 := 3#32
  let v68 : BitVec 32 := Scalar.remsi v67 c3_i32_38
  let c0_i32_41 : BitVec 32 := 0#32
  let c0_i32_42 : BitVec 32 := 0#32
  ![v68.toNat, 0, 0]
def k0_off10 (i : grid0.Coords) : Fin 3 → Nat :=
  let c0_i32_39 : BitVec 32 := 0#32
  let c0_i32_43 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_32 : BitVec 32 := 1#32
  let v60 : BitVec 32 := Scalar.addi v1 c1_i32_32
  let c1_i32 : BitVec 32 := 1#32
  let v58 : BitVec 32 := Scalar.addi v1 c1_i32
  let c11_i32_31 : BitVec 32 := 11#32
  let v59 : BitVec 32 := Scalar.divsi v58 c11_i32_31
  let c11_i32_33 : BitVec 32 := 11#32
  let v61 : BitVec 32 := Scalar.muli v59 c11_i32_33
  let v62 : BitVec 32 := Scalar.subi v60 v61
  let c256_i32 : BitVec 32 := 256#32
  let v69 : BitVec 32 := Scalar.muli v62 c256_i32
  let v70 : BitVec 32 := v69
  ![0, 0, v70.toNat]
def k0_off11 (i : grid0.Coords) : Fin 2 → Nat :=
  let c1_i32_45 : BitVec 32 := 1#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_37 : BitVec 32 := 1#32
  let v67 : BitVec 32 := Scalar.addi v1 c1_i32_37
  let c3_i32_38 : BitVec 32 := 3#32
  let v68 : BitVec 32 := Scalar.remsi v67 c3_i32_38
  ![1, v68.toNat]
def k0_off12 (i : grid0.Coords) : Fin 2 → Nat :=
  let c2_i32_50 : BitVec 32 := 2#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_37 : BitVec 32 := 1#32
  let v67 : BitVec 32 := Scalar.addi v1 c1_i32_37
  let c3_i32_38 : BitVec 32 := 3#32
  let v68 : BitVec 32 := Scalar.remsi v67 c3_i32_38
  ![2, v68.toNat]
def k0_off13 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_37 : BitVec 32 := 1#32
  let v67 : BitVec 32 := Scalar.addi v1 c1_i32_37
  let c3_i32_38 : BitVec 32 := 3#32
  let v68 : BitVec 32 := Scalar.remsi v67 c3_i32_38
  let c0_i32_51 : BitVec 32 := 0#32
  let c0_i32_52 : BitVec 32 := 0#32
  ![v68.toNat, 0, 0]
def k0_off14 (i : grid0.Coords) : Fin 3 → Nat :=
  let c0_i32_49 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c1_i32_32 : BitVec 32 := 1#32
  let v60 : BitVec 32 := Scalar.addi v1 c1_i32_32
  let c1_i32 : BitVec 32 := 1#32
  let v58 : BitVec 32 := Scalar.addi v1 c1_i32
  let c11_i32_31 : BitVec 32 := 11#32
  let v59 : BitVec 32 := Scalar.divsi v58 c11_i32_31
  let c11_i32_33 : BitVec 32 := 11#32
  let v61 : BitVec 32 := Scalar.muli v59 c11_i32_33
  let v62 : BitVec 32 := Scalar.subi v60 v61
  let c256_i32 : BitVec 32 := 256#32
  let v69 : BitVec 32 := Scalar.muli v62 c256_i32
  let v70 : BitVec 32 := v69
  let c0_i32_53 : BitVec 32 := 0#32
  ![0, v70.toNat, 0]
def k0_cond4 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_4 : BitVec 32 := 2#32
  let v10 : BitVec 32 := Scalar.addi v1 c2_i32_4
  let c352_i32 : BitVec 32 := 352#32
  let v11 : BitVec 1 := Scalar.cmpi .slt v10 c352_i32
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_2 : BitVec 32 := 2#32
  let v7 : BitVec 32 := Scalar.addi v1 c2_i32_2
  let c2_i32 : BitVec 32 := 2#32
  let v5 : BitVec 32 := Scalar.addi v1 c2_i32
  let c11_i32_1 : BitVec 32 := 11#32
  let v6 : BitVec 32 := Scalar.divsi v5 c11_i32_1
  let c11_i32_3 : BitVec 32 := 11#32
  let v8 : BitVec 32 := Scalar.muli v6 c11_i32_3
  let v9 : BitVec 32 := Scalar.subi v7 v8
  let c256_i32 : BitVec 32 := 256#32
  let v51 : BitVec 32 := Scalar.muli v9 c256_i32
  v51
def k0_off15 (i : grid0.Coords) : Fin 2 → Nat :=
  let c0_i32_27 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_24 : BitVec 32 := 2#32
  let v49 : BitVec 32 := Scalar.addi v1 c2_i32_24
  let c3_i32_25 : BitVec 32 := 3#32
  let v50 : BitVec 32 := Scalar.remsi v49 c3_i32_25
  ![0, v50.toNat]
def k0_off16 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_24 : BitVec 32 := 2#32
  let v49 : BitVec 32 := Scalar.addi v1 c2_i32_24
  let c3_i32_25 : BitVec 32 := 3#32
  let v50 : BitVec 32 := Scalar.remsi v49 c3_i32_25
  let c0_i32_28 : BitVec 32 := 0#32
  let c0_i32_29 : BitVec 32 := 0#32
  ![v50.toNat, 0, 0]
def k0_off17 (i : grid0.Coords) : Fin 3 → Nat :=
  let c0_i32_26 : BitVec 32 := 0#32
  let c0_i32_30 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_2 : BitVec 32 := 2#32
  let v7 : BitVec 32 := Scalar.addi v1 c2_i32_2
  let c2_i32 : BitVec 32 := 2#32
  let v5 : BitVec 32 := Scalar.addi v1 c2_i32
  let c11_i32_1 : BitVec 32 := 11#32
  let v6 : BitVec 32 := Scalar.divsi v5 c11_i32_1
  let c11_i32_3 : BitVec 32 := 11#32
  let v8 : BitVec 32 := Scalar.muli v6 c11_i32_3
  let v9 : BitVec 32 := Scalar.subi v7 v8
  let c256_i32 : BitVec 32 := 256#32
  let v51 : BitVec 32 := Scalar.muli v9 c256_i32
  let v52 : BitVec 32 := v51
  ![0, 0, v52.toNat]
def k0_off18 (i : grid0.Coords) : Fin 2 → Nat :=
  let c1_i32 : BitVec 32 := 1#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_24 : BitVec 32 := 2#32
  let v49 : BitVec 32 := Scalar.addi v1 c2_i32_24
  let c3_i32_25 : BitVec 32 := 3#32
  let v50 : BitVec 32 := Scalar.remsi v49 c3_i32_25
  ![1, v50.toNat]
def k0_off19 (i : grid0.Coords) : Fin 2 → Nat :=
  let c2_i32_36 : BitVec 32 := 2#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_24 : BitVec 32 := 2#32
  let v49 : BitVec 32 := Scalar.addi v1 c2_i32_24
  let c3_i32_25 : BitVec 32 := 3#32
  let v50 : BitVec 32 := Scalar.remsi v49 c3_i32_25
  ![2, v50.toNat]
def k0_off20 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_24 : BitVec 32 := 2#32
  let v49 : BitVec 32 := Scalar.addi v1 c2_i32_24
  let c3_i32_25 : BitVec 32 := 3#32
  let v50 : BitVec 32 := Scalar.remsi v49 c3_i32_25
  let c0_i32_37 : BitVec 32 := 0#32
  let c0_i32_38 : BitVec 32 := 0#32
  ![v50.toNat, 0, 0]
def k0_off21 (i : grid0.Coords) : Fin 3 → Nat :=
  let c0_i32_35 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32_2 : BitVec 32 := 2#32
  let v7 : BitVec 32 := Scalar.addi v1 c2_i32_2
  let c2_i32 : BitVec 32 := 2#32
  let v5 : BitVec 32 := Scalar.addi v1 c2_i32
  let c11_i32_1 : BitVec 32 := 11#32
  let v6 : BitVec 32 := Scalar.divsi v5 c11_i32_1
  let c11_i32_3 : BitVec 32 := 11#32
  let v8 : BitVec 32 := Scalar.muli v6 c11_i32_3
  let v9 : BitVec 32 := Scalar.subi v7 v8
  let c256_i32 : BitVec 32 := 256#32
  let v51 : BitVec 32 := Scalar.muli v9 c256_i32
  let v52 : BitVec 32 := v51
  let c0_i32_39 : BitVec 32 := 0#32
  ![0, v52.toNat, 0]
def k0_cond5 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c352_i32_6 : BitVec 32 := 352#32
  let v15 : BitVec 1 := Scalar.cmpi .slt v1 c352_i32_6
  let v16 : BitVec 32 := Scalar.extui v15
  let c0_i32_7 : BitVec 32 := 0#32
  let v17 : BitVec 1 := Scalar.cmpi .ne v16 c0_i32_7
  v17

def k0_mult4 (i : grid0.Coords) : BitVec 32 :=
  let arg1 : BitVec 32 := BitVec.ofNat 32 (i 1).val
  let c256_i32 : BitVec 32 := 256#32
  let v49 : BitVec 32 := Scalar.muli arg1 c256_i32
  v49
def k0_off22 (i : grid0.Coords) : Fin 2 → Nat :=
  let c0_i32_25 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  ![0, v14.toNat]
def k0_off23 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  let c0_i32_26 : BitVec 32 := 0#32
  let c0_i32_27 : BitVec 32 := 0#32
  ![v14.toNat, 0, 0]
def k0_off24 (i : grid0.Coords) : Fin 3 → Nat :=
  let c0_i32_24 : BitVec 32 := 0#32
  let c0_i32_28 : BitVec 32 := 0#32
  let arg1 : BitVec 32 := BitVec.ofNat 32 (i 1).val
  let c256_i32 : BitVec 32 := 256#32
  let v49 : BitVec 32 := Scalar.muli arg1 c256_i32
  let v50 : BitVec 32 := v49
  ![0, 0, v50.toNat]
def k0_off25 (i : grid0.Coords) : Fin 2 → Nat :=
  let c1_i32 : BitVec 32 := 1#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  ![1, v14.toNat]
def k0_off26 (i : grid0.Coords) : Fin 2 → Nat :=
  let c2_i32_34 : BitVec 32 := 2#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  ![2, v14.toNat]
def k0_off27 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  let c0_i32_35 : BitVec 32 := 0#32
  let c0_i32_36 : BitVec 32 := 0#32
  ![v14.toNat, 0, 0]
def k0_off28 (i : grid0.Coords) : Fin 3 → Nat :=
  let c0_i32_33 : BitVec 32 := 0#32
  let arg1 : BitVec 32 := BitVec.ofNat 32 (i 1).val
  let c256_i32 : BitVec 32 := 256#32
  let v49 : BitVec 32 := Scalar.muli arg1 c256_i32
  let v50 : BitVec 32 := v49
  let c0_i32_37 : BitVec 32 := 0#32
  ![0, v50.toNat, 0]
def k0_off29 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  let v22 : Index := Scalar.indexCast v14
  let c0_11 : Index := 0#32
  let c0_12 : Index := 0#32
  ![v22.toNat, 0, 0]
def k0_off30 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v14 : BitVec 32 := Scalar.remsi v1 c3_i32
  let v37 : Index := Scalar.indexCast v14
  let c0_18 : Index := 0#32
  let c0_19 : Index := 0#32
  ![v37.toNat, 0, 0]
def k0_cond7 (i : grid0.Coords) : BitVec 1 :=
  let arg1 : BitVec 32 := BitVec.ofNat 32 (i 1).val
  let c10_i32 : BitVec 32 := 10#32
  let v46 : BitVec 1 := Scalar.cmpi .eq arg1 c10_i32
  let v47 : BitVec 32 := Scalar.extui v46
  let c0_i32_23 : BitVec 32 := 0#32
  let v48 : BitVec 1 := Scalar.cmpi .ne v47 c0_i32_23
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S288x1x1024 : Shape := ⟨3, ![288, 1, 1024]⟩
abbrev S1024x2816 : Shape := ⟨2, ![1024, 2816]⟩
abbrev S32768x2816 : Shape := ⟨2, ![32768, 2816]⟩
abbrev S_ : Shape := ⟨0, ![]⟩
abbrev S2816x1024 : Shape := ⟨2, ![2816, 1024]⟩
abbrev S2x24x6x1024 : Shape := ⟨4, ![2, 24, 6, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S16x2048x1024 : Shape := ⟨3, ![16, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S32768x1024, .f32⟩
  | .hbm, ⟨5, _⟩ => ⟨S288x1x1024, .f32⟩
  | .hbm, ⟨6, _⟩ => ⟨S32768x1024, .f32⟩
  | .hbm, ⟨7, _⟩ => ⟨S1024x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S1024x2816, .f32⟩
  | .hbm, ⟨19, _⟩ => ⟨S32768x2816, .f32⟩
  | .hbm, ⟨20, _⟩ => ⟨S32768x2816, .f32⟩
  | .hbm, ⟨21, _⟩ => ⟨S2816x1024, .f32⟩
  | .hbm, ⟨22, _⟩ => ⟨S32768x1024, .f32⟩
  | .hbm, ⟨23, _⟩ => ⟨S2x24x6x1024, .f32⟩
  | .hbm, ⟨24, _⟩ => ⟨S1x16x1x1024, .f32⟩
  | .hbm, ⟨25, _⟩ => ⟨S16x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.Plan.lean ====
/- The routing plan of the grouped expert feed-forward: which steps of the grid do work, which block of the
   expert weights each step reads, and the printed conditions and offsets in closed form over the step's number. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Gffn

open Idealize.ShloMosaic Idealize.ShloMosaic.TcCoe Idealize.ShloMosaic.Tactic
open Idealize.SL Idealize.SL.Sem
open Cert.KernelIdeal Cert.KernelIdeal.Gen

/-- Step `t` works at row tile `t / 7` and hidden block `t % 7`. -/
theorem coords_0 (t : Fin grid0.N) : (grid0.coords t 0).val = t.val / 7 :=
  (by decide +kernel : ∀ t : Fin grid0.N, (grid0.coords t 0).val = t.val / 7) t
theorem coords_1 (t : Fin grid0.N) : (grid0.coords t 1).val = t.val % 7 :=
  (by decide +kernel : ∀ t : Fin grid0.N, (grid0.coords t 1).val = t.val % 7) t
theorem step_lt (t : Fin grid0.N) : t.val < 504 := Nat.lt_of_lt_of_eq t.isLt N_0

/-! ## The printed conditions -/

theorem cond1_iff (t : Fin grid0.N) : k0_cond1 (grid0.coords t) = 1#1 ↔ t.val = 0 :=
  (by decide +kernel : ∀ t : Fin grid0.N, k0_cond1 (grid0.coords t) = 1#1 ↔ t.val = 0) t

theorem cond7_iff (t : Fin grid0.N) : k0_cond7 (grid0.coords t) = 1#1 ↔ t.val % 7 = 0 :=
  (by decide +kernel : ∀ t : Fin grid0.N, k0_cond7 (grid0.coords t) = 1#1 ↔ t.val % 7 = 0) t

/-- A signed comparison, widened to a word and tested against zero: below the sign bit it compares the naturals. -/
theorem slt_guard (a b : BitVec 32) {x y : Nat} (ha : a.toNat = x) (hb : b.toNat = y) (hx : x < 2147483648) (hy : y < 2147483648) :
    Scalar.cmpi .ne (Scalar.extui (Scalar.cmpi .slt a b)) 0#32 = 1#1 ↔ x < y := by
  have e : a.slt b = decide (x < y) := by
    subst ha hb
    rw [BitVec.slt_eq_decide, WordCmp.toInt_eq_toNat_of_lt_half (by simpa using hx), WordCmp.toInt_eq_toNat_of_lt_half (by simpa using hy)]
    simp
  have e' : Scalar.cmpi .slt a b = BitVec.ofBool (decide (x < y)) := by
    rw [← e]; rfl
  rw [e']
  by_cases h : x < y
  · simp only [h, decide_true, iff_true]; decide
  · simp only [h, decide_false, iff_false]; decide

section Conds
variable (t : Fin grid0.N) (w : BitVec 32) (hw : w.toNat ≤ 72)
include hw

theorem toNat_times7 : (Scalar.muli w 7#32).toNat = 7 * w.toNat := by
  show (w * 7#32).toNat = _
  rw [BitVec.toNat_mul]
  show w.toNat * 7 % 2 ^ 32 = _
  omega

theorem cond2_iff : k0_cond2 (grid0.coords t) w = 1#1 ↔ t.val < 7 * w.toNat :=
  slt_guard _ _ ((by decide +kernel : ∀ t : Fin grid0.N, (Scalar.addi (Scalar.addi (Scalar.muli (BitVec.ofNat 32 (grid0.coords t 0).val) 7#32)
    (BitVec.ofNat 32 (grid0.coords t 1).val)) 0#32).toNat = t.val) t) (toNat_times7 w hw) (by have := step_lt t; omega) (by omega)
theorem cond3_iff : k0_cond3 (grid0.coords t) w = 1#1 ↔ t.val + 1 < 7 * w.toNat :=
  slt_guard _ _ ((by decide +kernel : ∀ t : Fin grid0.N, (Scalar.addi (Scalar.addi (Scalar.muli (BitVec.ofNat 32 (grid0.coords t 0).val) 7#32)
    (BitVec.ofNat 32 (grid0.coords t 1).val)) 1#32).toNat = t.val + 1) t) (toNat_times7 w hw) (by have := step_lt t; omega) (by omega)
theorem cond4_iff : k0_cond4 (grid0.coords t) w = 1#1 ↔ t.val + 2 < 7 * w.toNat :=
  slt_guard _ _ ((by decide +kernel : ∀ t : Fin grid0.N, (Scalar.addi (Scalar.addi (Scalar.muli (BitVec.ofNat 32 (grid0.coords t 0).val) 7#32)
    (BitVec.ofNat 32 (grid0.coords t 1).val)) 2#32).toNat = t.val + 2) t) (toNat_times7 w hw) (by have := step_lt t; omega) (by omega)
theorem cond5_iff : k0_cond5 (grid0.coords t) w = 1#1 ↔ t.val < 7 * w.toNat :=
  slt_guard _ _ ((by decide +kernel : ∀ t : Fin grid0.N, (Scalar.addi (Scalar.muli (BitVec.ofNat 32 (grid0.coords t 0).val) 7#32)
    (BitVec.ofNat 32 (grid0.coords t 1).val)).toNat = t.val) t) (toNat_times7 w hw) (by have := step_lt t; omega) (by omega)
theorem cond6_iff : k0_cond6 (grid0.coords t) w = 1#1 ↔ t.val < 7 * w.toNat := by
  have e : k0_cond6 (grid0.coords t) w = 1#1 ↔ t.val / 7 < w.toNat :=
    slt_guard _ _ ((by decide +kernel : ∀ t : Fin grid0.N, (BitVec.ofNat 32 (grid0.coords t 0).val).toNat = t.val / 7) t)
      rfl (by have := step_lt t; omega) (by omega)
  rw [e]
  omega
end Conds

/-! ## The printed offsets of the weights' blocks -/

theorem addi_zero (w : BitVec 32) : (Scalar.addi 0#32 w).toNat = w.toNat := by
  show (0#32 + w).toNat = _
  simp

theorem off4_eq (t : Fin grid0.N) (w : BitVec 32) : k0_off4 (grid0.coords t) w = ![w.toNat, 0, 512 * (t.val % 7)] := by
  have h : k0_off4 (grid0.coords t) 0#32 2 = 512 * (t.val % 7) :=
    (by decide +kernel : ∀ t : Fin grid0.N, k0_off4 (grid0.coords t) 0#32 2 = 512 * (t.val % 7)) t
  funext a
  match a with
  | 0 => exact addi_zero w
  | 1 => rfl
  | 2 => exact h
theorem off9_eq (t : Fin grid0.N) (w : BitVec 32) : k0_off9 (grid0.coords t) w = ![w.toNat, 512 * (t.val % 7), 0] := by
  have h : k0_off9 (grid0.coords t) 0#32 1 = 512 * (t.val % 7) :=
    (by decide +kernel : ∀ t : Fin grid0.N, k0_off9 (grid0.coords t) 0#32 1 = 512 * (t.val % 7)) t
  funext a
  match a with
  | 0 => exact addi_zero w
  | 2 => rfl
  | 1 => exact h
theorem off13_eq (t : Fin grid0.N) (w : BitVec 32) : k0_off13 (grid0.coords t) w = ![w.toNat, 0, 512 * ((t.val + 1) % 7)] := by
  have h : k0_off13 (grid0.coords t) 0#32 2 = 512 * ((t.val + 1) % 7) :=
    (by decide +kernel : ∀ t : Fin grid0.N, k0_off13 (grid0.coords t) 0#32 2 = 512 * ((t.val + 1) % 7)) t
  funext a
  match a with
  | 0 => exact addi_zero w
  | 1 => rfl
  | 2 => exact h
theorem off18_eq (t : Fin grid0.N) (w : BitVec 32) : k0_off18 (grid0.coords t) w = ![w.toNat, 512 * ((t.val + 1) % 7), 0] := by
  have h : k0_off18 (grid0.coords t) 0#32 1 = 512 * ((t.val + 1) % 7) :=
    (by decide +kernel : ∀ t : Fin grid0.N, k0_off18 (grid0.coords t) 0#32 1 = 512 * ((t.val + 1) % 7)) t
  funext a
  match a with
  | 0 => exact addi_zero w
  | 2 => rfl
  | 1 => exact h
theorem off22_eq (t : Fin grid0.N) (w : BitVec 32) : k0_off22 (grid0.coords t) w = ![w.toNat, 0, 512 * ((t.val + 2) % 7)] := by
  have h : k0_off22 (grid0.coords t) 0#32 2 = 512 * ((t.val + 2) % 7) :=
    (by decide +kernel : ∀ t : Fin grid0.N, k0_off22 (grid0.coords t) 0#32 2 = 512 * ((t.val + 2) % 7)) t
  funext a
  match a with
  | 0 => exact addi_zero w
  | 1 => rfl
  | 2 => exact h
theorem off27_eq (t : Fin grid0.N) (w : BitVec 32) : k0_off27 (grid0.coords t) w = ![w.toNat, 512 * ((t.val + 2) % 7), 0] := by
  have h : k0_off27 (grid0.coords t) 0#32 1 = 512 * ((t.val + 2) % 7) :=
    (by decide +kernel : ∀ t : Fin grid0.N, k0_off27 (grid0.coords t) 0#32 1 = 512 * ((t.val + 2) % 7)) t
  funext a
  match a with
  | 0 => exact addi_zero w
  | 2 => rfl
  | 1 => exact h
theorem off31_eq (t : Fin grid0.N) (w : BitVec 32) : k0_off31 (grid0.coords t) w = ![w.toNat, 0, 512 * (t.val % 7)] := by
  have h : k0_off31 (grid0.coords t) 0#32 2 = 512 * (t.val % 7) :=
    (by decide +kernel : ∀ t : Fin grid0.N, k0_off31 (grid0.coords t) 0#32 2 = 512 * (t.val % 7)) t
  funext a
  match a with
  | 0 => exact addi_zero w
  | 1 => rfl
  | 2 => exact h
theorem off36_eq (t : Fin grid0.N) (w : BitVec 32) : k0_off36 (grid0.coords t) w = ![w.toNat, 512 * (t.val % 7), 0] := by
  have h : k0_off36 (grid0.coords t) 0#32 1 = 512 * (t.val % 7) :=
    (by decide +kernel : ∀ t : Fin grid0.N, k0_off36 (grid0.coords t) 0#32 1 = 512 * (t.val % 7)) t
  funext a
  match a with
  | 0 => exact addi_zero w
  | 2 => rfl
  | 1 => exact h

end Cert.Gffn

end
-- ==== Proof.Ring.lean ====
/- The three rings of the grouped expert feed-forward: each of the three weight operands is streamed, block by block, through the three
   slots of its scratch, two blocks ahead of the step that reads it. Slots, source blocks and semaphores are named here,
   the printed views are rewritten to these names, and what the launch hands a ring and takes back is proved. -/
module

public import proofs.«01_k».proof.Proof.Plan
public import Idealize.ShloMosaic.Lib.Ring

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- The contents of a memref's buffer on a device. -/
abbrev BufOf (c : Dev nD) {sp : Space} {S : Shape} {e : EltTy} (M : Memref sig .tc sp S e) : Type := Buf (Elt F) (M.view.loc (c : Thread nD τ))
/-- A memref's buffer held whole. -/
abbrev held (c : Dev nD) {sp : Space} {S : Shape} {e : EltTy} (M : Memref sig .tc sp S e) (f : BufOf (F := F) c M) : sProp 𝕄 :=
  M.view.loc (c : Thread nD τ) ↦{fullShare} f

/-- The slot block `n` lands in, of the three. -/
abbrev sl (n : ℕ) : Fin 3 := Ring.sl 3 n
theorem sl_add3 (n : ℕ) : sl (n + 3) = sl n := Ring.sl_add 3 n

/-- The expert whose weights block `n` holds: the plan's entry for row tile `n / 7` (the last tile's, past the end). -/
def expert (te : S72.Idx → BitVec 32) (n : ℕ) : BitVec 32 := te fun | 0 => (⟨min (n / 7) 71, by omega⟩ : Fin 72)

instance : NeZero grid0.N := ⟨by rw [N_0]; decide⟩

abbrev mTe : Memref sig .tc .smem S72 .i32 := Memref.whole main_arg0
abbrev mNu : Memref sig .tc .smem S1 .i32 := Memref.whole main_arg1
abbrev mXb : Memref sig .tc .vmem S1024x1024 .bf16 := Memref.whole cc0_scratch0

theorem inb_slot_col (s : Fin 3) : ∀ a, (![s.val, 0, 0] : Fin 3 → Nat) a + S1x1024x512.size a ≤ S3x1024x512.size a := by
  have := s.isLt; intro a; fin_cases a <;> simp <;> omega
theorem inb_slot_row (s : Fin 3) : ∀ a, (![s.val, 0, 0] : Fin 3 → Nat) a + S1x512x1024.size a ≤ S3x512x1024.size a := by
  have := s.isLt; intro a; fin_cases a <;> simp <;> omega
theorem inb_blk_col (w : BitVec 32) (n : ℕ) : ∀ a, (![w.toNat % 8, 0, 512 * (n % 7)] : Fin 3 → Nat) a + S1x1024x512.size a ≤ S8x1024x3584.size a := by
  intro a; fin_cases a <;> simp <;> omega
theorem inb_blk_row (w : BitVec 32) (n : ℕ) : ∀ a, (![w.toNat % 8, 512 * (n % 7), 0] : Fin 3 → Nat) a + S1x512x1024.size a ≤ S8x3584x1024.size a := by
  intro a; fin_cases a <;> simp <;> omega
theorem inb_cell (r s : Fin 3) : ∀ a, (![r.val, s.val] : Fin 2 → Nat) a + S1x1.size a ≤ S3x3.size a := by
  have := r.isLt; have := s.isLt; intro a; fin_cases a <;> simp <;> omega

/-- The share of an operand lent to slot `s`'s transfers: one half, and the two halves of the other. -/
abbrev lent (s : Fin 3) : PosShare TreeShare := if s.val = 0 then fullShare.left else if s.val = 1 then fullShare.right.left else fullShare.right.right

/-- Cell `s` of row `r` of the semaphore array. -/
def cellA (r s : Fin 3) : DmaSems sig S_ := (cc0_scratch4.slice (Rect.unit (s := S3x3) ![r.val, s.val] S1x1.size (inb_cell r s))).squeeze S_ squeezes_S1x1_S_
abbrev cellR (r s : Fin 3) : SemLoc sig := SemLoc.dma (cellA r s).sem
abbrev cellP (c : Dev nD) (r s : Fin 3) : sProp 𝕄 := semVal ((c : Thread nD τ), cellR r s) 0

/-- The printed cells are the named ones. -/
theorem cell_congr (r s : Fin 3) {off : Fin 2 → Nat} (h : ∀ a, off a + S1x1.size a ≤ S3x3.size a) (e : off = ![r.val, s.val]) :
    (cc0_scratch4.slice (Rect.unit (s := S3x3) off S1x1.size h)).squeeze S_ squeezes_S1x1_S_ = cellA r s :=
  congrArg (fun A : DmaSems sig S1x1 => A.squeeze S_ squeezes_S1x1_S_) (SemArray.slice_unit_congr _ e _ _)

/-! ## The gate weights' ring -/

abbrev scG : Memref sig .tc .vmem S3x1024x512 .f32 := Memref.whole cc0_scratch1
abbrev opG : Memref sig .tc .hbm S8x1024x3584 .f32 := Memref.whole main_v0
/-- Slot `s` of the scratch. -/
def slotG (s : Fin 3) : Memref sig .tc .vmem S1024x512 .f32 :=
  (scG.slice (Rect.unit (s := S3x1024x512) ![s.val, 0, 0] S1x1024x512.size (inb_slot_col s)) (fun _ => rfl)).squeeze S1024x512 squeezes_S1x1024x512_S1024x512
/-- Block `n` of the expert named `w`. -/
def blkG (w : BitVec 32) (n : ℕ) : Memref sig .tc .hbm S1024x512 .f32 :=
  (opG.slice (Rect.unit (s := S8x1024x3584) ![w.toNat % 8, 0, 512 * (n % 7)] S1x1024x512.size (inb_blk_col w n)) (fun _ => rfl)).squeeze S1024x512 squeezes_S1x1024x512_S1024x512

theorem slotG_congr (s : Fin 3) {off : Fin 3 → Nat} (h : ∀ a, off a + S1x1024x512.size a ≤ S3x1024x512.size a) (e : off = ![s.val, 0, 0]) :
    (scG.slice (Rect.unit (s := S3x1024x512) off S1x1024x512.size h) (fun _ => rfl)).squeeze S1024x512 squeezes_S1x1024x512_S1024x512 = slotG s :=
  congrArg (fun M : Memref sig .tc .vmem S1x1024x512 .f32 => M.squeeze S1024x512 squeezes_S1x1024x512_S1024x512) (Memref.slice_unit_congr _ e _ _ (fun _ => rfl) (fun _ => rfl))
theorem blkG_congr (w : BitVec 32) (n : ℕ) (hw : w.toNat < 8) {off : Fin 3 → Nat} (h : ∀ a, off a + S1x1024x512.size a ≤ S8x1024x3584.size a) (e : off = ![w.toNat, 0, 512 * (n % 7)]) :
    (opG.slice (Rect.unit (s := S8x1024x3584) off S1x1024x512.size h) (fun _ => rfl)).squeeze S1024x512 squeezes_S1x1024x512_S1024x512 = blkG w n :=
  congrArg (fun M : Memref sig .tc .hbm S1x1024x512 .f32 => M.squeeze S1024x512 squeezes_S1x1024x512_S1024x512)
    (Memref.slice_unit_congr _ (e.trans (by rw [Nat.mod_eq_of_lt hw])) _ _ (fun _ => rfl) (fun _ => rfl))

section
variable (c : Dev nD) (w : BitVec 32) (W : BufOf (F := F) c opG)
/-- Slot `s` held at `f`; what a transfer of block `n` into slot `s` borrows of the operand; the rest of that slot's copy; that copy whole. -/
abbrev slotPG (s : Fin 3) (f : BufOf (F := F) c (slotG s)) : sProp 𝕄 := (slotG s).view.loc (c : Thread nD τ) ↦[(slotG s).view.set]{fullShare} f
abbrev srcPG (s : Fin 3) (n : ℕ) : sProp 𝕄 := (blkG w n).view.loc (c : Thread nD τ) ↦[(blkG w n).view.set]{lent s} W
def restPG (s : Fin 3) (n : ℕ) : sProp 𝕄 := ((c : Thread nD τ).loc main_v0) ↦[Finset.univ \ (blkG w n).view.set]{lent s} W
abbrev wholePG (s : Fin 3) : sProp 𝕄 := ((c : Thread nD τ).loc main_v0) ↦[Finset.univ]{lent s} W
/-- What slot `s` holds once block `n` landed in it. -/
abbrev landedG (s : Fin 3) (n : ℕ) (f : BufOf (F := F) c (slotG s)) : BufOf (F := F) c (slotG s) :=
  (slotG s).view.writes (Elt F) f [⟨Rect.whole S1024x512, ReadAs.same.apply ((blkG w n).view.read (Elt F) W)⟩]
/-- Block `n` in flight into slot `s`: its arrival delivers the slot landed and returns what was borrowed. -/
abbrev flightPG (s : Fin 3) (n : ℕ) (f : BufOf (F := F) c (slotG s)) : sProp 𝕄 :=
  Transfers.Flight countersEmb (c : Thread nD τ) (cellR 0 s) default ((slotG s).view.amount (cellR 0 s))
    iprop(slotPG c s (landedG c w W s n f) ∗ srcPG c w W s n)
/-- A slot with block `n` in flight into it; a free slot. -/
def flyG (s : Fin 3) (n : ℕ) : sProp 𝕄 := iprop(∃ f, flightPG c w W s n f ∗ restPG c w W s n)
def freeG (s : Fin 3) : sProp 𝕄 := iprop(cellP c 0 s ∗ ∃ f, slotPG c s f ∗ wholePG c W s)

omit [FloatOps F] in
theorem splitG (s : Fin 3) (n : ℕ) : wholePG (F := F) c W s ⊣⊢ iprop(srcPG c w W s n ∗ restPG c w W s n) := by
  unfold restPG; exact pointsTo_split_subset (Finset.subset_univ _)
omit [FloatOps F] in
theorem copiesG : (held c opG W : sProp 𝕄) ⊣⊢ iprop(wholePG c W 0 ∗ wholePG c W 1 ∗ wholePG c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetG (s : Fin 3) : Finset S3x1024x512.Idx := (Rect.unit (s := S3x1024x512) ![s.val, 0, 0] S1x1024x512.size (inb_slot_col s)).set
theorem slotSetG_eq (s : Fin 3) : (slotG s).view.set = slotSetG s := by
  simp only [slotG, Memref.view_squeeze, View.set_reshape]; exact View.set_slice_whole _ _
theorem slotsG_disjoint (s s' : Fin 3) (h : s ≠ s') : Disjoint (slotSetG s) (slotSetG s') :=
  Ring.lead_disjoint (s := S3x1024x512) (0 : Fin 3) 1 (fun s : Fin 3 => (![s.val, 0, 0] : Fin 3 → Nat)) S1x1024x512.size (inb_slot_col) (fun s => by simp) rfl s s' h
theorem slotsG_cover : Finset.univ.biUnion slotSetG = Finset.univ :=
  Ring.lead_cover (s := S3x1024x512) (0 : Fin 3) 1 (fun s : Fin 3 => (![s.val, 0, 0] : Fin 3 → Nat)) S1x1024x512.size (inb_slot_col) (fun s => by simp)
    (fun s a ha => by fin_cases a <;> first | exact absurd rfl ha | rfl) rfl (fun a ha => by fin_cases a <;> first | exact absurd rfl ha | rfl) rfl

section
variable (c : Dev nD) (W : BufOf (F := F) c opG)
omit [FloatOps F] in
theorem slotPG_eq (s : Fin 3) (f) : slotPG (F := F) c s f = (((c : Thread nD τ).loc cc0_scratch1) ↦[slotSetG s]{fullShare} f : sProp 𝕄) := by
  unfold slotPG; rw [slotSetG_eq]; rfl
omit [FloatOps F] in
/-- Into the ring: the scratch at anything, the cells at zero and the operand whole are three free slots; -/
theorem ringG_in : iprop((∃ d, owns (c : Thread nD τ) scG fullShare d) ∗ (cellP (F := F) c 0 0 ∗ cellP c 0 1 ∗ cellP c 0 2) ∗ held c opG W)
    ⊢ iprop(freeG c W 0 ∗ freeG c W 1 ∗ freeG c W 2) := by
  unfold freeG
  iintro ⟨HS, ⟨H0, H1, H2⟩, HW⟩
  ihave HS' := (show iprop(∃ d, owns (c : Thread nD τ) scG fullShare d) ⊢ (iprop((∃ f, slotPG (F := F) c 0 f) ∗ (∃ f, slotPG (F := F) c 1 f) ∗ ∃ f, slotPG (F := F) c 2 f) : sProp 𝕄) from by
    simp only [scG, owns_whole]
    exact Ring.slots3_split (U := Pipeline.UD sig nD τ) (ℓ := (c : Thread nD τ).loc cc0_scratch1) (q := fullShare) slotSetG slotsG_disjoint slotsG_cover
      (slotPG c 0) (slotPG c 1) (slotPG c 2) (slotPG_eq c 0) (slotPG_eq c 1) (slotPG_eq c 2)) $$ HS
  icases HS' with ⟨⟨%d0, HS0⟩, ⟨%d1, HS1⟩, ⟨%d2, HS2⟩⟩
  ihave HW' := (copiesG (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringG_out : iprop(freeG (F := F) c W 0 ∗ freeG c W 1 ∗ freeG c W 2)
    ⊢ iprop((∃ d, owns (c : Thread nD τ) scG fullShare d) ∗ (cellP (F := F) c 0 0 ∗ cellP c 0 1 ∗ cellP c 0 2) ∗ held c opG W) := by
  unfold freeG
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPG (F := F) c 0 f) ∗ (∃ f, slotPG (F := F) c 1 f) ∗ ∃ f, slotPG (F := F) c 2 f) : sProp 𝕄) ⊢ iprop(∃ d, owns (c : Thread nD τ) scG fullShare d) from by
      simp only [scG, owns_whole]
      exact Ring.slots3_join (U := Pipeline.UD sig nD τ) (ℓ := (c : Thread nD τ).loc cc0_scratch1) (q := fullShare) slotSetG slotsG_disjoint slotsG_cover
        (slotPG c 0) (slotPG c 1) (slotPG c 2) (slotPG_eq c 0) (slotPG_eq c 1) (slotPG_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesG (F := F) c W).2
  isplitl [HW0]; · iexact HW0
  isplitl [HW1]; · iexact HW1
  iexact HW2
end

/-! ## The up weights' ring -/

abbrev scU : Memref sig .tc .vmem S3x1024x512 .f32 := Memref.whole cc0_scratch2
abbrev opU : Memref sig .tc .hbm S8x1024x3584 .f32 := Memref.whole main_v1
/-- Slot `s` of the scratch. -/
def slotU (s : Fin 3) : Memref sig .tc .vmem S1024x512 .f32 :=
  (scU.slice (Rect.unit (s := S3x1024x512) ![s.val, 0, 0] S1x1024x512.size (inb_slot_col s)) (fun _ => rfl)).squeeze S1024x512 squeezes_S1x1024x512_S1024x512
/-- Block `n` of the expert named `w`. -/
def blkU (w : BitVec 32) (n : ℕ) : Memref sig .tc .hbm S1024x512 .f32 :=
  (opU.slice (Rect.unit (s := S8x1024x3584) ![w.toNat % 8, 0, 512 * (n % 7)] S1x1024x512.size (inb_blk_col w n)) (fun _ => rfl)).squeeze S1024x512 squeezes_S1x1024x512_S1024x512

theorem slotU_congr (s : Fin 3) {off : Fin 3 → Nat} (h : ∀ a, off a + S1x1024x512.size a ≤ S3x1024x512.size a) (e : off = ![s.val, 0, 0]) :
    (scU.slice (Rect.unit (s := S3x1024x512) off S1x1024x512.size h) (fun _ => rfl)).squeeze S1024x512 squeezes_S1x1024x512_S1024x512 = slotU s :=
  congrArg (fun M : Memref sig .tc .vmem S1x1024x512 .f32 => M.squeeze S1024x512 squeezes_S1x1024x512_S1024x512) (Memref.slice_unit_congr _ e _ _ (fun _ => rfl) (fun _ => rfl))
theorem blkU_congr (w : BitVec 32) (n : ℕ) (hw : w.toNat < 8) {off : Fin 3 → Nat} (h : ∀ a, off a + S1x1024x512.size a ≤ S8x1024x3584.size a) (e : off = ![w.toNat, 0, 512 * (n % 7)]) :
    (opU.slice (Rect.unit (s := S8x1024x3584) off S1x1024x512.size h) (fun _ => rfl)).squeeze S1024x512 squeezes_S1x1024x512_S1024x512 = blkU w n :=
  congrArg (fun M : Memref sig .tc .hbm S1x1024x512 .f32 => M.squeeze S1024x512 squeezes_S1x1024x512_S1024x512)
    (Memref.slice_unit_congr _ (e.trans (by rw [Nat.mod_eq_of_lt hw])) _ _ (fun _ => rfl) (fun _ => rfl))

section
variable (c : Dev nD) (w : BitVec 32) (W : BufOf (F := F) c opU)
/-- Slot `s` held at `f`; what a transfer of block `n` into slot `s` borrows of the operand; the rest of that slot's copy; that copy whole. -/
abbrev slotPU (s : Fin 3) (f : BufOf (F := F) c (slotU s)) : sProp 𝕄 := (slotU s).view.loc (c : Thread nD τ) ↦[(slotU s).view.set]{fullShare} f
abbrev srcPU (s : Fin 3) (n : ℕ) : sProp 𝕄 := (blkU w n).view.loc (c : Thread nD τ) ↦[(blkU w n).view.set]{lent s} W
def restPU (s : Fin 3) (n : ℕ) : sProp 𝕄 := ((c : Thread nD τ).loc main_v1) ↦[Finset.univ \ (blkU w n).view.set]{lent s} W
abbrev wholePU (s : Fin 3) : sProp 𝕄 := ((c : Thread nD τ).loc main_v1) ↦[Finset.univ]{lent s} W
/-- What slot `s` holds once block `n` landed in it. -/
abbrev landedU (s : Fin 3) (n : ℕ) (f : BufOf (F := F) c (slotU s)) : BufOf (F := F) c (slotU s) :=
  (slotU s).view.writes (Elt F) f [⟨Rect.whole S1024x512, ReadAs.same.apply ((blkU w n).view.read (Elt F) W)⟩]
/-- Block `n` in flight into slot `s`: its arrival delivers the slot landed and returns what was borrowed. -/
abbrev flightPU (s : Fin 3) (n : ℕ) (f : BufOf (F := F) c (slotU s)) : sProp 𝕄 :=
  Transfers.Flight countersEmb (c : Thread nD τ) (cellR 1 s) default ((slotU s).view.amount (cellR 1 s))
    iprop(slotPU c s (landedU c w W s n f) ∗ srcPU c w W s n)
/-- A slot with block `n` in flight into it; a free slot. -/
def flyU (s : Fin 3) (n : ℕ) : sProp 𝕄 := iprop(∃ f, flightPU c w W s n f ∗ restPU c w W s n)
def freeU (s : Fin 3) : sProp 𝕄 := iprop(cellP c 1 s ∗ ∃ f, slotPU c s f ∗ wholePU c W s)

omit [FloatOps F] in
theorem splitU (s : Fin 3) (n : ℕ) : wholePU (F := F) c W s ⊣⊢ iprop(srcPU c w W s n ∗ restPU c w W s n) := by
  unfold restPU; exact pointsTo_split_subset (Finset.subset_univ _)
omit [FloatOps F] in
theorem copiesU : (held c opU W : sProp 𝕄) ⊣⊢ iprop(wholePU c W 0 ∗ wholePU c W 1 ∗ wholePU c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetU (s : Fin 3) : Finset S3x1024x512.Idx := (Rect.unit (s := S3x1024x512) ![s.val, 0, 0] S1x1024x512.size (inb_slot_col s)).set
theorem slotSetU_eq (s : Fin 3) : (slotU s).view.set = slotSetU s := by
  simp only [slotU, Memref.view_squeeze, View.set_reshape]; exact View.set_slice_whole _ _
theorem slotsU_disjoint (s s' : Fin 3) (h : s ≠ s') : Disjoint (slotSetU s) (slotSetU s') :=
  Ring.lead_disjoint (s := S3x1024x512) (0 : Fin 3) 1 (fun s : Fin 3 => (![s.val, 0, 0] : Fin 3 → Nat)) S1x1024x512.size (inb_slot_col) (fun s => by simp) rfl s s' h
theorem slotsU_cover : Finset.univ.biUnion slotSetU = Finset.univ :=
  Ring.lead_cover (s := S3x1024x512) (0 : Fin 3) 1 (fun s : Fin 3 => (![s.val, 0, 0] : Fin 3 → Nat)) S1x1024x512.size (inb_slot_col) (fun s => by simp)
    (fun s a ha => by fin_cases a <;> first | exact absurd rfl ha | rfl) rfl (fun a ha => by fin_cases a <;> first | exact absurd rfl ha | rfl) rfl

section
variable (c : Dev nD) (W : BufOf (F := F) c opU)
omit [FloatOps F] in
theorem slotPU_eq (s : Fin 3) (f) : slotPU (F := F) c s f = (((c : Thread nD τ).loc cc0_scratch2) ↦[slotSetU s]{fullShare} f : sProp 𝕄) := by
  unfold slotPU; rw [slotSetU_eq]; rfl
omit [FloatOps F] in
/-- Into the ring: the scratch at anything, the cells at zero and the operand whole are three free slots; -/
theorem ringU_in : iprop((∃ d, owns (c : Thread nD τ) scU fullShare d) ∗ (cellP (F := F) c 1 0 ∗ cellP c 1 1 ∗ cellP c 1 2) ∗ held c opU W)
    ⊢ iprop(freeU c W 0 ∗ freeU c W 1 ∗ freeU c W 2) := by
  unfold freeU
  iintro ⟨HS, ⟨H0, H1, H2⟩, HW⟩
  ihave HS' := (show iprop(∃ d, owns (c : Thread nD τ) scU fullShare d) ⊢ (iprop((∃ f, slotPU (F := F) c 0 f) ∗ (∃ f, slotPU (F := F) c 1 f) ∗ ∃ f, slotPU (F := F) c 2 f) : sProp 𝕄) from by
    simp only [scU, owns_whole]
    exact Ring.slots3_split (U := Pipeline.UD sig nD τ) (ℓ := (c : Thread nD τ).loc cc0_scratch2) (q := fullShare) slotSetU slotsU_disjoint slotsU_cover
      (slotPU c 0) (slotPU c 1) (slotPU c 2) (slotPU_eq c 0) (slotPU_eq c 1) (slotPU_eq c 2)) $$ HS
  icases HS' with ⟨⟨%d0, HS0⟩, ⟨%d1, HS1⟩, ⟨%d2, HS2⟩⟩
  ihave HW' := (copiesU (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringU_out : iprop(freeU (F := F) c W 0 ∗ freeU c W 1 ∗ freeU c W 2)
    ⊢ iprop((∃ d, owns (c : Thread nD τ) scU fullShare d) ∗ (cellP (F := F) c 1 0 ∗ cellP c 1 1 ∗ cellP c 1 2) ∗ held c opU W) := by
  unfold freeU
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPU (F := F) c 0 f) ∗ (∃ f, slotPU (F := F) c 1 f) ∗ ∃ f, slotPU (F := F) c 2 f) : sProp 𝕄) ⊢ iprop(∃ d, owns (c : Thread nD τ) scU fullShare d) from by
      simp only [scU, owns_whole]
      exact Ring.slots3_join (U := Pipeline.UD sig nD τ) (ℓ := (c : Thread nD τ).loc cc0_scratch2) (q := fullShare) slotSetU slotsU_disjoint slotsU_cover
        (slotPU c 0) (slotPU c 1) (slotPU c 2) (slotPU_eq c 0) (slotPU_eq c 1) (slotPU_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesU (F := F) c W).2
  isplitl [HW0]; · iexact HW0
  isplitl [HW1]; · iexact HW1
  iexact HW2
end

/-! ## The down weights' ring -/

abbrev scD : Memref sig .tc .vmem S3x512x1024 .f32 := Memref.whole cc0_scratch3
abbrev opD : Memref sig .tc .hbm S8x3584x1024 .f32 := Memref.whole main_v2
/-- Slot `s` of the scratch. -/
def slotD (s : Fin 3) : Memref sig .tc .vmem S512x1024 .f32 :=
  (scD.slice (Rect.unit (s := S3x512x1024) ![s.val, 0, 0] S1x512x1024.size (inb_slot_row s)) (fun _ => rfl)).squeeze S512x1024 squeezes_S1x512x1024_S512x1024
/-- Block `n` of the expert named `w`. -/
def blkD (w : BitVec 32) (n : ℕ) : Memref sig .tc .hbm S512x1024 .f32 :=
  (opD.slice (Rect.unit (s := S8x3584x1024) ![w.toNat % 8, 512 * (n % 7), 0] S1x512x1024.size (inb_blk_row w n)) (fun _ => rfl)).squeeze S512x1024 squeezes_S1x512x1024_S512x1024

theorem slotD_congr (s : Fin 3) {off : Fin 3 → Nat} (h : ∀ a, off a + S1x512x1024.size a ≤ S3x512x1024.size a) (e : off = ![s.val, 0, 0]) :
    (scD.slice (Rect.unit (s := S3x512x1024) off S1x512x1024.size h) (fun _ => rfl)).squeeze S512x1024 squeezes_S1x512x1024_S512x1024 = slotD s :=
  congrArg (fun M : Memref sig .tc .vmem S1x512x1024 .f32 => M.squeeze S512x1024 squeezes_S1x512x1024_S512x1024) (Memref.slice_unit_congr _ e _ _ (fun _ => rfl) (fun _ => rfl))
theorem blkD_congr (w : BitVec 32) (n : ℕ) (hw : w.toNat < 8) {off : Fin 3 → Nat} (h : ∀ a, off a + S1x512x1024.size a ≤ S8x3584x1024.size a) (e : off = ![w.toNat, 512 * (n % 7), 0]) :
    (opD.slice (Rect.unit (s := S8x3584x1024) off S1x512x1024.size h) (fun _ => rfl)).squeeze S512x1024 squeezes_S1x512x1024_S512x1024 = blkD w n :=
  congrArg (fun M : Memref sig .tc .hbm S1x512x1024 .f32 => M.squeeze S512x1024 squeezes_S1x512x1024_S512x1024)
    (Memref.slice_unit_congr _ (e.trans (by rw [Nat.mod_eq_of_lt hw])) _ _ (fun _ => rfl) (fun _ => rfl))

section
variable (c : Dev nD) (w : BitVec 32) (W : BufOf (F := F) c opD)
/-- Slot `s` held at `f`; what a transfer of block `n` into slot `s` borrows of the operand; the rest of that slot's copy; that copy whole. -/
abbrev slotPD (s : Fin 3) (f : BufOf (F := F) c (slotD s)) : sProp 𝕄 := (slotD s).view.loc (c : Thread nD τ) ↦[(slotD s).view.set]{fullShare} f
abbrev srcPD (s : Fin 3) (n : ℕ) : sProp 𝕄 := (blkD w n).view.loc (c : Thread nD τ) ↦[(blkD w n).view.set]{lent s} W
def restPD (s : Fin 3) (n : ℕ) : sProp 𝕄 := ((c : Thread nD τ).loc main_v2) ↦[Finset.univ \ (blkD w n).view.set]{lent s} W
abbrev wholePD (s : Fin 3) : sProp 𝕄 := ((c : Thread nD τ).loc main_v2) ↦[Finset.univ]{lent s} W
/-- What slot `s` holds once block `n` landed in it. -/
abbrev landedD (s : Fin 3) (n : ℕ) (f : BufOf (F := F) c (slotD s)) : BufOf (F := F) c (slotD s) :=
  (slotD s).view.writes (Elt F) f [⟨Rect.whole S512x1024, ReadAs.same.apply ((blkD w n).view.read (Elt F) W)⟩]
/-- Block `n` in flight into slot `s`: its arrival delivers the slot landed and returns what was borrowed. -/
abbrev flightPD (s : Fin 3) (n : ℕ) (f : BufOf (F := F) c (slotD s)) : sProp 𝕄 :=
  Transfers.Flight countersEmb (c : Thread nD τ) (cellR 2 s) default ((slotD s).view.amount (cellR 2 s))
    iprop(slotPD c s (landedD c w W s n f) ∗ srcPD c w W s n)
/-- A slot with block `n` in flight into it; a free slot. -/
def flyD (s : Fin 3) (n : ℕ) : sProp 𝕄 := iprop(∃ f, flightPD c w W s n f ∗ restPD c w W s n)
def freeD (s : Fin 3) : sProp 𝕄 := iprop(cellP c 2 s ∗ ∃ f, slotPD c s f ∗ wholePD c W s)

omit [FloatOps F] in
theorem splitD (s : Fin 3) (n : ℕ) : wholePD (F := F) c W s ⊣⊢ iprop(srcPD c w W s n ∗ restPD c w W s n) := by
  unfold restPD; exact pointsTo_split_subset (Finset.subset_univ _)
omit [FloatOps F] in
theorem copiesD : (held c opD W : sProp 𝕄) ⊣⊢ iprop(wholePD c W 0 ∗ wholePD c W 1 ∗ wholePD c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetD (s : Fin 3) : Finset S3x512x1024.Idx := (Rect.unit (s := S3x512x1024) ![s.val, 0, 0] S1x512x1024.size (inb_slot_row s)).set
theorem slotSetD_eq (s : Fin 3) : (slotD s).view.set = slotSetD s := by
  simp only [slotD, Memref.view_squeeze, View.set_reshape]; exact View.set_slice_whole _ _
theorem slotsD_disjoint (s s' : Fin 3) (h : s ≠ s') : Disjoint (slotSetD s) (slotSetD s') :=
  Ring.lead_disjoint (s := S3x512x1024) (0 : Fin 3) 1 (fun s : Fin 3 => (![s.val, 0, 0] : Fin 3 → Nat)) S1x512x1024.size (inb_slot_row) (fun s => by simp) rfl s s' h
theorem slotsD_cover : Finset.univ.biUnion slotSetD = Finset.univ :=
  Ring.lead_cover (s := S3x512x1024) (0 : Fin 3) 1 (fun s : Fin 3 => (![s.val, 0, 0] : Fin 3 → Nat)) S1x512x1024.size (inb_slot_row) (fun s => by simp)
    (fun s a ha => by fin_cases a <;> first | exact absurd rfl ha | rfl) rfl (fun a ha => by fin_cases a <;> first | exact absurd rfl ha | rfl) rfl

section
variable (c : Dev nD) (W : BufOf (F := F) c opD)
omit [FloatOps F] in
theorem slotPD_eq (s : Fin 3) (f) : slotPD (F := F) c s f = (((c : Thread nD τ).loc cc0_scratch3) ↦[slotSetD s]{fullShare} f : sProp 𝕄) := by
  unfold slotPD; rw [slotSetD_eq]; rfl
omit [FloatOps F] in
/-- Into the ring: the scratch at anything, the cells at zero and the operand whole are three free slots; -/
theorem ringD_in : iprop((∃ d, owns (c : Thread nD τ) scD fullShare d) ∗ (cellP (F := F) c 2 0 ∗ cellP c 2 1 ∗ cellP c 2 2) ∗ held c opD W)
    ⊢ iprop(freeD c W 0 ∗ freeD c W 1 ∗ freeD c W 2) := by
  unfold freeD
  iintro ⟨HS, ⟨H0, H1, H2⟩, HW⟩
  ihave HS' := (show iprop(∃ d, owns (c : Thread nD τ) scD fullShare d) ⊢ (iprop((∃ f, slotPD (F := F) c 0 f) ∗ (∃ f, slotPD (F := F) c 1 f) ∗ ∃ f, slotPD (F := F) c 2 f) : sProp 𝕄) from by
    simp only [scD, owns_whole]
    exact Ring.slots3_split (U := Pipeline.UD sig nD τ) (ℓ := (c : Thread nD τ).loc cc0_scratch3) (q := fullShare) slotSetD slotsD_disjoint slotsD_cover
      (slotPD c 0) (slotPD c 1) (slotPD c 2) (slotPD_eq c 0) (slotPD_eq c 1) (slotPD_eq c 2)) $$ HS
  icases HS' with ⟨⟨%d0, HS0⟩, ⟨%d1, HS1⟩, ⟨%d2, HS2⟩⟩
  ihave HW' := (copiesD (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringD_out : iprop(freeD (F := F) c W 0 ∗ freeD c W 1 ∗ freeD c W 2)
    ⊢ iprop((∃ d, owns (c : Thread nD τ) scD fullShare d) ∗ (cellP (F := F) c 2 0 ∗ cellP c 2 1 ∗ cellP c 2 2) ∗ held c opD W) := by
  unfold freeD
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPD (F := F) c 0 f) ∗ (∃ f, slotPD (F := F) c 1 f) ∗ ∃ f, slotPD (F := F) c 2 f) : sProp 𝕄) ⊢ iprop(∃ d, owns (c : Thread nD τ) scD fullShare d) from by
      simp only [scD, owns_whole]
      exact Ring.slots3_join (U := Pipeline.UD sig nD τ) (ℓ := (c : Thread nD τ).loc cc0_scratch3) (q := fullShare) slotSetD slotsD_disjoint slotsD_cover
        (slotPD c 0) (slotPD c 1) (slotPD c 2) (slotPD_eq c 0) (slotPD_eq c 1) (slotPD_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesD (F := F) c W).2
  isplitl [HW0]; · iexact HW0
  isplitl [HW1]; · iexact HW1
  iexact HW2
end

/-! ## The printed views and cells are the named ones -/
theorem coff2 : ∀ t : Fin grid0.N, k0_off2 (grid0.coords t) = ![0, (sl t.val).val] := by decide +kernel
@[sl_canon] theorem canon2 (t : Fin grid0.N) (h1 : k0_cond1 (grid0.coords t) = 1#1) :
    (cc0_scratch4.slice (Rect.unit (s := S3x3) (k0_off2 (grid0.coords t)) S1x1.size (k0_off2_inb (grid0.coords t) h1))).squeeze S_ squeezes_S1x1_S_ = cellA 0 (sl t.val) :=
  cell_congr _ _ _ (coff2 t)
theorem coff3 : ∀ t : Fin grid0.N, k0_off3 (grid0.coords t) = ![(sl t.val).val, 0, 0] := by decide +kernel
@[sl_canon] theorem canon3 (t : Fin grid0.N) (h1 : k0_cond1 (grid0.coords t) = 1#1) :
    (scG.slice (Rect.unit (s := S3x1024x512) (k0_off3 (grid0.coords t)) S1x1024x512.size (k0_off3_inb (grid0.coords t) h1)) (fun _ => rfl)).squeeze S1024x512 squeezes_S1x1024x512_S1024x512 = slotG (sl t.val) :=
  slotG_congr _ _ (coff3 t)
theorem coff5 : ∀ t : Fin grid0.N, k0_off5 (grid0.coords t) = ![1, (sl t.val).val] := by decide +kernel
@[sl_canon] theorem canon5 (t : Fin grid0.N) (h1 : k0_cond1 (grid0.coords t) = 1#1) :
    (cc0_scratch4.slice (Rect.unit (s := S3x3) (k0_off5 (grid0.coords t)) S1x1.size (k0_off5_inb (grid0.coords t) h1))).squeeze S_ squeezes_S1x1_S_ = cellA 1 (sl t.val) :=
  cell_congr _ _ _ (coff5 t)
theorem coff6 : ∀ t : Fin grid0.N, k0_off6 (grid0.coords t) = ![(sl t.val).val, 0, 0] := by decide +kernel
@[sl_canon] theorem canon6 (t : Fin grid0.N) (h1 : k0_cond1 (grid0.coords t) = 1#1) :
    (scU.slice (Rect.unit (s := S3x1024x512) (k0_off6 (grid0.coords t)) S1x1024x512.size (k0_off6_inb (grid0.coords t) h1)) (fun _ => rfl)).squeeze S1024x512 squeezes_S1x1024x512_S1024x512 = slotU (sl t.val) :=
  slotU_congr _ _ (coff6 t)
theorem coff7 : ∀ t : Fin grid0.N, k0_off7 (grid0.coords t) = ![2, (sl t.val).val] := by decide +kernel
@[sl_canon] theorem canon7 (t : Fin grid0.N) (h1 : k0_cond1 (grid0.coords t) = 1#1) :
    (cc0_scratch4.slice (Rect.unit (s := S3x3) (k0_off7 (grid0.coords t)) S1x1.size (k0_off7_inb (grid0.coords t) h1))).squeeze S_ squeezes_S1x1_S_ = cellA 2 (sl t.val) :=
  cell_congr _ _ _ (coff7 t)
theorem coff8 : ∀ t : Fin grid0.N, k0_off8 (grid0.coords t) = ![(sl t.val).val, 0, 0] := by decide +kernel
@[sl_canon] theorem canon8 (t : Fin grid0.N) (h1 : k0_cond1 (grid0.coords t) = 1#1) :
    (scD.slice (Rect.unit (s := S3x512x1024) (k0_off8 (grid0.coords t)) S1x512x1024.size (k0_off8_inb (grid0.coords t) h1)) (fun _ => rfl)).squeeze S512x1024 squeezes_S1x512x1024_S512x1024 = slotD (sl t.val) :=
  slotD_congr _ _ (coff8 t)
@[sl_canon] theorem canon4G (t : Fin grid0.N) (v w : BitVec 32) [he : Fact (w.toNat < 8)] (hc : k0_chk1 (grid0.coords t) v w) (h1 : k0_cond1 (grid0.coords t) = 1#1) (h2 : k0_cond2 (grid0.coords t) v = 1#1) :
    (opG.slice (Rect.unit (s := S8x1024x3584) (k0_off4 (grid0.coords t) w) S1x1024x512.size (k0_off4_inb (grid0.coords t) v w hc h1 h2)) (fun _ => rfl)).squeeze S1024x512 squeezes_S1x1024x512_S1024x512 = blkG w (t.val) :=
  blkG_congr _ _ he.out _ (off4_eq t _)
@[sl_canon] theorem canon4U (t : Fin grid0.N) (v w : BitVec 32) [he : Fact (w.toNat < 8)] (hc : k0_chk1 (grid0.coords t) v w) (h1 : k0_cond1 (grid0.coords t) = 1#1) (h2 : k0_cond2 (grid0.coords t) v = 1#1) :
    (opU.slice (Rect.unit (s := S8x1024x3584) (k0_off4 (grid0.coords t) w) S1x1024x512.size (k0_off4_inb (grid0.coords t) v w hc h1 h2)) (fun _ => rfl)).squeeze S1024x512 squeezes_S1x1024x512_S1024x512 = blkU w (t.val) :=
  blkU_congr _ _ he.out _ (off4_eq t _)
@[sl_canon] theorem canon9D (t : Fin grid0.N) (v w : BitVec 32) [he : Fact (w.toNat < 8)] (hc : k0_chk1 (grid0.coords t) v w) (h1 : k0_cond1 (grid0.coords t) = 1#1) (h2 : k0_cond2 (grid0.coords t) v = 1#1) :
    (opD.slice (Rect.unit (s := S8x3584x1024) (k0_off9 (grid0.coords t) w) S1x512x1024.size (k0_off9_inb (grid0.coords t) v w hc h1 h2)) (fun _ => rfl)).squeeze S512x1024 squeezes_S1x512x1024_S512x1024 = blkD w (t.val) :=
  blkD_congr _ _ he.out _ (off9_eq t _)
theorem coff11 : ∀ t : Fin grid0.N, k0_off11 (grid0.coords t) = ![0, (sl (t.val + 1)).val] := by decide +kernel
@[sl_canon] theorem canon11 (t : Fin grid0.N) (h1 : k0_cond1 (grid0.coords t) = 1#1) :
    (cc0_scratch4.slice (Rect.unit (s := S3x3) (k0_off11 (grid0.coords t)) S1x1.size (k0_off11_inb (grid0.coords t) h1))).squeeze S_ squeezes_S1x1_S_ = cellA 0 (sl (t.val + 1)) :=
  cell_congr _ _ _ (coff11 t)
theorem coff12 : ∀ t : Fin grid0.N, k0_off12 (grid0.coords t) = ![(sl (t.val + 1)).val, 0, 0] := by decide +kernel
@[sl_canon] theorem canon12 (t : Fin grid0.N) (h1 : k0_cond1 (grid0.coords t) = 1#1) :
    (scG.slice (Rect.unit (s := S3x1024x512) (k0_off12 (grid0.coords t)) S1x1024x512.size (k0_off12_inb (grid0.coords t) h1)) (fun _ => rfl)).squeeze S1024x512 squeezes_S1x1024x512_S1024x512 = slotG (sl (t.val + 1)) :=
  slotG_congr _ _ (coff12 t)
theorem coff14 : ∀ t : Fin grid0.N, k0_off14 (grid0.coords t) = ![1, (sl (t.val + 1)).val] := by decide +kernel
@[sl_canon] theorem canon14 (t : Fin grid0.N) (h1 : k0_cond1 (grid0.coords t) = 1#1) :
    (cc0_scratch4.slice (Rect.unit (s := S3x3) (k0_off14 (grid0.coords t)) S1x1.size (k0_off14_inb (grid0.coords t) h1))).squeeze S_ squeezes_S1x1_S_ = cellA 1 (sl (t.val + 1)) :=
  cell_congr _ _ _ (coff14 t)
theorem coff15 : ∀ t : Fin grid0.N, k0_off15 (grid0.coords t) = ![(sl (t.val + 1)).val, 0, 0] := by decide +kernel
@[sl_canon] theorem canon15 (t : Fin grid0.N) (h1 : k0_cond1 (grid0.coords t) = 1#1) :
    (scU.slice (Rect.unit (s := S3x1024x512) (k0_off15 (grid0.coords t)) S1x1024x512.size (k0_off15_inb (grid0.coords t) h1)) (fun _ => rfl)).squeeze S1024x512 squeezes_S1x1024x512_S1024x512 = slotU (sl (t.val + 1)) :=
  slotU_congr _ _ (coff15 t)
theorem coff16 : ∀ t : Fin grid0.N, k0_off16 (grid0.coords t) = ![2, (sl (t.val + 1)).val] := by decide +kernel
@[sl_canon] theorem canon16 (t : Fin grid0.N) (h1 : k0_cond1 (grid0.coords t) = 1#1) :
    (cc0_scratch4.slice (Rect.unit (s := S3x3) (k0_off16 (grid0.coords t)) S1x1.size (k0_off16_inb (grid0.coords t) h1))).squeeze S_ squeezes_S1x1_S_ = cellA 2 (sl (t.val + 1)) :=
  cell_congr _ _ _ (coff16 t)
theorem coff17 : ∀ t : Fin grid0.N, k0_off17 (grid0.coords t) = ![(sl (t.val + 1)).val, 0, 0] := by decide +kernel
@[sl_canon] theorem canon17 (t : Fin grid0.N) (h1 : k0_cond1 (grid0.coords t) = 1#1) :
    (scD.slice (Rect.unit (s := S3x512x1024) (k0_off17 (grid0.coords t)) S1x512x1024.size (k0_off17_inb (grid0.coords t) h1)) (fun _ => rfl)).squeeze S512x1024 squeezes_S1x512x1024_S512x1024 = slotD (sl (t.val + 1)) :=
  slotD_congr _ _ (coff17 t)
@[sl_canon] theorem canon13G (t : Fin grid0.N) (v w : BitVec 32) [he : Fact (w.toNat < 8)] (hc : k0_chk2 (grid0.coords t) v w) (h1 : k0_cond1 (grid0.coords t) = 1#1) (h3 : k0_cond3 (grid0.coords t) v = 1#1) :
    (opG.slice (Rect.unit (s := S8x1024x3584) (k0_off13 (grid0.coords t) w) S1x1024x512.size (k0_off13_inb (grid0.coords t) v w hc h1 h3)) (fun _ => rfl)).squeeze S1024x512 squeezes_S1x1024x512_S1024x512 = blkG w (t.val + 1) :=
  blkG_congr _ _ he.out _ (off13_eq t _)
@[sl_canon] theorem canon13U (t : Fin grid0.N) (v w : BitVec 32) [he : Fact (w.toNat < 8)] (hc : k0_chk2 (grid0.coords t) v w) (h1 : k0_cond1 (grid0.coords t) = 1#1) (h3 : k0_cond3 (grid0.coords t) v = 1#1) :
    (opU.slice (Rect.unit (s := S8x1024x3584) (k0_off13 (grid0.coords t) w) S1x1024x512.size (k0_off13_inb (grid0.coords t) v w hc h1 h3)) (fun _ => rfl)).squeeze S1024x512 squeezes_S1x1024x512_S1024x512 = blkU w (t.val + 1) :=
  blkU_congr _ _ he.out _ (off13_eq t _)
@[sl_canon] theorem canon18D (t : Fin grid0.N) (v w : BitVec 32) [he : Fact (w.toNat < 8)] (hc : k0_chk2 (grid0.coords t) v w) (h1 : k0_cond1 (grid0.coords t) = 1#1) (h3 : k0_cond3 (grid0.coords t) v = 1#1) :
    (opD.slice (Rect.unit (s := S8x3584x1024) (k0_off18 (grid0.coords t) w) S1x512x1024.size (k0_off18_inb (grid0.coords t) v w hc h1 h3)) (fun _ => rfl)).squeeze S512x1024 squeezes_S1x512x1024_S512x1024 = blkD w (t.val + 1) :=
  blkD_congr _ _ he.out _ (off18_eq t _)
theorem coff20 : ∀ t : Fin grid0.N, k0_off20 (grid0.coords t) = ![0, (sl (t.val + 2)).val] := by decide +kernel
@[sl_canon] theorem canon20 (t : Fin grid0.N) :
    (cc0_scratch4.slice (Rect.unit (s := S3x3) (k0_off20 (grid0.coords t)) S1x1.size (k0_off20_inb (grid0.coords t)))).squeeze S_ squeezes_S1x1_S_ = cellA 0 (sl (t.val + 2)) :=
  cell_congr _ _ _ (coff20 t)
theorem coff21 : ∀ t : Fin grid0.N, k0_off21 (grid0.coords t) = ![(sl (t.val + 2)).val, 0, 0] := by decide +kernel
@[sl_canon] theorem canon21 (t : Fin grid0.N) :
    (scG.slice (Rect.unit (s := S3x1024x512) (k0_off21 (grid0.coords t)) S1x1024x512.size (k0_off21_inb (grid0.coords t))) (fun _ => rfl)).squeeze S1024x512 squeezes_S1x1024x512_S1024x512 = slotG (sl (t.val + 2)) :=
  slotG_congr _ _ (coff21 t)
theorem coff23 : ∀ t : Fin grid0.N, k0_off23 (grid0.coords t) = ![1, (sl (t.val + 2)).val] := by decide +kernel
@[sl_canon] theorem canon23 (t : Fin grid0.N) :
    (cc0_scratch4.slice (Rect.unit (s := S3x3) (k0_off23 (grid0.coords t)) S1x1.size (k0_off23_inb (grid0.coords t)))).squeeze S_ squeezes_S1x1_S_ = cellA 1 (sl (t.val + 2)) :=
  cell_congr _ _ _ (coff23 t)
theorem coff24 : ∀ t : Fin grid0.N, k0_off24 (grid0.coords t) = ![(sl (t.val + 2)).val, 0, 0] := by decide +kernel
@[sl_canon] theorem canon24 (t : Fin grid0.N) :
    (scU.slice (Rect.unit (s := S3x1024x512) (k0_off24 (grid0.coords t)) S1x1024x512.size (k0_off24_inb (grid0.coords t))) (fun _ => rfl)).squeeze S1024x512 squeezes_S1x1024x512_S1024x512 = slotU (sl (t.val + 2)) :=
  slotU_congr _ _ (coff24 t)
theorem coff25 : ∀ t : Fin grid0.N, k0_off25 (grid0.coords t) = ![2, (sl (t.val + 2)).val] := by decide +kernel
@[sl_canon] theorem canon25 (t : Fin grid0.N) :
    (cc0_scratch4.slice (Rect.unit (s := S3x3) (k0_off25 (grid0.coords t)) S1x1.size (k0_off25_inb (grid0.coords t)))).squeeze S_ squeezes_S1x1_S_ = cellA 2 (sl (t.val + 2)) :=
  cell_congr _ _ _ (coff25 t)
theorem coff26 : ∀ t : Fin grid0.N, k0_off26 (grid0.coords t) = ![(sl (t.val + 2)).val, 0, 0] := by decide +kernel
@[sl_canon] theorem canon26 (t : Fin grid0.N) :
    (scD.slice (Rect.unit (s := S3x512x1024) (k0_off26 (grid0.coords t)) S1x512x1024.size (k0_off26_inb (grid0.coords t))) (fun _ => rfl)).squeeze S512x1024 squeezes_S1x512x1024_S512x1024 = slotD (sl (t.val + 2)) :=
  slotD_congr _ _ (coff26 t)
@[sl_canon] theorem canon22G (t : Fin grid0.N) (v w : BitVec 32) [he : Fact (w.toNat < 8)] (hc : k0_chk3 (grid0.coords t) v w) (h4 : k0_cond4 (grid0.coords t) v = 1#1) :
    (opG.slice (Rect.unit (s := S8x1024x3584) (k0_off22 (grid0.coords t) w) S1x1024x512.size (k0_off22_inb (grid0.coords t) v w hc h4)) (fun _ => rfl)).squeeze S1024x512 squeezes_S1x1024x512_S1024x512 = blkG w (t.val + 2) :=
  blkG_congr _ _ he.out _ (off22_eq t _)
@[sl_canon] theorem canon22U (t : Fin grid0.N) (v w : BitVec 32) [he : Fact (w.toNat < 8)] (hc : k0_chk3 (grid0.coords t) v w) (h4 : k0_cond4 (grid0.coords t) v = 1#1) :
    (opU.slice (Rect.unit (s := S8x1024x3584) (k0_off22 (grid0.coords t) w) S1x1024x512.size (k0_off22_inb (grid0.coords t) v w hc h4)) (fun _ => rfl)).squeeze S1024x512 squeezes_S1x1024x512_S1024x512 = blkU w (t.val + 2) :=
  blkU_congr _ _ he.out _ (off22_eq t _)
@[sl_canon] theorem canon27D (t : Fin grid0.N) (v w : BitVec 32) [he : Fact (w.toNat < 8)] (hc : k0_chk3 (grid0.coords t) v w) (h4 : k0_cond4 (grid0.coords t) v = 1#1) :
    (opD.slice (Rect.unit (s := S8x3584x1024) (k0_off27 (grid0.coords t) w) S1x512x1024.size (k0_off27_inb (grid0.coords t) v w hc h4)) (fun _ => rfl)).squeeze S512x1024 squeezes_S1x512x1024_S512x1024 = blkD w (t.val + 2) :=
  blkD_congr _ _ he.out _ (off27_eq t _)
theorem coff29 : ∀ t : Fin grid0.N, k0_off29 (grid0.coords t) = ![0, (sl t.val).val] := by decide +kernel
@[sl_canon] theorem canon29 (t : Fin grid0.N) :
    (cc0_scratch4.slice (Rect.unit (s := S3x3) (k0_off29 (grid0.coords t)) S1x1.size (k0_off29_inb (grid0.coords t)))).squeeze S_ squeezes_S1x1_S_ = cellA 0 (sl t.val) :=
  cell_congr _ _ _ (coff29 t)
theorem coff30 : ∀ t : Fin grid0.N, k0_off30 (grid0.coords t) = ![(sl t.val).val, 0, 0] := by decide +kernel
@[sl_canon] theorem canon30 (t : Fin grid0.N) :
    (scG.slice (Rect.unit (s := S3x1024x512) (k0_off30 (grid0.coords t)) S1x1024x512.size (k0_off30_inb (grid0.coords t))) (fun _ => rfl)).squeeze S1024x512 squeezes_S1x1024x512_S1024x512 = slotG (sl t.val) :=
  slotG_congr _ _ (coff30 t)
theorem coff32 : ∀ t : Fin grid0.N, k0_off32 (grid0.coords t) = ![1, (sl t.val).val] := by decide +kernel
@[sl_canon] theorem canon32 (t : Fin grid0.N) :
    (cc0_scratch4.slice (Rect.unit (s := S3x3) (k0_off32 (grid0.coords t)) S1x1.size (k0_off32_inb (grid0.coords t)))).squeeze S_ squeezes_S1x1_S_ = cellA 1 (sl t.val) :=
  cell_congr _ _ _ (coff32 t)
theorem coff33 : ∀ t : Fin grid0.N, k0_off33 (grid0.coords t) = ![(sl t.val).val, 0, 0] := by decide +kernel
@[sl_canon] theorem canon33 (t : Fin grid0.N) :
    (scU.slice (Rect.unit (s := S3x1024x512) (k0_off33 (grid0.coords t)) S1x1024x512.size (k0_off33_inb (grid0.coords t))) (fun _ => rfl)).squeeze S1024x512 squeezes_S1x1024x512_S1024x512 = slotU (sl t.val) :=
  slotU_congr _ _ (coff33 t)
theorem coff34 : ∀ t : Fin grid0.N, k0_off34 (grid0.coords t) = ![2, (sl t.val).val] := by decide +kernel
@[sl_canon] theorem canon34 (t : Fin grid0.N) :
    (cc0_scratch4.slice (Rect.unit (s := S3x3) (k0_off34 (grid0.coords t)) S1x1.size (k0_off34_inb (grid0.coords t)))).squeeze S_ squeezes_S1x1_S_ = cellA 2 (sl t.val) :=
  cell_congr _ _ _ (coff34 t)
theorem coff35 : ∀ t : Fin grid0.N, k0_off35 (grid0.coords t) = ![(sl t.val).val, 0, 0] := by decide +kernel
@[sl_canon] theorem canon35 (t : Fin grid0.N) :
    (scD.slice (Rect.unit (s := S3x512x1024) (k0_off35 (grid0.coords t)) S1x512x1024.size (k0_off35_inb (grid0.coords t))) (fun _ => rfl)).squeeze S512x1024 squeezes_S1x512x1024_S512x1024 = slotD (sl t.val) :=
  slotD_congr _ _ (coff35 t)
@[sl_canon] theorem canon31G (t : Fin grid0.N) (v w : BitVec 32) [he : Fact (w.toNat < 8)] (hc : k0_chk4 (grid0.coords t) v w) (h5 : k0_cond5 (grid0.coords t) v = 1#1) :
    (opG.slice (Rect.unit (s := S8x1024x3584) (k0_off31 (grid0.coords t) w) S1x1024x512.size (k0_off31_inb (grid0.coords t) v w hc h5)) (fun _ => rfl)).squeeze S1024x512 squeezes_S1x1024x512_S1024x512 = blkG w (t.val) :=
  blkG_congr _ _ he.out _ (off31_eq t _)
@[sl_canon] theorem canon31U (t : Fin grid0.N) (v w : BitVec 32) [he : Fact (w.toNat < 8)] (hc : k0_chk4 (grid0.coords t) v w) (h5 : k0_cond5 (grid0.coords t) v = 1#1) :
    (opU.slice (Rect.unit (s := S8x1024x3584) (k0_off31 (grid0.coords t) w) S1x1024x512.size (k0_off31_inb (grid0.coords t) v w hc h5)) (fun _ => rfl)).squeeze S1024x512 squeezes_S1x1024x512_S1024x512 = blkU w (t.val) :=
  blkU_congr _ _ he.out _ (off31_eq t _)
@[sl_canon] theorem canon36D (t : Fin grid0.N) (v w : BitVec 32) [he : Fact (w.toNat < 8)] (hc : k0_chk4 (grid0.coords t) v w) (h5 : k0_cond5 (grid0.coords t) v = 1#1) :
    (opD.slice (Rect.unit (s := S8x3584x1024) (k0_off36 (grid0.coords t) w) S1x512x1024.size (k0_off36_inb (grid0.coords t) v w hc h5)) (fun _ => rfl)).squeeze S512x1024 squeezes_S1x512x1024_S512x1024 = blkD w (t.val) :=
  blkD_congr _ _ he.out _ (off36_eq t _)

/-! ## The words the body reads off the two tables -/

/-- The number of row tiles the plan uses. -/
def used (nu : S1.Idx → BitVec 32) : BitVec 32 := nu fun | 0 => (0 : Fin 1)

theorem read_used (nu : S1.Idx → BitVec 32) (h : 0 < (Rect.unit (s := S1) ![0] S1.size inb_S1_S1_0).toLoadRect.shape.numel) :
    View.readAt (Elt F) (Memref.whole main_arg1 : Memref sig .tc .smem S1 .i32).view (Rect.unit (s := S1) ![0] S1.size inb_S1_S1_0).toLoadRect nu (Shape.Idx.first h) = used nu :=
  congrArg nu (funext fun a => match a with | 0 => Subsingleton.elim (α := Fin 1) _ _)

/-- A word read at the table's row `min (n / 7) 71` is the expert of block `n`. -/
theorem read_expert (te : S72.Idx → BitVec 32) (n : ℕ) {off : Fin 1 → Nat} (hb : ∀ a, off a + S1.size a ≤ S72.size a) (e : off = ![min (n / 7) 71])
    (h : 0 < (Rect.unit (s := S72) off S1.size hb).toLoadRect.shape.numel) :
    View.readAt (Elt F) (Memref.whole main_arg0 : Memref sig .tc .smem S72 .i32).view (Rect.unit (s := S72) off S1.size hb).toLoadRect te (Shape.Idx.first h) = expert te n := by
  subst e
  refine congrArg te (funext fun a => ?_)
  match a with
  | 0 => exact Fin.ext (by show min (n / 7) 71 + _ = min (n / 7) 71; rfl)
theorem woff1 : ∀ t : Fin grid0.N, k0_off1 (grid0.coords t) = ![min ((t.val) / 7) 71] := by decide +kernel
theorem canon1 (te : S72.Idx → BitVec 32) (t : Fin grid0.N) (h1 : k0_cond1 (grid0.coords t) = 1#1) (h : 0 < (Rect.unit (s := S72) (k0_off1 (grid0.coords t)) S1.size (k0_off1_inb (grid0.coords t) h1)).toLoadRect.shape.numel) :
    View.readAt (Elt F) (Memref.whole main_arg0 : Memref sig .tc .smem S72 .i32).view (Rect.unit (s := S72) (k0_off1 (grid0.coords t)) S1.size (k0_off1_inb (grid0.coords t) h1)).toLoadRect te (Shape.Idx.first h) = expert te t.val :=
  read_expert te _ _ (woff1 t) h
theorem woff10 : ∀ t : Fin grid0.N, k0_off10 (grid0.coords t) = ![min ((t.val + 1) / 7) 71] := by decide +kernel
theorem canon10 (te : S72.Idx → BitVec 32) (t : Fin grid0.N) (h1 : k0_cond1 (grid0.coords t) = 1#1) (h : 0 < (Rect.unit (s := S72) (k0_off10 (grid0.coords t)) S1.size (k0_off10_inb (grid0.coords t) h1)).toLoadRect.shape.numel) :
    View.readAt (Elt F) (Memref.whole main_arg0 : Memref sig .tc .smem S72 .i32).view (Rect.unit (s := S72) (k0_off10 (grid0.coords t)) S1.size (k0_off10_inb (grid0.coords t) h1)).toLoadRect te (Shape.Idx.first h) = expert te (t.val + 1) :=
  read_expert te _ _ (woff10 t) h
theorem woff19 : ∀ t : Fin grid0.N, k0_off19 (grid0.coords t) = ![min ((t.val + 2) / 7) 71] := by decide +kernel
theorem canon19 (te : S72.Idx → BitVec 32) (t : Fin grid0.N) (h : 0 < (Rect.unit (s := S72) (k0_off19 (grid0.coords t)) S1.size (k0_off19_inb (grid0.coords t))).toLoadRect.shape.numel) :
    View.readAt (Elt F) (Memref.whole main_arg0 : Memref sig .tc .smem S72 .i32).view (Rect.unit (s := S72) (k0_off19 (grid0.coords t)) S1.size (k0_off19_inb (grid0.coords t))).toLoadRect te (Shape.Idx.first h) = expert te (t.val + 2) :=
  read_expert te _ _ (woff19 t) h
theorem woff28 : ∀ t : Fin grid0.N, k0_off28 (grid0.coords t) = ![min ((t.val) / 7) 71] := by decide +kernel
theorem canon28 (te : S72.Idx → BitVec 32) (t : Fin grid0.N) (h : 0 < (Rect.unit (s := S72) (k0_off28 (grid0.coords t)) S1.size (k0_off28_inb (grid0.coords t))).toLoadRect.shape.numel) :
    View.readAt (Elt F) (Memref.whole main_arg0 : Memref sig .tc .smem S72 .i32).view (Rect.unit (s := S72) (k0_off28 (grid0.coords t)) S1.size (k0_off28_inb (grid0.coords t))).toLoadRect te (Shape.Idx.first h) = expert te t.val :=
  read_expert te _ _ (woff28 t) h

theorem fact_used (nu : S1.Idx → BitVec 32) : View.readAt (Elt F) mNu.view (Rect.unit (s := S1) ![0] S1.size inb_S1_S1_0).toLoadRect nu = (fun _ => used nu) :=
  funext fun _ => congrArg nu (funext fun a => match a with | 0 => Subsingleton.elim (α := Fin 1) _ _)
theorem first_eq (x : (⟨1, S1.size⟩ : Shape).Idx) (h) : x = Shape.Idx.first (s := ⟨1, S1.size⟩) h := funext fun a => match a with | 0 => Subsingleton.elim (α := Fin 1) _ _
theorem fact1 (te : S72.Idx → BitVec 32) (t : Fin grid0.N) (h1 : k0_cond1 (grid0.coords t) = 1#1) : View.readAt (Elt F) mTe.view (Rect.unit (s := S72) (k0_off1 (grid0.coords t)) S1.size (k0_off1_inb (grid0.coords t) h1)).toLoadRect te = (fun _ => expert te t.val) :=
  funext fun x => by rw [first_eq x (by decide)]; exact canon1 te t h1 _
theorem fact10 (te : S72.Idx → BitVec 32) (t : Fin grid0.N) (h1 : k0_cond1 (grid0.coords t) = 1#1) : View.readAt (Elt F) mTe.view (Rect.unit (s := S72) (k0_off10 (grid0.coords t)) S1.size (k0_off10_inb (grid0.coords t) h1)).toLoadRect te = (fun _ => expert te (t.val + 1)) :=
  funext fun x => by rw [first_eq x (by decide)]; exact canon10 te t h1 _
theorem fact19 (te : S72.Idx → BitVec 32) (t : Fin grid0.N) : View.readAt (Elt F) mTe.view (Rect.unit (s := S72) (k0_off19 (grid0.coords t)) S1.size (k0_off19_inb (grid0.coords t))).toLoadRect te = (fun _ => expert te (t.val + 2)) :=
  funext fun x => by rw [first_eq x (by decide)]; exact canon19 te t _
theorem fact28 (te : S72.Idx → BitVec 32) (t : Fin grid0.N) : View.readAt (Elt F) mTe.view (Rect.unit (s := S72) (k0_off28 (grid0.coords t)) S1.size (k0_off28_inb (grid0.coords t))).toLoadRect te = (fun _ => expert te t.val) :=
  funext fun x => by rw [first_eq x (by decide)]; exact canon28 te t _
theorem chk1_of (t : Fin grid0.N) (v w : BitVec 32) (hw : w.toNat < 8) : k0_chk1 (grid0.coords t) v w :=
  ⟨fun _ _ => by rw [off4_eq]; have := inb_blk_col w (t.val); rwa [Nat.mod_eq_of_lt hw] at this, fun _ _ => by rw [off9_eq]; have := inb_blk_row w (t.val); rwa [Nat.mod_eq_of_lt hw] at this⟩
theorem chk2_of (t : Fin grid0.N) (v w : BitVec 32) (hw : w.toNat < 8) : k0_chk2 (grid0.coords t) v w :=
  ⟨fun _ _ => by rw [off13_eq]; have := inb_blk_col w (t.val + 1); rwa [Nat.mod_eq_of_lt hw] at this, fun _ _ => by rw [off18_eq]; have := inb_blk_row w (t.val + 1); rwa [Nat.mod_eq_of_lt hw] at this⟩
theorem chk3_of (t : Fin grid0.N) (v w : BitVec 32) (hw : w.toNat < 8) : k0_chk3 (grid0.coords t) v w :=
  ⟨fun _ => by rw [off22_eq]; have := inb_blk_col w (t.val + 2); rwa [Nat.mod_eq_of_lt hw] at this, fun _ => by rw [off27_eq]; have := inb_blk_row w (t.val + 2); rwa [Nat.mod_eq_of_lt hw] at this⟩
theorem chk4_of (t : Fin grid0.N) (v w : BitVec 32) (hw : w.toNat < 8) : k0_chk4 (grid0.coords t) v w :=
  ⟨fun _ => by rw [off31_eq]; have := inb_blk_col w (t.val); rwa [Nat.mod_eq_of_lt hw] at this, fun _ => by rw [off36_eq]; have := inb_blk_row w (t.val); rwa [Nat.mod_eq_of_lt hw] at this⟩

theorem coff37 : ∀ t : Fin grid0.N, k0_off37 (grid0.coords t) = ![(sl t.val).val, 0, 0] := by decide +kernel
theorem coff38 : ∀ t : Fin grid0.N, k0_off38 (grid0.coords t) = ![(sl t.val).val, 0, 0] := by decide +kernel
instance (priority := high) closed37 (t : Fin grid0.N) : ClosedOff (k0_off37 (grid0.coords t)) := ⟨![(sl t.val).val, 0, 0], coff37 t⟩
instance (priority := high) closed38 (t : Fin grid0.N) : ClosedOff (k0_off38 (grid0.coords t)) := ⟨![(sl t.val).val, 0, 0], coff38 t⟩

end Cert.Gffn

end
-- ==== Proof.Table.lean ====
/- The plan of row tiles: what the precondition says of it, and what it makes of the pipeline's block indices. -/
module

public import proofs.«01_k».proof.Proof.Ring
public import proofs.«01_k».proof.Proof.Gen.Pre_plan_in_range
public import Idealize.ShloMosaic.Lib.ReduceAll
public import Idealize.ShloMosaic.Lib.StableHlo.Predicate
public import Idealize.ShloMosaic.Lib.Pipeline.TableIdle
public import Idealize.ShloMosaic.Lib.Pipeline.AliasedRuns

@[expose] public section

set_option maxRecDepth 16384

noncomputable section

namespace Cert.Gffn

open Idealize.ShloMosaic Idealize.ShloMosaic.TcCoe Idealize.ShloMosaic.Tactic
open Cert.KernelIdeal Cert.KernelIdeal.Gen

variable {F : FTy → Type} [FloatOps F]

/-- A plan in range: every row tile names one of the eight experts, and between one and all seventy-two tiles are used. -/
structure PlanOk (te : S72.Idx → BitVec 32) (nu : S1.Idx → BitVec 32) : Prop where
  rows : ∀ j, (te j).toNat < 8
  pos : 1 ≤ (used nu).toNat
  le : (used nu).toNat ≤ 72

instance : Subsingleton Cert.Pre_plan_in_range.S_.Idx := ⟨fun a b => funext fun i => i.elim0⟩

omit [FloatOps F] in
theorem between_sge_slt (w lo hi : BitVec 32) (hl : lo.toNat < 2147483648) (hh : hi.toNat < 2147483648)
    (h1 : lo.sle w = true) (h2 : w.slt hi = true) : lo.toNat ≤ w.toNat ∧ w.toNat < hi.toNat := by
  rw [BitVec.sle_eq_decide, decide_eq_true_eq] at h1
  rw [BitVec.slt_eq_decide, decide_eq_true_eq] at h2
  simp only [BitVec.toInt] at h1 h2
  have := w.isLt
  omega

omit [FloatOps F] in
theorem between_sge_sle (w lo hi : BitVec 32) (hl : lo.toNat < 2147483648) (hh : hi.toNat < 2147483648)
    (h1 : lo.sle w = true) (h2 : w.sle hi = true) : lo.toNat ≤ w.toNat ∧ w.toNat ≤ hi.toNat := by
  rw [BitVec.sle_eq_decide, decide_eq_true_eq] at h1 h2
  simp only [BitVec.toInt] at h1 h2
  have := w.isLt
  omega

/-- The precondition, decoded. -/
theorem planOk_of_pre [Cert.Pre_plan_in_range.Facts] (te : IVec S72 32) (nu : IVec S1 32) (xs : FVec F S73728x1024 .f32)
    (a3 a4 : FVec F S1x8x1024x3584 .f32) (a5 : FVec F S1x8x3584x1024 .f32)
    (h : Cert.Pre_plan_in_range.fn (F := F) te nu xs a3 a4 a5 = fun _ => 1#1) : PlanOk te nu := by
  have ofBool_one (p : Bool) : (BitVec.ofBool p = 1#1) ↔ p = true := by cases p <;> decide
  have e := congrFun h (fun i => i.elim0)
  unfold Cert.Pre_plan_in_range.fn at e
  dsimp only at e
  obtain ⟨e1, e2⟩ := IntOp.andi_eq_one.1 e
  have r1 : ∀ j, (0#32).toNat ≤ (te j).toNat ∧ (te j).toNat < (8#32).toNat := fun j => by
    obtain ⟨a, b⟩ := IntOp.andi_eq_one.1 (Host.reduce_andi_all _ _ _ _ _ e1 j)
    exact between_sge_slt _ _ _ (by decide) (by decide) ((ofBool_one _).1 a) ((ofBool_one _).1 b)
  have r2 : ∀ j, (1#32).toNat ≤ (nu j).toNat ∧ (nu j).toNat ≤ (72#32).toNat := fun j => by
    obtain ⟨a, b⟩ := IntOp.andi_eq_one.1 (Host.reduce_andi_all _ _ _ _ _ e2 j)
    exact between_sge_sle _ _ _ (by decide) (by decide) ((ofBool_one _).1 a) ((ofBool_one _).1 b)
  exact ⟨fun j => (r1 j).2, (r2 _).1, (r2 _).2⟩

theorem PlanOk.expert_lt {te : S72.Idx → BitVec 32} {nu : S1.Idx → BitVec 32} (h : PlanOk te nu) (n : ℕ) : (expert te n).toNat < 8 := h.rows _

/-! ## The block a grid point visits -/

/-- The row tile point `t` visits: its own, or the last one used. -/
def tileAt (nu : S1.Idx → BitVec 32) (t : ℕ) : ℕ := min (t / 7) ((used nu).toNat - 1)

theorem clip_toNat (w : BitVec 32) (i : ℕ) (hi : i < 72) (h1 : 1 ≤ w.toNat) (h2 : w.toNat ≤ 72) :
    (Scalar.minsi (BitVec.ofNat 32 i) (Scalar.subi w 1#32)).toNat = min i (w.toNat - 1) := by
  have e1 : (w - 1#32).toNat = w.toNat - 1 := by
    rw [BitVec.toNat_sub]; simp only [BitVec.toNat_ofNat]; omega
  have e0 : (BitVec.ofNat 32 i).toNat = i := by rw [BitVec.toNat_ofNat]; omega
  show (if (BitVec.ofNat 32 i).slt (w - 1#32) then BitVec.ofNat 32 i else w - 1#32).toNat = _
  have e2 : (BitVec.ofNat 32 i).slt (w - 1#32) = decide (i < w.toNat - 1) := by
    rw [BitVec.slt_eq_decide]
    simp only [BitVec.toInt, e0, e1]
    congr 1
    apply propext
    constructor <;> intro h <;> omega
  rw [e2]
  by_cases hc : i < w.toNat - 1
  · rw [decide_eq_true hc, if_pos rfl, e0]; omega
  · rw [decide_eq_false hc, if_neg Bool.false_ne_true, e1]; omega

section
variable (pf : pre0.Contents (Elt F))

theorem at_used (h1 : (Rect.unit (s := S1) ![0] S1.size inb_S1_S1_0).shape.numel = 1) : pf.at 1 (Rect.unit (s := S1) ![0] S1.size inb_S1_S1_0) h1 = used (pf 1) :=
  congrArg (pf 1) (funext fun a => match a with | ⟨0, _⟩ => Subsingleton.elim (α := Fin 1) _ _)
theorem atD_used : pf.atD 1 ![0] = used (pf 1) := by
  unfold Pipeline.Prefetch.Contents.atD
  rw [dif_pos (by decide)]
  exact congrArg (pf 1) (funext fun a => match a with | ⟨0, _⟩ => Subsingleton.elim (α := Fin 1) _ _)

theorem tr0_eq (h : PlanOk (pf 0) (pf 1)) (i : grid0.Coords) :
    cc0_transform_0 inb_S1_S1_0 numel1_S1 pf i = ![min (i 0).val ((used (pf 1)).toNat - 1), 0] := by
  unfold cc0_transform_0
  dsimp only
  rw [at_used pf numel1_S1, clip_toNat _ _ (i 0).isLt h.pos h.le]
  rfl
theorem tr4_eq (h : PlanOk (pf 0) (pf 1)) (i : grid0.Coords) :
    cc0_transform_4 inb_S1_S1_0 numel1_S1 pf i = ![min (i 0).val ((used (pf 1)).toNat - 1), 0] := tr0_eq pf h i

theorem ix0_eq (h : PlanOk (pf 0) (pf 1)) (t : Fin grid0.N) :
    cc0_transform_0 inb_S1_S1_0 numel1_S1 pf (grid0.coords t) = ![tileAt (pf 1) t.val, 0] := by
  rw [tr0_eq pf h, coords_0]; rfl
theorem ix1_eq (h : PlanOk (pf 0) (pf 1)) (t : Fin grid0.N) :
    cc0_transform_4 inb_S1_S1_0 numel1_S1 pf (grid0.coords t) = ![tileAt (pf 1) t.val, 0] := ix0_eq pf h t

omit [FloatOps F] in
theorem tileAt_mono (nu : S1.Idx → BitVec 32) {a b : ℕ} (h : a ≤ b) : tileAt nu a ≤ tileAt nu b := by
  unfold tileAt
  have : a / 7 ≤ b / 7 := Nat.div_le_div_right h
  omega
omit [FloatOps F] in
theorem vec_ne {a b : ℕ} : (![a, 0] : Fin 2 → ℕ) ≠ ![b, 0] ↔ a ≠ b := by
  refine ⟨fun h e => h (by rw [e]), fun h e => h (congrFun e 0)⟩

/-- A plan in range satisfies the region's side condition. -/
theorem ok_of_plan (h : PlanOk (pf 0) (pf 1)) : ok0 pf := by
  have hin : ∀ i : grid0.Coords, ∀ a, ((![min (i 0).val ((used (pf 1)).toNat - 1), 0] : Fin 2 → ℕ) a + 1) * S1024x1024.size a ≤ S73728x1024.size a := by
    intro i a
    have := (i 0).isLt
    have hl := h.le
    match a with
    | 0 =>
      show (min (i 0).val ((used (pf 1)).toNat - 1) + 1) * 1024 ≤ 73728
      have : min (i 0).val ((used (pf 1)).toNat - 1) + 1 ≤ 72 := by omega
      omega
    | 1 => show (0 + 1) * 1024 ≤ 1024; omega
  refine ⟨fun i => ⟨?_, Or.inl rfl⟩, fun i => ⟨?_, Or.inl rfl⟩, ?_⟩
  · intro a; rw [tr0_eq pf h]; exact hin i a
  · intro a; rw [tr4_eq pf h]; exact hin i a
  · refine { isIn := rfl, isOut := rfl, rank := rfl, size := fun a a' e => ?_, index := fun c a a' e => ?_, ordered := fun u u' hlt _ hfl => ?_ }
    · obtain rfl : a = a' := Fin.ext e
      rfl
    · obtain rfl : a = a' := Fin.ext e
      rfl
    · show cc0_transform_4 inb_S1_S1_0 numel1_S1 pf (grid0.coords u') ≠ cc0_transform_4 inb_S1_S1_0 numel1_S1 pf (grid0.coords u)
      rw [ix1_eq pf h, ix1_eq pf h, vec_ne]
      simp only [Pipeline.WinSpec.flushAt, Bool.and_eq_true, Bool.or_eq_true, decide_eq_true_eq] at hfl
      rcases hfl.2 with e | ⟨hN, hne⟩
      · have := u.isLt; omega
      · change cc0_transform_4 inb_S1_S1_0 numel1_S1 pf (grid0.coords ⟨u'.val + 1, hN⟩) ≠ cc0_transform_4 inb_S1_S1_0 numel1_S1 pf (grid0.coords u') at hne
        rw [ix1_eq pf h, ix1_eq pf h, vec_ne] at hne
        have a := tileAt_mono (pf 1) (Nat.le_succ u'.val)
        have b := tileAt_mono (pf 1) (a := u'.val + 1) (b := u.val) hlt
        simp only [Nat.succ_eq_add_one] at a
        dsimp only at hne
        omega
end

/-! ## The pipeline at such a plan -/

/-- Whether nothing of the current output block has been stored when point `n` begins. -/
def freshTab (nu : S1.Idx → BitVec 32) (n : ℕ) : Bool := decide ((n % 7 = 0 ∧ n / 7 < (used nu).toNat) ∨ n = 504)

theorem bool_step {A B C D : Bool} {P Q R S : Prop} (hA : A = true ↔ P) (hB : B = true ↔ Q) (hC : C = true ↔ R) (hD : D = true ↔ S)
    (e : P ↔ Q ∨ (R ∧ S)) : A = (B || (C && D)) := by
  rw [Bool.eq_iff_iff, Bool.or_eq_true, Bool.and_eq_true, hA, hB, hC, hD]; exact e

section
variable (a : (pcfg0 (F := F)).Adm) (h : PlanOk (a.1 0) (a.1 1))
include h

theorem win_index (w : Fin 2) (t : Fin grid0.N) : (win0 a w).index t = fun b => (![tileAt (a.1 1) t.val, 0] : Fin 2 → ℕ) (Fin.cast (by match w with | 0 => rfl | 1 => rfl) b) := by
  match w with
  | 0 => exact ix0_eq a.1 h t
  | 1 => exact ix1_eq a.1 h t

theorem flush1_iff (t : Fin grid0.N) : (win0 a 1).flush t = true ↔ (t.val % 7 = 6 ∧ t.val / 7 + 1 < (used (a.1 1)).toNat) ∨ t.val = 503 := by
  have hN := N_0
  have ht := step_lt t
  have hp := h.pos
  have hl := h.le
  unfold Pipeline.Window.flush
  rw [Bool.and_eq_true, Bool.or_eq_true, decide_eq_true_eq, decide_eq_true_eq]
  constructor
  · rintro ⟨-, e | ⟨hn, hne⟩⟩
    · right; omega
    · left
      change cc0_transform_4 inb_S1_S1_0 numel1_S1 a.1 (grid0.coords ⟨t.val + 1, hn⟩) ≠ cc0_transform_4 inb_S1_S1_0 numel1_S1 a.1 (grid0.coords t) at hne
      rw [ix1_eq a.1 h, ix1_eq a.1 h, vec_ne] at hne
      unfold tileAt at hne
      dsimp only at hne
      omega
  · rintro (⟨h6, hu⟩ | e)
    · refine ⟨rfl, Or.inr ⟨by omega, ?_⟩⟩
      change cc0_transform_4 inb_S1_S1_0 numel1_S1 a.1 (grid0.coords ⟨t.val + 1, _⟩) ≠ cc0_transform_4 inb_S1_S1_0 numel1_S1 a.1 (grid0.coords t)
      rw [ix1_eq a.1 h, ix1_eq a.1 h, vec_ne]
      unfold tileAt
      dsimp only
      omega
    · exact ⟨rfl, Or.inl (by omega)⟩

theorem idle1_iff (t : Fin grid0.N) : (cfg0 a).idle 1 (grid0.coords t) = true ↔ ¬ t.val < 7 * (used (a.1 1)).toNat := by
  have e : (cfg0 a).idle 1 (grid0.coords t) = (!(k0_cond6 (grid0.coords t) (used (a.1 1)) == 1#1 && k0_cond7 (grid0.coords t) == 1#1) && !(k0_cond6 (grid0.coords t) (used (a.1 1)) == 1#1)) := by
    rw [← atD_used a.1]; rfl
  rw [e, ← cond6_iff t _ h.le]
  by_cases hc : k0_cond6 (grid0.coords t) (used (a.1 1)) = 1#1
  · simp [hc]
  · simp [hc]

theorem fresh1_eq (n : ℕ) (hn : n ≤ grid0.N) : (cfg0 a).fresh 1 n = freshTab (a.1 1) n := by
  refine (cfg0 a).fresh_tab 1 (freshTab (a.1 1)) (decide_eq_true (Or.inl ⟨rfl, h.pos⟩)) (fun t => ?_) n hn
  have ht : t.val < 504 := step_lt t
  have hp := h.pos
  have hl := h.le
  refine bool_step decide_eq_true_iff (flush1_iff a h t) (idle1_iff a h t) decide_eq_true_iff ?_
  omega

end

end Cert.Gffn

end
-- ==== Proof.Step.lean ====
/- One step of the grouped expert feed-forward as mathematics on whole blocks: what a step adds to a row tile, what the body's loads
   and stores of whole buffers and landed slots read and leave. -/
module

public import proofs.«01_k».proof.Proof.Ring
public import Idealize.ShloMosaic.Lib.WritesUnit
public import Idealize.ShloMosaic.Lib.VecWindow
public import Idealize.ShloMosaic.Lib.Pipeline.Value

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- One block's contribution to a row tile: the hidden units' gates and ups are products of the tile with the block's columns, and their
    gated product times the block's rows is added to what is there. -/
def accStep (xb : FVec F S1024x1024 .bf16) (g u : Vec F S1024x512 .f32) (o : FVec F S1024x1024 .f32) (d : Vec F S512x1024 .f32) : FVec F S1024x1024 .f32 :=
  let h : FVec F S1024x512 .f32 := matmul dot_S1024x1024_S1024x512_S1024x512_1_0_0_1_n_n none xb (truncf .bf16 g bitsLt_bf16_f32) (constant S1024x512 .f32 0x00000000#32)
  let p : FVec F S1024x512 .f32 := mulf (mulf h (logistic h)) (matmul dot_S1024x1024_S1024x512_S1024x512_1_0_0_1_n_n none xb (truncf .bf16 u bitsLt_bf16_f32) (constant S1024x512 .f32 0x00000000#32))
  addf o (matmul dot_S1024x512_S512x1024_S1024x1024_1_0_0_1_n_n none (truncf .bf16 p bitsLt_bf16_f32) (truncf .bf16 d bitsLt_bf16_f32) (constant S1024x1024 .f32 0x00000000#32))

theorem shapeCast_same {e : EltTy} (x : Vec F S1024x1024 e) (h) : shapeCast S1024x1024 x h = x := by
  funext y; exact congrArg x (by simp)

theorem pay3_step (xb : Vec F S1024x1024 .bf16) (g u : Vec F S1x1024x512 .f32) (o : Vec F S1024x1024 .f32) (d : Vec F S1x512x1024 .f32)
    {xb' : Vec F S1024x1024 .bf16} {g' u' : Vec F S1024x512 .f32} {o' : Vec F S1024x1024 .f32} {d' : Vec F S512x1024 .f32}
    (hx : xb = xb') (hg : shapeCast S1024x512 g shapeCasts_S1x1024x512_S1024x512 = g') (hu : shapeCast S1024x512 u shapeCasts_S1x1024x512_S1024x512 = u')
    (ho : o = o') (hd : shapeCast S512x1024 d shapeCasts_S1x512x1024_S512x1024 = d') :
    k0_pay3 xb g u o d = accStep xb' g' u' o' d' := by
  subst hx hg hu ho hd
  have e : shapeCast S1024x1024 o shapeCasts_S1024x1024_S1024x1024 = o := shapeCast_same (e := .f32) o _
  unfold k0_pay3 accStep
  rw [e]

/-- The row tile as the products read it, and the accumulator's start. -/
def narrow (x : Vec F S1024x1024 .f32) : FVec F S1024x1024 .bf16 := truncf .bf16 x bitsLt_bf16_f32
theorem pay1_eq (x : Vec F S1024x1024 .f32) : k0_pay1 x = narrow x := shapeCast_same (e := .bf16) (narrow x) _

theorem read_landed {κ : Kind} {sp : Space} {S : Shape} {e : EltTy} (v : View sig κ sp S e) (f : v.ty.Contents (Elt F)) (w : S.Idx → Elt F e) :
    v.read (Elt F) (v.writes (Elt F) f [⟨Rect.whole S, w⟩]) = w := by
  have key : ∀ y, v.read (Elt F) (v.writes (Elt F) f [⟨Rect.whole S, w⟩]) ((Rect.whole S).emb y) = w y := fun y =>
    View.read_slice_write_emb (Val := Elt F) (v := v) (Rect.whole S) f w (Finset.mem_univ y)
  funext y; simpa using key y

/-- A whole-buffer store's value is what the buffer then reads, whatever was stored before. -/
theorem read_stored {κ : Kind} {sp : Space} (v : View sig κ sp S1024x1024 .f32) (f : v.ty.Contents (Elt F)) (h) (w : S1024x1024.Idx → Elt F .f32)
    (L : List (View.Piece (Elt F) S1024x1024 .f32)) :
    v.read (Elt F) (v.writes (Elt F) f (⟨Rect.unit ![0, 0] S1024x1024.size h, w⟩ :: L)) = w :=
  funext fun y => View.read_writes_cons_unit_of_mem v f h w L y y rfl fun a => by fin_cases a <;> simp
theorem read_stored_bf {κ : Kind} {sp : Space} (v : View sig κ sp S1024x1024 .bf16) (f : v.ty.Contents (Elt F)) (h) (w : S1024x1024.Idx → Elt F .bf16)
    (L : List (View.Piece (Elt F) S1024x1024 .bf16)) :
    v.read (Elt F) (v.writes (Elt F) f (⟨Rect.unit ![0, 0] S1024x1024.size h, w⟩ :: L)) = w :=
  funext fun y => View.read_writes_cons_unit_of_mem v f h w L y y rfl fun a => by fin_cases a <;> simp
theorem readAt_tile {κ : Kind} {sp : Space} {e : EltTy} (v : View sig κ sp S1024x1024 e) (f : v.ty.Contents (Elt F)) (h) :
    v.readAt (Elt F) (Rect.unit (s := S1024x1024) ![0, 0] S1024x1024.size h).toLoadRect f = v.read (Elt F) f := by
  funext y
  exact congrArg (v.read (Elt F) f) (funext fun a => Fin.ext (by fin_cases a <;> simp [Rect.unit, LoadRect.idx, Rect.toLoadRect]))
theorem cov_tile {κ : Kind} {sp : Space} {e : EltTy} (v : View sig κ sp S1024x1024 e) (h) (w : S1024x1024.Idx → Elt F e) :
    v.readCov [(⟨Rect.unit ![0, 0] S1024x1024.size h, w⟩ : View.Piece (Elt F) S1024x1024 e)] (Rect.unit ![0, 0] S1024x1024.size h).toLoadRect = w :=
  View.readCov_unit_zero (S := S1024x1024) v (by funext a; fin_cases a <;> rfl) h w

/-- Slot `s`, loaded after block `n` of the expert named `w` landed in it, gives that block. -/
theorem slotG_load (c : Dev nD) (s : Fin 3) {off : Fin 3 → Nat} (h : ∀ a, off a + S1x1024x512.size a ≤ S3x1024x512.size a) (e : off = ![s.val, 0, 0]) (f : BufOf (F := F) c (slotG s)) :
    shapeCast S1024x512 (View.readAt (Elt F) scG.view (Rect.unit (s := S3x1024x512) off S1x1024x512.size h).toLoadRect f) shapeCasts_S1x1024x512_S1024x512 = (slotG s).view.read (Elt F) f := by
  subst e; rfl
theorem loadG (c : Dev nD) (t : Fin grid0.N) (w : BitVec 32) (n : ℕ) (W : BufOf (F := F) c opG) (f : BufOf (F := F) c (slotG (sl t.val))) :
    shapeCast S1024x512 (View.readAt (Elt F) scG.view (Rect.unit (s := S3x1024x512) (k0_off37 (grid0.coords t)) S1x1024x512.size (k0_off37_inb (grid0.coords t))).toLoadRect (landedG c w W (sl t.val) n f)) shapeCasts_S1x1024x512_S1024x512
      = (blkG w n).view.read (Elt F) W :=
  (slotG_load c _ _ (coff37 t) _).trans (read_landed _ _ _)

/-- Slot `s`, loaded after block `n` of the expert named `w` landed in it, gives that block. -/
theorem slotU_load (c : Dev nD) (s : Fin 3) {off : Fin 3 → Nat} (h : ∀ a, off a + S1x1024x512.size a ≤ S3x1024x512.size a) (e : off = ![s.val, 0, 0]) (f : BufOf (F := F) c (slotU s)) :
    shapeCast S1024x512 (View.readAt (Elt F) scU.view (Rect.unit (s := S3x1024x512) off S1x1024x512.size h).toLoadRect f) shapeCasts_S1x1024x512_S1024x512 = (slotU s).view.read (Elt F) f := by
  subst e; rfl
theorem loadU (c : Dev nD) (t : Fin grid0.N) (w : BitVec 32) (n : ℕ) (W : BufOf (F := F) c opU) (f : BufOf (F := F) c (slotU (sl t.val))) :
    shapeCast S1024x512 (View.readAt (Elt F) scU.view (Rect.unit (s := S3x1024x512) (k0_off37 (grid0.coords t)) S1x1024x512.size (k0_off37_inb (grid0.coords t))).toLoadRect (landedU c w W (sl t.val) n f)) shapeCasts_S1x1024x512_S1024x512
      = (blkU w n).view.read (Elt F) W :=
  (slotU_load c _ _ (coff37 t) _).trans (read_landed _ _ _)

/-- Slot `s`, loaded after block `n` of the expert named `w` landed in it, gives that block. -/
theorem slotD_load (c : Dev nD) (s : Fin 3) {off : Fin 3 → Nat} (h : ∀ a, off a + S1x512x1024.size a ≤ S3x512x1024.size a) (e : off = ![s.val, 0, 0]) (f : BufOf (F := F) c (slotD s)) :
    shapeCast S512x1024 (View.readAt (Elt F) scD.view (Rect.unit (s := S3x512x1024) off S1x512x1024.size h).toLoadRect f) shapeCasts_S1x512x1024_S512x1024 = (slotD s).view.read (Elt F) f := by
  subst e; rfl
theorem loadD (c : Dev nD) (t : Fin grid0.N) (w : BitVec 32) (n : ℕ) (W : BufOf (F := F) c opD) (f : BufOf (F := F) c (slotD (sl t.val))) :
    shapeCast S512x1024 (View.readAt (Elt F) scD.view (Rect.unit (s := S3x512x1024) (k0_off38 (grid0.coords t)) S1x512x1024.size (k0_off38_inb (grid0.coords t))).toLoadRect (landedD c w W (sl t.val) n f)) shapeCasts_S1x512x1024_S512x1024
      = (blkD w n).view.read (Elt F) W :=
  (slotD_load c _ _ (coff38 t) _).trans (read_landed _ _ _)

end Cert.Gffn

end
-- ==== Proof.Inv.lean ====
/- The pipeline's invariant and what each point leaves: the three rings of weight blocks, the narrowed rows, the running sum. -/
module

public import proofs.«01_k».proof.Proof.Table
public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The rings before a point -/

section
variable (c : Dev nD) (te : S72.Idx → BitVec 32) (NB : ℕ) (W : BufOf (F := F) c opG)

/-- What the slot of block `t + k` is before point `t`: the block in flight, for the two blocks next due; else at rest. -/
def atG (t k : ℕ) : sProp 𝕄 :=
  if 0 < t ∧ k < 2 ∧ t + k < NB then flyG c (expert te (t + k)) W (sl (t + k)) (t + k) else freeG c W (sl (t + k))
/-- The ring before point `t`. -/
def ringG (t : ℕ) : sProp 𝕄 := iprop(atG c te NB W t 0 ∗ atG c te NB W t 1 ∗ atG c te NB W t 2)

theorem atG_shift (t : ℕ) (h : 0 < t) : atG c te NB W (t + 1) 0 = atG c te NB W t 1 := by
  have e : (0 < t + 1 ∧ 0 < 2 ∧ t + 1 + 0 < NB) ↔ (0 < t ∧ 1 < 2 ∧ t + 1 < NB) := by omega
  unfold atG
  by_cases hc : 0 < t ∧ 1 < 2 ∧ t + 1 < NB
  · rw [if_pos hc, if_pos (e.mpr hc)]
  · rw [if_neg hc, if_neg (fun x => hc (e.mp x))]
theorem atG_last (t : ℕ) : atG c te NB W (t + 1) 2 = freeG c W (sl t) := by
  unfold atG
  rw [if_neg (by omega), show t + 1 + 2 = t + 3 from rfl, sl_add3]
theorem atG_two (t : ℕ) : atG c te NB W t 2 = freeG c W (sl (t + 2)) := by unfold atG; rw [if_neg (by omega)]
theorem atG_fly (t k : ℕ) (h : 0 < t) (hk : k < 2) (hn : t + k < NB) :
    atG c te NB W t k = flyG c (expert te (t + k)) W (sl (t + k)) (t + k) := by unfold atG; rw [if_pos ⟨h, hk, hn⟩]
theorem atG_zero (k : ℕ) : atG c te NB W 0 k = freeG c W (sl (0 + k)) := by unfold atG; rw [if_neg (by omega)]
theorem atG_past (t k : ℕ) (hn : NB ≤ t + k) : atG c te NB W t k = freeG c W (sl (t + k)) := by unfold atG; rw [if_neg (by omega)]

theorem ringG_start (t : ℕ) (h : t = 0) : ringG c te NB W t = iprop(freeG c W (sl t) ∗ freeG c W (sl (t + 1)) ∗ freeG c W (sl (t + 2))) := by
  subst h; unfold ringG; rw [atG_zero, atG_zero, atG_zero]
theorem ringG_one (t : ℕ) (h : t = 0) (hn : 3 ≤ NB) : ringG c te NB W (t + 1)
    = iprop(flyG c (expert te (t + 1)) W (sl (t + 1)) (t + 1) ∗ flyG c (expert te (t + 2)) W (sl (t + 2)) (t + 2) ∗ freeG c W (sl t)) := by
  unfold ringG; rw [atG_fly c te NB W (t + 1) 0 (by omega) (by omega) (by omega), atG_fly c te NB W (t + 1) 1 (by omega) (by omega) (by omega), atG_last]
/-- While blocks are left, point `t` finds its own in flight; -/
theorem ringG_at (t : ℕ) (h : 0 < t) (hn : t < NB) : ringG c te NB W t
    = iprop(flyG c (expert te t) W (sl t) t ∗ atG c te NB W t 1 ∗ freeG c W (sl (t + 2))) := by
  unfold ringG; rw [atG_fly c te NB W t 0 h (by omega) hn, atG_two]; rfl
/-- with two further blocks left it leaves the one after the next in flight, -/
theorem ringG_more (t : ℕ) (h : 0 < t) (hn : t + 2 < NB) : ringG c te NB W (t + 1)
    = iprop(atG c te NB W t 1 ∗ flyG c (expert te (t + 2)) W (sl (t + 2)) (t + 2) ∗ freeG c W (sl t)) := by
  unfold ringG; rw [atG_shift c te NB W t h, atG_fly c te NB W (t + 1) 1 (by omega) (by omega) (by omega), atG_last]
/-- and otherwise nothing new. -/
theorem ringG_less (t : ℕ) (h : 0 < t) (hn : NB ≤ t + 2) : ringG c te NB W (t + 1)
    = iprop(atG c te NB W t 1 ∗ freeG c W (sl (t + 2)) ∗ freeG c W (sl t)) := by
  unfold ringG; rw [atG_shift c te NB W t h, atG_past c te NB W (t + 1) 1 (by omega), atG_last]
theorem ringG_rest (t : ℕ) (h : 0 < t) (hn : NB ≤ t) : ringG c te NB W t
    = iprop(freeG c W (sl t) ∗ atG c te NB W t 1 ∗ freeG c W (sl (t + 2))) := by
  unfold ringG; rw [atG_past c te NB W t 0 hn, atG_two]; rfl
theorem ringG_end (hn : NB ≤ 504) : ringG c te NB W 504 = iprop(freeG c W 0 ∗ freeG c W 1 ∗ freeG c W 2) := by
  unfold ringG; rw [atG_past c te NB W 504 0 hn, atG_past c te NB W 504 1 (by omega), atG_past c te NB W 504 2 (by omega)]
  rw [show sl (504 + 0) = 0 from by decide, show sl (504 + 1) = 1 from by decide, show sl (504 + 2) = 2 from by decide]
theorem ringG_zero : ringG c te NB W 0 = iprop(freeG c W 0 ∗ freeG c W 1 ∗ freeG c W 2) := by
  rw [ringG_start c te NB W 0 rfl, show sl 0 = 0 from by decide, show sl (0 + 1) = 1 from by decide, show sl (0 + 2) = 2 from by decide]
end

section
variable (c : Dev nD) (te : S72.Idx → BitVec 32) (NB : ℕ) (W : BufOf (F := F) c opU)

/-- What the slot of block `t + k` is before point `t`: the block in flight, for the two blocks next due; else at rest. -/
def atU (t k : ℕ) : sProp 𝕄 :=
  if 0 < t ∧ k < 2 ∧ t + k < NB then flyU c (expert te (t + k)) W (sl (t + k)) (t + k) else freeU c W (sl (t + k))
/-- The ring before point `t`. -/
def ringU (t : ℕ) : sProp 𝕄 := iprop(atU c te NB W t 0 ∗ atU c te NB W t 1 ∗ atU c te NB W t 2)

theorem atU_shift (t : ℕ) (h : 0 < t) : atU c te NB W (t + 1) 0 = atU c te NB W t 1 := by
  have e : (0 < t + 1 ∧ 0 < 2 ∧ t + 1 + 0 < NB) ↔ (0 < t ∧ 1 < 2 ∧ t + 1 < NB) := by omega
  unfold atU
  by_cases hc : 0 < t ∧ 1 < 2 ∧ t + 1 < NB
  · rw [if_pos hc, if_pos (e.mpr hc)]
  · rw [if_neg hc, if_neg (fun x => hc (e.mp x))]
theorem atU_last (t : ℕ) : atU c te NB W (t + 1) 2 = freeU c W (sl t) := by
  unfold atU
  rw [if_neg (by omega), show t + 1 + 2 = t + 3 from rfl, sl_add3]
theorem atU_two (t : ℕ) : atU c te NB W t 2 = freeU c W (sl (t + 2)) := by unfold atU; rw [if_neg (by omega)]
theorem atU_fly (t k : ℕ) (h : 0 < t) (hk : k < 2) (hn : t + k < NB) :
    atU c te NB W t k = flyU c (expert te (t + k)) W (sl (t + k)) (t + k) := by unfold atU; rw [if_pos ⟨h, hk, hn⟩]
theorem atU_zero (k : ℕ) : atU c te NB W 0 k = freeU c W (sl (0 + k)) := by unfold atU; rw [if_neg (by omega)]
theorem atU_past (t k : ℕ) (hn : NB ≤ t + k) : atU c te NB W t k = freeU c W (sl (t + k)) := by unfold atU; rw [if_neg (by omega)]

theorem ringU_start (t : ℕ) (h : t = 0) : ringU c te NB W t = iprop(freeU c W (sl t) ∗ freeU c W (sl (t + 1)) ∗ freeU c W (sl (t + 2))) := by
  subst h; unfold ringU; rw [atU_zero, atU_zero, atU_zero]
theorem ringU_one (t : ℕ) (h : t = 0) (hn : 3 ≤ NB) : ringU c te NB W (t + 1)
    = iprop(flyU c (expert te (t + 1)) W (sl (t + 1)) (t + 1) ∗ flyU c (expert te (t + 2)) W (sl (t + 2)) (t + 2) ∗ freeU c W (sl t)) := by
  unfold ringU; rw [atU_fly c te NB W (t + 1) 0 (by omega) (by omega) (by omega), atU_fly c te NB W (t + 1) 1 (by omega) (by omega) (by omega), atU_last]
/-- While blocks are left, point `t` finds its own in flight; -/
theorem ringU_at (t : ℕ) (h : 0 < t) (hn : t < NB) : ringU c te NB W t
    = iprop(flyU c (expert te t) W (sl t) t ∗ atU c te NB W t 1 ∗ freeU c W (sl (t + 2))) := by
  unfold ringU; rw [atU_fly c te NB W t 0 h (by omega) hn, atU_two]; rfl
/-- with two further blocks left it leaves the one after the next in flight, -/
theorem ringU_more (t : ℕ) (h : 0 < t) (hn : t + 2 < NB) : ringU c te NB W (t + 1)
    = iprop(atU c te NB W t 1 ∗ flyU c (expert te (t + 2)) W (sl (t + 2)) (t + 2) ∗ freeU c W (sl t)) := by
  unfold ringU; rw [atU_shift c te NB W t h, atU_fly c te NB W (t + 1) 1 (by omega) (by omega) (by omega), atU_last]
/-- and otherwise nothing new. -/
theorem ringU_less (t : ℕ) (h : 0 < t) (hn : NB ≤ t + 2) : ringU c te NB W (t + 1)
    = iprop(atU c te NB W t 1 ∗ freeU c W (sl (t + 2)) ∗ freeU c W (sl t)) := by
  unfold ringU; rw [atU_shift c te NB W t h, atU_past c te NB W (t + 1) 1 (by omega), atU_last]
theorem ringU_rest (t : ℕ) (h : 0 < t) (hn : NB ≤ t) : ringU c te NB W t
    = iprop(freeU c W (sl t) ∗ atU c te NB W t 1 ∗ freeU c W (sl (t + 2))) := by
  unfold ringU; rw [atU_past c te NB W t 0 hn, atU_two]; rfl
theorem ringU_end (hn : NB ≤ 504) : ringU c te NB W 504 = iprop(freeU c W 0 ∗ freeU c W 1 ∗ freeU c W 2) := by
  unfold ringU; rw [atU_past c te NB W 504 0 hn, atU_past c te NB W 504 1 (by omega), atU_past c te NB W 504 2 (by omega)]
  rw [show sl (504 + 0) = 0 from by decide, show sl (504 + 1) = 1 from by decide, show sl (504 + 2) = 2 from by decide]
theorem ringU_zero : ringU c te NB W 0 = iprop(freeU c W 0 ∗ freeU c W 1 ∗ freeU c W 2) := by
  rw [ringU_start c te NB W 0 rfl, show sl 0 = 0 from by decide, show sl (0 + 1) = 1 from by decide, show sl (0 + 2) = 2 from by decide]
end

section
variable (c : Dev nD) (te : S72.Idx → BitVec 32) (NB : ℕ) (W : BufOf (F := F) c opD)

/-- What the slot of block `t + k` is before point `t`: the block in flight, for the two blocks next due; else at rest. -/
def atD (t k : ℕ) : sProp 𝕄 :=
  if 0 < t ∧ k < 2 ∧ t + k < NB then flyD c (expert te (t + k)) W (sl (t + k)) (t + k) else freeD c W (sl (t + k))
/-- The ring before point `t`. -/
def ringD (t : ℕ) : sProp 𝕄 := iprop(atD c te NB W t 0 ∗ atD c te NB W t 1 ∗ atD c te NB W t 2)

theorem atD_shift (t : ℕ) (h : 0 < t) : atD c te NB W (t + 1) 0 = atD c te NB W t 1 := by
  have e : (0 < t + 1 ∧ 0 < 2 ∧ t + 1 + 0 < NB) ↔ (0 < t ∧ 1 < 2 ∧ t + 1 < NB) := by omega
  unfold atD
  by_cases hc : 0 < t ∧ 1 < 2 ∧ t + 1 < NB
  · rw [if_pos hc, if_pos (e.mpr hc)]
  · rw [if_neg hc, if_neg (fun x => hc (e.mp x))]
theorem atD_last (t : ℕ) : atD c te NB W (t + 1) 2 = freeD c W (sl t) := by
  unfold atD
  rw [if_neg (by omega), show t + 1 + 2 = t + 3 from rfl, sl_add3]
theorem atD_two (t : ℕ) : atD c te NB W t 2 = freeD c W (sl (t + 2)) := by unfold atD; rw [if_neg (by omega)]
theorem atD_fly (t k : ℕ) (h : 0 < t) (hk : k < 2) (hn : t + k < NB) :
    atD c te NB W t k = flyD c (expert te (t + k)) W (sl (t + k)) (t + k) := by unfold atD; rw [if_pos ⟨h, hk, hn⟩]
theorem atD_zero (k : ℕ) : atD c te NB W 0 k = freeD c W (sl (0 + k)) := by unfold atD; rw [if_neg (by omega)]
theorem atD_past (t k : ℕ) (hn : NB ≤ t + k) : atD c te NB W t k = freeD c W (sl (t + k)) := by unfold atD; rw [if_neg (by omega)]

theorem ringD_start (t : ℕ) (h : t = 0) : ringD c te NB W t = iprop(freeD c W (sl t) ∗ freeD c W (sl (t + 1)) ∗ freeD c W (sl (t + 2))) := by
  subst h; unfold ringD; rw [atD_zero, atD_zero, atD_zero]
theorem ringD_one (t : ℕ) (h : t = 0) (hn : 3 ≤ NB) : ringD c te NB W (t + 1)
    = iprop(flyD c (expert te (t + 1)) W (sl (t + 1)) (t + 1) ∗ flyD c (expert te (t + 2)) W (sl (t + 2)) (t + 2) ∗ freeD c W (sl t)) := by
  unfold ringD; rw [atD_fly c te NB W (t + 1) 0 (by omega) (by omega) (by omega), atD_fly c te NB W (t + 1) 1 (by omega) (by omega) (by omega), atD_last]
/-- While blocks are left, point `t` finds its own in flight; -/
theorem ringD_at (t : ℕ) (h : 0 < t) (hn : t < NB) : ringD c te NB W t
    = iprop(flyD c (expert te t) W (sl t) t ∗ atD c te NB W t 1 ∗ freeD c W (sl (t + 2))) := by
  unfold ringD; rw [atD_fly c te NB W t 0 h (by omega) hn, atD_two]; rfl
/-- with two further blocks left it leaves the one after the next in flight, -/
theorem ringD_more (t : ℕ) (h : 0 < t) (hn : t + 2 < NB) : ringD c te NB W (t + 1)
    = iprop(atD c te NB W t 1 ∗ flyD c (expert te (t + 2)) W (sl (t + 2)) (t + 2) ∗ freeD c W (sl t)) := by
  unfold ringD; rw [atD_shift c te NB W t h, atD_fly c te NB W (t + 1) 1 (by omega) (by omega) (by omega), atD_last]
/-- and otherwise nothing new. -/
theorem ringD_less (t : ℕ) (h : 0 < t) (hn : NB ≤ t + 2) : ringD c te NB W (t + 1)
    = iprop(atD c te NB W t 1 ∗ freeD c W (sl (t + 2)) ∗ freeD c W (sl t)) := by
  unfold ringD; rw [atD_shift c te NB W t h, atD_past c te NB W (t + 1) 1 (by omega), atD_last]
theorem ringD_rest (t : ℕ) (h : 0 < t) (hn : NB ≤ t) : ringD c te NB W t
    = iprop(freeD c W (sl t) ∗ atD c te NB W t 1 ∗ freeD c W (sl (t + 2))) := by
  unfold ringD; rw [atD_past c te NB W t 0 hn, atD_two]; rfl
theorem ringD_end (hn : NB ≤ 504) : ringD c te NB W 504 = iprop(freeD c W 0 ∗ freeD c W 1 ∗ freeD c W 2) := by
  unfold ringD; rw [atD_past c te NB W 504 0 hn, atD_past c te NB W 504 1 (by omega), atD_past c te NB W 504 2 (by omega)]
  rw [show sl (504 + 0) = 0 from by decide, show sl (504 + 1) = 1 from by decide, show sl (504 + 2) = 2 from by decide]
theorem ringD_zero : ringD c te NB W 0 = iprop(freeD c W 0 ∗ freeD c W 1 ∗ freeD c W 2) := by
  rw [ringD_start c te NB W 0 rfl, show sl 0 = 0 from by decide, show sl (0 + 1) = 1 from by decide, show sl (0 + 2) = 2 from by decide]
end

/-! ## The memory at the region's entry -/

variable (m : (ℓ : Loc nD τ sig) → Buf (Elt F) ℓ)

/-- Core `c`'s buffers at the region's entry: the launch contents after the reshapes of the weights and the copy of the rows. -/
abbrev V (c : Dev nD) (b : Ref sig .tc) : Buf (Elt F) ((c : Thread nD τ).loc b) := StableHlo.after hostOps0 (fun b => m (c, b)) b

variable (a : (pcfg0 (F := F)).Adm)

/-- The plan's two tables, as admitted. -/
abbrev teOf : S72.Idx → BitVec 32 := a.1 0
abbrev nuOf : S1.Idx → BitVec 32 := a.1 1
/-- How many blocks there are in all: seven to each row tile used. -/
abbrev blocks : ℕ := 7 * (used (nuOf a)).toNat

/-- Window `w`'s block at point `t`, read from its array at the region's entry. -/
def iblk (c : Dev nD) (w : Fin 2) (t : Fin grid0.N) : ((win0 a w).xblock (grid0.coords t)).Idx → Elt F (win0 a w).elt :=
  ((win0 a w).blk t).view.read (Elt F) (V m c (Pipeline.arrRef spec0 w))

theorem tile_lt (i : ℕ) : 7 * min i 71 < grid0.N := Nat.lt_of_lt_of_eq (by omega : 7 * min i 71 < 504) N_0.symm
/-- The rows of row tile `i`. -/
def xTile (c : Dev nD) (i : ℕ) : Vec F S1024x1024 .f32 := iblk m a c 0 ⟨7 * min i 71, tile_lt i⟩
/-- Block `n` of the three weights. -/
def gB (c : Dev nD) (n : ℕ) : Vec F S1024x512 .f32 := (blkG (expert (teOf a) n) n).view.read (Elt F) (V m c main_v0)
def uB (c : Dev nD) (n : ℕ) : Vec F S1024x512 .f32 := (blkU (expert (teOf a) n) n).view.read (Elt F) (V m c main_v1)
def dB (c : Dev nD) (n : ℕ) : Vec F S512x1024 .f32 := (blkD (expert (teOf a) n) n).view.read (Elt F) (V m c main_v2)

/-- The running sum of row tile `i` over its first `j` blocks. -/
def accN (c : Dev nD) (i : ℕ) : ℕ → FVec F S1024x1024 .f32
  | 0 => k0_pay2
  | j + 1 => accStep (narrow (xTile m a c i)) (gB m a c (7 * i + j)) (uB m a c (7 * i + j)) (accN c i j) (dB m a c (7 * i + j))

/-- What point `t` leaves in the output's staging buffer. -/
def outAt (c : Dev nD) (t : ℕ) : FVec F S1024x1024 .f32 :=
  accN m a c (tileAt (nuOf a) t) (if t < blocks a then t % 7 + 1 else 7)

theorem xTile_first (c : Dev nD) (t : Fin grid0.N) (h : t.val % 7 = 0) : (iblk m a c 0 t : Vec F S1024x1024 .f32) = xTile m a c (t.val / 7) := by
  have ht := step_lt t
  have key : ∀ s : Fin grid0.N, t = s → (iblk m a c 0 t : Vec F S1024x1024 .f32) = (iblk m a c 0 s : Vec F S1024x1024 .f32) := by
    rintro _ rfl; rfl
  exact key ⟨7 * min (t.val / 7) 71, tile_lt _⟩ (Fin.ext (by dsimp only; omega))

section
variable (hp : PlanOk (a.1 0) (a.1 1))
include hp

theorem tileAt_lt {t : ℕ} (h : t < blocks a) : tileAt (nuOf a) t = t / 7 := by
  have := hp.pos; unfold tileAt; unfold blocks at h; omega
theorem tileAt_ge {t : ℕ} (h : blocks a ≤ t) : tileAt (nuOf a) t = (used (nuOf a)).toNat - 1 := by
  have := hp.pos; unfold tileAt; unfold blocks at h; omega

theorem outAt_first (c : Dev nD) (t : Fin grid0.N) (h : t.val < blocks a) (h7 : t.val % 7 = 0) :
    outAt m a c t.val = accStep (narrow (iblk m a c 0 t : Vec F S1024x1024 .f32)) (gB m a c t.val) (uB m a c t.val) k0_pay2 (dB m a c t.val) := by
  unfold outAt
  rw [tileAt_lt a hp h, if_pos h, h7, xTile_first m a c t h7]
  show accStep _ (gB m a c (7 * (t.val / 7) + 0)) (uB m a c (7 * (t.val / 7) + 0)) _ (dB m a c (7 * (t.val / 7) + 0)) = _
  rw [show 7 * (t.val / 7) + 0 = t.val from by omega]
  rfl

theorem outAt_next (c : Dev nD) (t : ℕ) (h : t < blocks a) (h7 : t % 7 ≠ 0) :
    outAt m a c t = accStep (narrow (xTile m a c (t / 7))) (gB m a c t) (uB m a c t) (outAt m a c (t - 1)) (dB m a c t) := by
  have h' : t - 1 < blocks a := by omega
  unfold outAt
  rw [tileAt_lt a hp h, tileAt_lt a hp h', if_pos h, if_pos h', show (t - 1) / 7 = t / 7 from by omega, show (t - 1) % 7 + 1 = t % 7 from by omega]
  show accStep _ (gB m a c (7 * (t / 7) + t % 7)) (uB m a c (7 * (t / 7) + t % 7)) _ (dB m a c (7 * (t / 7) + t % 7)) = _
  rw [show 7 * (t / 7) + t % 7 = t from by omega]

theorem outAt_idle (c : Dev nD) (t : ℕ) (h0 : t ≠ 0) (h : blocks a ≤ t) : outAt m a c t = outAt m a c (t - 1) := by
  have hpos := hp.pos
  unfold outAt
  rw [tileAt_ge a hp h, if_neg (by omega)]
  by_cases h' : blocks a ≤ t - 1
  · rw [tileAt_ge a hp h', if_neg (by omega)]
  · have e : t = blocks a := by omega
    rw [tileAt_lt a hp (show t - 1 < blocks a by omega), if_pos (by omega)]
    have e1 : (t - 1) / 7 = (used (nuOf a)).toNat - 1 := by unfold blocks at e; omega
    have e2 : (t - 1) % 7 + 1 = 7 := by unfold blocks at e; omega
    rw [e1, e2]
end

/-! ## The proof data -/

/-- The invariant before point `n`: the narrowed rows kept from the tile's first point, the generator register, the plan's
    tables, the three rings. -/
def PhiR (c : Dev nD) (n : ℕ) : sProp 𝕄 :=
  iprop((∃ xb, ⌜n % 7 ≠ 0 → n < blocks a → xb = narrow (xTile m a c (n / 7))⌝ ∗ owns (c : Thread nD τ) mXb fullShare xb)
    ∗ (∃ r, prngReg c r) ∗ owns (c : Thread nD τ) mTe fullShare.right (teOf a) ∗ owns (c : Thread nD τ) mNu fullShare.right (nuOf a)
    ∗ ringG c (teOf a) (blocks a) (V m c main_v0) n ∗ ringU c (teOf a) (blocks a) (V m c main_v1) n ∗ ringD c (teOf a) (blocks a) (V m c main_v2) n)

/-- The tables, given to the one pipeline. -/
abbrev adms : (p : Fin 1) → (pcfgs (F := F) p).Adm := fun _ => a

/-- The proof data: the arrays as the region finds them; the rows' buffer left at its block, the output's at the running sum. -/
def dats (p : Fin 1) (c : Dev nD) : Dat τ (Elt F) Unit ℕ (Pipeline.UD sig nD τ) ℕ (Pipeline.pin (pcfgs (F := F)) (adms a) p) c where
  A w := V m c (Pipeline.arrRef spec0 w)
  after w t := match w with
    | ⟨0, _⟩ => iblk m a c 0 t
    | ⟨1, _⟩ => outAt m a c t.val
  Φ t := PhiR m a c t.val
  q _ := fullShare
  owed _ := 0

abbrev dat (c : Dev nD) : Dat τ (Elt F) Unit ℕ (Pipeline.UD sig nD τ) ℕ (cfg0 a) c := dats m a 0 c

theorem A_eq (c : Dev nD) (w : Fin 2) : (dat m a c).A w = V m c (Pipeline.arrRef spec0 w) := by dsimp only [dat, dats]
theorem PhiR_castSucc (c : Dev nD) (t : Fin grid0.N) : (dat m a c).Φ t.castSucc = PhiR m a c t.val := by
  dsimp only [dat, dats]; simp only [Fin.coe_castSucc]
theorem PhiR_succ (c : Dev nD) (t : Fin grid0.N) : (dat m a c).Φ t.succ = PhiR m a c (t.val + 1) := by
  dsimp only [dat, dats]; simp only [Fin.val_succ]
theorem after0 (c : Dev nD) (t : Fin grid0.N) : (dat m a c).after 0 t = iblk m a c 0 t := by dsimp only [dat, dats]; rfl
theorem after1 (c : Dev nD) (t : Fin grid0.N) : (dat m a c).after 1 t = outAt m a c t.val := by dsimp only [dat, dats]; rfl

theorem before0 (c : Dev nD) (t : Fin grid0.N) (d) : (dat m a c).before 0 t d = iblk m a c 0 t :=
  ((dat m a c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

section
variable (hp : PlanOk (a.1 0) (a.1 1))
include hp

/-- Past a tile's first point the output's buffer holds what the point before left. -/
theorem before1 (c : Dev nD) (t : Fin grid0.N) (d) (h : freshTab (nuOf a) t.val = false) :
    (dat m a c).before 1 t d = outAt m a c (t.val - 1) := by
  refine ((dat m a c).before_out_traj 1 rfl (fun _ _ => rfl) (fun s hs hi hf => ?_) t.val t rfl d).trans ?_
  · rw [after1, after1]
    exact outAt_idle m a hp c s.val hs (Nat.le_of_not_lt ((idle1_iff a hp s).mp hi))
  · rw [fresh1_eq a hp t.val t.isLt.le, h, if_neg Bool.false_ne_true, after1]
end

end Cert.Gffn

end
-- ==== Proof.RunA.lean ====
/- The grouped feed-forward's body, run at the first point (all three slots free: blocks 0 and 1 are issued, block 2 is issued, block 0 is waited for and used). -/
module

public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 2000000 in
/-- The body at the first point (all three slots free: blocks 0 and 1 are issued, block 2 is issued, block 0 is waited for and used). -/
theorem run_A (c : Dev nD) (t : Fin grid0.N) (arg4 : Memref sig .tc .vmem S1024x1024 .f32) (harg4 : arg4.IsWhole)
    (arg8 : Memref sig .tc .vmem S1024x1024 .f32) (harg8 : arg8.IsWhole)
    (te : Vec F S72 .i32) (nu : Vec F S1 .i32) (v w0 w1 w2 : BitVec 32)
    (hv : used nu = v) (hw0 : expert te t.val = w0) (hw1 : expert te (t.val + 1) = w1) (hw2 : expert te (t.val + 2) = w2) (l0 : w0.toNat < 8) (l1 : w1.toNat < 8) (l2 : w2.toNat < 8)
    (Wg : BufOf (F := F) c opG) (Wu : BufOf (F := F) c opU) (Wd : BufOf (F := F) c opD)
    (h1 : k0_cond1 (grid0.coords t) = 1#1) (h2 : k0_cond2 (grid0.coords t) v = 1#1) (h3 : k0_cond3 (grid0.coords t) v = 1#1) (h4 : k0_cond4 (grid0.coords t) v = 1#1) (h5 : k0_cond5 (grid0.coords t) v = 1#1) (h6 : k0_cond6 (grid0.coords t) v = 1#1) (h7 : k0_cond7 (grid0.coords t) = 1#1)
    (x o : Vec F S1024x1024 .f32) (xb : Vec F S1024x1024 .bf16) (W : Waits sig Unit) (K : PUnit → sProp 𝕄) :
    iprop(owns (c : Thread nD τ) arg4 fullShare x ∗ owns (c : Thread nD τ) arg8 fullShare o ∗ owns (c : Thread nD τ) mXb fullShare xb ∗ owns (c : Thread nD τ) mTe fullShare.right te ∗ owns (c : Thread nD τ) mNu fullShare.right nu ∗ freeG c Wg (sl t.val) ∗ freeG c Wg (sl (t.val + 1)) ∗ freeG c Wg (sl (t.val + 2)) ∗ freeU c Wu (sl t.val) ∗ freeU c Wu (sl (t.val + 1)) ∗ freeU c Wu (sl (t.val + 2)) ∗ freeD c Wd (sl t.val) ∗ freeD c Wd (sl (t.val + 1)) ∗ freeD c Wd (sl (t.val + 2)) ∗ owes (c : Thread nD τ) 0 W
        ∗ (iprop(owns (c : Thread nD τ) arg4 fullShare x ∗ owns (c : Thread nD τ) arg8 fullShare (accStep (narrow x) ((blkG w0 t.val).view.read (Elt F) Wg) ((blkU w0 t.val).view.read (Elt F) Wu) k0_pay2 ((blkD w0 t.val).view.read (Elt F) Wd)) ∗ owns (c : Thread nD τ) mXb fullShare (narrow x) ∗ owns (c : Thread nD τ) mTe fullShare.right te ∗ owns (c : Thread nD τ) mNu fullShare.right nu ∗ freeG c Wg (sl t.val) ∗ flyG c w1 Wg (sl (t.val + 1)) (t.val + 1) ∗ flyG c w2 Wg (sl (t.val + 2)) (t.val + 2) ∗ freeU c Wu (sl t.val) ∗ flyU c w1 Wu (sl (t.val + 1)) (t.val + 1) ∗ flyU c w2 Wu (sl (t.val + 2)) (t.val + 2) ∗ freeD c Wd (sl t.val) ∗ flyD c w1 Wd (sl (t.val + 1)) (t.val + 1) ∗ flyD c w2 Wd (sl (t.val + 2)) (t.val + 2) ∗ ∃ W', owes (c : Thread nD τ) 0 W') -∗ K ⟨⟩))
      ⊢ wp frame (wpE (defs₀ (F := F)) Variants.none c none) Set.univ (cc0_gffn (grid0.coords t) (Memref.whole main_arg0) (Memref.isWhole_whole _) (Memref.whole main_arg1) (Memref.isWhole_whole _) arg4 harg4 (Memref.whole main_v0) (Memref.isWhole_whole _) (Memref.whole main_v1) (Memref.isWhole_whole _) (Memref.whole main_v2) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  haveI : Fact (w0.toNat < 8) := ⟨l0⟩
  haveI : Fact (w1.toNat < 8) := ⟨l1⟩
  haveI : Fact (w2.toNat < 8) := ⟨l2⟩
  have c1 := chk1_of t v w0 l0
  have c2 := chk2_of t v w1 l1
  have c3 := chk3_of t v w2 l2
  have c4 := chk4_of t v w0 l0
  have eN := fact_used (F := F) nu
  have e1 := fact1 (F := F) te t h1
  have e10 := fact10 (F := F) te t h1
  have e19 := fact19 (F := F) te t
  have e28 := fact28 (F := F) te t
  rw [hv] at eN
  rw [hw0] at e1
  rw [hw1] at e10
  rw [hw2] at e19
  rw [hw0] at e28
  simp only [cc0_gffn_eq_skeleton]; unfold cc0_gffn_skel
  unfold owns flyG freeG flyU freeU flyD freeD
  iintro ⟨⟨%f4, %hf4, H4⟩, ⟨%f8, %hf8, H8⟩, ⟨%fx, %hfx, HX⟩, ⟨%fT, %hfT, HT⟩, ⟨%fN, %hfN, HN⟩, ⟨Hcg0, ⟨%fg0, Hsg0, Hwg0⟩⟩, ⟨Hcg1, ⟨%fg1, Hsg1, Hwg1⟩⟩, ⟨Hcg2, ⟨%fg2, Hsg2, Hwg2⟩⟩, ⟨Hcu0, ⟨%fu0, Hsu0, Hwu0⟩⟩, ⟨Hcu1, ⟨%fu1, Hsu1, Hwu1⟩⟩, ⟨Hcu2, ⟨%fu2, Hsu2, Hwu2⟩⟩, ⟨Hcd0, ⟨%fd0, Hsd0, Hwd0⟩⟩, ⟨Hcd1, ⟨%fd1, Hsd1, Hwd1⟩⟩, ⟨Hcd2, ⟨%fd2, Hsd2, Hwd2⟩⟩, HW, Hk⟩
  ihave Hxg0 := (splitG c w0 Wg (sl t.val) t.val).1 $$ Hwg0
  icases Hxg0 with ⟨Hhg0, Hrg0⟩
  ihave Hxg1 := (splitG c w1 Wg (sl (t.val + 1)) (t.val + 1)).1 $$ Hwg1
  icases Hxg1 with ⟨Hhg1, Hrg1⟩
  ihave Hxg2 := (splitG c w2 Wg (sl (t.val + 2)) (t.val + 2)).1 $$ Hwg2
  icases Hxg2 with ⟨Hhg2, Hrg2⟩
  ihave Hxu0 := (splitU c w0 Wu (sl t.val) t.val).1 $$ Hwu0
  icases Hxu0 with ⟨Hhu0, Hru0⟩
  ihave Hxu1 := (splitU c w1 Wu (sl (t.val + 1)) (t.val + 1)).1 $$ Hwu1
  icases Hxu1 with ⟨Hhu1, Hru1⟩
  ihave Hxu2 := (splitU c w2 Wu (sl (t.val + 2)) (t.val + 2)).1 $$ Hwu2
  icases Hxu2 with ⟨Hhu2, Hru2⟩
  ihave Hxd0 := (splitD c w0 Wd (sl t.val) t.val).1 $$ Hwd0
  icases Hxd0 with ⟨Hhd0, Hrd0⟩
  ihave Hxd1 := (splitD c w1 Wd (sl (t.val + 1)) (t.val + 1)).1 $$ Hwd1
  icases Hxd1 with ⟨Hhd1, Hrd1⟩
  ihave Hxd2 := (splitD c w2 Wd (sl (t.val + 2)) (t.val + 2)).1 $$ Hwd2
  icases Hxd2 with ⟨Hhd2, Hrd2⟩
  obtain rfl : fT = te := (View.read_whole _ _).symm.trans hfT
  obtain rfl : fN = nu := (View.read_whole _ _).symm.trans hfN
  obtain rfl := harg4.eq_unread hf4; obtain rfl := harg8.eq_unread hf8
  sl_exec (disch := first | sl_exact c1 | sl_exact c2 | sl_exact c3 | sl_exact c4 | sl_exact h1 | sl_exact h2 | sl_exact h3 | sl_exact h4 | sl_exact h5 | sl_exact h6 | sl_exact h7)
  sl_step
  iapply Hk
  isplitl [H4]
  · iexists _; isplitr; · ipureintro; exact harg4.read_unread _
    iexact H4
  isplitl [H8]
  · iexists _; isplitr; swap
    · iexact H8
    ipureintro
    exact (read_stored _ _ _ _ _).trans (pay3_step _ _ _ _ _ ((cov_tile mXb.view inb_S1024x1024_S1024x1024_0_0 _).trans ((pay1_eq _).trans (congrArg narrow ((readAt_tile _ _ _).trans (harg4.read_unread _))))) (loadG c t w0 t.val Wg _) (loadU c t w0 t.val Wu _) (cov_tile arg8.view inb_S1024x1024_S1024x1024_0_0 _) (loadD c t w0 t.val Wd _))
  isplitl [HX]
  · iexists _; isplitr; swap; · iexact HX
    ipureintro; exact (read_stored_bf _ _ _ _ _).trans ((pay1_eq _).trans (congrArg narrow ((readAt_tile _ _ _).trans (harg4.read_unread _))))
  isplitl [HT]
  · iexists _; isplitr; · ipureintro; exact hfT
    iexact HT
  isplitl [HN]
  · iexists _; isplitr; · ipureintro; exact hfN
    iexact HN
  isplitl [Hcg0 Hsg0 Hhg0 Hrg0]
  · isplitl [Hcg0]; · iexact Hcg0
    iexists _; isplitl [Hsg0]; · iexact Hsg0
    iapply (splitG c w0 Wg (sl t.val) t.val).2
    isplitl [Hhg0]; · iexact Hhg0
    iexact Hrg0
  isplitl [Hcg1 Hrg1]
  · iexists _; isplitl [Hcg1]; · iexact Hcg1
    iexact Hrg1
  isplitl [Hcg2 Hrg2]
  · iexists _; isplitl [Hcg2]; · iexact Hcg2
    iexact Hrg2
  isplitl [Hcu0 Hsu0 Hhu0 Hru0]
  · isplitl [Hcu0]; · iexact Hcu0
    iexists _; isplitl [Hsu0]; · iexact Hsu0
    iapply (splitU c w0 Wu (sl t.val) t.val).2
    isplitl [Hhu0]; · iexact Hhu0
    iexact Hru0
  isplitl [Hcu1 Hru1]
  · iexists _; isplitl [Hcu1]; · iexact Hcu1
    iexact Hru1
  isplitl [Hcu2 Hru2]
  · iexists _; isplitl [Hcu2]; · iexact Hcu2
    iexact Hru2
  isplitl [Hcd0 Hsd0 Hhd0 Hrd0]
  · isplitl [Hcd0]; · iexact Hcd0
    iexists _; isplitl [Hsd0]; · iexact Hsd0
    iapply (splitD c w0 Wd (sl t.val) t.val).2
    isplitl [Hhd0]; · iexact Hhd0
    iexact Hrd0
  isplitl [Hcd1 Hrd1]
  · iexists _; isplitl [Hcd1]; · iexact Hcd1
    iexact Hrd1
  isplitl [Hcd2 Hrd2]
  · iexists _; isplitl [Hcd2]; · iexact Hcd2
    iexact Hrd2
  iexists _; iexact HW

end Cert.Gffn

end
-- ==== Proof.RunB.lean ====
/- The grouped feed-forward's body, run at the first step of a later row tile, two further blocks being left. -/
module

public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 2000000 in
/-- The body at the first step of a later row tile, two further blocks being left. -/
theorem run_B (c : Dev nD) (t : Fin grid0.N) (arg4 : Memref sig .tc .vmem S1024x1024 .f32) (harg4 : arg4.IsWhole)
    (arg8 : Memref sig .tc .vmem S1024x1024 .f32) (harg8 : arg8.IsWhole)
    (te : Vec F S72 .i32) (nu : Vec F S1 .i32) (v w0 w2 : BitVec 32)
    (hv : used nu = v) (hw0 : expert te t.val = w0) (hw2 : expert te (t.val + 2) = w2) (l0 : w0.toNat < 8) (l2 : w2.toNat < 8)
    (Wg : BufOf (F := F) c opG) (Wu : BufOf (F := F) c opU) (Wd : BufOf (F := F) c opD)
    (h1 : ¬ k0_cond1 (grid0.coords t) = 1#1) (h4 : k0_cond4 (grid0.coords t) v = 1#1) (h5 : k0_cond5 (grid0.coords t) v = 1#1) (h6 : k0_cond6 (grid0.coords t) v = 1#1) (h7 : k0_cond7 (grid0.coords t) = 1#1)
    (x o : Vec F S1024x1024 .f32) (xb : Vec F S1024x1024 .bf16) (W : Waits sig Unit) (K : PUnit → sProp 𝕄) :
    iprop(owns (c : Thread nD τ) arg4 fullShare x ∗ owns (c : Thread nD τ) arg8 fullShare o ∗ owns (c : Thread nD τ) mXb fullShare xb ∗ owns (c : Thread nD τ) mTe fullShare.right te ∗ owns (c : Thread nD τ) mNu fullShare.right nu ∗ flyG c w0 Wg (sl t.val) t.val ∗ freeG c Wg (sl (t.val + 2)) ∗ flyU c w0 Wu (sl t.val) t.val ∗ freeU c Wu (sl (t.val + 2)) ∗ flyD c w0 Wd (sl t.val) t.val ∗ freeD c Wd (sl (t.val + 2)) ∗ owes (c : Thread nD τ) 0 W
        ∗ (iprop(owns (c : Thread nD τ) arg4 fullShare x ∗ owns (c : Thread nD τ) arg8 fullShare (accStep (narrow x) ((blkG w0 t.val).view.read (Elt F) Wg) ((blkU w0 t.val).view.read (Elt F) Wu) k0_pay2 ((blkD w0 t.val).view.read (Elt F) Wd)) ∗ owns (c : Thread nD τ) mXb fullShare (narrow x) ∗ owns (c : Thread nD τ) mTe fullShare.right te ∗ owns (c : Thread nD τ) mNu fullShare.right nu ∗ freeG c Wg (sl t.val) ∗ flyG c w2 Wg (sl (t.val + 2)) (t.val + 2) ∗ freeU c Wu (sl t.val) ∗ flyU c w2 Wu (sl (t.val + 2)) (t.val + 2) ∗ freeD c Wd (sl t.val) ∗ flyD c w2 Wd (sl (t.val + 2)) (t.val + 2) ∗ ∃ W', owes (c : Thread nD τ) 0 W') -∗ K ⟨⟩))
      ⊢ wp frame (wpE (defs₀ (F := F)) Variants.none c none) Set.univ (cc0_gffn (grid0.coords t) (Memref.whole main_arg0) (Memref.isWhole_whole _) (Memref.whole main_arg1) (Memref.isWhole_whole _) arg4 harg4 (Memref.whole main_v0) (Memref.isWhole_whole _) (Memref.whole main_v1) (Memref.isWhole_whole _) (Memref.whole main_v2) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  haveI : Fact (w0.toNat < 8) := ⟨l0⟩
  haveI : Fact (w2.toNat < 8) := ⟨l2⟩
  have c3 := chk3_of t v w2 l2
  have c4 := chk4_of t v w0 l0
  have eN := fact_used (F := F) nu
  have e19 := fact19 (F := F) te t
  have e28 := fact28 (F := F) te t
  rw [hv] at eN
  rw [hw2] at e19
  rw [hw0] at e28
  simp only [cc0_gffn_eq_skeleton]; unfold cc0_gffn_skel
  unfold owns flyG freeG flyU freeU flyD freeD
  iintro ⟨⟨%f4, %hf4, H4⟩, ⟨%f8, %hf8, H8⟩, ⟨%fx, %hfx, HX⟩, ⟨%fT, %hfT, HT⟩, ⟨%fN, %hfN, HN⟩, ⟨%fg0, Hfg0, Hrg0⟩, ⟨Hcg2, ⟨%fg2, Hsg2, Hwg2⟩⟩, ⟨%fu0, Hfu0, Hru0⟩, ⟨Hcu2, ⟨%fu2, Hsu2, Hwu2⟩⟩, ⟨%fd0, Hfd0, Hrd0⟩, ⟨Hcd2, ⟨%fd2, Hsd2, Hwd2⟩⟩, HW, Hk⟩
  ihave Hxg2 := (splitG c w2 Wg (sl (t.val + 2)) (t.val + 2)).1 $$ Hwg2
  icases Hxg2 with ⟨Hhg2, Hrg2⟩
  ihave Hxu2 := (splitU c w2 Wu (sl (t.val + 2)) (t.val + 2)).1 $$ Hwu2
  icases Hxu2 with ⟨Hhu2, Hru2⟩
  ihave Hxd2 := (splitD c w2 Wd (sl (t.val + 2)) (t.val + 2)).1 $$ Hwd2
  icases Hxd2 with ⟨Hhd2, Hrd2⟩
  obtain rfl : fT = te := (View.read_whole _ _).symm.trans hfT
  obtain rfl : fN = nu := (View.read_whole _ _).symm.trans hfN
  obtain rfl := harg4.eq_unread hf4; obtain rfl := harg8.eq_unread hf8
  sl_exec (disch := first | sl_exact c3 | sl_exact c4 | sl_exact h1 | sl_exact h4 | sl_exact h5 | sl_exact h6 | sl_exact h7)
  sl_step
  iapply Hk
  isplitl [H4]
  · iexists _; isplitr; · ipureintro; exact harg4.read_unread _
    iexact H4
  isplitl [H8]
  · iexists _; isplitr; swap
    · iexact H8
    ipureintro
    exact (read_stored _ _ _ _ _).trans (pay3_step _ _ _ _ _ ((cov_tile mXb.view inb_S1024x1024_S1024x1024_0_0 _).trans ((pay1_eq _).trans (congrArg narrow ((readAt_tile _ _ _).trans (harg4.read_unread _))))) (loadG c t w0 t.val Wg _) (loadU c t w0 t.val Wu _) (cov_tile arg8.view inb_S1024x1024_S1024x1024_0_0 _) (loadD c t w0 t.val Wd _))
  isplitl [HX]
  · iexists _; isplitr; swap; · iexact HX
    ipureintro; exact (read_stored_bf _ _ _ _ _).trans ((pay1_eq _).trans (congrArg narrow ((readAt_tile _ _ _).trans (harg4.read_unread _))))
  isplitl [HT]
  · iexists _; isplitr; · ipureintro; exact hfT
    iexact HT
  isplitl [HN]
  · iexists _; isplitr; · ipureintro; exact hfN
    iexact HN
  isplitl [Hfg0 Hfg0_dst Hfg0_src Hrg0]
  · isplitl [Hfg0]; · iexact Hfg0
    iexists _; isplitl [Hfg0_dst]; · iexact Hfg0_dst
    iapply (splitG c w0 Wg (sl t.val) t.val).2
    isplitl [Hfg0_src]; · iexact Hfg0_src
    iexact Hrg0
  isplitl [Hcg2 Hrg2]
  · iexists _; isplitl [Hcg2]; · iexact Hcg2
    iexact Hrg2
  isplitl [Hfu0 Hfu0_dst Hfu0_src Hru0]
  · isplitl [Hfu0]; · iexact Hfu0
    iexists _; isplitl [Hfu0_dst]; · iexact Hfu0_dst
    iapply (splitU c w0 Wu (sl t.val) t.val).2
    isplitl [Hfu0_src]; · iexact Hfu0_src
    iexact Hru0
  isplitl [Hcu2 Hru2]
  · iexists _; isplitl [Hcu2]; · iexact Hcu2
    iexact Hru2
  isplitl [Hfd0 Hfd0_dst Hfd0_src Hrd0]
  · isplitl [Hfd0]; · iexact Hfd0
    iexists _; isplitl [Hfd0_dst]; · iexact Hfd0_dst
    iapply (splitD c w0 Wd (sl t.val) t.val).2
    isplitl [Hfd0_src]; · iexact Hfd0_src
    iexact Hrd0
  isplitl [Hcd2 Hrd2]
  · iexists _; isplitl [Hcd2]; · iexact Hcd2
    iexact Hrd2
  iexists _; iexact HW

end Cert.Gffn

end
-- ==== Proof.RunC.lean ====
/- The grouped feed-forward's body, run inside a row tile, two further blocks being left. -/
module

public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 2000000 in
/-- The body inside a row tile, two further blocks being left. -/
theorem run_C (c : Dev nD) (t : Fin grid0.N) (arg4 : Memref sig .tc .vmem S1024x1024 .f32) (harg4 : arg4.IsWhole)
    (arg8 : Memref sig .tc .vmem S1024x1024 .f32) (harg8 : arg8.IsWhole)
    (te : Vec F S72 .i32) (nu : Vec F S1 .i32) (v w0 w2 : BitVec 32)
    (hv : used nu = v) (hw0 : expert te t.val = w0) (hw2 : expert te (t.val + 2) = w2) (l0 : w0.toNat < 8) (l2 : w2.toNat < 8)
    (Wg : BufOf (F := F) c opG) (Wu : BufOf (F := F) c opU) (Wd : BufOf (F := F) c opD)
    (h1 : ¬ k0_cond1 (grid0.coords t) = 1#1) (h4 : k0_cond4 (grid0.coords t) v = 1#1) (h5 : k0_cond5 (grid0.coords t) v = 1#1) (h6 : k0_cond6 (grid0.coords t) v = 1#1) (h7 : ¬ k0_cond7 (grid0.coords t) = 1#1)
    (x o : Vec F S1024x1024 .f32) (xb : Vec F S1024x1024 .bf16) (W : Waits sig Unit) (K : PUnit → sProp 𝕄) :
    iprop(owns (c : Thread nD τ) arg4 fullShare x ∗ owns (c : Thread nD τ) arg8 fullShare o ∗ owns (c : Thread nD τ) mXb fullShare xb ∗ owns (c : Thread nD τ) mTe fullShare.right te ∗ owns (c : Thread nD τ) mNu fullShare.right nu ∗ flyG c w0 Wg (sl t.val) t.val ∗ freeG c Wg (sl (t.val + 2)) ∗ flyU c w0 Wu (sl t.val) t.val ∗ freeU c Wu (sl (t.val + 2)) ∗ flyD c w0 Wd (sl t.val) t.val ∗ freeD c Wd (sl (t.val + 2)) ∗ owes (c : Thread nD τ) 0 W
        ∗ (iprop(owns (c : Thread nD τ) arg4 fullShare x ∗ owns (c : Thread nD τ) arg8 fullShare (accStep xb ((blkG w0 t.val).view.read (Elt F) Wg) ((blkU w0 t.val).view.read (Elt F) Wu) o ((blkD w0 t.val).view.read (Elt F) Wd)) ∗ owns (c : Thread nD τ) mXb fullShare xb ∗ owns (c : Thread nD τ) mTe fullShare.right te ∗ owns (c : Thread nD τ) mNu fullShare.right nu ∗ freeG c Wg (sl t.val) ∗ flyG c w2 Wg (sl (t.val + 2)) (t.val + 2) ∗ freeU c Wu (sl t.val) ∗ flyU c w2 Wu (sl (t.val + 2)) (t.val + 2) ∗ freeD c Wd (sl t.val) ∗ flyD c w2 Wd (sl (t.val + 2)) (t.val + 2) ∗ ∃ W', owes (c : Thread nD τ) 0 W') -∗ K ⟨⟩))
      ⊢ wp frame (wpE (defs₀ (F := F)) Variants.none c none) Set.univ (cc0_gffn (grid0.coords t) (Memref.whole main_arg0) (Memref.isWhole_whole _) (Memref.whole main_arg1) (Memref.isWhole_whole _) arg4 harg4 (Memref.whole main_v0) (Memref.isWhole_whole _) (Memref.whole main_v1) (Memref.isWhole_whole _) (Memref.whole main_v2) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  haveI : Fact (w0.toNat < 8) := ⟨l0⟩
  haveI : Fact (w2.toNat < 8) := ⟨l2⟩
  have c3 := chk3_of t v w2 l2
  have c4 := chk4_of t v w0 l0
  have eN := fact_used (F := F) nu
  have e19 := fact19 (F := F) te t
  have e28 := fact28 (F := F) te t
  rw [hv] at eN
  rw [hw2] at e19
  rw [hw0] at e28
  simp only [cc0_gffn_eq_skeleton]; unfold cc0_gffn_skel
  unfold owns flyG freeG flyU freeU flyD freeD
  iintro ⟨⟨%f4, %hf4, H4⟩, ⟨%f8, %hf8, H8⟩, ⟨%fx, %hfx, HX⟩, ⟨%fT, %hfT, HT⟩, ⟨%fN, %hfN, HN⟩, ⟨%fg0, Hfg0, Hrg0⟩, ⟨Hcg2, ⟨%fg2, Hsg2, Hwg2⟩⟩, ⟨%fu0, Hfu0, Hru0⟩, ⟨Hcu2, ⟨%fu2, Hsu2, Hwu2⟩⟩, ⟨%fd0, Hfd0, Hrd0⟩, ⟨Hcd2, ⟨%fd2, Hsd2, Hwd2⟩⟩, HW, Hk⟩
  ihave Hxg2 := (splitG c w2 Wg (sl (t.val + 2)) (t.val + 2)).1 $$ Hwg2
  icases Hxg2 with ⟨Hhg2, Hrg2⟩
  ihave Hxu2 := (splitU c w2 Wu (sl (t.val + 2)) (t.val + 2)).1 $$ Hwu2
  icases Hxu2 with ⟨Hhu2, Hru2⟩
  ihave Hxd2 := (splitD c w2 Wd (sl (t.val + 2)) (t.val + 2)).1 $$ Hwd2
  icases Hxd2 with ⟨Hhd2, Hrd2⟩
  obtain rfl : fT = te := (View.read_whole _ _).symm.trans hfT
  obtain rfl : fN = nu := (View.read_whole _ _).symm.trans hfN
  obtain rfl := harg4.eq_unread hf4; obtain rfl := harg8.eq_unread hf8
  sl_exec (disch := first | sl_exact c3 | sl_exact c4 | sl_exact h1 | sl_exact h4 | sl_exact h5 | sl_exact h6 | sl_exact h7)
  sl_step
  iapply Hk
  isplitl [H4]
  · iexists _; isplitr; · ipureintro; exact harg4.read_unread _
    iexact H4
  isplitl [H8]
  · iexists _; isplitr; swap
    · iexact H8
    ipureintro
    exact (read_stored _ _ _ _ _).trans (pay3_step _ _ _ _ _ ((readAt_tile _ _ _).trans hfx) (loadG c t w0 t.val Wg _) (loadU c t w0 t.val Wu _) ((readAt_tile _ _ _).trans (harg8.read_unread _)) (loadD c t w0 t.val Wd _))
  isplitl [HX]
  · iexists _; isplitr; · ipureintro; exact hfx
    iexact HX
  isplitl [HT]
  · iexists _; isplitr; · ipureintro; exact hfT
    iexact HT
  isplitl [HN]
  · iexists _; isplitr; · ipureintro; exact hfN
    iexact HN
  isplitl [Hfg0 Hfg0_dst Hfg0_src Hrg0]
  · isplitl [Hfg0]; · iexact Hfg0
    iexists _; isplitl [Hfg0_dst]; · iexact Hfg0_dst
    iapply (splitG c w0 Wg (sl t.val) t.val).2
    isplitl [Hfg0_src]; · iexact Hfg0_src
    iexact Hrg0
  isplitl [Hcg2 Hrg2]
  · iexists _; isplitl [Hcg2]; · iexact Hcg2
    iexact Hrg2
  isplitl [Hfu0 Hfu0_dst Hfu0_src Hru0]
  · isplitl [Hfu0]; · iexact Hfu0
    iexists _; isplitl [Hfu0_dst]; · iexact Hfu0_dst
    iapply (splitU c w0 Wu (sl t.val) t.val).2
    isplitl [Hfu0_src]; · iexact Hfu0_src
    iexact Hru0
  isplitl [Hcu2 Hru2]
  · iexists _; isplitl [Hcu2]; · iexact Hcu2
    iexact Hru2
  isplitl [Hfd0 Hfd0_dst Hfd0_src Hrd0]
  · isplitl [Hfd0]; · iexact Hfd0
    iexists _; isplitl [Hfd0_dst]; · iexact Hfd0_dst
    iapply (splitD c w0 Wd (sl t.val) t.val).2
    isplitl [Hfd0_src]; · iexact Hfd0_src
    iexact Hrd0
  isplitl [Hcd2 Hrd2]
  · iexists _; isplitl [Hcd2]; · iexact Hcd2
    iexact Hrd2
  iexists _; iexact HW

end Cert.Gffn

end
-- ==== Proof.RunD.lean ====
/- The grouped feed-forward's body, run at the last two active points, where no block is left to issue. -/
module

public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 2000000 in
/-- The body at the last two active points, where no block is left to issue. -/
theorem run_D (c : Dev nD) (t : Fin grid0.N) (arg4 : Memref sig .tc .vmem S1024x1024 .f32) (harg4 : arg4.IsWhole)
    (arg8 : Memref sig .tc .vmem S1024x1024 .f32) (harg8 : arg8.IsWhole)
    (te : Vec F S72 .i32) (nu : Vec F S1 .i32) (v w0 : BitVec 32)
    (hv : used nu = v) (hw0 : expert te t.val = w0) (l0 : w0.toNat < 8)
    (Wg : BufOf (F := F) c opG) (Wu : BufOf (F := F) c opU) (Wd : BufOf (F := F) c opD)
    (h1 : ¬ k0_cond1 (grid0.coords t) = 1#1) (h4 : ¬ k0_cond4 (grid0.coords t) v = 1#1) (h5 : k0_cond5 (grid0.coords t) v = 1#1) (h6 : k0_cond6 (grid0.coords t) v = 1#1) (h7 : ¬ k0_cond7 (grid0.coords t) = 1#1)
    (x o : Vec F S1024x1024 .f32) (xb : Vec F S1024x1024 .bf16) (W : Waits sig Unit) (K : PUnit → sProp 𝕄) :
    iprop(owns (c : Thread nD τ) arg4 fullShare x ∗ owns (c : Thread nD τ) arg8 fullShare o ∗ owns (c : Thread nD τ) mXb fullShare xb ∗ owns (c : Thread nD τ) mTe fullShare.right te ∗ owns (c : Thread nD τ) mNu fullShare.right nu ∗ flyG c w0 Wg (sl t.val) t.val ∗ flyU c w0 Wu (sl t.val) t.val ∗ flyD c w0 Wd (sl t.val) t.val ∗ owes (c : Thread nD τ) 0 W
        ∗ (iprop(owns (c : Thread nD τ) arg4 fullShare x ∗ owns (c : Thread nD τ) arg8 fullShare (accStep xb ((blkG w0 t.val).view.read (Elt F) Wg) ((blkU w0 t.val).view.read (Elt F) Wu) o ((blkD w0 t.val).view.read (Elt F) Wd)) ∗ owns (c : Thread nD τ) mXb fullShare xb ∗ owns (c : Thread nD τ) mTe fullShare.right te ∗ owns (c : Thread nD τ) mNu fullShare.right nu ∗ freeG c Wg (sl t.val) ∗ freeU c Wu (sl t.val) ∗ freeD c Wd (sl t.val) ∗ ∃ W', owes (c : Thread nD τ) 0 W') -∗ K ⟨⟩))
      ⊢ wp frame (wpE (defs₀ (F := F)) Variants.none c none) Set.univ (cc0_gffn (grid0.coords t) (Memref.whole main_arg0) (Memref.isWhole_whole _) (Memref.whole main_arg1) (Memref.isWhole_whole _) arg4 harg4 (Memref.whole main_v0) (Memref.isWhole_whole _) (Memref.whole main_v1) (Memref.isWhole_whole _) (Memref.whole main_v2) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  haveI : Fact (w0.toNat < 8) := ⟨l0⟩
  have c4 := chk4_of t v w0 l0
  have eN := fact_used (F := F) nu
  have e28 := fact28 (F := F) te t
  rw [hv] at eN
  rw [hw0] at e28
  simp only [cc0_gffn_eq_skeleton]; unfold cc0_gffn_skel
  unfold owns flyG freeG flyU freeU flyD freeD
  iintro ⟨⟨%f4, %hf4, H4⟩, ⟨%f8, %hf8, H8⟩, ⟨%fx, %hfx, HX⟩, ⟨%fT, %hfT, HT⟩, ⟨%fN, %hfN, HN⟩, ⟨%fg0, Hfg0, Hrg0⟩, ⟨%fu0, Hfu0, Hru0⟩, ⟨%fd0, Hfd0, Hrd0⟩, HW, Hk⟩
  obtain rfl : fT = te := (View.read_whole _ _).symm.trans hfT
  obtain rfl : fN = nu := (View.read_whole _ _).symm.trans hfN
  obtain rfl := harg4.eq_unread hf4; obtain rfl := harg8.eq_unread hf8
  sl_exec (disch := first | sl_exact c4 | sl_exact h1 | sl_exact h4 | sl_exact h5 | sl_exact h6 | sl_exact h7)
  sl_step
  iapply Hk
  isplitl [H4]
  · iexists _; isplitr; · ipureintro; exact harg4.read_unread _
    iexact H4
  isplitl [H8]
  · iexists _; isplitr; swap
    · iexact H8
    ipureintro
    exact (read_stored _ _ _ _ _).trans (pay3_step _ _ _ _ _ ((readAt_tile _ _ _).trans hfx) (loadG c t w0 t.val Wg _) (loadU c t w0 t.val Wu _) ((readAt_tile _ _ _).trans (harg8.read_unread _)) (loadD c t w0 t.val Wd _))
  isplitl [HX]
  · iexists _; isplitr; · ipureintro; exact hfx
    iexact HX
  isplitl [HT]
  · iexists _; isplitr; · ipureintro; exact hfT
    iexact HT
  isplitl [HN]
  · iexists _; isplitr; · ipureintro; exact hfN
    iexact HN
  isplitl [Hfg0 Hfg0_dst Hfg0_src Hrg0]
  · isplitl [Hfg0]; · iexact Hfg0
    iexists _; isplitl [Hfg0_dst]; · iexact Hfg0_dst
    iapply (splitG c w0 Wg (sl t.val) t.val).2
    isplitl [Hfg0_src]; · iexact Hfg0_src
    iexact Hrg0
  isplitl [Hfu0 Hfu0_dst Hfu0_src Hru0]
  · isplitl [Hfu0]; · iexact Hfu0
    iexists _; isplitl [Hfu0_dst]; · iexact Hfu0_dst
    iapply (splitU c w0 Wu (sl t.val) t.val).2
    isplitl [Hfu0_src]; · iexact Hfu0_src
    iexact Hru0
  isplitl [Hfd0 Hfd0_dst Hfd0_src Hrd0]
  · isplitl [Hfd0]; · iexact Hfd0
    iexists _; isplitl [Hfd0_dst]; · iexact Hfd0_dst
    iapply (splitD c w0 Wd (sl t.val) t.val).2
    isplitl [Hfd0_src]; · iexact Hfd0_src
    iexact Hrd0
  iexists _; iexact HW

end Cert.Gffn

end
-- ==== Proof.RunI.lean ====
/- The grouped feed-forward's body, run at a point past the plan, where nothing is issued, waited for or written. -/
module

public import proofs.«01_k».proof.Proof.Step

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 2000000 in
/-- The body at a point past the plan, where nothing is issued, waited for or written. -/
theorem run_I (c : Dev nD) (t : Fin grid0.N) (arg4 : Memref sig .tc .vmem S1024x1024 .f32) (harg4 : arg4.IsWhole)
    (arg8 : Memref sig .tc .vmem S1024x1024 .f32) (harg8 : arg8.IsWhole)
    (te : Vec F S72 .i32) (nu : Vec F S1 .i32) (v  : BitVec 32)
    (hv : used nu = v)
    (h1 : ¬ k0_cond1 (grid0.coords t) = 1#1) (h4 : ¬ k0_cond4 (grid0.coords t) v = 1#1) (h5 : ¬ k0_cond5 (grid0.coords t) v = 1#1) (h6 : ¬ k0_cond6 (grid0.coords t) v = 1#1) (W : Waits sig Unit) (K : PUnit → sProp 𝕄) :
    iprop(owns (c : Thread nD τ) mTe fullShare.right te ∗ owns (c : Thread nD τ) mNu fullShare.right nu ∗ owes (c : Thread nD τ) 0 W
        ∗ (iprop(owns (c : Thread nD τ) mTe fullShare.right te ∗ owns (c : Thread nD τ) mNu fullShare.right nu ∗ ∃ W', owes (c : Thread nD τ) 0 W') -∗ K ⟨⟩))
      ⊢ wp frame (wpE (defs₀ (F := F)) Variants.none c none) Set.univ (cc0_gffn (grid0.coords t) (Memref.whole main_arg0) (Memref.isWhole_whole _) (Memref.whole main_arg1) (Memref.isWhole_whole _) arg4 harg4 (Memref.whole main_v0) (Memref.isWhole_whole _) (Memref.whole main_v1) (Memref.isWhole_whole _) (Memref.whole main_v2) (Memref.isWhole_whole _) arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  have eN := fact_used (F := F) nu
  rw [hv] at eN
  simp only [cc0_gffn_eq_skeleton]; unfold cc0_gffn_skel
  unfold owns
  iintro ⟨⟨%fT, %hfT, HT⟩, ⟨%fN, %hfN, HN⟩, HW, Hk⟩
  obtain rfl : fT = te := (View.read_whole _ _).symm.trans hfT
  obtain rfl : fN = nu := (View.read_whole _ _).symm.trans hfN
  sl_exec (disch := first | sl_exact h1 | sl_exact h4 | sl_exact h5 | sl_exact h6)
  sl_step
  iapply Hk
  isplitl [HT]
  · iexists _; isplitr; · ipureintro; exact hfT
    iexact HT
  isplitl [HN]
  · iexists _; isplitr; · ipureintro; exact hfN
    iexact HN
  iexists _; iexact HW

end Cert.Gffn

end
-- ==== Proof.Body.lean ====
/- The body at every grid point, from the invariant to the invariant. -/
module

public import proofs.«01_k».proof.Proof.Inv
public import proofs.«01_k».proof.Proof.RunA
public import proofs.«01_k».proof.Proof.RunB
public import proofs.«01_k».proof.Proof.RunC
public import proofs.«01_k».proof.Proof.RunD
public import proofs.«01_k».proof.Proof.RunI

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (a : (pcfg0 (F := F)).Adm)

/-! ## The body's staging buffers and its call -/

abbrev ms0 (t : Fin grid0.N) : Memref sig .tc .vmem S1024x1024 .f32 := spec0_0.stage ((cfg0 a).slots t 0)
abbrev ms1 (t : Fin grid0.N) : Memref sig .tc .vmem S1024x1024 .f32 := spec0_1.stage ((cfg0 a).slots t 1)
theorem hms0 (t : Fin grid0.N) : (ms0 a t).IsWhole := hstage0_0 (((cfg0 a).slots t 0).cast nbuf0_0)
theorem hms1 (t : Fin grid0.N) : (ms1 a t).IsWhole := hstage0_1 (((cfg0 a).slots t 1).cast nbuf0_1)

/-- The body as point `t` calls it. -/
def bodyAt (t : Fin grid0.N) : Prog (TpuEff nD τ sig (Elt F) Λ₀ .tc) PUnit :=
  cc0_gffn (grid0.coords t) (Memref.whole main_arg0) (Memref.isWhole_whole _) (Memref.whole main_arg1) (Memref.isWhole_whole _) (ms0 a t) (hms0 a t) (Memref.whole main_v0) (Memref.isWhole_whole _) (Memref.whole main_v1) (Memref.isWhole_whole _) (Memref.whole main_v2) (Memref.isWhole_whole _) (ms1 a t) (hms1 a t) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem defs₀_row (t : Fin grid0.N) : defs₀ (F := F) .tc (cfg0 a).body ((cfg0 a).bodyArgs t ((cfg0 a).slots t)) = bodyAt a t := by
  unfold defs₀; rw [Defs.onTc_tc]; rfl

/-- What the body is called with at point `t`, -/
def bodyPre (c : Dev nD) (t : Fin grid0.N) : sProp 𝕄 :=
  iprop((dat m a c).Φ t.castSucc ∗ (dat m a c).owesAt () t.castSucc
    ∗ (∃ d, owns (c : Thread nD τ) (ms0 a t) fullShare ((dat m a c).before 0 t d))
    ∗ (∃ d, owns (c : Thread nD τ) (ms1 a t) fullShare ((dat m a c).before 1 t d)))
/-- and what it returns. -/
def bodyPost (c : Dev nD) (t : Fin grid0.N) : sProp 𝕄 :=
  iprop((dat m a c).Φ t.succ ∗ (dat m a c).owesAt () t.succ ∗ (dat m a c).leavesExact 0 t ∗ (dat m a c).leavesExact 1 t)

theorem leaves0 (c : Dev nD) (t : Fin grid0.N) : (dat m a c).leavesExact 0 t = owns (c : Thread nD τ) (ms0 a t) fullShare (iblk m a c 0 t) := by
  rw [← after0]; rfl

section
variable (hp : PlanOk (a.1 0) (a.1 1))
include hp

theorem leaves1_live (c : Dev nD) (t : Fin grid0.N) (h : t.val < blocks a) :
    (dat m a c).leavesExact 1 t = owns (c : Thread nD τ) (ms1 a t) fullShare (outAt m a c t.val) := by
  have e : (cfg0 a).idle 1 (grid0.coords t) = false := Bool.eq_false_iff.mpr fun x => (idle1_iff a hp t).mp x h
  unfold Dat.leavesExact
  change (match (cfg0 a).idle 1 (grid0.coords t) with | true => _ | false => _) = _
  rw [e, after1]; rfl
theorem leaves1_idle (c : Dev nD) (t : Fin grid0.N) (h : blocks a ≤ t.val) (d) :
    (owns (c : Thread nD τ) (ms1 a t) fullShare ((dat m a c).before 1 t d) : sProp 𝕄) ⊢ (dat m a c).leavesExact 1 t := by
  have hpos : 1 ≤ (used (nuOf a)).toNat := hp.pos
  have hb : blocks a = 7 * (used (nuOf a)).toNat := rfl
  have ht := step_lt t
  have e : (cfg0 a).idle 1 (grid0.coords t) = true := (idle1_iff a hp t).mpr (Nat.not_lt.mpr h)
  by_cases hf : (win0 a 1).flush t = true
  · have ef : freshTab (nuOf a) t.val = false := decide_eq_false (by omega)
    have e' : (dat m a c).leavesExact 1 t = owns (c : Thread nD τ) (ms1 a t) fullShare (outAt m a c t.val) := by
      unfold Dat.leavesExact
      change (match (cfg0 a).idle 1 (grid0.coords t) with | true => (match (win0 a 1).flush t with | false => _ | true => _) | false => _) = _
      rw [e, hf, after1]; rfl
    rw [e', before1 m a hp c t d ef, ← outAt_idle m a hp c t.val (by omega) h]
  · rw [Dat.leavesExact_idle (dat m a c) 1 t e (Bool.eq_false_iff.mpr hf)]
    iintro H; iexists d; iexact H

/-- Every block's expert is one of the eight. -/
theorem exp_lt (n : ℕ) : (expert (teOf a) n).toNat < 8 := hp.expert_lt n

set_option maxHeartbeats 4000000 in
/-- The first point. -/
theorem body_A (c : Dev nD) (t : Fin grid0.N) (h0 : t.val = 0) :
    bodyPre m a c t ⊢ wp frame (wpE (defs₀ (F := F)) Variants.none c none) Set.univ (bodyAt a t) (fun _ => bodyPost m a c t) := by
  have hpos : 1 ≤ (used (nuOf a)).toNat := hp.pos
  have hle : (used (nuOf a)).toNat ≤ 72 := hp.le
  have hb : blocks a = 7 * (used (nuOf a)).toNat := rfl
  have ht := step_lt t
  unfold bodyPre bodyPost bodyAt
  rw [PhiR_castSucc, PhiR_succ, leaves0]
  simp only [before0]
  rw [leaves1_live m a hp c t (by omega)]
  unfold Dat.owesAt Pipeline.owesWithin PhiR
  rw [show (dat m a c).owed t.castSucc = 0 from rfl, show (dat m a c).owed t.succ = 0 from rfl]
  rw [ringG_start c (teOf a) (blocks a) (V m c main_v0) t.val h0, ringU_start c (teOf a) (blocks a) (V m c main_v1) t.val h0, ringD_start c (teOf a) (blocks a) (V m c main_v2) t.val h0,
    ringG_one c (teOf a) (blocks a) (V m c main_v0) t.val h0 (by omega), ringU_one c (teOf a) (blocks a) (V m c main_v1) t.val h0 (by omega), ringD_one c (teOf a) (blocks a) (V m c main_v2) t.val h0 (by omega)]
  iintro ⟨⟨⟨%xb, %hxb, HX⟩, Hr, HT, HN, ⟨HG0, HG1, HG2⟩, ⟨HU0, HU1, HU2⟩, ⟨HD0, HD1, HD2⟩⟩, ⟨%W, -, HW⟩, ⟨%d0, H0⟩, ⟨%d1, H1⟩⟩
  iapply (run_A c t (ms0 a t) (hms0 a t) (ms1 a t) (hms1 a t) (teOf a) (nuOf a) (used (nuOf a)) (expert (teOf a) t.val) (expert (teOf a) (t.val + 1)) (expert (teOf a) (t.val + 2)) rfl rfl rfl rfl (exp_lt a hp _) (exp_lt a hp _) (exp_lt a hp _) (V m c main_v0) (V m c main_v1) (V m c main_v2) ((cond1_iff t).mpr h0) ((cond2_iff t (used (nuOf a)) hle).mpr (by omega)) ((cond3_iff t (used (nuOf a)) hle).mpr (by omega)) ((cond4_iff t (used (nuOf a)) hle).mpr (by omega)) ((cond5_iff t (used (nuOf a)) hle).mpr (by omega)) ((cond6_iff t (used (nuOf a)) hle).mpr (by omega)) ((cond7_iff t).mpr (by omega)) (iblk m a c 0 t) ((dat m a c).before 1 t d1) xb W _)
  isplitl [H0]; · iexact H0
  isplitl [H1]; · iexact H1
  isplitl [HX]; · iexact HX
  isplitl [HT]; · iexact HT
  isplitl [HN]; · iexact HN
  isplitl [HG0]; · iexact HG0
  isplitl [HG1]; · iexact HG1
  isplitl [HG2]; · iexact HG2
  isplitl [HU0]; · iexact HU0
  isplitl [HU1]; · iexact HU1
  isplitl [HU2]; · iexact HU2
  isplitl [HD0]; · iexact HD0
  isplitl [HD1]; · iexact HD1
  isplitl [HD2]; · iexact HD2
  isplitl [HW]; · iexact HW
  iintro ⟨H0, H1, HX, HT, HN, HG0, HG1, HG2, HU0, HU1, HU2, HD0, HD1, HD2, ⟨%W', HW'⟩⟩
  isplitl [HX Hr HT HN HG0 HG1 HG2 HU0 HU1 HU2 HD0 HD1 HD2]
  · isplitl [HX]
    · iexists _; isplitr; swap; · iexact HX
      ipureintro; exact fun _ _ => by rw [xTile_first m a c t (by omega), show (t.val + 1) / 7 = t.val / 7 from by omega]
    isplitl [Hr]; · iexact Hr
    isplitl [HT]; · iexact HT
    isplitl [HN]; · iexact HN
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  rw [outAt_first m a hp c t (by omega) (by omega)]
  unfold gB uB dB
  iexact H1

set_option maxHeartbeats 4000000 in
/-- A later tile's first point, two further blocks being left. -/
theorem body_B (c : Dev nD) (t : Fin grid0.N) (h0 : 0 < t.val) (hn : t.val + 2 < blocks a) (h7 : t.val % 7 = 0) :
    bodyPre m a c t ⊢ wp frame (wpE (defs₀ (F := F)) Variants.none c none) Set.univ (bodyAt a t) (fun _ => bodyPost m a c t) := by
  have hpos : 1 ≤ (used (nuOf a)).toNat := hp.pos
  have hle : (used (nuOf a)).toNat ≤ 72 := hp.le
  have hb : blocks a = 7 * (used (nuOf a)).toNat := rfl
  have ht := step_lt t
  unfold bodyPre bodyPost bodyAt
  rw [PhiR_castSucc, PhiR_succ, leaves0]
  simp only [before0]
  rw [leaves1_live m a hp c t (by omega)]
  unfold Dat.owesAt Pipeline.owesWithin PhiR
  rw [show (dat m a c).owed t.castSucc = 0 from rfl, show (dat m a c).owed t.succ = 0 from rfl]
  rw [ringG_at c (teOf a) (blocks a) (V m c main_v0) t.val h0 (by omega), ringU_at c (teOf a) (blocks a) (V m c main_v1) t.val h0 (by omega), ringD_at c (teOf a) (blocks a) (V m c main_v2) t.val h0 (by omega),
    ringG_more c (teOf a) (blocks a) (V m c main_v0) t.val h0 hn, ringU_more c (teOf a) (blocks a) (V m c main_v1) t.val h0 hn, ringD_more c (teOf a) (blocks a) (V m c main_v2) t.val h0 hn]
  iintro ⟨⟨⟨%xb, %hxb, HX⟩, Hr, HT, HN, ⟨HG0, HG1, HG2⟩, ⟨HU0, HU1, HU2⟩, ⟨HD0, HD1, HD2⟩⟩, ⟨%W, -, HW⟩, ⟨%d0, H0⟩, ⟨%d1, H1⟩⟩
  iapply (run_B c t (ms0 a t) (hms0 a t) (ms1 a t) (hms1 a t) (teOf a) (nuOf a) (used (nuOf a)) (expert (teOf a) t.val) (expert (teOf a) (t.val + 2)) rfl rfl rfl (exp_lt a hp _) (exp_lt a hp _) (V m c main_v0) (V m c main_v1) (V m c main_v2) (fun x => absurd ((cond1_iff t).mp x) (by omega)) ((cond4_iff t (used (nuOf a)) hle).mpr (by omega)) ((cond5_iff t (used (nuOf a)) hle).mpr (by omega)) ((cond6_iff t (used (nuOf a)) hle).mpr (by omega)) ((cond7_iff t).mpr (by omega)) (iblk m a c 0 t) ((dat m a c).before 1 t d1) xb W _)
  isplitl [H0]; · iexact H0
  isplitl [H1]; · iexact H1
  isplitl [HX]; · iexact HX
  isplitl [HT]; · iexact HT
  isplitl [HN]; · iexact HN
  isplitl [HG0]; · iexact HG0
  isplitl [HG2]; · iexact HG2
  isplitl [HU0]; · iexact HU0
  isplitl [HU2]; · iexact HU2
  isplitl [HD0]; · iexact HD0
  isplitl [HD2]; · iexact HD2
  isplitl [HW]; · iexact HW
  iintro ⟨H0, H1, HX, HT, HN, HG0, HG2, HU0, HU2, HD0, HD2, ⟨%W', HW'⟩⟩
  isplitl [HX Hr HT HN HG0 HG1 HG2 HU0 HU1 HU2 HD0 HD1 HD2]
  · isplitl [HX]
    · iexists _; isplitr; swap; · iexact HX
      ipureintro; exact fun _ _ => by rw [xTile_first m a c t (by omega), show (t.val + 1) / 7 = t.val / 7 from by omega]
    isplitl [Hr]; · iexact Hr
    isplitl [HT]; · iexact HT
    isplitl [HN]; · iexact HN
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  rw [outAt_first m a hp c t (by omega) (by omega)]
  unfold gB uB dB
  iexact H1

set_option maxHeartbeats 4000000 in
/-- A later point of a tile, two further blocks being left. -/
theorem body_C (c : Dev nD) (t : Fin grid0.N) (h0 : 0 < t.val) (hn : t.val + 2 < blocks a) (h7 : t.val % 7 ≠ 0) :
    bodyPre m a c t ⊢ wp frame (wpE (defs₀ (F := F)) Variants.none c none) Set.univ (bodyAt a t) (fun _ => bodyPost m a c t) := by
  have hpos : 1 ≤ (used (nuOf a)).toNat := hp.pos
  have hle : (used (nuOf a)).toNat ≤ 72 := hp.le
  have hb : blocks a = 7 * (used (nuOf a)).toNat := rfl
  have ht := step_lt t
  unfold bodyPre bodyPost bodyAt
  rw [PhiR_castSucc, PhiR_succ, leaves0]
  simp only [before0]
  rw [leaves1_live m a hp c t (by omega)]
  unfold Dat.owesAt Pipeline.owesWithin PhiR
  rw [show (dat m a c).owed t.castSucc = 0 from rfl, show (dat m a c).owed t.succ = 0 from rfl]
  rw [ringG_at c (teOf a) (blocks a) (V m c main_v0) t.val h0 (by omega), ringU_at c (teOf a) (blocks a) (V m c main_v1) t.val h0 (by omega), ringD_at c (teOf a) (blocks a) (V m c main_v2) t.val h0 (by omega),
    ringG_more c (teOf a) (blocks a) (V m c main_v0) t.val h0 hn, ringU_more c (teOf a) (blocks a) (V m c main_v1) t.val h0 hn, ringD_more c (teOf a) (blocks a) (V m c main_v2) t.val h0 hn]
  iintro ⟨⟨⟨%xb, %hxb, HX⟩, Hr, HT, HN, ⟨HG0, HG1, HG2⟩, ⟨HU0, HU1, HU2⟩, ⟨HD0, HD1, HD2⟩⟩, ⟨%W, -, HW⟩, ⟨%d0, H0⟩, ⟨%d1, H1⟩⟩
  iapply (run_C c t (ms0 a t) (hms0 a t) (ms1 a t) (hms1 a t) (teOf a) (nuOf a) (used (nuOf a)) (expert (teOf a) t.val) (expert (teOf a) (t.val + 2)) rfl rfl rfl (exp_lt a hp _) (exp_lt a hp _) (V m c main_v0) (V m c main_v1) (V m c main_v2) (fun x => absurd ((cond1_iff t).mp x) (by omega)) ((cond4_iff t (used (nuOf a)) hle).mpr (by omega)) ((cond5_iff t (used (nuOf a)) hle).mpr (by omega)) ((cond6_iff t (used (nuOf a)) hle).mpr (by omega)) (fun x => absurd ((cond7_iff t).mp x) (by omega)) (iblk m a c 0 t) ((dat m a c).before 1 t d1) xb W _)
  isplitl [H0]; · iexact H0
  isplitl [H1]; · iexact H1
  isplitl [HX]; · iexact HX
  isplitl [HT]; · iexact HT
  isplitl [HN]; · iexact HN
  isplitl [HG0]; · iexact HG0
  isplitl [HG2]; · iexact HG2
  isplitl [HU0]; · iexact HU0
  isplitl [HU2]; · iexact HU2
  isplitl [HD0]; · iexact HD0
  isplitl [HD2]; · iexact HD2
  isplitl [HW]; · iexact HW
  iintro ⟨H0, H1, HX, HT, HN, HG0, HG2, HU0, HU2, HD0, HD2, ⟨%W', HW'⟩⟩
  isplitl [HX Hr HT HN HG0 HG1 HG2 HU0 HU1 HU2 HD0 HD1 HD2]
  · isplitl [HX]
    · iexists _; isplitr; swap; · iexact HX
      ipureintro; exact fun h _ => by rw [hxb (by omega) (by omega), show (t.val + 1) / 7 = t.val / 7 from by omega]
    isplitl [Hr]; · iexact Hr
    isplitl [HT]; · iexact HT
    isplitl [HN]; · iexact HN
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  rw [outAt_next m a hp c t.val (by omega) (by omega), ← before1 m a hp c t d1 (decide_eq_false (by omega)), ← hxb (by omega) (by omega)]
  unfold gB uB dB
  iexact H1

set_option maxHeartbeats 4000000 in
/-- One of the last two points that compute. -/
theorem body_D (c : Dev nD) (t : Fin grid0.N) (h0 : 0 < t.val) (hn : t.val < blocks a) (hn2 : blocks a ≤ t.val + 2) :
    bodyPre m a c t ⊢ wp frame (wpE (defs₀ (F := F)) Variants.none c none) Set.univ (bodyAt a t) (fun _ => bodyPost m a c t) := by
  have hpos : 1 ≤ (used (nuOf a)).toNat := hp.pos
  have hle : (used (nuOf a)).toNat ≤ 72 := hp.le
  have hb : blocks a = 7 * (used (nuOf a)).toNat := rfl
  have ht := step_lt t
  unfold bodyPre bodyPost bodyAt
  rw [PhiR_castSucc, PhiR_succ, leaves0]
  simp only [before0]
  rw [leaves1_live m a hp c t (by omega)]
  unfold Dat.owesAt Pipeline.owesWithin PhiR
  rw [show (dat m a c).owed t.castSucc = 0 from rfl, show (dat m a c).owed t.succ = 0 from rfl]
  rw [ringG_at c (teOf a) (blocks a) (V m c main_v0) t.val h0 hn, ringU_at c (teOf a) (blocks a) (V m c main_v1) t.val h0 hn, ringD_at c (teOf a) (blocks a) (V m c main_v2) t.val h0 hn,
    ringG_less c (teOf a) (blocks a) (V m c main_v0) t.val h0 hn2, ringU_less c (teOf a) (blocks a) (V m c main_v1) t.val h0 hn2, ringD_less c (teOf a) (blocks a) (V m c main_v2) t.val h0 hn2]
  iintro ⟨⟨⟨%xb, %hxb, HX⟩, Hr, HT, HN, ⟨HG0, HG1, HG2⟩, ⟨HU0, HU1, HU2⟩, ⟨HD0, HD1, HD2⟩⟩, ⟨%W, -, HW⟩, ⟨%d0, H0⟩, ⟨%d1, H1⟩⟩
  iapply (run_D c t (ms0 a t) (hms0 a t) (ms1 a t) (hms1 a t) (teOf a) (nuOf a) (used (nuOf a)) (expert (teOf a) t.val) rfl rfl (exp_lt a hp _) (V m c main_v0) (V m c main_v1) (V m c main_v2) (fun x => absurd ((cond1_iff t).mp x) (by omega)) (fun x => absurd ((cond4_iff t (used (nuOf a)) hle).mp x) (by omega)) ((cond5_iff t (used (nuOf a)) hle).mpr (by omega)) ((cond6_iff t (used (nuOf a)) hle).mpr (by omega)) (fun x => absurd ((cond7_iff t).mp x) (by omega)) (iblk m a c 0 t) ((dat m a c).before 1 t d1) xb W _)
  isplitl [H0]; · iexact H0
  isplitl [H1]; · iexact H1
  isplitl [HX]; · iexact HX
  isplitl [HT]; · iexact HT
  isplitl [HN]; · iexact HN
  isplitl [HG0]; · iexact HG0
  isplitl [HU0]; · iexact HU0
  isplitl [HD0]; · iexact HD0
  isplitl [HW]; · iexact HW
  iintro ⟨H0, H1, HX, HT, HN, HG0, HU0, HD0, ⟨%W', HW'⟩⟩
  isplitl [HX Hr HT HN HG0 HG1 HG2 HU0 HU1 HU2 HD0 HD1 HD2]
  · isplitl [HX]
    · iexists _; isplitr; swap; · iexact HX
      ipureintro; exact fun h _ => by rw [hxb (by omega) (by omega), show (t.val + 1) / 7 = t.val / 7 from by omega]
    isplitl [Hr]; · iexact Hr
    isplitl [HT]; · iexact HT
    isplitl [HN]; · iexact HN
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  rw [outAt_next m a hp c t.val (by omega) (by omega), ← before1 m a hp c t d1 (decide_eq_false (by omega)), ← hxb (by omega) (by omega)]
  unfold gB uB dB
  iexact H1

set_option maxHeartbeats 4000000 in
/-- A point past the last block. -/
theorem body_I (c : Dev nD) (t : Fin grid0.N) (h0 : 0 < t.val) (hn : blocks a ≤ t.val) :
    bodyPre m a c t ⊢ wp frame (wpE (defs₀ (F := F)) Variants.none c none) Set.univ (bodyAt a t) (fun _ => bodyPost m a c t) := by
  have hpos : 1 ≤ (used (nuOf a)).toNat := hp.pos
  have hle : (used (nuOf a)).toNat ≤ 72 := hp.le
  have hb : blocks a = 7 * (used (nuOf a)).toNat := rfl
  have ht := step_lt t
  unfold bodyPre bodyPost bodyAt
  rw [PhiR_castSucc, PhiR_succ, leaves0]
  simp only [before0]
  unfold Dat.owesAt Pipeline.owesWithin PhiR
  rw [show (dat m a c).owed t.castSucc = 0 from rfl, show (dat m a c).owed t.succ = 0 from rfl]
  rw [ringG_rest c (teOf a) (blocks a) (V m c main_v0) t.val h0 hn, ringU_rest c (teOf a) (blocks a) (V m c main_v1) t.val h0 hn, ringD_rest c (teOf a) (blocks a) (V m c main_v2) t.val h0 hn,
    ringG_less c (teOf a) (blocks a) (V m c main_v0) t.val h0 (by omega), ringU_less c (teOf a) (blocks a) (V m c main_v1) t.val h0 (by omega), ringD_less c (teOf a) (blocks a) (V m c main_v2) t.val h0 (by omega)]
  iintro ⟨⟨⟨%xb, %hxb, HX⟩, Hr, HT, HN, ⟨HG0, HG1, HG2⟩, ⟨HU0, HU1, HU2⟩, ⟨HD0, HD1, HD2⟩⟩, ⟨%W, -, HW⟩, ⟨%d0, H0⟩, ⟨%d1, H1⟩⟩
  iapply (run_I c t (ms0 a t) (hms0 a t) (ms1 a t) (hms1 a t) (teOf a) (nuOf a) (used (nuOf a))  rfl   (fun x => absurd ((cond1_iff t).mp x) (by omega)) (fun x => absurd ((cond4_iff t (used (nuOf a)) hle).mp x) (by omega)) (fun x => absurd ((cond5_iff t (used (nuOf a)) hle).mp x) (by omega)) (fun x => absurd ((cond6_iff t (used (nuOf a)) hle).mp x) (by omega)) W _)
  isplitl [HT]; · iexact HT
  isplitl [HN]; · iexact HN
  isplitl [HW]; · iexact HW
  iintro ⟨HT, HN, ⟨%W', HW'⟩⟩
  isplitl [HX Hr HT HN HG0 HG1 HG2 HU0 HU1 HU2 HD0 HD1 HD2]
  · isplitl [HX]
    · iexists _; isplitr; swap; · iexact HX
      ipureintro; exact fun _ h => absurd h (by omega)
    isplitl [Hr]; · iexact Hr
    isplitl [HT]; · iexact HT
    isplitl [HN]; · iexact HN
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  iapply (leaves1_idle m a hp c t hn d1)
  iexact H1

/-- The body at any point. -/
theorem sound_body (c : Dev nD) (t : Fin grid0.N) :
    bodyPre m a c t ⊢ wp frame (wpE (defs₀ (F := F)) Variants.none c none) Set.univ (bodyAt a t) (fun _ => bodyPost m a c t) := by
  by_cases h0 : t.val = 0
  · exact body_A m a hp c t h0
  have h0' : 0 < t.val := Nat.pos_of_ne_zero h0
  by_cases hn : t.val + 2 < blocks a
  · by_cases h7 : t.val % 7 = 0
    · exact body_B m a hp c t h0' hn h7
    · exact body_C m a hp c t h0' hn h7
  · by_cases hn2 : t.val < blocks a
    · exact body_D m a hp c t h0' hn2 (Nat.le_of_not_lt hn)
    · exact body_I m a hp c t h0' (Nat.le_of_not_lt hn2)

/-- The library's body obligation, at every point. -/
theorem body_obligation (c : Dev nD) : BodyObligation (dat m a c) (defs₀ (F := F)) Variants.none () Set.univ := fun t => by
  rw [bigSep_W0, bigSep_W0, defs₀_row a t]
  exact triple_restated (sound_body m a hp c t) rfl .rfl fun _ => .rfl
end

end Cert.Gffn

end
-- ==== Proof.Launch.lean ====
/- The launch: what the region is handed is the invariant, the invariant gives it back; the whole run, and what it leaves unchanged. -/
module

public import proofs.«01_k».proof.Proof.Body

@[expose] public section

set_option maxRecDepth 16384

noncomputable section

namespace Cert.Gffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operations before the region -/

theorem hostOps0_fresh : (hostOps0 (F := F)).Forall fun op => op.fresh = ∅ := by
  simp only [List.Forall]; repeat' constructor

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_prefix (pcfgs (F := F)) 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## What the region is handed -/

/-- The kernel's own nine cells. -/
def cells : Fin 9 → SemLoc sig := ![SemLoc.dma 4, SemLoc.dma 5, SemLoc.dma 6, SemLoc.dma 7, SemLoc.dma 8, SemLoc.dma 9, SemLoc.dma 10, SemLoc.dma 11, SemLoc.dma 12]
theorem cells_own : Pipeline.OwnSemFacts spec0 cells := by decide
omit [FloatOps F] in
theorem cells_eq (c : Dev nD) :
    (Pipeline.ownSems0 (Ix := Unit) (Name := ℕ) (U := Pipeline.UD sig nD τ) (Lvl := ℕ) (Val := Elt F) (τ := τ) cells c : sProp 𝕄)
      = iprop(cellP c 0 0 ∗ cellP c 0 1 ∗ cellP c 0 2 ∗ cellP c 1 0 ∗ cellP c 1 1 ∗ cellP c 1 2 ∗ cellP c 2 0 ∗ cellP c 2 1 ∗ cellP c 2 2) := by
  rw [Pipeline.ownSems0_eq_of_list c cells [0, 1, 2, 3, 4, 5, 6, 7, 8] (by decide) (by decide)]; rfl

/-- The three weight arrays the body copies blocks from. -/
def weights : Finset (Ref sig .tc) := {main_v0, main_v1, main_v2}
theorem weights_sub : weights ⊆ Pipeline.restRefsP sig pre0 spec0 := by decide
theorem weights_eq (c : Dev nD) :
    (bigSep weights (fun b => ((c : Thread nD τ).loc b) ↦{fullShare} V m c b) : sProp 𝕄)
      = iprop(held c opG (V m c main_v0) ∗ held c opU (V m c main_v1) ∗ held c opD (V m c main_v2)) := by
  rw [BI.bigSep_eq_bigSepL_of_eq [main_v0, main_v1, main_v2] (by decide) (by decide)]; rfl

theorem region_eq (c : Dev nD) : (Pipeline.ΦD cells spec0 weights (V m) c : sProp 𝕄)
    = iprop(((∃ d, owns (c : Thread nD τ) mXb fullShare d) ∗ (∃ d, owns (c : Thread nD τ) scG fullShare d) ∗ (∃ d, owns (c : Thread nD τ) scU fullShare d) ∗ (∃ d, owns (c : Thread nD τ) scD fullShare d))
      ∗ (∃ r, prngReg c r)
      ∗ (cellP c 0 0 ∗ cellP c 0 1 ∗ cellP c 0 2 ∗ cellP c 1 0 ∗ cellP c 1 1 ∗ cellP c 1 2 ∗ cellP c 2 0 ∗ cellP c 2 1 ∗ cellP c 2 2)
      ∗ (held c opG (V m c main_v0) ∗ held c opU (V m c main_v1) ∗ held c opD (V m c main_v2))) := by
  rw [Pipeline.ΦD_eq, scopedRest0_eq, cells_eq, weights_eq]; simp only [mXb, scG, scU, scD, owns_whole]; try rfl

variable (a : (pcfg0 (F := F)).Adm)

theorem tables_eq (c : Dev nD) : (Pipeline.ΦT pre0 a.1 c : sProp 𝕄)
    = iprop(owns (c : Thread nD τ) mTe fullShare.right (teOf a) ∗ owns (c : Thread nD τ) mNu fullShare.right (nuOf a)) := by
  simp only [mTe, mNu, owns_whole]
  exact bigSep_univ_eq_bigSepL [(0 : Fin 2), (1 : Fin 2)] (by decide) (by decide) _

theorem hin (c : Dev nD) : iprop(Pipeline.ΦD cells spec0 weights (V m) c ∗ Pipeline.ΦT pre0 a.1 c) ⊢ (dat m a c).Φ 0 := by
  rw [region_eq, tables_eq, show (dat m a c).Φ 0 = PhiR m a c 0 from rfl]
  unfold PhiR
  rw [ringG_zero, ringU_zero, ringD_zero]
  iintro ⟨⟨⟨HX, HSG, HSU, HSD⟩, Hr, ⟨HG0, HG1, HG2, HU0, HU1, HU2, HD0, HD1, HD2⟩, ⟨HWG, HWU, HWD⟩⟩, HT, HN⟩
  isplitl [HX]
  · icases HX with ⟨%d, HX⟩
    iexists d; isplitr; swap; · iexact HX
    ipureintro; exact fun h => absurd rfl h
  isplitl [Hr]; · iexact Hr
  isplitl [HT]; · iexact HT
  isplitl [HN]; · iexact HN
  isplitl [HSG HG0 HG1 HG2 HWG]
  · iapply (ringG_in c (V m c main_v0))
    isplitl [HSG]; · iexact HSG
    isplitl [HG0 HG1 HG2]
    · isplitl [HG0]; · iexact HG0
      isplitl [HG1]; · iexact HG1
      iexact HG2
    iexact HWG
  isplitl [HSU HU0 HU1 HU2 HWU]
  · iapply (ringU_in c (V m c main_v1))
    isplitl [HSU]; · iexact HSU
    isplitl [HU0 HU1 HU2]
    · isplitl [HU0]; · iexact HU0
      isplitl [HU1]; · iexact HU1
      iexact HU2
    iexact HWU
  iapply (ringD_in c (V m c main_v2))
  isplitl [HSD]; · iexact HSD
  isplitl [HD0 HD1 HD2]
  · isplitl [HD0]; · iexact HD0
    isplitl [HD1]; · iexact HD1
    iexact HD2
  iexact HWD

theorem hout (hp : PlanOk (a.1 0) (a.1 1)) (c : Dev nD) : (dat m a c).Φ (Fin.last grid0.N) ⊢ Pipeline.ΦD cells spec0 weights (V m) c := by
  have hb : blocks a ≤ 504 := by have := hp.le; show 7 * (used (a.1 1)).toNat ≤ 504; omega
  rw [region_eq, show (dat m a c).Φ (Fin.last grid0.N) = PhiR m a c grid0.N from rfl]
  unfold PhiR
  rw [show grid0.N = 504 from N_0, ringG_end _ _ _ _ hb, ringU_end _ _ _ _ hb, ringD_end _ _ _ _ hb]
  iintro ⟨⟨%xb, -, HX⟩, Hr, HT, HN, HG, HU, HD⟩
  ihave HQG := (ringG_out c (V m c main_v0)) $$ HG
  icases HQG with ⟨HSG, ⟨HG0, HG1, HG2⟩, HWG⟩
  ihave HQU := (ringU_out c (V m c main_v1)) $$ HU
  icases HQU with ⟨HSU, ⟨HU0, HU1, HU2⟩, HWU⟩
  ihave HQD := (ringD_out c (V m c main_v2)) $$ HD
  icases HQD with ⟨HSD, ⟨HD0, HD1, HD2⟩, HWD⟩
  isplitl [HX HSG HSU HSD]
  · isplitl [HX]; · iexists xb; iexact HX
    isplitl [HSG]; · iexact HSG
    isplitl [HSU]; · iexact HSU
    iexact HSD
  isplitl [Hr]; · iexact Hr
  isplitl [HG0 HG1 HG2 HU0 HU1 HU2 HD0 HD1 HD2]
  · isplitl [HG0]; · iexact HG0
    isplitl [HG1]; · iexact HG1
    isplitl [HG2]; · iexact HG2
    isplitl [HU0]; · iexact HU0
    isplitl [HU1]; · iexact HU1
    isplitl [HU2]; · iexact HU2
    isplitl [HD0]; · iexact HD0
    isplitl [HD1]; · iexact HD1
    iexact HD2
  isplitl [HWG]; · iexact HWG
  isplitl [HWU]; · iexact HWU
  iexact HWD

/-! ## The run -/

/-- The plan's two tables as launched. -/
def tabs : pre0.Contents (Elt F) := fun k => V m 0 (pre0.ref k)
theorem tabs_te : tabs m 0 = m (((0 : Dev nD) : Thread nD τ).loc main_arg0) := V_arg0 m 0
theorem tabs_nu : tabs m 1 = m (((0 : Dev nD) : Thread nD τ).loc main_arg1) := V_arg1 m 0

variable (hp : PlanOk (m (((0 : Dev nD) : Thread nD τ).loc main_arg0)) (m (((0 : Dev nD) : Thread nD τ).loc main_arg1)))
include hp

theorem tabs_ok : PlanOk (tabs m 0) (tabs m 1) := by rw [tabs_te, tabs_nu]; exact hp

/-- The launched tables, admitted. -/
def adm : (pcfg0 (F := F)).Adm := ⟨tabs m, ok_of_plan (tabs m) (tabs_ok m hp)⟩

set_option backward.isDefEq.respectTransparency.types false in
/-- Every run of the program from `m` ends, with every array as the proof data compute it, every other buffer as the host
    operations leave it, and every semaphore counter at zero. -/
theorem run_main : θ_run (defs (F := F)) (onTc (τ := τ) (main (F := F))) ⟨m, fun _ => 0, ρ⟩
    (fun r => Pipeline.FramePost (Pipeline.pin (pcfgs (F := F)) (adms (adm m hp))) (dats m (adm m hp)) 0 (V m) r ∧ r.2.sem = fun _ => 0) :=
  Pipeline.θ_run_frameP_dma (Q' := _) (pcfgs (F := F)) (adms (adm m hp)) (dats m (adm m hp)) (0 : Fin 1) launch0 cells defs₀ Variants.none
    cells_own weights weights_sub m ρ main
    (hbody := fun c => (body_obligation m (adm m hp) (tabs_ok m hp) c).loose)
    (hshare := fun c => (dat m (adm m hp) c).share_full fun _ => rfl)
    (howed := fun _ _ => rfl) (V := V m) (hmain := hmain m Variants.none) (hA := fun c w => A_eq m (adm m hp) c w)
    (hpf := fun c k => by rw [Subsingleton.elim c 0]; rfl)
    (hin := fun c => hin m (adm m hp) c) (hout := fun c => hout m (adm m hp) (tabs_ok m hp) c)

/-- Every run ends with the result as the proof data compute it, the arguments unchanged and every counter at zero. -/
theorem run_result : θ_run (defs (F := F)) (onTc (τ := τ) (main (F := F))) ⟨m, fun _ => 0, ρ⟩ (fun r => (∀ c : Dev nD,
      r.2.mem ((c.tc : Thread nD τ).loc main_v3) = (dat m (adm m hp) c).arrAt 1 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c => ⟨(h.1 c).1 1,
      ((h.1 c).2 main_arg0 (show _ ∈ Pipeline.restRefs sig spec0 from by decide)).trans (V_arg0 m c),
      ((h.1 c).2 main_arg1 (show _ ∈ Pipeline.restRefs sig spec0 from by decide)).trans (V_arg1 m c),
      ((h.1 c).1 0).trans (((dat m (adm m hp) c).arrAt_in 0 rfl _).trans ((A_eq m (adm m hp) c 0).trans (V_arg2 m c))),
      ((h.1 c).2 main_arg3 (show _ ∈ Pipeline.restRefs sig spec0 from by decide)).trans (V_arg3 m c),
      ((h.1 c).2 main_arg4 (show _ ∈ Pipeline.restRefs sig spec0 from by decide)).trans (V_arg4 m c),
      ((h.1 c).2 main_arg5 (show _ ∈ Pipeline.restRefs sig spec0 from by decide)).trans (V_arg5 m c)⟩, h.2⟩) (run_main m ρ hp)

end Cert.Gffn

end
-- ==== Proof.Machine.lean ====
/- The kernel at machine values is the text of the kernel at ideal values: its frame is the generic run's. -/
module

public import proofs.«01_k».proof.Proof.Launch
public import proofs.«01_k».proof.Defs
public import proofs.«01_k».proof.Proof.Gen.Kernel
public import proofs.«01_k».proof.Proof.Gen.KernelIdeal
public import proofs.«01_k».proof.Proof.Gen.Pre_plan_in_range

@[expose] public section

set_option maxRecDepth 16384

noncomputable section

namespace Cert.Gffn

open Idealize.ShloMosaic Idealize.ShloMosaic.TcCoe Idealize.SL.Sem

attribute [local instance] Cert.Kernel.Gen.facts Cert.KernelIdeal.Gen.facts Cert.Pre_plan_in_range.Gen.facts

/-- The two printed bodies are one. -/
theorem body_same : Cert.Kernel.cc0_gffn (F := Bits) = Cert.KernelIdeal.cc0_gffn (F := Bits) := rfl
/-- So are the two body tables, -/
theorem rows_same : Cert.Kernel.defs₀ (F := Bits) = Cert.KernelIdeal.defs₀ (F := Bits) := by
  funext p l x
  match p with
  | .tc =>
    match l, x with
    | ⟨0, _⟩, (t, s) =>
      unfold Cert.Kernel.defs₀ Cert.KernelIdeal.defs₀
      rw [Defs.onTc_tc, Defs.onTc_tc]
      dsimp only
      rw [body_same]
      rfl
    | ⟨_ + 1, h⟩, _ => exact absurd h (Nat.not_lt.2 (Nat.le_add_left _ _))
  | .scScalar _ => rfl
  | .scVector _ _ => rfl
/-- the pipelines' tables, -/
theorem defs_same : Cert.Kernel.defs (F := Bits) = Cert.KernelIdeal.defs (F := Bits) :=
  congrArg (Pipeline.defs (Cert.KernelIdeal.pcfgs (F := Bits))) rows_same
/-- and the two host programs. -/
theorem main_same : Cert.Kernel.main (F := Bits) = Cert.KernelIdeal.main (F := Bits) := rfl

/-- The kernel at machine values ends, its arguments unchanged and every counter at zero. -/
theorem frame_kernel : Cert.quiescent_Kernel := by
  intro m ρ h
  rw [defs_same, main_same]
  exact (θ_run Cert.KernelIdeal.defs _ _).mono (fun _ h => ⟨fun c => (h.1 c).2, h.2⟩)
    (run_result (F := Bits) m ρ (planOk_of_pre _ _ _ _ _ _ (h 0)))

/-- The kernel at ideal values ends, its arguments unchanged and every counter at zero. -/
theorem frame_ideal : Cert.quiescent_KernelIdeal := fun m ρ h =>
  (θ_run Cert.KernelIdeal.defs _ _).mono (fun _ h => ⟨fun c => (h.1 c).2, h.2⟩)
    (run_result (F := Ideal) m ρ (planOk_of_pre _ _ _ _ _ _ (h 0)))

end Cert.Gffn

end
-- ==== Proof.Value.lean ====
/- What the grouped expert feed-forward leaves in its result: the rows of a tile in use hold the tile's running sum after its seven blocks,
   the rows past them what the call was given. -/
module

public import proofs.«01_k».proof.Proof.Launch
public import Idealize.ShloMosaic.Lib.Pointwise

@[expose] public section

set_option maxRecDepth 16384

noncomputable section

namespace Cert.Gffn

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (a : (pcfg0 (F := F)).Adm)

/-- The result where a tile is in use. -/
def tiles (c : Dev nD) : S73728x1024.Idx → F .f32 := fun i =>
  accN m a c ((i 0).val / 1024) 7 (ix2 ⟨(i 0).val % 1024, Nat.mod_lt _ (by decide)⟩ (i 1))

section
variable (hp : PlanOk (a.1 0) (a.1 1))
include hp

/-- Where the output's block at point `t` lies in the array. -/
theorem blk1_0 (t : Fin grid0.N) (x : S1024x1024.Idx) :
    ((((win0 a 1).blk t).view.emb x : S73728x1024.Idx) 0 : ℕ) = 1024 * tileAt (nuOf a) t.val + (x 0).val := by
  refine (Pipeline.Window.rect_emb_val (win0 a 1) t x (0 : Fin 2)).trans ?_
  rw [win_index a hp 1 t]
  show tileAt (nuOf a) t.val * 1024 + (x 0).val = _
  omega
theorem blk1_1 (t : Fin grid0.N) (x : S1024x1024.Idx) : (((win0 a 1).blk t).view.emb x : S73728x1024.Idx) 1 = x 1 := by
  refine Fin.ext ((Pipeline.Window.rect_emb_val (win0 a 1) t x (1 : Fin 2)).trans ?_)
  rw [win_index a hp 1 t]
  show 0 * 1024 + (x 1).val = _
  omega

/-- The rows of row tile `i` are rows `1024 i` on of the array given. -/
theorem xTile_apply (c : Dev nD) (i : ℕ) (hi : i < (used (nuOf a)).toNat) (r : Fin 1024) (k : Fin 1024) (h : 1024 * i + r.val < 73728) :
    xTile m a c i (ix2 r k) = V m c main_arg2 (ix2 ⟨1024 * i + r.val, h⟩ k) := by
  have hl : (used (nuOf a)).toNat ≤ 72 := hp.le
  unfold xTile iblk
  refine congrArg (V m c main_arg2) (funext fun b => Fin.ext ?_)
  match b with
  | 0 =>
    refine (Pipeline.Window.rect_emb_val (win0 a 0) _ (ix2 r k) (0 : Fin 2)).trans ?_
    rw [win_index a hp 0]
    show tileAt (nuOf a) (7 * min i 71) * 1024 + r.val = 1024 * i + r.val
    unfold tileAt
    omega
  | 1 =>
    refine (Pipeline.Window.rect_emb_val (win0 a 0) _ (ix2 r k) (1 : Fin 2)).trans ?_
    rw [win_index a hp 0]
    show 0 * 1024 + k.val = k.val
    omega

/-- A point that writes its block back has the tile's whole sum. -/
theorem flush1_out (t : Fin grid0.N) (h : (win0 a 1).flush t = true) (c : Dev nD) : outAt m a c t.val = accN m a c (tileAt (nuOf a) t.val) 7 := by
  rw [flush1_iff a hp] at h
  have hpos : 1 ≤ (used (nuOf a)).toNat := hp.pos
  unfold outAt
  have hb : blocks a = 7 * (used (nuOf a)).toNat := rfl
  congr 1
  split
  · rcases h with h | h <;> omega
  · rfl

theorem flushed1 (c : Dev nD) (t : Fin grid0.N) (h : (win0 a 1).flush t = true) :
    (dat m a c).flushed 1 t = ((win0 a 1).blk t).view.read (Elt F) (tiles m a c) := by
  refine Eq.trans (show (dat m a c).flushed 1 t = (outAt m a c t.val : S1024x1024.Idx → F .f32) from after1 m a c t) ?_
  rw [flush1_out m a hp t h c]
  funext x
  show _ = tiles m a c (((win0 a 1).blk t).view.emb x)
  unfold tiles
  have e0 := blk1_0 a hp t x
  have e1 := blk1_1 a hp t x
  have hx : (x 0).val < 1024 := (x 0).isLt
  rw [e1]
  have q : ((((win0 a 1).blk t).view.emb x : S73728x1024.Idx) 0 : ℕ) / 1024 = tileAt (nuOf a) t.val := by omega
  rw [q]
  refine congrArg _ (funext fun b => ?_)
  match b with
  | 0 => exact Fin.ext (by show (x 0).val = _ % 1024; omega)
  | 1 => rfl

/-- The result: a row of a tile in use is the tile's sum, a row past them what was there before. -/
theorem result_apply (c : Dev nD) (R : Fin 73728) (q : Fin 1024) :
    ((dat m a c).arrAt 1 grid0.N : S73728x1024.Idx → F .f32) (ix2 R q)
      = if R.val / 1024 < (used (nuOf a)).toNat then accN m a c (R.val / 1024) 7 (ix2 ⟨R.val % 1024, Nat.mod_lt _ (by decide)⟩ q)
        else V m c main_v3 (ix2 R q) := by
  have hl : (used (nuOf a)).toNat ≤ 72 := hp.le
  have hpos : 1 ≤ (used (nuOf a)).toNat := hp.pos
  have hN := N_0
  have key := (dat m a c).arrAt_eq_piecewise 1 (tiles m a c) (fun t h => flushed1 m a hp c t h) (ix2 R q)
  have hiff : (∃ t : Fin grid0.N, (win0 a 1).flush t = true ∧ (ix2 R q : S73728x1024.Idx) ∈ ((win0 a 1).blk t).view.set) ↔ R.val / 1024 < (used (nuOf a)).toNat := by
    constructor
    · rintro ⟨t, hf, hi⟩
      obtain ⟨x, hx⟩ := View.exists_emb_of_mem_set _ hi
      have e0 := blk1_0 a hp t x
      have hx0 : (x 0).val < 1024 := (x 0).isLt
      rw [hx] at e0
      have e0' : R.val = 1024 * tileAt (nuOf a) t.val + (x 0).val := e0
      unfold tileAt at e0'
      omega
    · intro hR
      have ht : (if R.val / 1024 + 1 < (used (nuOf a)).toNat then 7 * (R.val / 1024) + 6 else 503) < grid0.N := by
        rw [hN]; split <;> omega
      refine ⟨⟨_, ht⟩, (flush1_iff a hp _).2 ?_, ?_⟩
      · by_cases h : R.val / 1024 + 1 < (used (nuOf a)).toNat
        · left; simp only [if_pos h]; constructor
          · omega
          · show (7 * (R.val / 1024) + 6) / 7 + 1 < (used (nuOf a)).toNat; omega
        · right; simp only [if_neg h]
      · have hm := ((win0 a 1).blk ⟨_, ht⟩).view.emb_mem_set (ix2 ⟨R.val % 1024, Nat.mod_lt _ (by decide)⟩ q : S1024x1024.Idx)
        have e : (((win0 a 1).blk ⟨_, ht⟩).view.emb (ix2 ⟨R.val % 1024, Nat.mod_lt _ (by decide)⟩ q : S1024x1024.Idx) : S73728x1024.Idx) = ix2 R q := by
          funext b
          match b with
          | 0 =>
            refine Fin.ext ((blk1_0 a hp _ _).trans ?_)
            show 1024 * tileAt (nuOf a) (if R.val / 1024 + 1 < (used (nuOf a)).toNat then 7 * (R.val / 1024) + 6 else 503) + R.val % 1024 = R.val
            unfold tileAt
            split <;> omega
          | 1 => exact blk1_1 a hp _ _
        rw [e] at hm
        exact hm
  refine key.trans ?_
  by_cases h : R.val / 1024 < (used (nuOf a)).toNat
  · rw [if_pos h]; exact if_pos (hiff.2 h)
  · rw [if_neg h]; exact (if_neg (fun e => h (hiff.1 e))).trans (congrFun (A_eq m a c 1) _)

end

end Cert.Gffn

end
-- ==== Proof.Reference.lean ====
/- The plain reference read at an index: which expert a row tile's weights come from, and what a row of a used tile holds. -/
module

public import proofs.«01_k».proof.Proof.Gen.ReferenceIdeal.Run
public import Idealize.ShloMosaic.Lib.Pointwise

@[expose] public section

set_option maxRecDepth 16384

noncomputable section

namespace Cert.Gffn

open Idealize.ShloMosaic Idealize.ShloMosaic.TcCoe
open Cert.ReferenceIdeal Cert.ReferenceIdeal.Gen

/-- The reference's result as a function of its arguments. -/
def refOut (te : IVec S72 32) (nu : IVec S1 32) (xs : FVec Ideal S73728x1024 .f32) (wg wu : FVec Ideal S1x8x1024x3584 .f32)
    (wd : FVec Ideal S1x8x3584x1024 .f32) : FVec Ideal S73728x1024 .f32 :=
  shapeCast _ (select (broadcastInDim S72x1024x1024 ![0, 1, 2] bcast_S72x1x1_S72x1024x1024_0_1_2 (broadcastInDim S72x1x1 ![0] bcast_S72_S72x1x1_0 (cmpi .slt (iotaInDim S72 32 0) (broadcastInDim S72 ![] bcast_S_S72 (shapeCast _ nu shapeCasts_S1_S_))))) (Host.dotGeneral dot_S72x1024x3584_S72x3584x1024_S72x1024x1024_2_1_1_2_0_0 none (mulf (mulf (Host.dotGeneral dot_S72x1024x1024_S72x1024x3584_S72x1024x3584_2_1_1_2_0_0 none (shapeCast _ xs shapeCasts_S73728x1024_S72x1024x1024) (Host.gather gather_S8x1024x3584_S72x1_S72x1024x3584_12_0_n_n_0_1_110243584 (shapeCast _ wg shapeCasts_S1x8x1024x3584_S8x1024x3584) (broadcastInDim S72x1 ![0] bcast_S72_S72x1_0 te))) (Host.divf (broadcastInDim S72x1024x3584 ![] bcast_S_S72x1024x3584 (constant S_ .f32 0x3F800000#32)) (addf (broadcastInDim S72x1024x3584 ![] bcast_S_S72x1024x3584 (constant S_ .f32 0x3F800000#32)) (Host.exp (Host.negf (Host.dotGeneral dot_S72x1024x1024_S72x1024x3584_S72x1024x3584_2_1_1_2_0_0 none (shapeCast _ xs shapeCasts_S73728x1024_S72x1024x1024) (Host.gather gather_S8x1024x3584_S72x1_S72x1024x3584_12_0_n_n_0_1_110243584 (shapeCast _ wg shapeCasts_S1x8x1024x3584_S8x1024x3584) (broadcastInDim S72x1 ![0] bcast_S72_S72x1_0 te)))))))) (Host.dotGeneral dot_S72x1024x1024_S72x1024x3584_S72x1024x3584_2_1_1_2_0_0 none (shapeCast _ xs shapeCasts_S73728x1024_S72x1024x1024) (Host.gather gather_S8x1024x3584_S72x1_S72x1024x3584_12_0_n_n_0_1_110243584 (shapeCast _ wu shapeCasts_S1x8x1024x3584_S8x1024x3584) (broadcastInDim S72x1 ![0] bcast_S72_S72x1_0 te)))) (Host.gather gather_S8x3584x1024_S72x1_S72x3584x1024_12_0_n_n_0_1_135841024 (shapeCast _ wd shapeCasts_S1x8x3584x1024_S8x3584x1024) (broadcastInDim S72x1 ![0] bcast_S72_S72x1_0 te))) (shapeCast _ xs shapeCasts_S73728x1024_S72x1024x1024)) shapeCasts_S72x1024x1024_S73728x1024

/-- The gathered gate (or up) weights at a row tile: those of the expert the tile names. -/
theorem gather_gate (x : FVec Ideal S8x1024x3584 .f32) (te : IVec S72 32) (i : Fin 72) (h : (te (ix1 i)).toNat < 8) (k : Fin 1024) (f : Fin 3584) :
    Host.gather gather_S8x1024x3584_S72x1_S72x1024x3584_12_0_n_n_0_1_110243584 x (broadcastInDim S72x1 ![0] bcast_S72_S72x1_0 te) (ix3 i k f)
      = x (ix3 ⟨(te (ix1 i)).toNat, h⟩ k f) := by
  have e : min (te (ix1 i)).toInt.toNat 7 = (te (ix1 i)).toNat := by
    rw [BitVec.toInt_eq_toNat_of_lt (by omega)]; simp; omega
  unfold Host.gather
  refine congrArg x (funext fun a => Fin.ext ?_)
  match a with
  | 0 =>
    have e' : ∀ j : S72.Idx, j 0 = i → min (te j).toInt.toNat 7 + 0 + 0 = (te (ix1 i)).toNat := fun j hj => by
      have : j = ix1 i := by funext a; match a with | 0 => exact hj
      subst this; exact e
    exact e' _ rfl
  | 1 => show 0 + 0 + k.val = k.val; omega
  | 2 => show 0 + 0 + f.val = f.val; omega

/-- The gathered down weights likewise. -/
theorem gather_down (x : FVec Ideal S8x3584x1024 .f32) (te : IVec S72 32) (i : Fin 72) (h : (te (ix1 i)).toNat < 8) (f : Fin 3584) (q : Fin 1024) :
    Host.gather gather_S8x3584x1024_S72x1_S72x3584x1024_12_0_n_n_0_1_135841024 x (broadcastInDim S72x1 ![0] bcast_S72_S72x1_0 te) (ix3 i f q)
      = x (ix3 ⟨(te (ix1 i)).toNat, h⟩ f q) := by
  have e : min (te (ix1 i)).toInt.toNat 7 = (te (ix1 i)).toNat := by
    rw [BitVec.toInt_eq_toNat_of_lt (by omega)]; simp; omega
  unfold Host.gather
  refine congrArg x (funext fun a => Fin.ext ?_)
  match a with
  | 0 =>
    have e' : ∀ j : S72.Idx, j 0 = i → min (te j).toInt.toNat 7 + 0 + 0 = (te (ix1 i)).toNat := fun j hj => by
      have : j = ix1 i := by funext a; match a with | 0 => exact hj
      subst this; exact e
    exact e' _ rfl
  | 1 => show 0 + 0 + f.val = f.val; omega
  | 2 => show 0 + 0 + q.val = q.val; omega

/-- A signed comparison of a row tile's number with the count of tiles used. -/
theorem tile_slt (i : Fin 72) (w : BitVec 32) (hw : w.toNat ≤ 72) : (IntOp.cmpi .slt (BitVec.ofNat 32 i.val) w = 1#1) ↔ i.val < w.toNat := by
  have e : (BitVec.ofNat 32 i.val).slt w = decide (i.val < w.toNat) := by
    rw [BitVec.slt_eq_decide, BitVec.toInt_eq_toNat_of_lt (by simp; omega), BitVec.toInt_eq_toNat_of_lt (by omega)]
    simp; omega
  have e' : IntOp.cmpi .slt (BitVec.ofNat 32 i.val) w = BitVec.ofBool (decide (i.val < w.toNat)) := by rw [← e]; rfl
  rw [e']
  by_cases h : i.val < w.toNat <;> simp [h]

/-- One entry of a row after an expert's gated feed-forward. -/
def rowOut (x : Fin 1024 → EReal) (g u : Fin 1024 → Fin 3584 → EReal) (d : Fin 3584 → Fin 1024 → EReal) (q : Fin 1024) : EReal :=
  ∑ f, ((∑ k, x k * g k f) * Ideal.logistic (∑ k, x k * g k f) * ∑ k, x k * u k f) * d f q

/-- A row of a tile in use is put through the tile's expert; a row past them is kept. -/
theorem refOut_apply (te : IVec S72 32) (nu : IVec S1 32) (xs : FVec Ideal S73728x1024 .f32) (wg wu : FVec Ideal S1x8x1024x3584 .f32)
    (wd : FVec Ideal S1x8x3584x1024 .f32) (hn : (nu (ix1 0)).toNat ≤ 72) (R : Fin 73728) (q : Fin 1024)
    (h : (te (ix1 ⟨R.val / 1024, by omega⟩)).toNat < 8) :
    refOut te nu xs wg wu wd (ix2 R q)
      = if R.val / 1024 < (nu (ix1 0)).toNat then
          rowOut (fun k => xs (ix2 R k)) (fun k f => wg (ix4 0 ⟨_, h⟩ k f)) (fun k f => wu (ix4 0 ⟨_, h⟩ k f)) (fun f q => wd (ix4 0 ⟨_, h⟩ f q)) q
        else xs (ix2 R q) := by
  have hc : (IntOp.cmpi .slt (BitVec.ofNat 32 (R.val / 1024)) (nu (ix1 0)) = 1#1) ↔ R.val / 1024 < (nu (ix1 0)).toNat :=
    tile_slt ⟨R.val / 1024, by omega⟩ _ hn
  have hg : ∀ (w : FVec Ideal S1x8x1024x3584 .f32) (k : Fin 1024) (f : Fin 3584),
      Host.gather gather_S8x1024x3584_S72x1_S72x1024x3584_12_0_n_n_0_1_110243584 (shapeCast S8x1024x3584 w shapeCasts_S1x8x1024x3584_S8x1024x3584)
        (broadcastInDim S72x1 ![0] bcast_S72_S72x1_0 te) (ix3 ⟨R.val / 1024, by omega⟩ k f) = w (ix4 0 ⟨_, h⟩ k f) := fun w k f => by
    rw [gather_gate _ _ _ h]
    pointwise
  have hd : ∀ (f : Fin 3584) (q : Fin 1024),
      Host.gather gather_S8x3584x1024_S72x1_S72x3584x1024_12_0_n_n_0_1_135841024 (shapeCast S8x3584x1024 wd shapeCasts_S1x8x3584x1024_S8x3584x1024)
        (broadcastInDim S72x1 ![0] bcast_S72_S72x1_0 te) (ix3 ⟨R.val / 1024, by omega⟩ f q) = wd (ix4 0 ⟨_, h⟩ f q) := fun f q => by
    rw [gather_down _ _ _ h]
    pointwise
  have hh : ∀ (w : FVec Ideal S1x8x1024x3584 .f32) (f : Fin 3584),
      (∑ k : Fin 1024, (xs (ix2 R k) : EReal) * Host.gather gather_S8x1024x3584_S72x1_S72x1024x3584_12_0_n_n_0_1_110243584
        (shapeCast S8x1024x3584 w shapeCasts_S1x8x1024x3584_S8x1024x3584) (broadcastInDim S72x1 ![0] bcast_S72_S72x1_0 te) (ix3 ⟨R.val / 1024, by omega⟩ k f) : EReal)
        = ∑ k : Fin 1024, (xs (ix2 R k) : EReal) * w (ix4 0 ⟨_, h⟩ k f) := fun w f =>
    Finset.sum_congr rfl fun k _ => congrArg (fun y : EReal => xs (ix2 R k) * y) (hg w k f)
  unfold refOut
  pointwise
  by_cases hlt : R.val / 1024 < (nu (ix1 0)).toNat
  · rw [if_pos hlt]
    refine (if_pos (hc.2 hlt)).trans ?_
    refine Finset.sum_congr rfl fun f _ => ?_
    exact congrArg₂ (fun a b : EReal => a * b) (congrArg₂ (fun a b : EReal => a * b) (congrArg (fun a : EReal => a * Ideal.logistic a) (hh wg f)) (hh wu f)) (hd f q)
  · rw [if_neg hlt]
    exact if_neg fun e => hlt (hc.1 e)

end Cert.Gffn

end
-- ==== Proof.Sum.lean ====
/- The running sum at ideal values: after a tile's seven blocks it is the sum over all hidden units. -/
module

public import proofs.«01_k».proof.Proof.Value
public import proofs.«01_k».proof.Proof.Reference

@[expose] public section

set_option maxRecDepth 16384

noncomputable section

namespace Cert.Gffn

open Idealize.ShloMosaic Idealize.ShloMosaic.TcCoe Idealize.ShloMosaic.Tactic
open Idealize.SL Idealize.SL.Sem
open Cert.KernelIdeal Cert.KernelIdeal.Gen

/-- A block's columns of the gate weights, at a place, -/
theorem blkG_read {F : FTy → Type} (W : S8x1024x3584.Idx → F .f32) (w : BitVec 32) (n : ℕ) (k : Fin 1024) (f : Fin 512) :
    (blkG w n).view.read (Elt F) W (ix2 k f) = W (ix3 ⟨w.toNat % 8, Nat.mod_lt _ (by decide)⟩ k ⟨512 * (n % 7) + f.val, by omega⟩) := by
  have e : (blkG w n).view.read (Elt F) W = shapeCast S1024x512 (fun y : S1x1024x512.Idx =>
      W ((Rect.unit (s := S8x1024x3584) ![w.toNat % 8, 0, 512 * (n % 7)] S1x1024x512.size (inb_blk_col w n)).emb y)) shapeCasts_S1x1024x512_S1024x512 := rfl
  rw [e]
  pointwise
  refine congrArg W (funext fun b => Fin.ext ?_)
  match b with
  | 0 => show w.toNat % 8 + 1 * 0 = w.toNat % 8; omega
  | 1 => show 0 + 1 * k.val = k.val; omega
  | 2 => show 512 * (n % 7) + 1 * f.val = 512 * (n % 7) + f.val; omega

/-- of the up weights, -/
theorem blkU_read {F : FTy → Type} (W : S8x1024x3584.Idx → F .f32) (w : BitVec 32) (n : ℕ) (k : Fin 1024) (f : Fin 512) :
    (blkU w n).view.read (Elt F) W (ix2 k f) = W (ix3 ⟨w.toNat % 8, Nat.mod_lt _ (by decide)⟩ k ⟨512 * (n % 7) + f.val, by omega⟩) := by
  have e : (blkU w n).view.read (Elt F) W = shapeCast S1024x512 (fun y : S1x1024x512.Idx =>
      W ((Rect.unit (s := S8x1024x3584) ![w.toNat % 8, 0, 512 * (n % 7)] S1x1024x512.size (inb_blk_col w n)).emb y)) shapeCasts_S1x1024x512_S1024x512 := rfl
  rw [e]
  pointwise
  refine congrArg W (funext fun b => Fin.ext ?_)
  match b with
  | 0 => show w.toNat % 8 + 1 * 0 = w.toNat % 8; omega
  | 1 => show 0 + 1 * k.val = k.val; omega
  | 2 => show 512 * (n % 7) + 1 * f.val = 512 * (n % 7) + f.val; omega

/-- and a block's rows of the down weights. -/
theorem blkD_read {F : FTy → Type} (W : S8x3584x1024.Idx → F .f32) (w : BitVec 32) (n : ℕ) (f : Fin 512) (q : Fin 1024) :
    (blkD w n).view.read (Elt F) W (ix2 f q) = W (ix3 ⟨w.toNat % 8, Nat.mod_lt _ (by decide)⟩ ⟨512 * (n % 7) + f.val, by omega⟩ q) := by
  have e : (blkD w n).view.read (Elt F) W = shapeCast S512x1024 (fun y : S1x512x1024.Idx =>
      W ((Rect.unit (s := S8x3584x1024) ![w.toNat % 8, 512 * (n % 7), 0] S1x512x1024.size (inb_blk_row w n)).emb y)) shapeCasts_S1x512x1024_S512x1024 := rfl
  rw [e]
  pointwise
  refine congrArg W (funext fun b => Fin.ext ?_)
  match b with
  | 0 => show w.toNat % 8 + 1 * 0 = w.toNat % 8; omega
  | 1 => show 512 * (n % 7) + 1 * f.val = 512 * (n % 7) + f.val; omega
  | 2 => show 0 + 1 * q.val = q.val; omega

variable (m : (ℓ : Loc nD τ sig) → Buf (Elt Ideal) ℓ)

theorem V_v0 (c : Dev nD) : V m c main_v0 = shapeCast _ (m (c.tc.loc main_arg3)) shapeCasts_S1x8x1024x3584_S8x1024x3584 := by
  unfold V hostOps0
  after_results_simp <;> rfl
theorem V_v1 (c : Dev nD) : V m c main_v1 = shapeCast _ (m (c.tc.loc main_arg4)) shapeCasts_S1x8x1024x3584_S8x1024x3584 := by
  unfold V hostOps0
  after_results_simp <;> rfl
theorem V_v2 (c : Dev nD) : V m c main_v2 = shapeCast _ (m (c.tc.loc main_arg5)) shapeCasts_S1x8x3584x1024_S8x3584x1024 := by
  unfold V hostOps0
  after_results_simp <;> rfl
theorem V_v3 (c : Dev nD) : V m c main_v3 = m (c.tc.loc main_arg2) := by
  unfold V hostOps0
  after_results_simp <;> rfl

/-- What one block adds to an entry. -/
theorem accStep_apply (x : FVec Ideal S1024x1024 .f32) (g u : FVec Ideal S1024x512 .f32) (o : FVec Ideal S1024x1024 .f32) (d : FVec Ideal S512x1024 .f32)
    (r q : Fin 1024) :
    accStep (narrow x) g u o d (ix2 r q) = o (ix2 r q)
      + ∑ f : Fin 512, ((∑ k : Fin 1024, x (ix2 r k) * g (ix2 k f)) * Ideal.logistic (∑ k : Fin 1024, x (ix2 r k) * g (ix2 k f))
          * ∑ k : Fin 1024, x (ix2 r k) * u (ix2 k f)) * d (ix2 f q) := by
  unfold accStep narrow
  pointwise

theorem zero_apply (r q : Fin 1024) : (k0_pay2 (F := Ideal)) (ix2 r q) = (0 : EReal) := by
  unfold k0_pay2
  pointwise

/-- The weights without their leading axis, at a place. -/
theorem cols_flat (w : FVec Ideal S1x8x1024x3584 .f32) (e : Fin 8) (k : Fin 1024) (f : Fin 3584) :
    shapeCast S8x1024x3584 w shapeCasts_S1x8x1024x3584_S8x1024x3584 (ix3 e k f) = w (ix4 0 e k f) := by pointwise
theorem rows_flat (w : FVec Ideal S1x8x3584x1024 .f32) (e : Fin 8) (f : Fin 3584) (q : Fin 1024) :
    shapeCast S8x3584x1024 w shapeCasts_S1x8x3584x1024_S8x3584x1024 (ix3 e f q) = w (ix4 0 e f q) := by pointwise

/-! ## A row tile's sum -/

variable (a : (pcfg0 (F := Ideal)).Adm) (hp : PlanOk (a.1 0) (a.1 1))

/-- The expert row tile `i` names. -/
abbrev exOf (i : Fin 72) : Fin 8 := ⟨(teOf a (ix1 i)).toNat, hp.rows _⟩

theorem expert_tile (i : Fin 72) (j : ℕ) (hj : j < 7) : (⟨(expert (teOf a) (7 * i.val + j)).toNat % 8, Nat.mod_lt _ (by decide)⟩ : Fin 8) = exOf a hp i := by
  have e : expert (teOf a) (7 * i.val + j) = teOf a (ix1 i) := by
    unfold expert
    refine congrArg (teOf a) (funext fun b => ?_)
    match b with
    | 0 => exact Fin.ext (by show min ((7 * i.val + j) / 7) 71 = i.val; omega)
  refine Fin.ext ?_
  show (expert (teOf a) (7 * i.val + j)).toNat % 8 = (teOf a (ix1 i)).toNat
  rw [e]
  exact Nat.mod_eq_of_lt (hp.rows _)

theorem place (i : ℕ) (j : ℕ) (hj : j < 7) (f : Fin 512) (h) :
    (⟨512 * ((7 * i + j) % 7) + f.val, h⟩ : Fin 3584) = ⟨j * 512 + f.val, by omega⟩ := Fin.ext (by dsimp only; omega)

/-- The blocks of the weights a tile's steps read, in terms of the arguments. -/
theorem gB_apply (c : Dev nD) (i : Fin 72) (j : ℕ) (hj : j < 7) (k : Fin 1024) (f : Fin 512) :
    gB m a c (7 * i.val + j) (ix2 k f) = (m (c.tc.loc main_arg3) : FVec Ideal S1x8x1024x3584 .f32) (ix4 0 (exOf a hp i) k ⟨j * 512 + f.val, by omega⟩) := by
  unfold gB
  refine (blkG_read (F := Ideal) (V m c main_v0) _ _ k f).trans ?_
  rw [V_v0, expert_tile a hp i j hj, place i.val j hj]
  exact cols_flat _ _ _ _
theorem uB_apply (c : Dev nD) (i : Fin 72) (j : ℕ) (hj : j < 7) (k : Fin 1024) (f : Fin 512) :
    uB m a c (7 * i.val + j) (ix2 k f) = (m (c.tc.loc main_arg4) : FVec Ideal S1x8x1024x3584 .f32) (ix4 0 (exOf a hp i) k ⟨j * 512 + f.val, by omega⟩) := by
  unfold uB
  refine (blkU_read (F := Ideal) (V m c main_v1) _ _ k f).trans ?_
  rw [V_v1, expert_tile a hp i j hj, place i.val j hj]
  exact cols_flat _ _ _ _
theorem dB_apply (c : Dev nD) (i : Fin 72) (j : ℕ) (hj : j < 7) (f : Fin 512) (q : Fin 1024) :
    dB m a c (7 * i.val + j) (ix2 f q) = (m (c.tc.loc main_arg5) : FVec Ideal S1x8x3584x1024 .f32) (ix4 0 (exOf a hp i) ⟨j * 512 + f.val, by omega⟩ q) := by
  unfold dB
  refine (blkD_read (F := Ideal) (V m c main_v2) _ _ f q).trans ?_
  rw [V_v2, expert_tile a hp i j hj, place i.val j hj]
  exact rows_flat _ _ _ _

section
variable (x : Fin 1024 → EReal) (g u : Fin 1024 → Fin 3584 → EReal) (d : Fin 3584 → Fin 1024 → EReal) (q : Fin 1024)
/-- What hidden unit `f` adds to an entry. -/
def unitOut (f : Fin 3584) : EReal := ((∑ k, x k * g k f) * Ideal.logistic (∑ k, x k * g k f) * ∑ k, x k * u k f) * d f q
/-- What block `s` of the hidden units adds. -/
def blockOut (s : ℕ) : EReal := if h : s < 7 then ∑ f : Fin 512, unitOut x g u d q ⟨s * 512 + f.val, by omega⟩ else 0

theorem blocks_sum : ∑ s ∈ Finset.range 7, blockOut x g u d q s = rowOut x g u d q := by
  rw [Finset.sum_range]
  refine Eq.trans ?_ (Fin.sum_univ_tiles 7 512 rfl (unitOut x g u d q)).symm
  exact Finset.sum_congr rfl fun s _ => dif_pos s.isLt
end

variable (c : Dev nD)

theorem accN_apply (i : Fin 72) (hi : i.val < (used (nuOf a)).toNat) (r q : Fin 1024) : ∀ j, j ≤ 7 →
    accN m a c i.val j (ix2 r q) = ∑ s ∈ Finset.range j, blockOut
      (fun k => (m (c.tc.loc main_arg2) : FVec Ideal S73728x1024 .f32) (ix2 ⟨1024 * i.val + r.val, by omega⟩ k))
      (fun k f => (m (c.tc.loc main_arg3) : FVec Ideal S1x8x1024x3584 .f32) (ix4 0 (exOf a hp i) k f))
      (fun k f => (m (c.tc.loc main_arg4) : FVec Ideal S1x8x1024x3584 .f32) (ix4 0 (exOf a hp i) k f))
      (fun f q => (m (c.tc.loc main_arg5) : FVec Ideal S1x8x3584x1024 .f32) (ix4 0 (exOf a hp i) f q)) q s
  | 0, _ => zero_apply r q
  | j + 1, hj => by
    rw [Finset.sum_range_succ, ← accN_apply i hi r q j (by omega)]
    refine (accStep_apply _ _ _ _ _ r q).trans (congrArg (fun y : EReal => accN m a c i.val j (ix2 r q) + y) ?_)
    unfold blockOut
    rw [dif_pos (show j < 7 by omega)]
    refine Finset.sum_congr rfl fun f _ => ?_
    unfold unitOut
    have hx : ∀ k, (xTile m a c i.val (ix2 r k) : EReal) = (m (c.tc.loc main_arg2) : FVec Ideal S73728x1024 .f32) (ix2 ⟨1024 * i.val + r.val, by omega⟩ k) := fun k =>
      (xTile_apply m a hp c i.val hi r k (by omega)).trans (congrFun (V_arg2 m c) _)
    rw [dB_apply m a hp c i j (by omega)]
    simp only [hx, gB_apply m a hp c i j (show j < 7 by omega), uB_apply m a hp c i j (show j < 7 by omega)]

/-- The result at an entry, in terms of the arguments. -/
theorem result_ideal (R : Fin 73728) (q : Fin 1024) :
    ((dat m a c).arrAt 1 grid0.N : S73728x1024.Idx → EReal) (ix2 R q)
      = if R.val / 1024 < (used (nuOf a)).toNat then
          rowOut (fun k => (m (c.tc.loc main_arg2) : FVec Ideal S73728x1024 .f32) (ix2 R k))
            (fun k f => (m (c.tc.loc main_arg3) : FVec Ideal S1x8x1024x3584 .f32) (ix4 0 (exOf a hp ⟨R.val / 1024, by omega⟩) k f))
            (fun k f => (m (c.tc.loc main_arg4) : FVec Ideal S1x8x1024x3584 .f32) (ix4 0 (exOf a hp ⟨R.val / 1024, by omega⟩) k f))
            (fun f q => (m (c.tc.loc main_arg5) : FVec Ideal S1x8x3584x1024 .f32) (ix4 0 (exOf a hp ⟨R.val / 1024, by omega⟩) f q)) q
        else (m (c.tc.loc main_arg2) : FVec Ideal S73728x1024 .f32) (ix2 R q) := by
  refine (result_apply m a hp c R q).trans ?_
  by_cases h : R.val / 1024 < (used (nuOf a)).toNat
  · rw [if_pos h, if_pos h]
    refine (accN_apply m a hp c ⟨R.val / 1024, by omega⟩ h ⟨R.val % 1024, Nat.mod_lt _ (by decide)⟩ q 7 le_rfl).trans ?_
    rw [blocks_sum]
    have e : (⟨1024 * (R.val / 1024) + R.val % 1024, by omega⟩ : Fin 73728) = R := Fin.ext (by dsimp only; omega)
    simp only [e]
  · rw [if_neg h, if_neg h, V_v3]

/-- The reference's result at the launch contents is the kernel's. -/
theorem result_eq (h : PlanOk (m ((0 : Dev nD).tc.loc main_arg0)) (m ((0 : Dev nD).tc.loc main_arg1))) :
    refOut (m ((0 : Dev nD).tc.loc main_arg0)) (m ((0 : Dev nD).tc.loc main_arg1)) (m ((0 : Dev nD).tc.loc main_arg2))
        (m ((0 : Dev nD).tc.loc main_arg3)) (m ((0 : Dev nD).tc.loc main_arg4)) (m ((0 : Dev nD).tc.loc main_arg5))
      = ((dat m (adm m h) 0).arrAt 1 grid0.N : S73728x1024.Idx → EReal) := by
  funext i
  obtain ⟨R, q, rfl⟩ : ∃ (R : Fin 73728) (q : Fin 1024), i = ix2 R q := ⟨i 0, i 1, by funext b; match b with | 0 => rfl | 1 => rfl⟩
  have e0 : teOf (adm m h) = m ((0 : Dev nD).tc.loc main_arg0) := tabs_te m
  have e1 : nuOf (adm m h) = m ((0 : Dev nD).tc.loc main_arg1) := tabs_nu m
  have eu : used (nuOf (adm m h)) = (m ((0 : Dev nD).tc.loc main_arg1) : IVec S1 32) (ix1 0) := by
    rw [e1]; exact congrArg (m ((0 : Dev nD).tc.loc main_arg1) : IVec S1 32) (funext fun b => match b with | 0 => rfl)
  have hn : ((m ((0 : Dev nD).tc.loc main_arg1) : IVec S1 32) (ix1 0)).toNat ≤ 72 := by rw [← eu]; exact (tabs_ok m h).le
  have hx : exOf (adm m h) (tabs_ok m h) ⟨R.val / 1024, by omega⟩ = ⟨((m ((0 : Dev nD).tc.loc main_arg0) : IVec S72 32) (ix1 ⟨R.val / 1024, by omega⟩)).toNat, h.rows _⟩ :=
    Fin.ext (by show (teOf (adm m h) _).toNat = _; rw [e0])
  refine (refOut_apply _ _ _ _ _ _ hn R q (h.rows _)).trans (Eq.trans ?_ (result_ideal m (adm m h) (tabs_ok m h) 0 R q).symm)
  rw [eu, hx]

end Cert.Gffn

end
-- ==== Proof.CRing.lean ====
/- The two slots of the combining call: the rows of a tile's tokens are gathered, two experts' rows to a token, into one slot of the scratch
   while the other slot is read. Slots, rows, source rows and semaphores are named here, and the printed views are
   rewritten to these names. -/
module

public import proofs.«01_k».proof.Proof.Gen.Kernel3Ideal.Launch
public import proofs.«01_k».proof.Proof.Gen.Kernel3Ideal.Loops
public import Idealize.ShloMosaic.Lib.Pipeline.FrameBody
public import Idealize.ShloMosaic.Lib.Tactic
public import Idealize.ShloMosaic.Lib.WordCmp
public import Idealize.ShloMosaic.Lib.Ring
public import Idealize.ShloMosaic.Lib.Batch

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (Pipeline.UD sig nD τ) ℕ

/-- The contents of a memref's buffer on a device. -/
abbrev BufOf (c : Dev nD) {sp : Space} {S : Shape} {e : EltTy} (M : Memref sig .tc sp S e) : Type := Buf (Elt F) (M.view.loc (c : Thread nD τ))
/-- A memref's buffer held whole. -/
abbrev held (c : Dev nD) {sp : Space} {S : Shape} {e : EltTy} (M : Memref sig .tc sp S e) (f : BufOf (F := F) c M) : sProp 𝕄 :=
  M.view.loc (c : Thread nD τ) ↦{fullShare} f

/-- The slot tile `n` is gathered into, of the two. -/
abbrev sl (n : ℕ) : Fin 2 := Ring.sl 2 n
theorem sl_add2 (n : ℕ) : sl (n + 2) = sl n := Ring.sl_add 2 n

/-- The position of tile `n`'s `t`-th gathered row among the experts' sorted rows (the last entry's, past the end). -/
def wd (pos : S65536.Idx → BitVec 32) (n t : ℕ) : BitVec 32 := pos fun | 0 => (⟨min (1024 * n + t) 65535, by omega⟩ : Fin 65536)

instance : NeZero grid0.N := ⟨by rw [N_0]; decide⟩
theorem coords_val (t : Fin grid0.N) : (grid0.coords t 0).val = t.val :=
  (by decide +kernel : ∀ t : Fin grid0.N, (grid0.coords t 0).val = t.val) t

abbrev mPos : Memref sig .tc .smem S65536 .i32 := Memref.whole main_arg0
abbrev ys : Memref sig .tc .hbm S73728x1024 .f32 := Memref.whole main_arg1
abbrev sc : Memref sig .tc .vmem S2x2x512x1024 .f32 := Memref.whole cc0_scratch0

theorem inb_row (s : Fin 2) (t : ℕ) : ∀ a, (![s.val, t % 2, t / 2 % 512, 0] : Fin 4 → Nat) a + S1x1x1x1024.size a ≤ S2x2x512x1024.size a := by
  have := s.isLt; intro a; fin_cases a <;> simp <;> omega
theorem inb_src (w : BitVec 32) : ∀ a, (![w.toNat % 73728, 0] : Fin 2 → Nat) a + S1x1024.size a ≤ S73728x1024.size a := by
  intro a; fin_cases a <;> simp <;> omega
theorem inb_cell (s : Fin 2) : ∀ a, (![s.val] : Fin 1 → Nat) a + S1.size a ≤ S2.size a := by
  have := s.isLt; intro a; fin_cases a <;> simp <;> omega
theorem inb_half (s k : Fin 2) : ∀ a, (![s.val, k.val, 0, 0] : Fin 4 → Nat) a + S1x1x512x1024.size a ≤ S2x2x512x1024.size a := by
  have := s.isLt; have := k.isLt; intro a; fin_cases a <;> simp <;> omega

/-- The share of the experts' rows lent to slot `s`'s transfers: a half. -/
abbrev lent (s : Fin 2) : PosShare TreeShare := if s.val = 0 then fullShare.left else fullShare.right

/-- Slot `s`'s semaphore. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
abbrev cellP (c : Dev nD) (s : Fin 2) : sProp 𝕄 := semVal ((c : Thread nD τ), cellR s) 0
/-- Row `t / 2` of expert `t % 2`'s half of slot `s`. -/
def rowM (s : Fin 2) (t : ℕ) : Memref sig .tc .vmem S1x1024 .f32 :=
  (sc.slice (Rect.unit (s := S2x2x512x1024) ![s.val, t % 2, t / 2 % 512, 0] S1x1x1x1024.size (inb_row s t)) (fun _ => rfl)).squeeze S1x1024 squeezes_S1x1x1x1024_S1x1024
/-- The experts' row at a position. -/
def srcM (w : BitVec 32) : Memref sig .tc .hbm S1x1024 .f32 :=
  ys.slice (Rect.unit (s := S73728x1024) ![w.toNat % 73728, 0] S1x1024.size (inb_src w)) (fun _ => rfl)
/-- Expert `k`'s half of slot `s`. -/
def halfM (s k : Fin 2) : Memref sig .tc .vmem S1x1x512x1024 .f32 :=
  sc.slice (Rect.unit (s := S2x2x512x1024) ![s.val, k.val, 0, 0] S1x1x512x1024.size (inb_half s k)) (fun _ => rfl)

theorem cell_congr (s : Fin 2) {off : Fin 1 → Nat} (h : ∀ a, off a + S1.size a ≤ S2.size a) (e : off = ![s.val]) :
    (cc0_scratch1.slice (Rect.unit (s := S2) off S1.size h)).squeeze S_ squeezes_S1_S_ = cellA s :=
  congrArg (fun A : DmaSems sig S1 => A.squeeze S_ squeezes_S1_S_) (SemArray.slice_unit_congr _ e _ _)
theorem row_congr (s : Fin 2) (t : ℕ) {off : Fin 4 → Nat} (h : ∀ a, off a + S1x1x1x1024.size a ≤ S2x2x512x1024.size a) (e : off = ![s.val, t % 2, t / 2 % 512, 0]) :
    (sc.slice (Rect.unit (s := S2x2x512x1024) off S1x1x1x1024.size h) (fun _ => rfl)).squeeze S1x1024 squeezes_S1x1x1x1024_S1x1024 = rowM s t :=
  congrArg (fun M : Memref sig .tc .vmem S1x1x1x1024 .f32 => M.squeeze S1x1024 squeezes_S1x1x1x1024_S1x1024) (Memref.slice_unit_congr _ e _ _ (fun _ => rfl) (fun _ => rfl))
theorem src_congr (w : BitVec 32) (hw : w.toNat < 73728) {off : Fin 2 → Nat} (h : ∀ a, off a + S1x1024.size a ≤ S73728x1024.size a) (e : off = ![w.toNat, 0]) :
    ys.slice (Rect.unit (s := S73728x1024) off S1x1024.size h) (fun _ => rfl) = srcM w :=
  Memref.slice_unit_congr _ (e.trans (by rw [Nat.mod_eq_of_lt hw])) _ _ (fun _ => rfl) (fun _ => rfl)

/-! ## What is held of a slot, and what its transfers deliver -/

section
variable (c : Dev nD) (pos : S65536.Idx → BitVec 32) (Y : BufOf (F := F) c ys)
/-- Row `t` of slot `s`. -/
abbrev rowP (s : Fin 2) (f : BufOf (F := F) c sc) (t : ℕ) : sProp 𝕄 := (rowM s t).view.loc (c : Thread nD τ) ↦[(rowM s t).view.set]{fullShare} f
/-- What the `t`-th transfer of tile `n` into slot `s` borrows of the experts' rows; the rest of its copy; the copy. -/
abbrev srcW (s : Fin 2) (t : ℕ) (w : BitVec 32) : sProp 𝕄 := (srcM w).view.loc (c : Thread nD τ) ↦[(srcM w).view.set]{Transfers.shareTokN (lent s) t} Y
abbrev srcP (s : Fin 2) (n t : ℕ) : sProp 𝕄 := srcW c Y s t (wd pos n t)
def restP (s : Fin 2) (n t : ℕ) : sProp 𝕄 := ((c : Thread nD τ).loc main_arg1) ↦[Finset.univ \ (srcM (wd pos n t)).view.set]{Transfers.shareTokN (lent s) t} Y
/-- What row `t` of slot `s` holds once its transfer landed. -/
abbrev landed (s : Fin 2) (n : ℕ) (f : BufOf (F := F) c sc) (t : ℕ) : BufOf (F := F) c sc :=
  (rowM s t).view.writes (Elt F) f [⟨Rect.whole S1x1024, ReadAs.same.apply ((srcM (wd pos n t)).view.read (Elt F) Y)⟩]
/-- What the `t`-th transfer delivers: the row landed, and what was borrowed. -/
abbrev dlv (s : Fin 2) (n : ℕ) (f : BufOf (F := F) c sc) (t : ℕ) : sProp 𝕄 :=
  iprop(rowP c s (landed c pos Y s n f t) t ∗ srcP c pos Y s n t)
omit [FloatOps F] in
theorem deliver (s : Fin 2) (n : ℕ) (f : BufOf (F := F) c sc) (t : ℕ) {w : BitVec 32} (hw : wd pos n t = w) :
    iprop(rowP c s ((rowM s t).view.writes (Elt F) f [⟨Rect.whole S1x1024, ReadAs.same.apply ((srcM w).view.read (Elt F) Y)⟩]) t ∗ srcW c Y s t w) ⊢ dlv c pos Y s n f t := by
  subst hw; exact .rfl
abbrev dlvs (s : Fin 2) (n : ℕ) (f : BufOf (F := F) c sc) : Fin 1024 → sProp 𝕄 := fun t => dlv c pos Y s n f t.val
/-- Slot `s`'s transfers for tile `n`: `j` issued, `u` units waited for. -/
abbrev batch (s : Fin 2) (n : ℕ) (f : BufOf (F := F) c sc) (j u : ℕ) : sProp 𝕄 :=
  Transfers.Batch countersEmb (c : Thread nD τ) (cellR s) () 128 (dlvs c pos Y s n f) j u
abbrev rowsFrom (s : Fin 2) (f : BufOf (F := F) c sc) (a : ℕ) : sProp 𝕄 := bigSep (Ring.rangeSet 1024 a 1024) fun t => rowP c s f t.val
abbrev srcsFrom (s : Fin 2) (n a : ℕ) : sProp 𝕄 := bigSep (Ring.rangeSet 1024 a 1024) fun t => srcP c pos Y s n t.val
/-- The table of positions, as the call reads it. -/
abbrev tabP : sProp 𝕄 := mPos.view.loc (c : Thread nD τ) ↦{fullShare.right} pos
end

/-! ## The printed views, cells and words are the named ones -/

theorem sl_val (n : ℕ) : (sl n).val = n % 2 := rfl
theorem one_sub_mod (n : ℕ) : 1 - n % 2 = (sl (n + 1)).val := by rw [sl_val]; omega

@[sl_canon] theorem canon2 (t : Fin grid0.N) (h1 : k0_cond1 (grid0.coords t) = 1#1) :
    (cc0_scratch1.slice (Rect.unit (s := S2) (k0_off2 (grid0.coords t)) S1.size (k0_off2_inb (grid0.coords t) h1))).squeeze S_ squeezes_S1_S_ = cellA (sl t.val) :=
  cell_congr _ _ (by rw [k0_off2_eq, coords_val]; rfl)
@[sl_canon] theorem canon6 (t : Fin grid0.N) (h1 : k0_cond1 (grid0.coords t) = 1#1) :
    (cc0_scratch1.slice (Rect.unit (s := S2) (k0_off6 (grid0.coords t)) S1.size (k0_off6_inb (grid0.coords t) h1))).squeeze S_ squeezes_S1_S_ = cellA (sl t.val) :=
  cell_congr _ _ (by rw [k0_off6_eq, coords_val]; rfl)
@[sl_canon] theorem canon10 (t : Fin grid0.N) (h2 : k0_cond2 (grid0.coords t) = 1#1) :
    (cc0_scratch1.slice (Rect.unit (s := S2) (k0_off10 (grid0.coords t)) S1.size (k0_off10_inb (grid0.coords t) h2))).squeeze S_ squeezes_S1_S_ = cellA (sl (t.val + 1)) :=
  cell_congr _ _ (by rw [k0_off10_eq, coords_val, one_sub_mod])
@[sl_canon] theorem canon14 (t : Fin grid0.N) (h2 : k0_cond2 (grid0.coords t) = 1#1) :
    (cc0_scratch1.slice (Rect.unit (s := S2) (k0_off14 (grid0.coords t)) S1.size (k0_off14_inb (grid0.coords t) h2))).squeeze S_ squeezes_S1_S_ = cellA (sl (t.val + 1)) :=
  cell_congr _ _ (by rw [k0_off14_eq, coords_val, one_sub_mod])
@[sl_canon] theorem canon17 (t : Fin grid0.N) :
    (cc0_scratch1.slice (Rect.unit (s := S2) (k0_off17 (grid0.coords t)) S1.size (k0_off17_inb (grid0.coords t)))).squeeze S_ squeezes_S1_S_ = cellA (sl t.val) :=
  cell_congr _ _ (by rw [k0_off17_eq, coords_val]; rfl)
@[sl_canon] theorem canon19 (t : Fin grid0.N) :
    (cc0_scratch1.slice (Rect.unit (s := S2) (k0_off19 (grid0.coords t)) S1.size (k0_off19_inb (grid0.coords t)))).squeeze S_ squeezes_S1_S_ = cellA (sl t.val) :=
  cell_congr _ _ (by rw [k0_off19_eq, coords_val]; rfl)

theorem trips1 (k : Fin k0_t1_loop.trips) : k.val < 512 := lt_of_lt_of_le k.isLt k0_t1_abs.2.1
theorem trips2 (k : Fin k0_t2_loop.trips) : k.val < 512 := lt_of_lt_of_le k.isLt k0_t2_abs.2.1
theorem trips3 (k : Fin k0_t3_loop.trips) : k.val < 512 := lt_of_lt_of_le k.isLt k0_t3_abs.2.1
theorem trips4 (k : Fin k0_t4_loop.trips) : k.val < 512 := lt_of_lt_of_le k.isLt k0_t4_abs.2.1
theorem even_row {k : ℕ} (h : k < 512) (x : ℕ) : (![x, 0, k, 0] : Fin 4 → Nat) = ![x, 2 * k % 2, 2 * k / 2 % 512, 0] := by
  rw [show 2 * k % 2 = 0 by omega, show 2 * k / 2 % 512 = k by omega]
theorem odd_row {k : ℕ} (h : k < 512) (x : ℕ) : (![x, 1, k, 0] : Fin 4 → Nat) = ![x, (2 * k + 1) % 2, (2 * k + 1) / 2 % 512, 0] := by
  rw [show (2 * k + 1) % 2 = 1 by omega, show (2 * k + 1) / 2 % 512 = k by omega]

@[sl_canon] theorem canon3 (t : Fin grid0.N) (k : Fin k0_t1_loop.trips) (h1 : k0_cond1 (grid0.coords t) = 1#1) :
    (sc.slice (Rect.unit (s := S2x2x512x1024) (k0_off3 (grid0.coords t) k) S1x1x1x1024.size (k0_off3_inb (grid0.coords t) k h1)) (fun _ => rfl)).squeeze S1x1024 squeezes_S1x1x1x1024_S1x1024 = rowM (sl t.val) (2 * k.val) :=
  row_congr _ _ _ (by rw [k0_off3_eq, coords_val, even_row (trips1 k)]; rfl)
@[sl_canon] theorem canon7 (t : Fin grid0.N) (k : Fin k0_t1_loop.trips) (h1 : k0_cond1 (grid0.coords t) = 1#1) :
    (sc.slice (Rect.unit (s := S2x2x512x1024) (k0_off7 (grid0.coords t) k) S1x1x1x1024.size (k0_off7_inb (grid0.coords t) k h1)) (fun _ => rfl)).squeeze S1x1024 squeezes_S1x1x1x1024_S1x1024 = rowM (sl t.val) (2 * k.val + 1) :=
  row_congr _ _ _ (by rw [k0_off7_eq, coords_val, odd_row (trips1 k)]; rfl)
@[sl_canon] theorem canon11 (t : Fin grid0.N) (k : Fin k0_t2_loop.trips) (h2 : k0_cond2 (grid0.coords t) = 1#1) :
    (sc.slice (Rect.unit (s := S2x2x512x1024) (k0_off11 (grid0.coords t) k) S1x1x1x1024.size (k0_off11_inb (grid0.coords t) k h2)) (fun _ => rfl)).squeeze S1x1024 squeezes_S1x1x1x1024_S1x1024 = rowM (sl (t.val + 1)) (2 * k.val) :=
  row_congr _ _ _ (by rw [k0_off11_eq, coords_val, one_sub_mod, even_row (trips2 k)])
@[sl_canon] theorem canon15 (t : Fin grid0.N) (k : Fin k0_t2_loop.trips) (h2 : k0_cond2 (grid0.coords t) = 1#1) :
    (sc.slice (Rect.unit (s := S2x2x512x1024) (k0_off15 (grid0.coords t) k) S1x1x1x1024.size (k0_off15_inb (grid0.coords t) k h2)) (fun _ => rfl)).squeeze S1x1024 squeezes_S1x1x1x1024_S1x1024 = rowM (sl (t.val + 1)) (2 * k.val + 1) :=
  row_congr _ _ _ (by rw [k0_off15_eq, coords_val, one_sub_mod, odd_row (trips2 k)])

@[sl_canon] theorem canon4 (t : Fin grid0.N) (w : BitVec 32) [he : Fact (w.toNat < 73728)] (hc : k0_chk1 (grid0.coords t) w) (h1 : k0_cond1 (grid0.coords t) = 1#1) :
    ys.slice (Rect.unit (s := S73728x1024) (k0_off4 w) S1x1024.size (k0_off4_inb (grid0.coords t) w hc h1)) (fun _ => rfl) = srcM w := src_congr _ he.out _ rfl
@[sl_canon] theorem canon8 (t : Fin grid0.N) (w : BitVec 32) [he : Fact (w.toNat < 73728)] (hc : k0_chk2 (grid0.coords t) w) (h1 : k0_cond1 (grid0.coords t) = 1#1) :
    ys.slice (Rect.unit (s := S73728x1024) (k0_off8 w) S1x1024.size (k0_off8_inb (grid0.coords t) w hc h1)) (fun _ => rfl) = srcM w := src_congr _ he.out _ rfl
@[sl_canon] theorem canon12 (t : Fin grid0.N) (w : BitVec 32) [he : Fact (w.toNat < 73728)] (hc : k0_chk3 (grid0.coords t) w) (h2 : k0_cond2 (grid0.coords t) = 1#1) :
    ys.slice (Rect.unit (s := S73728x1024) (k0_off12 w) S1x1024.size (k0_off12_inb (grid0.coords t) w hc h2)) (fun _ => rfl) = srcM w := src_congr _ he.out _ rfl
@[sl_canon] theorem canon16 (t : Fin grid0.N) (w : BitVec 32) [he : Fact (w.toNat < 73728)] (hc : k0_chk4 (grid0.coords t) w) (h2 : k0_cond2 (grid0.coords t) = 1#1) :
    ys.slice (Rect.unit (s := S73728x1024) (k0_off16 w) S1x1024.size (k0_off16_inb (grid0.coords t) w hc h2)) (fun _ => rfl) = srcM w := src_congr _ he.out _ rfl

theorem src_inb (w : BitVec 32) (hw : w.toNat < 73728) : ∀ a, (![w.toNat, 0] : Fin 2 → Nat) a + S1x1024.size a ≤ S73728x1024.size a := by
  have := inb_src w; rwa [Nat.mod_eq_of_lt hw] at this
theorem chk1_of (i : grid0.Coords) (w : BitVec 32) (hw : w.toNat < 73728) : k0_chk1 i w := fun _ => src_inb w hw
theorem chk2_of (i : grid0.Coords) (w : BitVec 32) (hw : w.toNat < 73728) : k0_chk2 i w := fun _ => src_inb w hw
theorem chk3_of (i : grid0.Coords) (w : BitVec 32) (hw : w.toNat < 73728) : k0_chk3 i w := fun _ => src_inb w hw
theorem chk4_of (i : grid0.Coords) (w : BitVec 32) (hw : w.toNat < 73728) : k0_chk4 i w := fun _ => src_inb w hw

/-- A word read at entry `1024 n + t` of the table is tile `n`'s `t`-th position. -/
theorem read_wd (pos : S65536.Idx → BitVec 32) (n t : ℕ) {off : Fin 1 → Nat} (hb : ∀ a, off a + S1.size a ≤ S65536.size a) (e : off = ![1024 * n + t]) :
    View.readAt (Elt F) mPos.view (Rect.unit (s := S65536) off S1.size hb).toLoadRect pos = (fun _ => wd pos n t) := by
  subst e
  have h0 : 1024 * n + t + 1 ≤ 65536 := hb 0
  funext x
  refine congrArg pos (funext fun a => ?_)
  match a with
  | 0 =>
    refine Fin.ext ?_
    have : (x 0).val = 0 := by have : (x 0).val < 1 := (x 0).isLt; omega
    show 1024 * n + t + 1 * (x 0).val = min (1024 * n + t) 65535
    omega
theorem fact1 (pos : S65536.Idx → BitVec 32) (t : Fin grid0.N) (k : Fin k0_t1_loop.trips) (h1 : k0_cond1 (grid0.coords t) = 1#1) :
    View.readAt (Elt F) mPos.view (Rect.unit (s := S65536) (k0_off1 (grid0.coords t) k) S1.size (k0_off1_inb (grid0.coords t) k h1)).toLoadRect pos = (fun _ => wd pos t.val (2 * k.val)) :=
  read_wd _ _ _ _ (by rw [k0_off1_eq, coords_val])
theorem fact5 (pos : S65536.Idx → BitVec 32) (t : Fin grid0.N) (k : Fin k0_t1_loop.trips) (h1 : k0_cond1 (grid0.coords t) = 1#1) :
    View.readAt (Elt F) mPos.view (Rect.unit (s := S65536) (k0_off5 (grid0.coords t) k) S1.size (k0_off5_inb (grid0.coords t) k h1)).toLoadRect pos = (fun _ => wd pos t.val (2 * k.val + 1)) :=
  read_wd _ _ _ _ (by rw [k0_off5_eq, coords_val]; rfl)
theorem fact9 (pos : S65536.Idx → BitVec 32) (t : Fin grid0.N) (k : Fin k0_t2_loop.trips) (h2 : k0_cond2 (grid0.coords t) = 1#1) :
    View.readAt (Elt F) mPos.view (Rect.unit (s := S65536) (k0_off9 (grid0.coords t) k) S1.size (k0_off9_inb (grid0.coords t) k h2)).toLoadRect pos = (fun _ => wd pos (t.val + 1) (2 * k.val)) :=
  read_wd _ _ _ _ (by rw [k0_off9_eq, coords_val]; congr 1; omega)
theorem fact13 (pos : S65536.Idx → BitVec 32) (t : Fin grid0.N) (k : Fin k0_t2_loop.trips) (h2 : k0_cond2 (grid0.coords t) = 1#1) :
    View.readAt (Elt F) mPos.view (Rect.unit (s := S65536) (k0_off13 (grid0.coords t) k) S1.size (k0_off13_inb (grid0.coords t) k h2)).toLoadRect pos = (fun _ => wd pos (t.val + 1) (2 * k.val + 1)) :=
  read_wd _ _ _ _ (by rw [k0_off13_eq, coords_val]; congr 1; omega)

end Cert.Combine

end
-- ==== Proof.CStep.lean ====
/- The loops of the combining call: each issues or waits for two expert rows per token, or one. -/
module

public import proofs.«01_k».proof.Proof.CRing

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (Pipeline.UD sig nD τ) ℕ

section
variable (c : Dev nD) (pos : S65536.Idx → BitVec 32) (Y : BufOf (F := F) c ys)

/-- While slot `s` is being filled with tile `n`: `k` tokens' rows issued. -/
def issuing (s : Fin 2) (n : ℕ) (f : BufOf (F := F) c sc) (k : ℕ) (_ : Unit) : sProp 𝕄 :=
  iprop(tabP c pos ∗ rowsFrom c s f (2 * k) ∗ srcsFrom c pos Y s n (2 * k) ∗ batch c pos Y s n f (2 * k) 0)

variable (arg3 : Memref sig .tc .vmem S512x1024 .f32) (harg3 : arg3.IsWhole) (arg4 : Memref sig .tc .vmem S512x128 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S512x1024 .f32) (harg7 : arg7.IsWhole)

set_option maxHeartbeats 4000000 in
/-- One token's two rows of tile `t.val` issued. -/
theorem issue1 (t : Fin grid0.N) (h1 : k0_cond1 (grid0.coords t) = 1#1) (f : BufOf (F := F) c sc) (hpos : ∀ n t, (wd pos n t).toNat < 73728)
    (k : Fin k0_t1_loop.trips) (acc : Unit) :
    issuing c pos Y (sl (t.val)) (t.val) f k.val acc ⊢ wp frame (wpE (defs₀ (F := F)) Variants.none c none) Set.univ
      (k0_t1_body (F := F) (grid0.coords t) mPos (Memref.isWhole_whole _) ys (Memref.isWhole_whole _) arg3 harg3 arg4 harg4 arg5 harg5 arg6 harg6 arg7 harg7 sc (Memref.isWhole_whole _) cc0_scratch1 h1 k acc)
      (issuing c pos Y (sl (t.val)) (t.val) f (k.val + 1)) := by
  have hk := trips1 k
  unfold issuing rowsFrom srcsFrom
  rw [Ring.bigSep_rangeSet_head (Φ := fun r : Fin 1024 => rowP c (sl t.val) f r.val) (lo := 2 * k.val) (by omega) (by omega),
    Ring.bigSep_rangeSet_head (Φ := fun r : Fin 1024 => rowP c (sl t.val) f r.val) (lo := 2 * k.val + 1) (by omega) (by omega),
    Ring.bigSep_rangeSet_head (Φ := fun r : Fin 1024 => srcP c pos Y (sl (t.val)) (t.val) r.val) (lo := 2 * k.val) (by omega) (by omega),
    Ring.bigSep_rangeSet_head (Φ := fun r : Fin 1024 => srcP c pos Y (sl (t.val)) (t.val) r.val) (lo := 2 * k.val + 1) (by omega) (by omega),
    show 2 * (k.val + 1) = 2 * k.val + 1 + 1 by omega]
  have ea := fact1 (F := F) pos t k h1
  have eb := fact5 (F := F) pos t k h1
  have la := hpos (t.val) (2 * k.val)
  have lb := hpos (t.val) (2 * k.val + 1)
  unfold srcP
  dsimp only
  obtain ⟨wa, hcanona⟩ : ∃ w, wd pos (t.val) (2 * k.val) = w := ⟨_, rfl⟩
  obtain ⟨wb, hcanonb⟩ : ∃ w, wd pos (t.val) (2 * k.val + 1) = w := ⟨_, rfl⟩
  rw [hcanona] at ea la
  rw [hcanonb] at eb lb
  simp only [hcanona, hcanonb]
  haveI : Fact (wa.toNat < 73728) := ⟨la⟩
  haveI : Fact (wb.toNat < 73728) := ⟨lb⟩
  have ca := chk1_of (grid0.coords t) _ la
  have cb := chk2_of (grid0.coords t) _ lb
  iintro ⟨HT, ⟨R0, R1, R⟩, ⟨T0, T1, T⟩, HB⟩
  unfold k0_t1_body
  sl_exec (disch := first | sl_exact ca | sl_exact cb | exact deliver c pos Y _ _ f _ (by assumption))
  sl_step
  isplitl [HT]
  · iexact HT
  isplitl [R]
  · iexact R
  isplitl [T]
  · iexact T
  iexact HB

/-- While tile `n`'s rows are awaited: `k` of the second half's 512 (after `b` others) arrived. -/
def awaiting (s : Fin 2) (n : ℕ) (f : BufOf (F := F) c sc) (b k : ℕ) (_ : Unit) : sProp 𝕄 :=
  iprop(⌜k ≤ 512⌝ ∗ (∃ W, owes (c : Thread nD τ) 0 W) ∗ batch c pos Y s n f 1024 ((b + k) * 128))

set_option maxHeartbeats 4000000 in
/-- One row awaited. -/
theorem await3 (t : Fin grid0.N) (f : BufOf (F := F) c sc) (plan : Transfers.InterleavedWaits (c : Thread nD τ) (cellR (sl t.val)))
    (k : Fin k0_t3_loop.trips) (acc : Unit) :
    awaiting c pos Y (sl t.val) t.val f 0 k.val acc ⊢ wp frame (wpE (defs₀ (F := F)) Variants.none c none) Set.univ
      (k0_t3_body (F := F) (grid0.coords t) mPos (Memref.isWhole_whole _) ys (Memref.isWhole_whole _) arg3 harg3 arg4 harg4 arg5 harg5 arg6 harg6 arg7 harg7 sc (Memref.isWhole_whole _) cc0_scratch1 k acc)
      (awaiting c pos Y (sl t.val) t.val f 0 (k.val + 1)) := by
  have hk := trips3 k
  unfold awaiting
  iintro ⟨-, ⟨%W, HO⟩, HB⟩
  unfold k0_t3_body
  sl_exec
  sl_step
  isplitr
  · ipureintro; omega
  isplitl [HO]
  · iexists _; iexact HO
  rw [show (0 + (k.val + 1)) * 128 = (0 + k.val) * 128 + 1 * 128 by omega]
  iexact HB

set_option maxHeartbeats 4000000 in
/-- One token's two rows of tile `t.val + 1` issued. -/
theorem issue2 (t : Fin grid0.N) (h2 : k0_cond2 (grid0.coords t) = 1#1) (f : BufOf (F := F) c sc) (hpos : ∀ n t, (wd pos n t).toNat < 73728)
    (k : Fin k0_t2_loop.trips) (acc : Unit) :
    issuing c pos Y (sl (t.val + 1)) (t.val + 1) f k.val acc ⊢ wp frame (wpE (defs₀ (F := F)) Variants.none c none) Set.univ
      (k0_t2_body (F := F) (grid0.coords t) mPos (Memref.isWhole_whole _) ys (Memref.isWhole_whole _) arg3 harg3 arg4 harg4 arg5 harg5 arg6 harg6 arg7 harg7 sc (Memref.isWhole_whole _) cc0_scratch1 h2 k acc)
      (issuing c pos Y (sl (t.val + 1)) (t.val + 1) f (k.val + 1)) := by
  have hk := trips2 k
  unfold issuing rowsFrom srcsFrom
  rw [Ring.bigSep_rangeSet_head (Φ := fun r : Fin 1024 => rowP c (sl (t.val + 1)) f r.val) (lo := 2 * k.val) (by omega) (by omega),
    Ring.bigSep_rangeSet_head (Φ := fun r : Fin 1024 => rowP c (sl (t.val + 1)) f r.val) (lo := 2 * k.val + 1) (by omega) (by omega),
    Ring.bigSep_rangeSet_head (Φ := fun r : Fin 1024 => srcP c pos Y (sl (t.val + 1)) (t.val + 1) r.val) (lo := 2 * k.val) (by omega) (by omega),
    Ring.bigSep_rangeSet_head (Φ := fun r : Fin 1024 => srcP c pos Y (sl (t.val + 1)) (t.val + 1) r.val) (lo := 2 * k.val + 1) (by omega) (by omega),
    show 2 * (k.val + 1) = 2 * k.val + 1 + 1 by omega]
  have ea := fact9 (F := F) pos t k h2
  have eb := fact13 (F := F) pos t k h2
  have la := hpos (t.val + 1) (2 * k.val)
  have lb := hpos (t.val + 1) (2 * k.val + 1)
  unfold srcP
  dsimp only
  obtain ⟨wa, hcanona⟩ : ∃ w, wd pos (t.val + 1) (2 * k.val) = w := ⟨_, rfl⟩
  obtain ⟨wb, hcanonb⟩ : ∃ w, wd pos (t.val + 1) (2 * k.val + 1) = w := ⟨_, rfl⟩
  rw [hcanona] at ea la
  rw [hcanonb] at eb lb
  simp only [hcanona, hcanonb]
  haveI : Fact (wa.toNat < 73728) := ⟨la⟩
  haveI : Fact (wb.toNat < 73728) := ⟨lb⟩
  have ca := chk3_of (grid0.coords t) _ la
  have cb := chk4_of (grid0.coords t) _ lb
  iintro ⟨HT, ⟨R0, R1, R⟩, ⟨T0, T1, T⟩, HB⟩
  unfold k0_t2_body
  sl_exec (disch := first | sl_exact ca | sl_exact cb | exact deliver c pos Y _ _ f _ (by assumption))
  sl_step
  isplitl [HT]
  · iexact HT
  isplitl [R]
  · iexact R
  isplitl [T]
  · iexact T
  iexact HB

set_option maxHeartbeats 4000000 in
/-- One row awaited. -/
theorem await4 (t : Fin grid0.N) (f : BufOf (F := F) c sc) (plan : Transfers.InterleavedWaits (c : Thread nD τ) (cellR (sl t.val)))
    (k : Fin k0_t4_loop.trips) (acc : Unit) :
    awaiting c pos Y (sl t.val) t.val f 512 k.val acc ⊢ wp frame (wpE (defs₀ (F := F)) Variants.none c none) Set.univ
      (k0_t4_body (F := F) (grid0.coords t) mPos (Memref.isWhole_whole _) ys (Memref.isWhole_whole _) arg3 harg3 arg4 harg4 arg5 harg5 arg6 harg6 arg7 harg7 sc (Memref.isWhole_whole _) cc0_scratch1 k acc)
      (awaiting c pos Y (sl t.val) t.val f 512 (k.val + 1)) := by
  have hk := trips4 k
  unfold awaiting
  iintro ⟨-, ⟨%W, HO⟩, HB⟩
  unfold k0_t4_body
  sl_exec
  sl_step
  isplitr
  · ipureintro; omega
  isplitl [HO]
  · iexists _; iexact HO
  rw [show (512 + (k.val + 1)) * 128 = (512 + k.val) * 128 + 1 * 128 by omega]
  iexact HB

end

end Cert.Combine

end
-- ==== Proof.CSlot.lean ====
/- A slot of the combining call as a whole: split into rows to be filled, and joined again once every row has landed. -/
module

public import proofs.«01_k».proof.Proof.CRing
public import Idealize.ShloMosaic.Lib.Pointwise
public import Idealize.ShloMosaic.Lib.Pipeline.Value

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (Pipeline.UD sig nD τ) ℕ

/-! ## The sets of a slot, of its rows and of its halves -/

theorem inb_slot (s : Fin 2) : ∀ a, (![s.val, 0, 0, 0] : Fin 4 → Nat) a + (![1, 2, 512, 1024] : Fin 4 → Nat) a ≤ S2x2x512x1024.size a := by
  have := s.isLt; intro a; fin_cases a <;> simp <;> omega
/-- Slot `s`'s elements. -/
abbrev slotSet (s : Fin 2) : Finset S2x2x512x1024.Idx := (Rect.unit (s := S2x2x512x1024) ![s.val, 0, 0, 0] ![1, 2, 512, 1024] (inb_slot s)).set
abbrev rowSet (s : Fin 2) (t : ℕ) : Finset S2x2x512x1024.Idx := (Rect.unit (s := S2x2x512x1024) ![s.val, t % 2, t / 2 % 512, 0] S1x1x1x1024.size (inb_row s t)).set
abbrev halfSet (s k : Fin 2) : Finset S2x2x512x1024.Idx := (Rect.unit (s := S2x2x512x1024) ![s.val, k.val, 0, 0] S1x1x512x1024.size (inb_half s k)).set
theorem mem_slotSet (s : Fin 2) (y : S2x2x512x1024.Idx) : y ∈ slotSet s ↔ (y 0).val = s.val := by
  have h1 := (y 1).isLt; have h2 := (y 2).isLt; have h3 := (y 3).isLt
  rw [Rect.mem_set_unit]
  constructor
  · intro h; have := h 0; simp at this; omega
  · intro h a; fin_cases a <;> simp_all <;> omega
theorem mem_rowSet (s : Fin 2) (t : ℕ) (y : S2x2x512x1024.Idx) : y ∈ rowSet s t ↔ (y 0).val = s.val ∧ (y 1).val = t % 2 ∧ (y 2).val = t / 2 % 512 := by
  have h3 := (y 3).isLt
  rw [Rect.mem_set_unit]
  constructor
  · intro h; have a0 := h 0; have a1 := h 1; have a2 := h 2; simp at a0 a1 a2; omega
  · intro h a; fin_cases a <;> simp_all <;> omega
theorem mem_halfSet (s k : Fin 2) (y : S2x2x512x1024.Idx) : y ∈ halfSet s k ↔ (y 0).val = s.val ∧ (y 1).val = k.val := by
  have h2 := (y 2).isLt; have h3 := (y 3).isLt
  rw [Rect.mem_set_unit]
  constructor
  · intro h; have a0 := h 0; have a1 := h 1; simp at a0 a1; omega
  · intro h a; fin_cases a <;> simp_all <;> omega
theorem rowSet_eq (s : Fin 2) (t : ℕ) : (rowM s t).view.set = rowSet s t := by
  simp only [rowM, Memref.view_squeeze, View.set_reshape]; exact View.set_slice_whole _ _
theorem halfSet_eq (s k : Fin 2) : (halfM s k).view.set = halfSet s k := View.set_slice_whole _ _
theorem slots_disjoint (s s' : Fin 2) (h : s ≠ s') : Disjoint (slotSet s) (slotSet s') := by
  rw [Finset.disjoint_left]; intro y h1 h2; rw [mem_slotSet] at h1 h2; exact h (Fin.ext (h1.symm.trans h2))
theorem slots_cover : Finset.univ.biUnion slotSet = Finset.univ := by
  ext y; simp only [Finset.mem_biUnion, Finset.mem_univ, true_and, iff_true]; exact ⟨y 0, (mem_slotSet _ _).2 rfl⟩
theorem rows_disjoint (s : Fin 2) (t t' : Fin 1024) (h : t ≠ t') : Disjoint (rowSet s t.val) (rowSet s t'.val) := by
  rw [Finset.disjoint_left]; intro y h1 h2; rw [mem_rowSet] at h1 h2; refine h (Fin.ext ?_)
  have := t.isLt; have := t'.isLt; omega
theorem rows_cover (s : Fin 2) : Finset.univ.biUnion (fun t : Fin 1024 => rowSet s t.val) = slotSet s := by
  ext y; simp only [Finset.mem_biUnion, Finset.mem_univ, true_and, mem_rowSet, mem_slotSet]
  constructor
  · rintro ⟨t, h, -⟩; exact h
  · intro h; have h1 : (y 1).val < 2 := (y 1).isLt; have h2 : (y 2).val < 512 := (y 2).isLt
    exact ⟨⟨2 * (y 2).val + (y 1).val, by omega⟩, h, by dsimp only; omega, by dsimp only; omega⟩
theorem half0_sub (s : Fin 2) : halfSet s 0 ⊆ slotSet s := fun y h => (mem_slotSet _ _).2 ((mem_halfSet _ _ _).1 h).1
theorem half1_eq (s : Fin 2) : slotSet s \ halfSet s 0 = halfSet s 1 := by
  ext y; have h1 : (y 1).val < 2 := (y 1).isLt
  simp only [Finset.mem_sdiff, mem_slotSet, mem_halfSet]
  show _ ∧ ¬ (_ ∧ (y 1).val = 0) ↔ _ ∧ (y 1).val = 1
  omega

/-! ## What a slot holds once tile `n` has landed -/

/-- The slot's contents: row `r` of half `k` is the experts' row at the tile's position `2 r + k`. -/
def full (pos : S65536.Idx → BitVec 32) (Y : S73728x1024.Idx → F .f32) (n : ℕ) : S2x2x512x1024.Idx → F .f32 := fun y =>
  Y (ix2 ⟨(wd pos n (2 * (y 2).val + (y 1).val)).toNat % 73728, Nat.mod_lt _ (by decide)⟩ (y 3))
omit [FloatOps F] in
theorem src_read (Y : S73728x1024.Idx → F .f32) (w : BitVec 32) (q : Fin 1024) :
    (srcM w).view.read (Elt F) Y (ix2 0 q) = Y (ix2 ⟨w.toNat % 73728, Nat.mod_lt _ (by decide)⟩ q) := by
  show Y ((Rect.unit (s := S73728x1024) ![w.toNat % 73728, 0] S1x1024.size (inb_src w)).emb (ix2 0 q)) = _
  refine congrArg Y (funext fun b => Fin.ext ?_)
  match b with
  | 0 => show w.toNat % 73728 + 1 * 0 = w.toNat % 73728; omega
  | 1 => show 0 + 1 * q.val = q.val; omega
theorem row_emb (s : Fin 2) (t : ℕ) (q : Fin 1024) :
    (rowM s t).view.emb (ix2 0 q) = (ix4 s ⟨t % 2, by omega⟩ ⟨t / 2 % 512, by omega⟩ q : S2x2x512x1024.Idx) := by
  have e : (fun x : S1x1024.Idx => ((rowM s t).view.emb x : S2x2x512x1024.Idx)) = shapeCast S1x1024 (fun y : S1x1x1x1024.Idx =>
      (Rect.unit (s := S2x2x512x1024) ![s.val, t % 2, t / 2 % 512, 0] S1x1x1x1024.size (inb_row s t)).emb y) (by decide) := rfl
  refine (congrFun e (ix2 0 q)).trans ?_
  pointwise
  refine funext fun b => Fin.ext ?_
  match b with
  | 0 => show s.val + 1 * 0 = s.val; omega
  | 1 => show t % 2 + 1 * 0 = t % 2; omega
  | 2 => show t / 2 % 512 + 1 * 0 = t / 2 % 512; omega
  | 3 => show 0 + 1 * q.val = q.val; omega
theorem read_writes {κ : Kind} {sp : Space} {S : Shape} {e : EltTy} (v : View sig κ sp S e) (f : v.ty.Contents (Elt F)) (w : S.Idx → Elt F e) :
    v.read (Elt F) (v.writes (Elt F) f [⟨Rect.whole S, w⟩]) = w := by
  have key : ∀ y, v.read (Elt F) (v.writes (Elt F) f [⟨Rect.whole S, w⟩]) ((Rect.whole S).emb y) = w y := fun y =>
    View.read_slice_write_emb (Val := Elt F) (v := v) (Rect.whole S) f w (Finset.mem_univ y)
  funext y; simpa using key y
theorem row_index (x : S1x1024.Idx) : x = ix2 0 (x 1) := funext fun a => by
  match a with
  | 0 => exact Fin.ext (by have : (x 0).val < 1 := (x 0).isLt; show (x 0).val = 0; omega)
  | 1 => rfl
theorem row_read (s : Fin 2) (t : ℕ) (g : S2x2x512x1024.Idx → F .f32) (x : S1x1024.Idx) : (rowM s t).view.read (Elt F) g x = g ((rowM s t).view.emb x) := rfl
theorem full_row (pos : S65536.Idx → BitVec 32) (Y : S73728x1024.Idx → F .f32) (s : Fin 2) (n : ℕ) (t : Fin 1024) (q : Fin 1024) :
    full pos Y n (ix4 s ⟨t.val % 2, by omega⟩ ⟨t.val / 2 % 512, by omega⟩ q) = Y (ix2 ⟨(wd pos n t.val).toNat % 73728, Nat.mod_lt _ (by decide)⟩ q) := by
  have := t.isLt
  show Y (ix2 ⟨(wd pos n (2 * (t.val / 2 % 512) + t.val % 2)).toNat % 73728, _⟩ q) = _
  simp only [show 2 * (t.val / 2 % 512) + t.val % 2 = t.val by omega]
theorem landed_row (pos : S65536.Idx → BitVec 32) (Y : S73728x1024.Idx → F .f32) (s : Fin 2) (n : ℕ) (f : S2x2x512x1024.Idx → F .f32) (t : Fin 1024) (x : S1x1024.Idx) :
    (rowM s t.val).view.read (Elt F) ((rowM s t.val).view.writes (Elt F) f [⟨Rect.whole S1x1024, ReadAs.same.apply ((srcM (wd pos n t.val)).view.read (Elt F) Y)⟩]) x
      = (rowM s t.val).view.read (Elt F) (full pos Y n) x := by
  refine (congrFun (read_writes (rowM s t.val).view f _) x).trans (Eq.trans ?_ (row_read s t.val (full pos Y n) x).symm)
  have a : full pos Y n ((rowM s t.val).view.emb x) = _ :=
    (congrArg (full pos Y n) ((congrArg (rowM s t.val).view.emb (row_index x)).trans (row_emb s t.val (x 1)))).trans (full_row pos Y s n t (x 1))
  have b : (srcM (wd pos n t.val)).view.read (Elt F) Y x = _ :=
    (congrArg ((srcM (wd pos n t.val)).view.read (Elt F) Y) (row_index x)).trans (src_read Y (wd pos n t.val) (x 1))
  exact b.trans a.symm
theorem row_mem (s : Fin 2) (t : ℕ) (y : S2x2x512x1024.Idx) (h : y ∈ (rowM s t).view.set) : ∃ x : S1x1024.Idx, (rowM s t).view.emb x = y := View.exists_emb_of_mem_set _ h
theorem row_agree (s : Fin 2) (t : ℕ) (g g' : S2x2x512x1024.Idx → F .f32) (h : ∀ x, (rowM s t).view.read (Elt F) g x = (rowM s t).view.read (Elt F) g' x)
    (y : S2x2x512x1024.Idx) (hy : y ∈ (rowM s t).view.set) : g y = g' y :=
  Exists.elim (row_mem s t y hy) fun x hx => ((congrArg g hx.symm).trans (h x)).trans (congrArg g' hx)
theorem landed_eq (pos : S65536.Idx → BitVec 32) (Y : S73728x1024.Idx → F .f32) (s : Fin 2) (n : ℕ) (f : S2x2x512x1024.Idx → F .f32) (t : Fin 1024)
    (y : S2x2x512x1024.Idx) (h : y ∈ (rowM s t.val).view.set) :
    ((rowM s t.val).view.writes (Elt F) f [⟨Rect.whole S1x1024, ReadAs.same.apply ((srcM (wd pos n t.val)).view.read (Elt F) Y)⟩] : S2x2x512x1024.Idx → F .f32) y = full pos Y n y :=
  row_agree s t.val _ _ (landed_row pos Y s n f t) y h

/-! ## A slot at rest and in flight -/

omit [FloatOps F] in
theorem eqv {P Q : sProp 𝕄} (e : P = Q) : P ⊢ Q := e ▸ .rfl

section
variable (c : Dev nD) (pos : S65536.Idx → BitVec 32) (Y : BufOf (F := F) c ys)

abbrev slotP (s : Fin 2) (f : BufOf (F := F) c sc) : sProp 𝕄 := ((c : Thread nD τ).loc cc0_scratch0) ↦[slotSet s]{fullShare} f
abbrev halfP (s k : Fin 2) (f : BufOf (F := F) c sc) : sProp 𝕄 := (halfM s k).view.loc (c : Thread nD τ) ↦[(halfM s k).view.set]{fullShare} f
abbrev lentP (s : Fin 2) : sProp 𝕄 := ((c : Thread nD τ).loc main_arg1) ↦{lent s} Y
/-- What a slot's transfers leave of the half lent to it. -/
def sideP (s : Fin 2) (n : ℕ) : sProp 𝕄 :=
  iprop((((c : Thread nD τ).loc main_arg1) ↦{Transfers.shareDrop (lent s) 1024} Y) ∗ bigSep Finset.univ fun t : Fin 1024 => restP c pos Y s n t.val)
/-- Slot `s` at rest; -/
def freeP (s : Fin 2) : sProp 𝕄 := iprop(cellP c s ∗ (∃ f, slotP c s f) ∗ lentP c Y s)
/-- with tile `n` on its way. -/
def flyP (s : Fin 2) (n : ℕ) : sProp 𝕄 := iprop(∃ f, batch c pos Y s n f 1024 0 ∗ sideP c pos Y s n)

omit [FloatOps F] in
theorem slot_rows (s : Fin 2) (f : BufOf (F := F) c sc) : slotP c s f = rowsFrom c s f 0 := by
  unfold rowsFrom
  rw [Ring.rangeSet_univ]
  refine (Ring.pointsTo_sub_blocks (ℓ := (c : Thread nD τ).loc cc0_scratch0) (fun t : Fin 1024 => rowSet s t.val) (rows_disjoint s) (slotSet s) (rows_cover s) f).trans ?_
  refine congrArg _ (funext fun t => ?_)
  show _ = ((c : Thread nD τ).loc cc0_scratch0 ↦[(rowM s t.val).view.set]{fullShare} f : sProp 𝕄)
  rw [rowSet_eq]
omit [FloatOps F] in
theorem slot_halves (s : Fin 2) (f : BufOf (F := F) c sc) : slotP c s f ⊣⊢ iprop(halfP c s 0 f ∗ halfP c s 1 f) := by
  have e := pointsTo_split_subset (Ix := Unit) (Val := Elt F) (Name := ℕ) (U := Pipeline.UD sig nD τ) (Lvl := ℕ) (ℓ := (c : Thread nD τ).loc cc0_scratch0) (q := fullShare) (f := f) (half0_sub s)
  rw [half1_eq] at e
  have e0 : halfP (F := F) c s 0 f = ((c : Thread nD τ).loc cc0_scratch0 ↦[halfSet s 0]{fullShare} f : sProp 𝕄) := by
    show ((c : Thread nD τ).loc cc0_scratch0 ↦[(halfM s 0).view.set]{fullShare} f : sProp 𝕄) = _
    rw [halfSet_eq]
  have e1 : halfP (F := F) c s 1 f = ((c : Thread nD τ).loc cc0_scratch0 ↦[halfSet s 1]{fullShare} f : sProp 𝕄) := by
    show ((c : Thread nD τ).loc cc0_scratch0 ↦[(halfM s 1).view.set]{fullShare} f : sProp 𝕄) = _
    rw [halfSet_eq]
  rw [e0, e1]; exact e
omit [FloatOps F] in
theorem src_split (s : Fin 2) (n : ℕ) (t : ℕ) :
    (((c : Thread nD τ).loc main_arg1) ↦{Transfers.shareTokN (lent s) t} Y : sProp 𝕄) ⊣⊢ iprop(srcP c pos Y s n t ∗ restP c pos Y s n t) := by
  unfold restP; exact pointsTo_split_subset (Finset.subset_univ _)
omit [FloatOps F] in
theorem lent_split (s : Fin 2) (n : ℕ) : (lentP c Y s : sProp 𝕄) ⊣⊢ iprop(srcsFrom c pos Y s n 0 ∗ sideP c pos Y s n) := by
  have e := Transfers.pointsTo_toks_range (Ix := Unit) (Val := Elt F) (Name := ℕ) (U := Pipeline.UD sig nD τ) (Lvl := ℕ) (ℓ := (c : Thread nD τ).loc main_arg1) (S := Finset.univ) (f := Y) (lent s) 1024
  rw [← Ring.bigSep_fin_eq_range 1024 (fun t : Fin 1024 => (((c : Thread nD τ).loc main_arg1) ↦{Transfers.shareTokN (lent s) t.val} Y : sProp 𝕄)) _ (fun t h => rfl)] at e
  have e0 : bigSep (Finset.univ : Finset (Fin 1024)) (fun t => iprop(srcP c pos Y s n t.val ∗ restP c pos Y s n t.val))
      = (iprop((bigSep Finset.univ fun t : Fin 1024 => srcP c pos Y s n t.val) ∗ bigSep Finset.univ fun t : Fin 1024 => restP c pos Y s n t.val) : sProp 𝕄) := BI.bigSep_sep _ _ _
  have e1 : (bigSep Finset.univ fun t : Fin 1024 => (((c : Thread nD τ).loc main_arg1) ↦{Transfers.shareTokN (lent s) t.val} Y : sProp 𝕄)) ⊢ _ := (BI.bigSep_mono (s := (Finset.univ : Finset (Fin 1024))) (fun t _ => (src_split c pos Y s n t.val).1)).trans (eqv e0)
  have e2 : _ ⊢ (bigSep Finset.univ fun t : Fin 1024 => (((c : Thread nD τ).loc main_arg1) ↦{Transfers.shareTokN (lent s) t.val} Y : sProp 𝕄)) := (eqv e0.symm).trans (BI.bigSep_mono (s := (Finset.univ : Finset (Fin 1024))) (fun t _ => (src_split c pos Y s n t.val).2))
  unfold srcsFrom sideP
  rw [Ring.rangeSet_univ]
  refine ⟨?_, ?_⟩
  · iintro H
    ihave H' := e.1 $$ H
    icases H' with ⟨HD, HT⟩
    ihave HT' := e1 $$ HT
    icases HT' with ⟨HS, HR⟩
    isplitl [HS]; · iexact HS
    isplitl [HD]; · iexact HD
    iexact HR
  · iintro ⟨HS, HD, HR⟩
    iapply e.2
    isplitl [HD]; · iexact HD
    iapply e2
    isplitl [HS]; · iexact HS
    iexact HR

theorem dlvs_storable (s : Fin 2) (n : ℕ) (f : BufOf (F := F) c sc) (t : Fin 1024) : BI.Storable (upEmb : UEmb _ 𝕄) (dlvs c pos Y s n f t) := by
  have a : ∀ I (f' : S2x2x512x1024.Idx → Elt F .f32), BI.Storable (upEmb : UEmb _ 𝕄) (((c : Thread nD τ).loc cc0_scratch0) ↦[I]{fullShare} f') := fun _ _ => inferInstance
  have b : ∀ I q (f' : S73728x1024.Idx → Elt F .f32), BI.Storable (upEmb : UEmb _ 𝕄) (((c : Thread nD τ).loc main_arg1) ↦[I]{q} f') := fun _ _ _ => inferInstance
  haveI h1 : BI.Storable (upEmb : UEmb _ 𝕄) (rowP c s (landed c pos Y s n f t.val) t.val) := a _ _
  haveI h2 : BI.Storable (upEmb : UEmb _ 𝕄) (srcP c pos Y s n t.val) := b _ _ _
  show BI.Storable (upEmb : UEmb _ 𝕄) iprop(rowP c s (landed c pos Y s n f t.val) t.val ∗ srcP c pos Y s n t.val)
  infer_instance

/-- A slot at rest is ready to be filled with tile `n`; -/
theorem fill (s : Fin 2) (n : ℕ) : freeP c Y s ⊢ (|={Set.univ}=> iprop(∃ f, rowsFrom c s f 0 ∗ srcsFrom c pos Y s n 0 ∗ sideP c pos Y s n ∗ batch c pos Y s n f 0 0) : sProp 𝕄) := by
  unfold freeP
  iintro ⟨Hc, ⟨%f, HS⟩, HL⟩
  haveI := dlvs_storable c pos Y s n f
  imod (Transfers.batch_alloc' (countersEmb (U := Pipeline.UD sig nD τ)) (c : Thread nD τ) () 128 (dlvs c pos Y s n f) (sm := cellR s) (E := Set.univ)) $$ Hc with HB
  imodintro
  ihave HL' := (lent_split c pos Y s n).1 $$ HL
  icases HL' with ⟨HL, HD⟩
  iexists f
  isplitl [HS]
  · iapply (eqv (slot_rows c s f)); iexact HS
  isplitl [HL]; · iexact HL
  isplitl [HD]; · iexact HD
  iexact HB
/-- once tile `n` has landed the slot holds its rows, and is at rest again. -/
theorem landed_slot (s : Fin 2) (n : ℕ) (f : BufOf (F := F) c sc) :
    iprop(batch c pos Y s n f 1024 (128 * 1024) ∗ sideP c pos Y s n) ⊢ (|={Set.univ}=> iprop(cellP c s ∗ slotP c s (full pos Y n) ∗ lentP c Y s) : sProp 𝕄) := by
  iintro ⟨HB, HD⟩
  imod (Transfers.batch_collect' (countersEmb (U := Pipeline.UD sig nD τ)) (c : Thread nD τ) (sm := cellR s) (N := 128) (by decide) (D := dlvs c pos Y s n f)) $$ HB with ⟨Hall, Hc⟩
  imodintro
  have e : bigSep Finset.univ (dlvs c pos Y s n f) = (iprop(rowsFrom c s (full pos Y n) 0 ∗ srcsFrom c pos Y s n 0) : sProp 𝕄) := by
    unfold rowsFrom srcsFrom
    rw [Ring.rangeSet_univ]
    refine Eq.trans ?_ (BI.bigSep_sep _ _ _)
    refine congrArg _ (funext fun t => ?_)
    show iprop(rowP c s (landed c pos Y s n f t.val) t.val ∗ srcP c pos Y s n t.val) = _
    rw [show rowP c s (landed c pos Y s n f t.val) t.val = (rowP c s (full pos Y n) t.val : sProp 𝕄) from pointsTo_congr fun y h => landed_eq pos Y s n f t y h]
    rfl
  ihave Hall' := (eqv e) $$ Hall
  icases Hall' with ⟨HR, HS⟩
  isplitl [Hc]; · iexact Hc
  isplitl [HR]
  · iapply (eqv (slot_rows c s _).symm); iexact HR
  iapply (lent_split c pos Y s n).2
  isplitl [HS]; · iexact HS
  iexact HD
end

end Cert.Combine

end
-- ==== Proof.CRun.lean ====
/- The combining call's body, run: at the first tile, at a tile between, and at the last. -/
module

public import proofs.«01_k».proof.Proof.CStep
public import proofs.«01_k».proof.Proof.CSlot
public import Idealize.ShloMosaic.Lib.WritesUnit
public import Idealize.ShloMosaic.Lib.VecWindow

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (Pipeline.UD sig nD τ) ℕ

/-- The first expert's rows of tile `n`'s tokens, or the second's. -/
def half (pos : S65536.Idx → BitVec 32) (Y : S73728x1024.Idx → F .f32) (n k : ℕ) : Vec F S1x1x512x1024 .f32 := fun y =>
  Y (ix2 ⟨(wd pos n (2 * (y 2).val + k)).toNat % 73728, Nat.mod_lt _ (by norm_num)⟩ (y 3))
/-- What a tile's output is: the tokens' rows, the gated weighted sums of their experts' rows added, normalized and scaled. -/
def outTile (a b : Vec F S1x1x512x1024 .f32) (h : Vec F S512x1024 .f32) (r : Vec F S512x128 .f32) (g : Vec F S1x1x1024 .f32) (w : Vec F S1x1024 .f32) : FVec F S512x1024 .f32 :=
  k0_pay1 (k0_pay2 r a b) h (k0_pay3 g) w

theorem out_step (a b : Vec F S1x1x512x1024 .f32) (h : Vec F S512x1024 .f32) (r : Vec F S512x128 .f32) (g : Vec F S1x1x1024 .f32) (w : Vec F S1x1024 .f32)
    {a' b' : Vec F S1x1x512x1024 .f32} {h' : Vec F S512x1024 .f32} {r' : Vec F S512x128 .f32} {g' : Vec F S1x1x1024 .f32} {w' : Vec F S1x1024 .f32}
    (ea : a = a') (eb : b = b') (eh : h = h') (er : r = r') (eg : g = g') (ew : w = w') :
    k0_pay1 (k0_pay2 r a b) h (k0_pay3 g) w = outTile a' b' h' r' g' w' := by subst ea eb eh er eg ew; rfl

theorem coff21 : ∀ t : Fin grid0.N, k0_off21 (grid0.coords t) = ![(sl t.val).val, 0, 0, 0] := by decide +kernel
theorem coff22 : ∀ t : Fin grid0.N, k0_off22 (grid0.coords t) = ![(sl t.val).val, 1, 0, 0] := by decide +kernel
instance (priority := high) closed21 (t : Fin grid0.N) : ClosedOff (k0_off21 (grid0.coords t)) := ⟨![(sl t.val).val, 0, 0, 0], coff21 t⟩
instance (priority := high) closed22 (t : Fin grid0.N) : ClosedOff (k0_off22 (grid0.coords t)) := ⟨![(sl t.val).val, 1, 0, 0], coff22 t⟩

theorem half_load (pos : S65536.Idx → BitVec 32) (Y : S73728x1024.Idx → F .f32) (n : ℕ) (s k : Fin 2) {off : Fin 4 → Nat}
    (h : ∀ a, off a + S1x1x512x1024.size a ≤ S2x2x512x1024.size a) (e : off = ![s.val, k.val, 0, 0]) :
    View.readAt (Elt F) sc.view (Rect.unit (s := S2x2x512x1024) off S1x1x512x1024.size h).toLoadRect (full pos Y n) = half pos Y n k.val := by
  subst e
  funext y
  have h0 : (y 0).val < 1 := (y 0).isLt
  have h1 : (y 1).val < 1 := (y 1).isLt
  show Y (ix2 ⟨(wd pos n (2 * (0 + 1 * (y 2).val) + (k.val + 1 * (y 1).val))).toNat % 73728, _⟩ ⟨0 + 1 * (y 3).val, _⟩) = Y (ix2 ⟨(wd pos n (2 * (y 2).val + k.val)).toNat % 73728, _⟩ (y 3))
  have e1 : 2 * (0 + 1 * (y 2).val) + (k.val + 1 * (y 1).val) = 2 * (y 2).val + k.val := by omega
  refine congrArg Y ?_
  congr 1
  · exact Fin.ext (by show (wd pos n _).toNat % 73728 = _; rw [e1])
  · exact Fin.ext (by show 0 + 1 * (y 3).val = (y 3).val; omega)

theorem read_stored {κ : Kind} {sp : Space} (v : View sig κ sp S512x1024 .f32) (f : v.ty.Contents (Elt F)) (h) (w : S512x1024.Idx → Elt F .f32)
    (L : List (View.Piece (Elt F) S512x1024 .f32)) :
    v.read (Elt F) (v.writes (Elt F) f (⟨Rect.unit ![0, 0] S512x1024.size h, w⟩ :: L)) = w :=
  funext fun y => View.read_writes_cons_unit_of_mem v f h w L y y rfl fun a => by fin_cases a <;> simp
theorem readAt2 {κ : Kind} {sp : Space} {e : EltTy} {n m : ℕ} (v : View sig κ sp ⟨2, ![n, m]⟩ e) (f : v.ty.Contents (Elt F)) (h) :
    v.readAt (Elt F) (Rect.unit (s := ⟨2, ![n, m]⟩) ![0, 0] (![n, m]) h).toLoadRect f = v.read (Elt F) f := by
  funext y
  exact congrArg (v.read (Elt F) f) (funext fun a => Fin.ext (by fin_cases a <;> simp [Rect.unit, LoadRect.idx, Rect.toLoadRect]))
theorem readAt3 {κ : Kind} {sp : Space} {e : EltTy} {n m p : ℕ} (v : View sig κ sp ⟨3, ![n, m, p]⟩ e) (f : v.ty.Contents (Elt F)) (h) :
    v.readAt (Elt F) (Rect.unit (s := ⟨3, ![n, m, p]⟩) ![0, 0, 0] (![n, m, p]) h).toLoadRect f = v.read (Elt F) f := by
  funext y
  exact congrArg (v.read (Elt F) f) (funext fun a => Fin.ext (by fin_cases a <;> simp [Rect.unit, LoadRect.idx, Rect.toLoadRect]))

theorem n1 : k0_t1_loop.trips = 512 := by decide +kernel
theorem n2 : k0_t2_loop.trips = 512 := by decide +kernel
theorem n3 : k0_t3_loop.trips = 512 := by decide +kernel
theorem n4 : k0_t4_loop.trips = 512 := by decide +kernel

section
variable (c : Dev nD) (pos : S65536.Idx → BitVec 32) (Y : BufOf (F := F) c ys)

/-- A tile's rows all issued. -/
theorem issued (s : Fin 2) (n : ℕ) (f : BufOf (F := F) c sc) (k : ℕ) (hk : k = 512) (acc : Unit) :
    issuing c pos Y s n f k acc ⊢ iprop(tabP c pos ∗ batch c pos Y s n f 1024 0) := by
  subst hk
  unfold issuing
  iintro ⟨HT, -, -, HB⟩
  isplitl [HT]; · iexact HT
  iexact HB
/-- The first half's rows all awaited; the second's. -/
theorem awaited (s : Fin 2) (n : ℕ) (f : BufOf (F := F) c sc) (b k : ℕ) (hk : k = 512) (acc : Unit) :
    awaiting c pos Y s n f b k acc ⊢ iprop((∃ W, owes (c : Thread nD τ) 0 W) ∗ batch c pos Y s n f 1024 ((b + 512) * 128)) := by
  subst hk
  unfold awaiting
  iintro ⟨-, HO, HB⟩
  isplitl [HO]; · iexact HO
  iexact HB

variable (arg3 : Memref sig .tc .vmem S512x1024 .f32) (harg3 : arg3.IsWhole) (arg4 : Memref sig .tc .vmem S512x128 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S512x1024 .f32) (harg7 : arg7.IsWhole)

set_option maxHeartbeats 4000000 in
/-- The body at the first tile: its rows and the next one's are issued, then its own are awaited and combined. -/
theorem run_first (t : Fin grid0.N) (hpos : ∀ n t, (wd pos n t).toNat < 73728)
    (h1 : k0_cond1 (grid0.coords t) = 1#1) (h2 : k0_cond2 (grid0.coords t) = 1#1)
    (xh o : Vec F S512x1024 .f32) (xr : Vec F S512x128 .f32) (xg : Vec F S1x1x1024 .f32) (xw : Vec F S1x1024 .f32) (W : Waits sig Unit) (K : PUnit → sProp 𝕄) :
    iprop(owns (c : Thread nD τ) arg3 fullShare xh ∗ owns (c : Thread nD τ) arg4 fullShare xr ∗ owns (c : Thread nD τ) arg5 fullShare xg ∗ owns (c : Thread nD τ) arg6 fullShare xw ∗ owns (c : Thread nD τ) arg7 fullShare o
        ∗ tabP c pos ∗ freeP c Y (sl t.val) ∗ freeP c Y (sl (t.val + 1)) ∗ owes (c : Thread nD τ) 0 W
        ∗ (iprop(owns (c : Thread nD τ) arg3 fullShare xh ∗ owns (c : Thread nD τ) arg4 fullShare xr ∗ owns (c : Thread nD τ) arg5 fullShare xg ∗ owns (c : Thread nD τ) arg6 fullShare xw
            ∗ owns (c : Thread nD τ) arg7 fullShare (outTile (half pos Y t.val 0) (half pos Y t.val 1) xh xr xg xw)
            ∗ tabP c pos ∗ freeP c Y (sl t.val) ∗ flyP c pos Y (sl (t.val + 1)) (t.val + 1) ∗ ∃ W', owes (c : Thread nD τ) 0 W') -∗ K ⟨⟩))
      ⊢ wp frame (wpE (defs₀ (F := F)) Variants.none c none) Set.univ
        (cc0_combine (grid0.coords t) mPos (Memref.isWhole_whole _) ys (Memref.isWhole_whole _) arg3 harg3 arg4 harg4 arg5 harg5 arg6 harg6 arg7 harg7 sc (Memref.isWhole_whole _) cc0_scratch1) K := by
  have plan : Transfers.InterleavedWaits (c : Thread nD τ) (cellR (sl t.val)) := by trivial
  simp only [cc0_combine_eq_skeleton]; unfold cc0_combine_skel
  simp only [k0_part1_eq_skeleton]; unfold k0_part1_skel
  unfold owns flyP
  iintro ⟨⟨%f3, %hf3, H3⟩, ⟨%f4, %hf4, H4⟩, ⟨%f5, %hf5, H5⟩, ⟨%f6, %hf6, H6⟩, ⟨%f7, %hf7, H7⟩, HT, HF0, HF, HW, Hk⟩
  obtain rfl := harg3.eq_unread hf3; obtain rfl := harg4.eq_unread hf4; obtain rfl := harg5.eq_unread hf5
  obtain rfl := harg6.eq_unread hf6; obtain rfl := harg7.eq_unread hf7
  imod (fill c pos Y (sl t.val) t.val) $$ HF0 with ⟨%fa, HR0, HS0, HAs, HA⟩
  imod (fill c pos Y (sl (t.val + 1)) (t.val + 1)) $$ HF with ⟨%fb, HR, HS, HBs, HB⟩
  sl_exec (disch := first | sl_exact h1 | sl_exact h2)
  simp only [bind_assoc, pure_bind]
  sl_for (issuing c pos Y (sl t.val) t.val fa) $$ [HT HR0 HS0 HA]
  · intro k acc; exact issue1 c pos Y arg3 harg3 arg4 harg4 arg5 harg5 arg6 harg6 arg7 harg7 t h1 fa hpos k acc
  · unfold issuing
    isplitl [HT]; · iexact HT
    isplitl [HR0]; · iexact HR0
    isplitl [HS0]; · iexact HS0
    iexact HA
  iintro %acc HL
  ihave HL' := (issued c pos Y (sl t.val) t.val fa _ n1 acc) $$ HL
  icases HL' with ⟨HT, HA⟩
  sl_exec (disch := first | sl_exact h1 | sl_exact h2)
  simp only [bind_assoc, pure_bind]
  sl_for (issuing c pos Y (sl (t.val + 1)) (t.val + 1) fb) $$ [HT HR HS HB]
  · intro k acc; exact issue2 c pos Y arg3 harg3 arg4 harg4 arg5 harg5 arg6 harg6 arg7 harg7 t h2 fb hpos k acc
  · unfold issuing
    isplitl [HT]; · iexact HT
    isplitl [HR]; · iexact HR
    isplitl [HS]; · iexact HS
    iexact HB
  iintro %acc HL
  ihave HL' := (issued c pos Y (sl (t.val + 1)) (t.val + 1) fb _ n2 acc) $$ HL
  icases HL' with ⟨HT, HB⟩
  sl_exec (disch := first | sl_exact h1 | sl_exact h2)
  simp only [bind_assoc, pure_bind]
  sl_for (awaiting c pos Y (sl t.val) t.val fa 0) $$ [HW HA]
  · intro k acc; exact await3 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 0 _ n3 acc) $$ HL
  icases HL' with ⟨⟨%W1, HW⟩, HA⟩
  sl_exec (disch := first | sl_exact h1 | sl_exact h2)
  simp only [bind_assoc, pure_bind]
  sl_for (awaiting c pos Y (sl t.val) t.val fa 512) $$ [HW HA]
  · intro k acc; exact await4 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 512 _ n4 acc) $$ HL
  icases HL' with ⟨⟨%W2, HW⟩, HA⟩
  ihave HAA := (show iprop(batch c pos Y (sl t.val) t.val fa 1024 ((512 + 512) * 128) ∗ sideP c pos Y (sl t.val) t.val) ⊢ _ from landed_slot c pos Y (sl t.val) t.val fa) $$ [HA HAs]
  · isplitl [HA]; · iexact HA
    iexact HAs
  imod HAA with ⟨Hc, HP, HLn⟩
  ihave HP' := (slot_halves c (sl t.val) (full pos Y t.val)).1 $$ HP
  icases HP' with ⟨HP0, HP1⟩
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    exact (read_stored _ _ _ _ _).trans (out_step _ _ _ _ _ _ (half_load pos Y t.val (sl t.val) 0 _ (coff21 t)) (half_load pos Y t.val (sl t.val) 1 _ (coff22 t))
      ((readAt2 _ _ _).trans (harg3.read_unread _)) ((readAt2 _ _ _).trans (harg4.read_unread _)) ((readAt3 _ _ _).trans (harg5.read_unread _)) ((readAt2 _ _ _).trans (harg6.read_unread _)))
  isplitl [HT]; · iexact HT
  isplitl [Hc HP0 HP1 HLn]
  · unfold freeP
    isplitl [Hc]; · iexact Hc
    isplitr [HLn]
    · iexists _
      iapply (slot_halves c (sl t.val) (full pos Y t.val)).2
      isplitl [HP0]; · iexact HP0
      iexact HP1
    iexact HLn
  isplitl [HB HBs]
  · iexists _; isplitl [HB]; · iexact HB
    iexact HBs
  iexists _; iexact HW

set_option maxHeartbeats 4000000 in
/-- The body at a tile between the first and the last: the next tile's rows are issued, this one's awaited and combined. -/
theorem run_mid (t : Fin grid0.N) (hpos : ∀ n t, (wd pos n t).toNat < 73728)
    (h1 : ¬ k0_cond1 (grid0.coords t) = 1#1) (h2 : k0_cond2 (grid0.coords t) = 1#1)
    (xh o : Vec F S512x1024 .f32) (xr : Vec F S512x128 .f32) (xg : Vec F S1x1x1024 .f32) (xw : Vec F S1x1024 .f32) (W : Waits sig Unit) (K : PUnit → sProp 𝕄) :
    iprop(owns (c : Thread nD τ) arg3 fullShare xh ∗ owns (c : Thread nD τ) arg4 fullShare xr ∗ owns (c : Thread nD τ) arg5 fullShare xg ∗ owns (c : Thread nD τ) arg6 fullShare xw ∗ owns (c : Thread nD τ) arg7 fullShare o
        ∗ tabP c pos ∗ flyP c pos Y (sl t.val) t.val ∗ freeP c Y (sl (t.val + 1)) ∗ owes (c : Thread nD τ) 0 W
        ∗ (iprop(owns (c : Thread nD τ) arg3 fullShare xh ∗ owns (c : Thread nD τ) arg4 fullShare xr ∗ owns (c : Thread nD τ) arg5 fullShare xg ∗ owns (c : Thread nD τ) arg6 fullShare xw
            ∗ owns (c : Thread nD τ) arg7 fullShare (outTile (half pos Y t.val 0) (half pos Y t.val 1) xh xr xg xw)
            ∗ tabP c pos ∗ freeP c Y (sl t.val) ∗ flyP c pos Y (sl (t.val + 1)) (t.val + 1) ∗ ∃ W', owes (c : Thread nD τ) 0 W') -∗ K ⟨⟩))
      ⊢ wp frame (wpE (defs₀ (F := F)) Variants.none c none) Set.univ
        (cc0_combine (grid0.coords t) mPos (Memref.isWhole_whole _) ys (Memref.isWhole_whole _) arg3 harg3 arg4 harg4 arg5 harg5 arg6 harg6 arg7 harg7 sc (Memref.isWhole_whole _) cc0_scratch1) K := by
  have plan : Transfers.InterleavedWaits (c : Thread nD τ) (cellR (sl t.val)) := by trivial
  simp only [cc0_combine_eq_skeleton]; unfold cc0_combine_skel
  simp only [k0_part1_eq_skeleton]; unfold k0_part1_skel
  unfold owns flyP
  iintro ⟨⟨%f3, %hf3, H3⟩, ⟨%f4, %hf4, H4⟩, ⟨%f5, %hf5, H5⟩, ⟨%f6, %hf6, H6⟩, ⟨%f7, %hf7, H7⟩, HT, ⟨%fa, HA, HAs⟩, HF, HW, Hk⟩
  obtain rfl := harg3.eq_unread hf3; obtain rfl := harg4.eq_unread hf4; obtain rfl := harg5.eq_unread hf5
  obtain rfl := harg6.eq_unread hf6; obtain rfl := harg7.eq_unread hf7
  imod (fill c pos Y (sl (t.val + 1)) (t.val + 1)) $$ HF with ⟨%fb, HR, HS, HBs, HB⟩
  sl_exec (disch := first | sl_exact h1 | sl_exact h2)
  simp only [bind_assoc, pure_bind]
  sl_for (issuing c pos Y (sl (t.val + 1)) (t.val + 1) fb) $$ [HT HR HS HB]
  · intro k acc; exact issue2 c pos Y arg3 harg3 arg4 harg4 arg5 harg5 arg6 harg6 arg7 harg7 t h2 fb hpos k acc
  · unfold issuing
    isplitl [HT]; · iexact HT
    isplitl [HR]; · iexact HR
    isplitl [HS]; · iexact HS
    iexact HB
  iintro %acc HL
  ihave HL' := (issued c pos Y (sl (t.val + 1)) (t.val + 1) fb _ n2 acc) $$ HL
  icases HL' with ⟨HT, HB⟩
  sl_exec (disch := first | sl_exact h1 | sl_exact h2)
  simp only [bind_assoc, pure_bind]
  sl_for (awaiting c pos Y (sl t.val) t.val fa 0) $$ [HW HA]
  · intro k acc; exact await3 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 0 _ n3 acc) $$ HL
  icases HL' with ⟨⟨%W1, HW⟩, HA⟩
  sl_exec (disch := first | sl_exact h1 | sl_exact h2)
  simp only [bind_assoc, pure_bind]
  sl_for (awaiting c pos Y (sl t.val) t.val fa 512) $$ [HW HA]
  · intro k acc; exact await4 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 512 _ n4 acc) $$ HL
  icases HL' with ⟨⟨%W2, HW⟩, HA⟩
  ihave HAA := (show iprop(batch c pos Y (sl t.val) t.val fa 1024 ((512 + 512) * 128) ∗ sideP c pos Y (sl t.val) t.val) ⊢ _ from landed_slot c pos Y (sl t.val) t.val fa) $$ [HA HAs]
  · isplitl [HA]; · iexact HA
    iexact HAs
  imod HAA with ⟨Hc, HP, HLn⟩
  ihave HP' := (slot_halves c (sl t.val) (full pos Y t.val)).1 $$ HP
  icases HP' with ⟨HP0, HP1⟩
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    exact (read_stored _ _ _ _ _).trans (out_step _ _ _ _ _ _ (half_load pos Y t.val (sl t.val) 0 _ (coff21 t)) (half_load pos Y t.val (sl t.val) 1 _ (coff22 t))
      ((readAt2 _ _ _).trans (harg3.read_unread _)) ((readAt2 _ _ _).trans (harg4.read_unread _)) ((readAt3 _ _ _).trans (harg5.read_unread _)) ((readAt2 _ _ _).trans (harg6.read_unread _)))
  isplitl [HT]; · iexact HT
  isplitl [Hc HP0 HP1 HLn]
  · unfold freeP
    isplitl [Hc]; · iexact Hc
    isplitr [HLn]
    · iexists _
      iapply (slot_halves c (sl t.val) (full pos Y t.val)).2
      isplitl [HP0]; · iexact HP0
      iexact HP1
    iexact HLn
  isplitl [HB HBs]
  · iexists _; isplitl [HB]; · iexact HB
    iexact HBs
  iexists _; iexact HW

set_option maxHeartbeats 4000000 in
/-- The body at the last tile: its rows are awaited and combined. -/
theorem run_last (t : Fin grid0.N) (hpos : ∀ n t, (wd pos n t).toNat < 73728)
    (h1 : ¬ k0_cond1 (grid0.coords t) = 1#1) (h2 : ¬ k0_cond2 (grid0.coords t) = 1#1)
    (xh o : Vec F S512x1024 .f32) (xr : Vec F S512x128 .f32) (xg : Vec F S1x1x1024 .f32) (xw : Vec F S1x1024 .f32) (W : Waits sig Unit) (K : PUnit → sProp 𝕄) :
    iprop(owns (c : Thread nD τ) arg3 fullShare xh ∗ owns (c : Thread nD τ) arg4 fullShare xr ∗ owns (c : Thread nD τ) arg5 fullShare xg ∗ owns (c : Thread nD τ) arg6 fullShare xw ∗ owns (c : Thread nD τ) arg7 fullShare o
        ∗ tabP c pos ∗ flyP c pos Y (sl t.val) t.val ∗ owes (c : Thread nD τ) 0 W
        ∗ (iprop(owns (c : Thread nD τ) arg3 fullShare xh ∗ owns (c : Thread nD τ) arg4 fullShare xr ∗ owns (c : Thread nD τ) arg5 fullShare xg ∗ owns (c : Thread nD τ) arg6 fullShare xw
            ∗ owns (c : Thread nD τ) arg7 fullShare (outTile (half pos Y t.val 0) (half pos Y t.val 1) xh xr xg xw)
            ∗ tabP c pos ∗ freeP c Y (sl t.val) ∗ ∃ W', owes (c : Thread nD τ) 0 W') -∗ K ⟨⟩))
      ⊢ wp frame (wpE (defs₀ (F := F)) Variants.none c none) Set.univ
        (cc0_combine (grid0.coords t) mPos (Memref.isWhole_whole _) ys (Memref.isWhole_whole _) arg3 harg3 arg4 harg4 arg5 harg5 arg6 harg6 arg7 harg7 sc (Memref.isWhole_whole _) cc0_scratch1) K := by
  have plan : Transfers.InterleavedWaits (c : Thread nD τ) (cellR (sl t.val)) := by trivial
  simp only [cc0_combine_eq_skeleton]; unfold cc0_combine_skel
  simp only [k0_part1_eq_skeleton]; unfold k0_part1_skel
  unfold owns flyP
  iintro ⟨⟨%f3, %hf3, H3⟩, ⟨%f4, %hf4, H4⟩, ⟨%f5, %hf5, H5⟩, ⟨%f6, %hf6, H6⟩, ⟨%f7, %hf7, H7⟩, HT, ⟨%fa, HA, HAs⟩, HW, Hk⟩
  obtain rfl := harg3.eq_unread hf3; obtain rfl := harg4.eq_unread hf4; obtain rfl := harg5.eq_unread hf5
  obtain rfl := harg6.eq_unread hf6; obtain rfl := harg7.eq_unread hf7
  sl_exec (disch := first | sl_exact h1 | sl_exact h2)
  simp only [bind_assoc, pure_bind]
  sl_for (awaiting c pos Y (sl t.val) t.val fa 0) $$ [HW HA]
  · intro k acc; exact await3 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 0 _ n3 acc) $$ HL
  icases HL' with ⟨⟨%W1, HW⟩, HA⟩
  sl_exec (disch := first | sl_exact h1 | sl_exact h2)
  simp only [bind_assoc, pure_bind]
  sl_for (awaiting c pos Y (sl t.val) t.val fa 512) $$ [HW HA]
  · intro k acc; exact await4 c pos Y arg3 harg3 arg4 harg4 arg5 harg5 arg6 harg6 arg7 harg7 t fa plan k acc
  · unfold awaiting
    isplitr; · ipureintro; omega
    isplitl [HW]; · iexists _; iexact HW
    iexact HA
  iintro %acc HL
  ihave HL' := (awaited c pos Y (sl t.val) t.val fa 512 _ n4 acc) $$ HL
  icases HL' with ⟨⟨%W2, HW⟩, HA⟩
  ihave HAA := (show iprop(batch c pos Y (sl t.val) t.val fa 1024 ((512 + 512) * 128) ∗ sideP c pos Y (sl t.val) t.val) ⊢ _ from landed_slot c pos Y (sl t.val) t.val fa) $$ [HA HAs]
  · isplitl [HA]; · iexact HA
    iexact HAs
  imod HAA with ⟨Hc, HP, HLn⟩
  ihave HP' := (slot_halves c (sl t.val) (full pos Y t.val)).1 $$ HP
  icases HP' with ⟨HP0, HP1⟩
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    exact (read_stored _ _ _ _ _).trans (out_step _ _ _ _ _ _ (half_load pos Y t.val (sl t.val) 0 _ (coff21 t)) (half_load pos Y t.val (sl t.val) 1 _ (coff22 t))
      ((readAt2 _ _ _).trans (harg3.read_unread _)) ((readAt2 _ _ _).trans (harg4.read_unread _)) ((readAt3 _ _ _).trans (harg5.read_unread _)) ((readAt2 _ _ _).trans (harg6.read_unread _)))
  isplitl [HT]; · iexact HT
  isplitl [Hc HP0 HP1 HLn]
  · unfold freeP
    isplitl [Hc]; · iexact Hc
    isplitr [HLn]
    · iexists _
      iapply (slot_halves c (sl t.val) (full pos Y t.val)).2
      isplitl [HP0]; · iexact HP0
      iexact HP1
    iexact HLn
  iexists _; iexact HW
end

end Cert.Combine

end
-- ==== Proof.CBody.lean ====
/- The combining call's invariant — which slot is being filled and which is at rest before each tile — and its body, from the invariant to
   the invariant. -/
module

public import proofs.«01_k».proof.Proof.CRun
public import Idealize.ShloMosaic.Lib.Pipeline.AliasedRuns

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

theorem cond1_iff (t : Fin grid0.N) : k0_cond1 (grid0.coords t) = 1#1 ↔ t.val = 0 :=
  (by decide +kernel : ∀ t : Fin grid0.N, k0_cond1 (grid0.coords t) = 1#1 ↔ t.val = 0) t
theorem cond2_iff (t : Fin grid0.N) : k0_cond2 (grid0.coords t) = 1#1 ↔ t.val < 63 :=
  (by decide +kernel : ∀ t : Fin grid0.N, k0_cond2 (grid0.coords t) = 1#1 ↔ t.val < 63) t
theorem step_lt (t : Fin grid0.N) : t.val < 64 := lt_of_lt_of_eq t.isLt N_0

/-! ## The slots before a tile -/

section
variable (c : Dev nD) (pos : S65536.Idx → BitVec 32) (Y : BufOf (F := F) c ys)

/-- The two slots before tile `n`: its own being filled, after the first tile and before the end; the other at rest. -/
def slots (n : ℕ) : sProp 𝕄 :=
  iprop((if 0 < n ∧ n < 64 then flyP c pos Y (sl n) n else freeP c Y (sl n)) ∗ freeP c Y (sl (n + 1)))
theorem slots_rest (n : ℕ) (h : ¬ (0 < n ∧ n < 64)) : slots c pos Y n = iprop(freeP c Y (sl n) ∗ freeP c Y (sl (n + 1))) := by
  unfold slots; rw [if_neg h]
theorem slots_fly (n : ℕ) (h : 0 < n ∧ n < 64) : slots c pos Y n = iprop(flyP c pos Y (sl n) n ∗ freeP c Y (sl (n + 1))) := by
  unfold slots; rw [if_pos h]
end

/-! ## The memory at the region's entry -/

variable (m : (ℓ : Loc nD τ sig) → Buf (Elt F) ℓ)

/-- Core `c`'s buffers at the region's entry: the launch contents after the reshape of the scale. -/
abbrev V (c : Dev nD) (b : Ref sig .tc) : Buf (Elt F) ((c : Thread nD τ).loc b) := StableHlo.after hostOps0 (fun b => m (c, b)) b

variable (a : (pcfg0 (F := F)).Adm)

/-- The table of positions, as admitted. -/
abbrev posOf : S65536.Idx → BitVec 32 := a.1 0
/-- Window `w`'s block at point `t`, read from its array at the region's entry. -/
def iblk (c : Dev nD) (w : Fin 5) (t : Fin grid0.N) : ((win0 a w).xblock (grid0.coords t)).Idx → Elt F (win0 a w).elt :=
  ((win0 a w).blk t).view.read (Elt F) (V m c (Pipeline.arrRef spec0 w))
abbrev hB (c : Dev nD) (t : Fin grid0.N) : Vec F S512x1024 .f32 := iblk m a c 0 t
abbrev rB (c : Dev nD) (t : Fin grid0.N) : Vec F S512x128 .f32 := iblk m a c 1 t
abbrev gB (c : Dev nD) (t : Fin grid0.N) : Vec F S1x1x1024 .f32 := iblk m a c 2 t
abbrev wB (c : Dev nD) (t : Fin grid0.N) : Vec F S1x1024 .f32 := iblk m a c 3 t
/-- What point `t` leaves in the output's staging buffer. -/
def outAt (c : Dev nD) (t : Fin grid0.N) : FVec F S512x1024 .f32 :=
  outTile (half (posOf a) (V m c main_arg1) t.val 0) (half (posOf a) (V m c main_arg1) t.val 1) (hB m a c t) (rB m a c t) (gB m a c t) (wB m a c t)

/-- The invariant before point `n`: the generator register, the table, the slots. -/
def PhiR (c : Dev nD) (n : ℕ) : sProp 𝕄 :=
  iprop((∃ r, prngReg c r) ∗ tabP c (posOf a) ∗ slots c (posOf a) (V m c main_arg1) n)

/-- The table, given to the one pipeline. -/
abbrev adms : (p : Fin 1) → (pcfgs (F := F) p).Adm := fun _ => a

/-- The proof data: the arrays as the region finds them; an input's buffer left at its block, the output's at the tile's result. -/
def dats (p : Fin 1) (c : Dev nD) : Dat τ (Elt F) Unit ℕ (Pipeline.UD sig nD τ) ℕ (Pipeline.pin (pcfgs (F := F)) (adms a) p) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => outAt m a c t
  Φ t := PhiR m a c t.val
  q _ := fullShare
  owed _ := 0

abbrev dat (c : Dev nD) : Dat τ (Elt F) Unit ℕ (Pipeline.UD sig nD τ) ℕ (cfg0 a) c := dats m a 0 c

theorem A_eq (c : Dev nD) (w : Fin 5) : (dat m a c).A w = V m c (Pipeline.arrRef spec0 w) := by dsimp only [dat, dats]
theorem PhiR_castSucc (c : Dev nD) (t : Fin grid0.N) : (dat m a c).Φ t.castSucc = PhiR m a c t.val := by
  dsimp only [dat, dats]; simp only [Fin.coe_castSucc]
theorem PhiR_succ (c : Dev nD) (t : Fin grid0.N) : (dat m a c).Φ t.succ = PhiR m a c (t.val + 1) := by
  dsimp only [dat, dats]; simp only [Fin.val_succ]
theorem after0 (c : Dev nD) (t : Fin grid0.N) : (dat m a c).after 0 t = iblk m a c 0 t := by dsimp only [dat, dats]; rfl
theorem after1 (c : Dev nD) (t : Fin grid0.N) : (dat m a c).after 1 t = iblk m a c 1 t := by dsimp only [dat, dats]; rfl
theorem after2 (c : Dev nD) (t : Fin grid0.N) : (dat m a c).after 2 t = iblk m a c 2 t := by dsimp only [dat, dats]; rfl
theorem after3 (c : Dev nD) (t : Fin grid0.N) : (dat m a c).after 3 t = iblk m a c 3 t := by dsimp only [dat, dats]; rfl
theorem after4 (c : Dev nD) (t : Fin grid0.N) : (dat m a c).after 4 t = outAt m a c t := by dsimp only [dat, dats]; rfl

theorem before0 (c : Dev nD) (t : Fin grid0.N) (d) : (dat m a c).before 0 t d = iblk m a c 0 t :=
  ((dat m a c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dat m a c).before 1 t d = iblk m a c 1 t :=
  ((dat m a c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dat m a c).before 2 t d = iblk m a c 2 t :=
  ((dat m a c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dat m a c).before 3 t d = iblk m a c 3 t :=
  ((dat m a c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body's staging buffers and its call -/

abbrev ms0 (t : Fin grid0.N) : Memref sig .tc .vmem S512x1024 .f32 := spec0_0.stage ((cfg0 a).slots t 0)
abbrev ms1 (t : Fin grid0.N) : Memref sig .tc .vmem S512x128 .f32 := spec0_1.stage ((cfg0 a).slots t 1)
abbrev ms2 (t : Fin grid0.N) : Memref sig .tc .vmem S1x1x1024 .f32 := spec0_2.stage ((cfg0 a).slots t 2)
abbrev ms3 (t : Fin grid0.N) : Memref sig .tc .vmem S1x1024 .f32 := spec0_3.stage ((cfg0 a).slots t 3)
abbrev ms4 (t : Fin grid0.N) : Memref sig .tc .vmem S512x1024 .f32 := spec0_4.stage ((cfg0 a).slots t 4)
theorem hms0 (t : Fin grid0.N) : (ms0 a t).IsWhole := hstage0_0 (((cfg0 a).slots t 0).cast nbuf0_0)
theorem hms1 (t : Fin grid0.N) : (ms1 a t).IsWhole := hstage0_1 (((cfg0 a).slots t 1).cast nbuf0_1)
theorem hms2 (t : Fin grid0.N) : (ms2 a t).IsWhole := hstage0_2 (((cfg0 a).slots t 2).cast nbuf0_2)
theorem hms3 (t : Fin grid0.N) : (ms3 a t).IsWhole := hstage0_3 (((cfg0 a).slots t 3).cast nbuf0_3)
theorem hms4 (t : Fin grid0.N) : (ms4 a t).IsWhole := hstage0_4 (((cfg0 a).slots t 4).cast nbuf0_4)

/-- The body as point `t` calls it. -/
def bodyAt (t : Fin grid0.N) : Prog (TpuEff nD τ sig (Elt F) Λ₀ .tc) PUnit :=
  cc0_combine (grid0.coords t) mPos (Memref.isWhole_whole _) ys (Memref.isWhole_whole _) (ms0 a t) (hms0 a t) (ms1 a t) (hms1 a t) (ms2 a t) (hms2 a t) (ms3 a t) (hms3 a t) (ms4 a t) (hms4 a t) sc (Memref.isWhole_whole _) cc0_scratch1

theorem defs₀_row (t : Fin grid0.N) : defs₀ (F := F) .tc (cfg0 a).body ((cfg0 a).bodyArgs t ((cfg0 a).slots t)) = bodyAt a t := by
  unfold defs₀; rw [Defs.onTc_tc]; rfl

/-- What the body is called with at point `t`, -/
def bodyPre (c : Dev nD) (t : Fin grid0.N) : sProp 𝕄 :=
  iprop((dat m a c).Φ t.castSucc ∗ (dat m a c).owesAt () t.castSucc
    ∗ (∃ d, owns (c : Thread nD τ) (ms0 a t) fullShare ((dat m a c).before 0 t d))
    ∗ (∃ d, owns (c : Thread nD τ) (ms1 a t) fullShare ((dat m a c).before 1 t d))
    ∗ (∃ d, owns (c : Thread nD τ) (ms2 a t) fullShare ((dat m a c).before 2 t d))
    ∗ (∃ d, owns (c : Thread nD τ) (ms3 a t) fullShare ((dat m a c).before 3 t d))
    ∗ (∃ d, owns (c : Thread nD τ) (ms4 a t) fullShare ((dat m a c).before 4 t d)))
/-- and what it returns. -/
def bodyPost (c : Dev nD) (t : Fin grid0.N) : sProp 𝕄 :=
  iprop((dat m a c).Φ t.succ ∗ (dat m a c).owesAt () t.succ ∗ (dat m a c).leavesExact 0 t ∗ (dat m a c).leavesExact 1 t
    ∗ (dat m a c).leavesExact 2 t ∗ (dat m a c).leavesExact 3 t ∗ (dat m a c).leavesExact 4 t)

theorem leaves0 (c : Dev nD) (t : Fin grid0.N) : (dat m a c).leavesExact 0 t = owns (c : Thread nD τ) (ms0 a t) fullShare (iblk m a c 0 t) := by
  rw [← after0]; rfl
theorem leaves1 (c : Dev nD) (t : Fin grid0.N) : (dat m a c).leavesExact 1 t = owns (c : Thread nD τ) (ms1 a t) fullShare (iblk m a c 1 t) := by
  rw [← after1]; rfl
theorem leaves2 (c : Dev nD) (t : Fin grid0.N) : (dat m a c).leavesExact 2 t = owns (c : Thread nD τ) (ms2 a t) fullShare (iblk m a c 2 t) := by
  rw [← after2]; rfl
theorem leaves3 (c : Dev nD) (t : Fin grid0.N) : (dat m a c).leavesExact 3 t = owns (c : Thread nD τ) (ms3 a t) fullShare (iblk m a c 3 t) := by
  rw [← after3]; rfl
theorem leaves4 (c : Dev nD) (t : Fin grid0.N) : (dat m a c).leavesExact 4 t = owns (c : Thread nD τ) (ms4 a t) fullShare (outAt m a c t) := by
  rw [← after4]; rfl

section
variable (hp : ∀ j, (posOf a j).toNat < 73728)
include hp

set_option maxHeartbeats 4000000 in
/-- The first tile. -/
theorem body_first (c : Dev nD) (t : Fin grid0.N) (h0 : t.val = 0) :
    bodyPre m a c t ⊢ wp frame (wpE (defs₀ (F := F)) Variants.none c none) Set.univ (bodyAt a t) (fun _ => bodyPost m a c t) := by
  have ht := step_lt t
  unfold bodyPre bodyPost bodyAt
  rw [PhiR_castSucc, PhiR_succ, leaves0, leaves1, leaves2, leaves3, leaves4]
  simp only [before0, before1, before2, before3]
  unfold Dat.owesAt Pipeline.owesWithin PhiR
  rw [show (dat m a c).owed t.castSucc = 0 from rfl, show (dat m a c).owed t.succ = 0 from rfl]
  rw [slots_rest c (posOf a) (V m c main_arg1) t.val (by omega), slots_fly c (posOf a) (V m c main_arg1) (t.val + 1) (by omega), sl_add2 t.val]
  iintro ⟨⟨Hr, HT, HA, HB⟩, ⟨%W, -, HW⟩, ⟨%d0, H0⟩, ⟨%d1, H1⟩, ⟨%d2, H2⟩, ⟨%d3, H3⟩, ⟨%d4, H4⟩⟩
  iapply (run_first c (posOf a) (V m c main_arg1) (ms0 a t) (hms0 a t) (ms1 a t) (hms1 a t) (ms2 a t) (hms2 a t) (ms3 a t) (hms3 a t) (ms4 a t) (hms4 a t) t (fun n k => hp _)
    ((cond1_iff t).mpr h0) ((cond2_iff t).mpr (by omega)) (hB m a c t) ((dat m a c).before 4 t d4) (rB m a c t) (gB m a c t) (wB m a c t) W _)
  isplitl [H0]; · iexact H0
  isplitl [H1]; · iexact H1
  isplitl [H2]; · iexact H2
  isplitl [H3]; · iexact H3
  isplitl [H4]; · iexact H4
  isplitl [HT]; · iexact HT
  isplitl [HA]; · iexact HA
  isplitl [HB]; · iexact HB
  isplitl [HW]; · iexact HW
  iintro ⟨H0, H1, H2, H3, H4, HT, HA, HB, ⟨%W', HW'⟩⟩
  isplitl [Hr HT HA HB]
  · isplitl [Hr]; · iexact Hr
    isplitl [HT]; · iexact HT
    isplitl [HB]; · iexact HB
    iexact HA
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
/-- A tile between the first and the last. -/
theorem body_mid (c : Dev nD) (t : Fin grid0.N) (h0 : 0 < t.val) (hn : t.val < 63) :
    bodyPre m a c t ⊢ wp frame (wpE (defs₀ (F := F)) Variants.none c none) Set.univ (bodyAt a t) (fun _ => bodyPost m a c t) := by
  unfold bodyPre bodyPost bodyAt
  rw [PhiR_castSucc, PhiR_succ, leaves0, leaves1, leaves2, leaves3, leaves4]
  simp only [before0, before1, before2, before3]
  unfold Dat.owesAt Pipeline.owesWithin PhiR
  rw [show (dat m a c).owed t.castSucc = 0 from rfl, show (dat m a c).owed t.succ = 0 from rfl]
  rw [slots_fly c (posOf a) (V m c main_arg1) t.val (by omega), slots_fly c (posOf a) (V m c main_arg1) (t.val + 1) (by omega), sl_add2 t.val]
  iintro ⟨⟨Hr, HT, HA, HB⟩, ⟨%W, -, HW⟩, ⟨%d0, H0⟩, ⟨%d1, H1⟩, ⟨%d2, H2⟩, ⟨%d3, H3⟩, ⟨%d4, H4⟩⟩
  iapply (run_mid c (posOf a) (V m c main_arg1) (ms0 a t) (hms0 a t) (ms1 a t) (hms1 a t) (ms2 a t) (hms2 a t) (ms3 a t) (hms3 a t) (ms4 a t) (hms4 a t) t (fun n k => hp _)
    (fun x => absurd ((cond1_iff t).mp x) (by omega)) ((cond2_iff t).mpr (by omega)) (hB m a c t) ((dat m a c).before 4 t d4) (rB m a c t) (gB m a c t) (wB m a c t) W _)
  isplitl [H0]; · iexact H0
  isplitl [H1]; · iexact H1
  isplitl [H2]; · iexact H2
  isplitl [H3]; · iexact H3
  isplitl [H4]; · iexact H4
  isplitl [HT]; · iexact HT
  isplitl [HA]; · iexact HA
  isplitl [HB]; · iexact HB
  isplitl [HW]; · iexact HW
  iintro ⟨H0, H1, H2, H3, H4, HT, HA, HB, ⟨%W', HW'⟩⟩
  isplitl [Hr HT HA HB]
  · isplitl [Hr]; · iexact Hr
    isplitl [HT]; · iexact HT
    isplitl [HB]; · iexact HB
    iexact HA
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
/-- The last tile. -/
theorem body_last (c : Dev nD) (t : Fin grid0.N) (h0 : t.val = 63) :
    bodyPre m a c t ⊢ wp frame (wpE (defs₀ (F := F)) Variants.none c none) Set.univ (bodyAt a t) (fun _ => bodyPost m a c t) := by
  unfold bodyPre bodyPost bodyAt
  rw [PhiR_castSucc, PhiR_succ, leaves0, leaves1, leaves2, leaves3, leaves4]
  simp only [before0, before1, before2, before3]
  unfold Dat.owesAt Pipeline.owesWithin PhiR
  rw [show (dat m a c).owed t.castSucc = 0 from rfl, show (dat m a c).owed t.succ = 0 from rfl]
  rw [slots_fly c (posOf a) (V m c main_arg1) t.val (by omega), slots_rest c (posOf a) (V m c main_arg1) (t.val + 1) (by omega), sl_add2 t.val]
  iintro ⟨⟨Hr, HT, HA, HB⟩, ⟨%W, -, HW⟩, ⟨%d0, H0⟩, ⟨%d1, H1⟩, ⟨%d2, H2⟩, ⟨%d3, H3⟩, ⟨%d4, H4⟩⟩
  iapply (run_last c (posOf a) (V m c main_arg1) (ms0 a t) (hms0 a t) (ms1 a t) (hms1 a t) (ms2 a t) (hms2 a t) (ms3 a t) (hms3 a t) (ms4 a t) (hms4 a t) t (fun n k => hp _)
    (fun x => absurd ((cond1_iff t).mp x) (by omega)) (fun x => absurd ((cond2_iff t).mp x) (by omega)) (hB m a c t) ((dat m a c).before 4 t d4) (rB m a c t) (gB m a c t) (wB m a c t) W _)
  isplitl [H0]; · iexact H0
  isplitl [H1]; · iexact H1
  isplitl [H2]; · iexact H2
  isplitl [H3]; · iexact H3
  isplitl [H4]; · iexact H4
  isplitl [HT]; · iexact HT
  isplitl [HA]; · iexact HA
  isplitl [HW]; · iexact HW
  iintro ⟨H0, H1, H2, H3, H4, HT, HA, ⟨%W', HW'⟩⟩
  isplitl [Hr HT HA HB]
  · isplitl [Hr]; · iexact Hr
    isplitl [HT]; · iexact HT
    isplitl [HB]; · iexact HB
    iexact HA
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body at any tile. -/
theorem sound_body (c : Dev nD) (t : Fin grid0.N) :
    bodyPre m a c t ⊢ wp frame (wpE (defs₀ (F := F)) Variants.none c none) Set.univ (bodyAt a t) (fun _ => bodyPost m a c t) := by
  have ht := step_lt t
  by_cases h0 : t.val = 0
  · exact body_first m a hp c t h0
  by_cases hn : t.val < 63
  · exact body_mid m a hp c t (Nat.pos_of_ne_zero h0) hn
  · exact body_last m a hp c t (by omega)

/-- The library's body obligation, at every point. -/
theorem body_obligation (c : Dev nD) : BodyObligation (dat m a c) (defs₀ (F := F)) Variants.none () Set.univ := fun t => by
  rw [bigSep_W0, bigSep_W0, defs₀_row a t]
  exact triple_restated (sound_body m a hp c t) rfl .rfl fun _ => .rfl
end

end Cert.Combine

end
-- ==== Proof.CLaunch.lean ====
/- The combining call's launch: what the region is handed is the invariant, the invariant gives it back; the whole run, and what it leaves
   unchanged. -/
module

public import proofs.«01_k».proof.Proof.CBody

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operation before the region -/

theorem hostOps0_fresh : (hostOps0 (F := F)).Forall fun op => op.fresh = ∅ := by
  simp only [List.Forall]; repeat' constructor

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_prefix (pcfgs (F := F)) 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    exact StableHlo.devRef_ne_of_ne (by decide)))

/-! ## What the region is handed -/

/-- The kernel's own two cells. -/
def cells : Fin 2 → SemLoc sig := ![SemLoc.dma 9, SemLoc.dma 10]
theorem cells_own : Pipeline.OwnSemFacts spec0 cells := by decide
omit [FloatOps F] in
theorem cells_eq (c : Dev nD) :
    (Pipeline.ownSems0 (Ix := Unit) (Name := ℕ) (U := Pipeline.UD sig nD τ) (Lvl := ℕ) (Val := Elt F) (τ := τ) cells c : sProp 𝕄)
      = iprop(cellP c 0 ∗ cellP c 1) := by
  rw [Pipeline.ownSems0_eq_of_list c cells [0, 1] (by decide) (by decide)]; rfl

/-- The experts' rows, which the body copies from. -/
def rowsIn : Finset (Ref sig .tc) := {main_arg1}
theorem rowsIn_sub : rowsIn ⊆ Pipeline.restRefsP sig pre0 spec0 := by decide
theorem rowsIn_eq (c : Dev nD) :
    (bigSep rowsIn (fun b => ((c : Thread nD τ).loc b) ↦{fullShare} V m c b) : sProp 𝕄) = held c ys (V m c main_arg1) := by
  rw [BI.bigSep_eq_bigSepL_of_eq [main_arg1] (by decide) (by decide)]; rfl

theorem region_eq (c : Dev nD) : (Pipeline.ΦD cells spec0 rowsIn (V m) c : sProp 𝕄)
    = iprop((∃ f : Buf (Elt F) ((c : Thread nD τ).loc cc0_scratch0), ((c : Thread nD τ).loc cc0_scratch0) ↦{fullShare} f)
      ∗ (∃ r, prngReg c r) ∗ (cellP c 0 ∗ cellP c 1) ∗ held c ys (V m c main_arg1)) := by
  rw [Pipeline.ΦD_eq, scopedRest0_eq, cells_eq, rowsIn_eq]

section
variable (c : Dev nD) (Y : BufOf (F := F) c ys)
omit [FloatOps F] in
/-- The experts' rows whole are the two halves lent to the slots. -/
theorem copies : (held c ys Y : sProp 𝕄) ⊣⊢ iprop(lentP c Y 0 ∗ lentP c Y 1) :=
  pointsTo_share (PosShare.mem_left_op_right fullShare)
omit [FloatOps F] in
/-- Into the slots: the scratch at anything, the cells at zero and the experts' rows whole are two slots at rest; -/
theorem slots_in : iprop((∃ f : Buf (Elt F) ((c : Thread nD τ).loc cc0_scratch0), ((c : Thread nD τ).loc cc0_scratch0) ↦{fullShare} f) ∗ (cellP (F := F) c 0 ∗ cellP c 1) ∗ held c ys Y)
    ⊢ (iprop(freeP c Y 0 ∗ freeP c Y 1) : sProp 𝕄) := by
  unfold freeP
  iintro ⟨HS, ⟨H0, H1⟩, HW⟩
  ihave HS' := (Ring.slots2_split (U := Pipeline.UD sig nD τ) (ℓ := (c : Thread nD τ).loc cc0_scratch0) (q := fullShare) slotSet slots_disjoint slots_cover
      (slotP c 0) (slotP c 1) (fun _ => rfl) (fun _ => rfl)) $$ HS
  icases HS' with ⟨HS0, HS1⟩
  ihave HW' := (copies (F := F) c Y).1 $$ HW
  icases HW' with ⟨HW0, HW1⟩
  isplitl [H0 HS0 HW0]
  · isplitl [H0]; · iexact H0
    isplitl [HS0]; · iexact HS0
    iexact HW0
  isplitl [H1]; · iexact H1
  isplitl [HS1]; · iexact HS1
  iexact HW1
omit [FloatOps F] in
/-- and out of them. -/
theorem slots_out : (iprop(freeP c Y 0 ∗ freeP c Y 1) : sProp 𝕄)
    ⊢ iprop((∃ f : Buf (Elt F) ((c : Thread nD τ).loc cc0_scratch0), ((c : Thread nD τ).loc cc0_scratch0) ↦{fullShare} f) ∗ (cellP (F := F) c 0 ∗ cellP c 1) ∗ held c ys Y) := by
  unfold freeP
  iintro ⟨⟨H0, HS0, HW0⟩, ⟨H1, HS1, HW1⟩⟩
  isplitl [HS0 HS1]
  · iapply (Ring.slots2_join (U := Pipeline.UD sig nD τ) (ℓ := (c : Thread nD τ).loc cc0_scratch0) (q := fullShare) slotSet slots_disjoint slots_cover
      (slotP c 0) (slotP c 1) (fun _ => rfl) (fun _ => rfl))
    isplitl [HS0]; · iexact HS0
    iexact HS1
  isplitl [H0 H1]
  · isplitl [H0]; · iexact H0
    iexact H1
  iapply (copies (F := F) c Y).2
  isplitl [HW0]; · iexact HW0
  iexact HW1
end

variable (a : (pcfg0 (F := F)).Adm)

theorem tables_eq (c : Dev nD) : (Pipeline.ΦT pre0 a.1 c : sProp 𝕄) = tabP c (posOf a) :=
  bigSep_univ_eq_bigSepL [(0 : Fin 1)] (by decide) (by decide) _

theorem slots_start (c : Dev nD) (pos : S65536.Idx → BitVec 32) (Y : BufOf (F := F) c ys) : slots c pos Y 0 = iprop(freeP c Y 0 ∗ freeP c Y 1) := by
  rw [slots_rest c pos Y 0 (by omega), show sl 0 = 0 from by decide, show sl (0 + 1) = 1 from by decide]
theorem slots_end (c : Dev nD) (pos : S65536.Idx → BitVec 32) (Y : BufOf (F := F) c ys) : slots c pos Y 64 = iprop(freeP c Y 0 ∗ freeP c Y 1) := by
  rw [slots_rest c pos Y 64 (by omega), show sl 64 = 0 from by decide, show sl (64 + 1) = 1 from by decide]

theorem hin (c : Dev nD) : iprop(Pipeline.ΦD cells spec0 rowsIn (V m) c ∗ Pipeline.ΦT pre0 a.1 c) ⊢ (dat m a c).Φ 0 := by
  rw [region_eq, tables_eq, show (dat m a c).Φ 0 = PhiR m a c 0 from rfl]
  unfold PhiR
  rw [slots_start]
  iintro ⟨⟨HS, Hr, HC, HW⟩, HT⟩
  isplitl [Hr]; · iexact Hr
  isplitl [HT]; · iexact HT
  iapply (slots_in c (V m c main_arg1))
  isplitl [HS]; · iexact HS
  isplitl [HC]; · iexact HC
  iexact HW

theorem hout (c : Dev nD) : (dat m a c).Φ (Fin.last grid0.N) ⊢ Pipeline.ΦD cells spec0 rowsIn (V m) c := by
  rw [region_eq, show (dat m a c).Φ (Fin.last grid0.N) = PhiR m a c grid0.N from rfl]
  unfold PhiR
  rw [show grid0.N = 64 from N_0, slots_end]
  iintro ⟨Hr, HT, HF⟩
  ihave HQ := (slots_out c (V m c main_arg1)) $$ HF
  icases HQ with ⟨HS, HC, HW⟩
  isplitl [HS]; · iexact HS
  isplitl [Hr]; · iexact Hr
  isplitl [HC]; · iexact HC
  iexact HW

/-! ## The run -/

/-- The table of positions as launched. -/
def tabs : pre0.Contents (Elt F) := fun k => V m 0 (pre0.ref k)
theorem tabs_pos : tabs m 0 = m (((0 : Dev nD) : Thread nD τ).loc main_arg0) := V_arg0 m 0
/-- The launched table, admitted. -/
def adm : (pcfg0 (F := F)).Adm := ⟨tabs m, by show ok0 (tabs m); exact trivial⟩

variable (hp : ∀ j, ((m (((0 : Dev nD) : Thread nD τ).loc main_arg0) : S65536.Idx → BitVec 32) j).toNat < 73728)
include hp

theorem tabs_ok : ∀ j, (posOf (adm m) j).toNat < 73728 := by
  show ∀ j, ((tabs m 0 : S65536.Idx → BitVec 32) j).toNat < 73728
  rw [tabs_pos]; exact hp

set_option backward.isDefEq.respectTransparency.types false in
/-- Every run of the program from `m` ends, with every array as the proof data compute it, every other buffer as the host
    operation leaves it, and every semaphore counter at zero. -/
theorem run_main : θ_run (defs (F := F)) (onTc (τ := τ) (main (F := F))) ⟨m, fun _ => 0, ρ⟩
    (fun r => Pipeline.FramePost (Pipeline.pin (pcfgs (F := F)) (adms (adm m))) (dats m (adm m)) 0 (V m) r ∧ r.2.sem = fun _ => 0) :=
  Pipeline.θ_run_frameP_dma (Q' := _) (pcfgs (F := F)) (adms (adm m)) (dats m (adm m)) (0 : Fin 1) launch0 cells defs₀ Variants.none
    cells_own rowsIn rowsIn_sub m ρ main
    (hbody := fun c => (body_obligation m (adm m) (tabs_ok m hp) c).loose)
    (hshare := fun c => (dat m (adm m) c).share_full fun _ => rfl)
    (howed := fun _ _ => rfl) (V := V m) (hmain := hmain m Variants.none) (hA := fun c w => A_eq m (adm m) c w)
    (hpf := fun c k => by rw [Subsingleton.elim c 0]; rfl)
    (hin := fun c => hin m (adm m) c) (hout := fun c => hout m (adm m) c)

/-- Every run ends with the result as the proof data compute it, the arguments unchanged and every counter at zero. -/
theorem run_result : θ_run (defs (F := F)) (onTc (τ := τ) (main (F := F))) ⟨m, fun _ => 0, ρ⟩ (fun r => (∀ c : Dev nD,
      r.2.mem ((c.tc : Thread nD τ).loc main_v1) = (dat m (adm m) c).arrAt 4 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c => ⟨(h.1 c).1 4,
      ((h.1 c).2 main_arg0 (show _ ∈ Pipeline.restRefs sig spec0 from by decide)).trans (V_arg0 m c),
      ((h.1 c).2 main_arg1 (show _ ∈ Pipeline.restRefs sig spec0 from by decide)).trans (V_arg1 m c),
      ((h.1 c).1 0).trans (((dat m (adm m) c).arrAt_in 0 rfl _).trans ((A_eq m (adm m) c 0).trans (V_arg2 m c))),
      ((h.1 c).1 1).trans (((dat m (adm m) c).arrAt_in 1 rfl _).trans ((A_eq m (adm m) c 1).trans (V_arg3 m c))),
      ((h.1 c).1 2).trans (((dat m (adm m) c).arrAt_in 2 rfl _).trans ((A_eq m (adm m) c 2).trans (V_arg4 m c))),
      ((h.1 c).2 main_arg5 (show _ ∈ Pipeline.restRefs sig spec0 from by decide)).trans (V_arg5 m c)⟩, h.2⟩) (run_main m ρ hp)

end Cert.Combine

end
-- ==== Proof.CMachine.lean ====
/- The combining call at machine values is the text of the call at ideal values: its frame is the generic run's. -/
module

public import proofs.«01_k».proof.Proof.CLaunch
public import proofs.«01_k».proof.Defs
public import proofs.«01_k».proof.Proof.Gen.Kernel3
public import proofs.«01_k».proof.Proof.Gen.Kernel3Ideal
public import proofs.«01_k».proof.Proof.Gen.Pre_rows_in_range
public import Idealize.ShloMosaic.Lib.ReduceAll

@[expose] public section

set_option maxRecDepth 16384

noncomputable section

namespace Cert.Combine

open Idealize.ShloMosaic Idealize.ShloMosaic.TcCoe Idealize.SL.Sem

attribute [local instance] Cert.Kernel3.Gen.facts Cert.Kernel3Ideal.Gen.facts Cert.Pre_rows_in_range.Gen.facts

/-- The precondition, decoded: each position names one of the experts' rows. -/
theorem rows_of_pre {F : FTy → Type} [FloatOps F] (pos : IVec Cert.Pre_rows_in_range.S65536 32) (ys : FVec F Cert.Pre_rows_in_range.S73728x1024 .f32)
    (h : FVec F Cert.Pre_rows_in_range.S32768x1024 .f32) (rec : FVec F Cert.Pre_rows_in_range.S32768x128 .f32)
    (mo : FVec F Cert.Pre_rows_in_range.S288x1x1024 .f32) (g : FVec F Cert.Pre_rows_in_range.S1024 .f32)
    (hpre : Cert.Pre_rows_in_range.fn (F := F) pos ys h rec mo g = fun _ => 1#1) : ∀ j, (pos j).toNat < 73728 := by
  have ofBool_one (p : Bool) : (BitVec.ofBool p = 1#1) ↔ p = true := by cases p <;> decide
  have : Subsingleton Cert.Pre_rows_in_range.S_.Idx := ⟨fun a b => funext fun i => i.elim0⟩
  have e := congrFun hpre (fun i => i.elim0)
  unfold Cert.Pre_rows_in_range.fn at e
  dsimp only at e
  intro j
  obtain ⟨a, b⟩ := IntOp.andi_eq_one.1 (Host.reduce_andi_all _ _ _ _ _ e j)
  have a' : (0#32).sle (pos j) = true := (ofBool_one _).1 a
  have b' : (pos j).slt 73728#32 = true := (ofBool_one _).1 b
  rw [BitVec.sle_eq_decide, decide_eq_true_eq] at a'
  rw [BitVec.slt_eq_decide, decide_eq_true_eq] at b'
  simp only [BitVec.toInt] at a' b'
  have := (pos j).isLt
  simp at a' b'
  omega

/-- The two printed bodies are one: their first parts, -/
theorem part_same : Cert.Kernel3.k0_part1 (F := Bits) = Cert.Kernel3Ideal.k0_part1 (F := Bits) := rfl
/-- and the whole. -/
theorem body_same : Cert.Kernel3.cc0_combine (F := Bits) = Cert.Kernel3Ideal.cc0_combine (F := Bits) := rfl
/-- So are the two body tables, -/
theorem rows_same : Cert.Kernel3.defs₀ (F := Bits) = Cert.Kernel3Ideal.defs₀ (F := Bits) := by
  funext p l x
  match p with
  | .tc =>
    match l, x with
    | ⟨0, _⟩, (t, s) =>
      unfold Cert.Kernel3.defs₀ Cert.Kernel3Ideal.defs₀
      rw [Defs.onTc_tc, Defs.onTc_tc]
      dsimp only
      rw [body_same]
      rfl
    | ⟨_ + 1, h⟩, _ => exact absurd h (Nat.not_lt.2 (Nat.le_add_left _ _))
  | .scScalar _ => rfl
  | .scVector _ _ => rfl
/-- the pipelines' tables, -/
theorem defs_same : Cert.Kernel3.defs (F := Bits) = Cert.Kernel3Ideal.defs (F := Bits) :=
  congrArg (Pipeline.defs (Cert.Kernel3Ideal.pcfgs (F := Bits))) rows_same
/-- and the two host programs. -/
theorem main_same : Cert.Kernel3.main (F := Bits) = Cert.Kernel3Ideal.main (F := Bits) := rfl

/-- The combining call at machine values ends, its arguments unchanged and every counter at zero. -/
theorem frame_kernel3 : Cert.quiescent_Kernel3 := by
  intro m ρ h
  rw [defs_same, main_same]
  exact (θ_run Cert.Kernel3Ideal.defs _ _).mono (fun _ h => ⟨fun c => (h.1 c).2, h.2⟩)
    (run_result (F := Bits) m ρ (rows_of_pre _ _ _ _ _ _ (h 0)))

/-- The combining call at ideal values ends, its arguments unchanged and every counter at zero. -/
theorem frame_ideal3 : Cert.quiescent_Kernel3Ideal := fun m ρ h =>
  (θ_run Cert.Kernel3Ideal.defs _ _).mono (fun _ h => ⟨fun c => (h.1 c).2, h.2⟩)
    (run_result (F := Ideal) m ρ (rows_of_pre _ _ _ _ _ _ (h 0)))

end Cert.Combine

end
-- ==== Proof.CRef.lean ====
/- The combining call's plain reference read at a place: a token's row plus its gated, weighted sum of two expert rows, normalized. -/
module

public import proofs.«01_k».proof.Proof.Gen.Reference3Ideal.Run
public import Idealize.ShloMosaic.Lib.Pointwise

@[expose] public section

set_option maxRecDepth 16384

noncomputable section

namespace Cert.Combine

open Idealize.ShloMosaic Idealize.ShloMosaic.TcCoe
open Cert.Reference3Ideal Cert.Reference3Ideal.Gen

variable (pos : IVec S65536 32) (ys : FVec Ideal S73728x1024 .f32) (h : FVec Ideal S32768x1024 .f32) (rec : FVec Ideal S32768x128 .f32)
  (mo : FVec Ideal S288x1x1024 .f32) (g : FVec Ideal S1024 .f32)

/-! ## The formula -/

/-- Entry `q` of the expert row that position `j` names. -/
def rowAt (j : Fin 65536) (q : Fin 1024) : EReal := ys (ix2 ⟨(pos (ix1 j)).toNat % 73728, Nat.mod_lt _ (by decide)⟩ q)
/-- Token `R`'s row with its gated sum of two expert rows, weighted by entries 4 and 5 of its routing record. -/
def mixed (R : Fin 32768) (q : Fin 1024) : EReal :=
  h (ix2 R q) + mo (ix3 ⟨144 + 6 * (R.val / 2048) + 5, by omega⟩ 0 q)
    * (rec (ix2 R 4) * rowAt pos ys ⟨2 * R.val, by omega⟩ q + rec (ix2 R 5) * rowAt pos ys ⟨2 * R.val + 1, by omega⟩ q)
/-- The same after the root-mean-square normalization with gain `g`. -/
def combined (R : Fin 32768) (q : Fin 1024) : EReal :=
  mixed pos ys h rec mo R q * Ideal.rsqrt (Ideal.div (∑ j, mixed pos ys h rec mo R j * mixed pos ys h rec mo R j) (Ideal.ofBits .f32 0x44800000#32) + Ideal.ofBits .f32 0x358637BD#32)
    * g (ix1 q)

/-! ## The reference -/

/-- The rows gathered, -/
def refY : FVec Ideal S65536x1024 .f32 :=
  Host.gather gather_S73728x1024_S65536x1_S65536x1024_1_0_n_n_0_1_11024 ys (broadcastInDim S65536x1 ![0] bcast_S65536_S65536x1_0 pos)
/-- the tokens' rows with their sums, -/
def refO : FVec Ideal S16x2048x1024 .f32 :=
  addf (shapeCast _ h shapeCasts_S32768x1024_S16x2048x1024) (mulf (broadcastInDim S16x2048x1024 ![0, 1, 2] bcast_S16x1x1024_S16x2048x1024_0_1_2 (broadcastInDim S16x1x1024 ![0, 2] bcast_S16x1024_S16x1x1024_0_2 (shapeCast _ (extractStridedSlice S1x16x1x1024 ![1, 0, 5, 0] (shapeCast _ mo shapeCasts_S288x1x1024_S2x24x6x1024) slices_S2x24x6x1024_S1x16x1x1024_1_0_5_0) shapeCasts_S1x16x1x1024_S16x1024))) (addf (mulf (broadcastInDim S16x2048x1024 ![0, 1, 2] bcast_S16x2048x1_S16x2048x1024_0_1_2 (extractStridedSlice S16x2048x1 ![0, 0, 0] (extractStridedSlice S16x2048x2 ![0, 0, 4] (shapeCast _ rec shapeCasts_S32768x128_S16x2048x128) slices_S16x2048x128_S16x2048x2_0_0_4) slices_S16x2048x2_S16x2048x1_0_0_0)) (shapeCast _ (extractStridedSlice S16x2048x1x1024 ![0, 0, 0, 0] (shapeCast _ (refY pos ys) shapeCasts_S65536x1024_S16x2048x2x1024) slices_S16x2048x2x1024_S16x2048x1x1024_0_0_0_0) shapeCasts_S16x2048x1x1024_S16x2048x1024)) (mulf (broadcastInDim S16x2048x1024 ![0, 1, 2] bcast_S16x2048x1_S16x2048x1024_0_1_2 (extractStridedSlice S16x2048x1 ![0, 0, 1] (extractStridedSlice S16x2048x2 ![0, 0, 4] (shapeCast _ rec shapeCasts_S32768x128_S16x2048x128) slices_S16x2048x128_S16x2048x2_0_0_4) slices_S16x2048x2_S16x2048x1_0_0_1)) (shapeCast _ (extractStridedSlice S16x2048x1x1024 ![0, 0, 1, 0] (shapeCast _ (refY pos ys) shapeCasts_S65536x1024_S16x2048x2x1024) slices_S16x2048x2x1024_S16x2048x1x1024_0_0_1_0) shapeCasts_S16x2048x1x1024_S16x2048x1024))))
/-- and the result. -/
def refC : FVec Ideal S32768x1024 .f32 :=
  shapeCast _ (mulf (mulf (refO pos ys h rec mo) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (refO pos ys h rec mo) (refO pos ys h rec mo)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) shapeCasts_S16x2048x1024_S32768x1024

theorem refY_apply (hp : ∀ j, (pos j).toNat < 73728) (j : Fin 65536) (q : Fin 1024) : (refY pos ys (ix2 j q) : EReal) = rowAt pos ys j q := by
  have e : min (pos (ix1 j)).toInt.toNat 73727 = (pos (ix1 j)).toNat % 73728 := by
    have := hp (ix1 j)
    rw [BitVec.toInt_eq_toNat_of_lt (by omega)]; simp; omega
  unfold refY rowAt Host.gather
  refine congrArg ys (funext fun a => Fin.ext ?_)
  match a with
  | 0 =>
    have e' : ∀ i : S65536.Idx, i 0 = j → min (pos i).toInt.toNat 73727 + 0 + 0 = (pos (ix1 j)).toNat % 73728 := fun i hi => by
      have : i = ix1 j := by funext a; match a with | 0 => exact hi
      subst this; exact e
    exact e' _ rfl
  | 1 => show 0 + 0 + q.val = q.val; omega

theorem refO_apply (hp : ∀ j, (pos j).toNat < 73728) (b : Fin 16) (r : Fin 2048) (q : Fin 1024) :
    (refO pos ys h rec mo (ix3 b r q) : EReal) = mixed pos ys h rec mo ⟨b.val * 2048 + r.val, by omega⟩ q := by
  have e1 : (⟨144 + 6 * ((b.val * 2048 + r.val) / 2048) + 5, by omega⟩ : Fin 288) = ⟨144 + b.val * 6 + 5, by omega⟩ := Fin.ext (by dsimp only; omega)
  have e2 : (⟨2 * (b.val * 2048 + r.val), by omega⟩ : Fin 65536) = ⟨b.val * 4096 + r.val * 2, by omega⟩ := Fin.ext (by dsimp only; omega)
  have e3 : (⟨2 * (b.val * 2048 + r.val) + 1, by omega⟩ : Fin 65536) = ⟨b.val * 4096 + r.val * 2 + 1, by omega⟩ := Fin.ext (by dsimp only; omega)
  unfold mixed
  simp only [e1, e2, e3, ← refY_apply pos ys hp]
  unfold refO
  pointwise

theorem refC_apply (hp : ∀ j, (pos j).toNat < 73728) (R : Fin 32768) (q : Fin 1024) :
    (refC pos ys h rec mo g (ix2 R q) : EReal) = combined pos ys h rec mo g R q := by
  have eR : R = ⟨(R.val / 2048) * 2048 + R.val % 2048, by omega⟩ := Fin.ext (by dsimp only; omega)
  have eO : ∀ k, mixed pos ys h rec mo R k = refO pos ys h rec mo (ix3 ⟨R.val / 2048, by omega⟩ ⟨R.val % 2048, by omega⟩ k) := fun k => by
    rw [refO_apply pos ys h rec mo hp]
    exact congrArg (fun R => mixed pos ys h rec mo R k) eR
  unfold combined
  simp only [eO]
  unfold refC
  pointwise

end Cert.Combine

end
-- ==== Proof.CValue.lean ====
/- What the combining call leaves in its result, at ideal values: each token's row with its gated, weighted sum of two expert rows, normalized. -/
module

public import proofs.«01_k».proof.Proof.CLaunch
public import proofs.«01_k».proof.Proof.CRef
public import Idealize.ShloMosaic.Lib.Pointwise

@[expose] public section

set_option maxRecDepth 16384

noncomputable section

namespace Cert.Combine

open Idealize.ShloMosaic Idealize.ShloMosaic.TcCoe Idealize.ShloMosaic.Tactic
open Idealize.SL Idealize.SL.Sem
open Cert.Kernel3Ideal Cert.Kernel3Ideal.Gen

/-! ## The blocks the grid's points visit -/

theorem at1 (t : Fin grid0.N) : cc0_transform_1 (grid0.coords t) = ![t.val, 0] :=
  (by decide +kernel : ∀ t : Fin grid0.N, cc0_transform_1 (grid0.coords t) = ![t.val, 0]) t
theorem at2 (t : Fin grid0.N) : cc0_transform_2 (grid0.coords t) = ![t.val, 0] :=
  (by decide +kernel : ∀ t : Fin grid0.N, cc0_transform_2 (grid0.coords t) = ![t.val, 0]) t
theorem at3 (t : Fin grid0.N) : cc0_transform_3 (grid0.coords t) = ![144 + 6 * (t.val / 4) + 5, 0, 0] :=
  (by decide +kernel : ∀ t : Fin grid0.N, cc0_transform_3 (grid0.coords t) = ![144 + 6 * (t.val / 4) + 5, 0, 0]) t
theorem at5 (t : Fin grid0.N) : cc0_transform_5 (grid0.coords t) = ![t.val, 0] :=
  (by decide +kernel : ∀ t : Fin grid0.N, cc0_transform_5 (grid0.coords t) = ![t.val, 0]) t

section
variable {F : FTy → Type} [FloatOps F]
variable (m : (ℓ : Loc nD τ sig) → Buf (Elt F) ℓ) (a : (pcfg0 (F := F)).Adm) (c : Dev nD)

theorem index0 (t : Fin grid0.N) : (win0 a 0).index t = ![t.val, 0] := at1 t
theorem index1 (t : Fin grid0.N) : (win0 a 1).index t = ![t.val, 0] := at2 t
theorem index2 (t : Fin grid0.N) : (win0 a 2).index t = ![144 + 6 * (t.val / 4) + 5, 0, 0] := at3 t
theorem index3 (t : Fin grid0.N) : (win0 a 3).index t = ![0, 0] := rfl
theorem index4 (t : Fin grid0.N) : (win0 a 4).index t = ![t.val, 0] := at5 t

/-! ## What the windows read -/

/-- The tokens' rows of a tile, -/
theorem hB_apply (t : Fin grid0.N) (r : Fin 512) (k : Fin 1024) (h : 512 * t.val + r.val < 32768) :
    hB m a c t (ix2 r k) = V m c main_arg2 (ix2 ⟨512 * t.val + r.val, h⟩ k) := by
  unfold hB iblk
  refine congrArg (V m c main_arg2) (funext fun b => Fin.ext ?_)
  match b with
  | 0 =>
    refine (Pipeline.Window.rect_emb_val (win0 a 0) t (ix2 r k) (0 : Fin 2)).trans ?_
    rw [index0]
    show t.val * 512 + r.val = 512 * t.val + r.val
    omega
  | 1 =>
    refine (Pipeline.Window.rect_emb_val (win0 a 0) t (ix2 r k) (1 : Fin 2)).trans ?_
    rw [index0]
    show 0 * 1024 + k.val = k.val
    omega
/-- their routing records, -/
theorem rB_apply (t : Fin grid0.N) (r : Fin 512) (k : Fin 128) (h : 512 * t.val + r.val < 32768) :
    rB m a c t (ix2 r k) = V m c main_arg3 (ix2 ⟨512 * t.val + r.val, h⟩ k) := by
  unfold rB iblk
  refine congrArg (V m c main_arg3) (funext fun b => Fin.ext ?_)
  match b with
  | 0 =>
    refine (Pipeline.Window.rect_emb_val (win0 a 1) t (ix2 r k) (0 : Fin 2)).trans ?_
    rw [index1]
    show t.val * 512 + r.val = 512 * t.val + r.val
    omega
  | 1 =>
    refine (Pipeline.Window.rect_emb_val (win0 a 1) t (ix2 r k) (1 : Fin 2)).trans ?_
    rw [index1]
    show 0 * 128 + k.val = k.val
    omega
/-- the gate of their batch entry, -/
theorem gB_apply (t : Fin grid0.N) (k : Fin 1024) (h : 144 + 6 * (t.val / 4) + 5 < 288) :
    gB m a c t (ix3 0 0 k) = V m c main_arg4 (ix3 ⟨144 + 6 * (t.val / 4) + 5, h⟩ 0 k) := by
  unfold gB iblk
  refine congrArg (V m c main_arg4) (funext fun b => Fin.ext ?_)
  match b with
  | 0 =>
    refine (Pipeline.Window.rect_emb_val (win0 a 2) t (ix3 0 0 k) (0 : Fin 3)).trans ?_
    rw [index2]
    show (144 + 6 * (t.val / 4) + 5) * 1 + 0 = 144 + 6 * (t.val / 4) + 5
    omega
  | 1 =>
    refine (Pipeline.Window.rect_emb_val (win0 a 2) t (ix3 0 0 k) (1 : Fin 3)).trans ?_
    rw [index2]
    show 0 * 1 + 0 = 0
    omega
  | 2 =>
    refine (Pipeline.Window.rect_emb_val (win0 a 2) t (ix3 0 0 k) (2 : Fin 3)).trans ?_
    rw [index2]
    show 0 * 1024 + k.val = k.val
    omega
/-- and the gain. -/
theorem wB_apply (t : Fin grid0.N) (k : Fin 1024) : wB m a c t (ix2 0 k) = V m c main_v0 (ix2 0 k) := by
  unfold wB iblk
  refine congrArg (V m c main_v0) (funext fun b => Fin.ext ?_)
  match b with
  | 0 =>
    refine (Pipeline.Window.rect_emb_val (win0 a 3) t (ix2 0 k) (0 : Fin 2)).trans ?_
    rw [index3]
    show 0 * 1 + 0 = 0
    omega
  | 1 =>
    refine (Pipeline.Window.rect_emb_val (win0 a 3) t (ix2 0 k) (1 : Fin 2)).trans ?_
    rw [index3]
    show 0 * 1024 + k.val = k.val
    omega

theorem V_v0 : V m c main_v0 = shapeCast _ (m (c.tc.loc main_arg5)) shapeCasts_S1024_S1x1024 := by
  unfold V hostOps0
  after_results_simp <;> rfl

/-! ## The result -/

/-- The result, tile by tile. -/
def tiles : S32768x1024.Idx → F .f32 := fun i =>
  outAt m a c ⟨(i 0).val / 512, by rw [N_0]; have : (i 0).val < 32768 := (i 0).isLt; omega⟩ (ix2 ⟨(i 0).val % 512, Nat.mod_lt _ (by decide)⟩ (i 1))

/-- Where the output's block at point `t` lies in the array. -/
theorem blk4_0 (t : Fin grid0.N) (x : S512x1024.Idx) : ((((win0 a 4).blk t).view.emb x : S32768x1024.Idx) 0 : ℕ) = 512 * t.val + (x 0).val := by
  refine (Pipeline.Window.rect_emb_val (win0 a 4) t x (0 : Fin 2)).trans ?_
  rw [index4]
  show t.val * 512 + (x 0).val = _
  omega
theorem blk4_1 (t : Fin grid0.N) (x : S512x1024.Idx) : (((win0 a 4).blk t).view.emb x : S32768x1024.Idx) 1 = x 1 := by
  refine Fin.ext ((Pipeline.Window.rect_emb_val (win0 a 4) t x (1 : Fin 2)).trans ?_)
  rw [index4]
  show 0 * 1024 + (x 1).val = _
  omega

/-- Every point writes its block back. -/
theorem flush4 (t : Fin grid0.N) : (win0 a 4).flush t = true := by
  have hN := N_0
  have ht := step_lt t
  unfold Pipeline.Window.flush
  rw [Bool.and_eq_true, Bool.or_eq_true, decide_eq_true_eq, decide_eq_true_eq]
  refine ⟨rfl, ?_⟩
  by_cases h : t.val + 1 < grid0.N
  · refine Or.inr ⟨h, ?_⟩
    change cc0_transform_5 (grid0.coords ⟨t.val + 1, _⟩) ≠ cc0_transform_5 (grid0.coords t)
    rw [at5, at5]
    intro e
    have := congrFun e 0
    simp at this
  · exact Or.inl (by omega)

theorem div_of (n t x : ℕ) (hx : x < 512) (e : n = 512 * t + x) : n / 512 = t := by omega
theorem flushed4 (t : Fin grid0.N) : (dat m a c).flushed 4 t = ((win0 a 4).blk t).view.read (Elt F) (tiles m a c) := by
  refine Eq.trans (show (dat m a c).flushed 4 t = (outAt m a c t : S512x1024.Idx → F .f32) from after4 m a c t) ?_
  funext x
  show _ = tiles m a c (((win0 a 4).blk t).view.emb x)
  unfold tiles
  have e0 := blk4_0 a t x
  have e1 := blk4_1 a t x
  have hx : (x 0).val < 512 := (x 0).isLt
  rw [e1]
  have q : ∀ h, (⟨((((win0 a 4).blk t).view.emb x : S32768x1024.Idx) 0 : ℕ) / 512, h⟩ : Fin grid0.N) = t := fun h => Fin.ext (div_of _ _ _ hx e0)
  rw [q]
  refine congrArg _ (funext fun b => ?_)
  match b with
  | 0 => exact Fin.ext (by show (x 0).val = _ % 512; omega)
  | 1 => rfl

/-- The result at a place: the tile's output there. -/
theorem result_apply (R : Fin 32768) (q : Fin 1024) :
    ((dat m a c).arrAt 4 grid0.N : S32768x1024.Idx → F .f32) (ix2 R q)
      = outAt m a c ⟨R.val / 512, by rw [N_0]; omega⟩ (ix2 ⟨R.val % 512, Nat.mod_lt _ (by decide)⟩ q) := by
  have ht : R.val / 512 < grid0.N := by rw [N_0]; omega
  have key := (dat m a c).arrAt_eq_piecewise 4 (tiles m a c) (fun t _ => flushed4 m a c t) (ix2 R q)
  refine key.trans (if_pos ⟨⟨R.val / 512, ht⟩, flush4 a _, ?_⟩)
  have hm := ((win0 a 4).blk ⟨_, ht⟩).view.emb_mem_set (ix2 ⟨R.val % 512, Nat.mod_lt _ (by decide)⟩ q : S512x1024.Idx)
  have e : (((win0 a 4).blk ⟨_, ht⟩).view.emb (ix2 ⟨R.val % 512, Nat.mod_lt _ (by decide)⟩ q : S512x1024.Idx) : S32768x1024.Idx) = ix2 R q := by
    funext b
    match b with
    | 0 =>
      refine Fin.ext ((blk4_0 a _ _).trans ?_)
      show 512 * (R.val / 512) + R.val % 512 = R.val
      omega
    | 1 => exact blk4_1 a _ _
  rw [e] at hm
  exact hm
end

/-! ## At ideal values -/

/-- A tile's sum before the normalization, at a place. -/
def tileSum (u v : FVec Ideal S1x1x512x1024 .f32) (h : FVec Ideal S512x1024 .f32) (r : FVec Ideal S512x128 .f32) (g : FVec Ideal S1x1x1024 .f32)
    (p : Fin 512) (q : Fin 1024) : EReal :=
  h (ix2 p q) + g (ix3 0 0 q) * (r (ix2 p 4) * u (ix4 0 0 p q) + r (ix2 p 5) * v (ix4 0 0 p q))

theorem outTile_apply (u v : FVec Ideal S1x1x512x1024 .f32) (h : FVec Ideal S512x1024 .f32) (r : FVec Ideal S512x128 .f32) (g : FVec Ideal S1x1x1024 .f32)
    (w : FVec Ideal S1x1024 .f32) (p : Fin 512) (q : Fin 1024) :
    (outTile (F := Ideal) u v h r g w (ix2 p q) : EReal)
      = tileSum u v h r g p q * Ideal.rsqrt (Ideal.div (∑ j, tileSum u v h r g p j * tileSum u v h r g p j) (Ideal.ofBits .f32 0x44800000#32) + Ideal.ofBits .f32 0x358637BD#32)
        * w (ix2 0 q) := by
  unfold outTile k0_pay1 k0_pay2 k0_pay3 tileSum
  pointwise

variable (m : (ℓ : Loc nD τ sig) → Buf (Elt Ideal) ℓ) (a : (pcfg0 (F := Ideal)).Adm) (c : Dev nD)

/-- A tile's rows of the experts' results are those the positions name. -/
theorem half_apply (pos : IVec S65536 32) (ys : FVec Ideal S73728x1024 .f32) (R : Fin 32768) (k : ℕ) (hk : k < 2) (p : Fin 512) (hp : p.val = R.val % 512) (q : Fin 1024) :
    (half (F := Ideal) pos ys (R.val / 512) k (ix4 0 0 p q) : EReal) = rowAt pos ys ⟨2 * R.val + k, by omega⟩ q := by
  have e : wd pos (R.val / 512) (2 * p.val + k) = pos (ix1 ⟨2 * R.val + k, by omega⟩) := by
    unfold wd
    refine congrArg pos (funext fun b => ?_)
    match b with
    | 0 => exact Fin.ext (by show min (1024 * (R.val / 512) + (2 * p.val + k)) 65535 = 2 * R.val + k; omega)
  unfold half rowAt
  refine congrArg ys (congrArg (fun i => ix2 i q) (Fin.ext ?_))
  show (wd pos (R.val / 512) (2 * p.val + k)).toNat % 73728 = _
  rw [e]

theorem result_formula (R : Fin 32768) (q : Fin 1024) :
    ((dat m a c).arrAt 4 grid0.N : S32768x1024.Idx → EReal) (ix2 R q)
      = combined (posOf a) (V m c main_arg1) (V m c main_arg2) (V m c main_arg3) (V m c main_arg4) (m (c.tc.loc main_arg5)) R q := by
  have hs : ∀ k, tileSum (half (F := Ideal) (posOf a) (V m c main_arg1) (R.val / 512) 0) (half (F := Ideal) (posOf a) (V m c main_arg1) (R.val / 512) 1)
      (hB m a c ⟨R.val / 512, by rw [N_0]; omega⟩) (rB m a c ⟨R.val / 512, by rw [N_0]; omega⟩) (gB m a c ⟨R.val / 512, by rw [N_0]; omega⟩)
      ⟨R.val % 512, Nat.mod_lt _ (by decide)⟩ k
      = mixed (posOf a) (V m c main_arg1) (V m c main_arg2) (V m c main_arg3) (V m c main_arg4) R k := fun k => by
    unfold tileSum mixed
    have eR : ∀ h, (⟨512 * (R.val / 512) + R.val % 512, h⟩ : Fin 32768) = R := fun h => Fin.ext (by dsimp only; omega)
    have eG : ∀ h, (⟨144 + 6 * (R.val / 512 / 4) + 5, h⟩ : Fin 288) = ⟨144 + 6 * (R.val / 2048) + 5, by omega⟩ := fun h => Fin.ext (by dsimp only; omega)
    rw [hB_apply m a c _ _ _ (by dsimp only; omega), rB_apply m a c _ _ _ (by dsimp only; omega), rB_apply m a c _ _ _ (by dsimp only; omega),
      gB_apply m a c _ _ (by dsimp only; omega), half_apply _ _ R 0 (by omega) _ rfl, half_apply _ _ R 1 (by omega) _ rfl]
    dsimp only
    rw [eR, eG]
    rfl
  rw [result_apply]
  unfold outAt
  rw [outTile_apply, wB_apply, V_v0]
  unfold combined
  simp only [hs]
  congr 1
  pointwise

/-- The reference's formula of the launched arrays is the array the run leaves. -/
theorem result_eq (hp : ∀ j, ((m (((0 : Dev nD) : Thread nD τ).loc main_arg0) : S65536.Idx → BitVec 32) j).toNat < 73728) :
    refC (m ((0 : Dev nD).tc.loc main_arg0)) (m ((0 : Dev nD).tc.loc main_arg1)) (m ((0 : Dev nD).tc.loc main_arg2)) (m ((0 : Dev nD).tc.loc main_arg3))
        (m ((0 : Dev nD).tc.loc main_arg4)) (m ((0 : Dev nD).tc.loc main_arg5))
      = ((dat m (adm m) 0).arrAt 4 grid0.N : S32768x1024.Idx → EReal) := by
  refine funext fun i => ?_
  have ei : i = ix2 (i 0) (i 1) := by funext b; match b with | 0 => rfl | 1 => rfl
  have ev : combined (posOf (adm m)) (V m 0 main_arg1) (V m 0 main_arg2) (V m 0 main_arg3) (V m 0 main_arg4) (m ((0 : Dev nD).tc.loc main_arg5)) (i 0) (i 1)
      = combined (m ((0 : Dev nD).tc.loc main_arg0)) (m ((0 : Dev nD).tc.loc main_arg1)) (m ((0 : Dev nD).tc.loc main_arg2)) (m ((0 : Dev nD).tc.loc main_arg3))
        (m ((0 : Dev nD).tc.loc main_arg4)) (m ((0 : Dev nD).tc.loc main_arg5)) (i 0) (i 1) := by
    rw [V_arg1, V_arg2, V_arg3, V_arg4, show posOf (adm m) = m (((0 : Dev nD) : Thread nD τ).loc main_arg0) from tabs_pos m]
  exact ((congrArg (refC _ _ _ _ _ _) ei).trans (refC_apply _ _ _ _ _ _ hp _ _)).trans
    (ev.symm.trans ((result_formula m (adm m) 0 _ _).symm.trans (congrArg ((dat m (adm m) 0).arrAt 4 grid0.N : S32768x1024.Idx → EReal) ei.symm)))

end Cert.Combine

end
-- ==== Proof.InprojRef.lean ====
/- The input projection's plain reference read at a place: one formula over the tokens, the positions, the modulation rows, the gain and the weights. -/
module

public import proofs.«01_k».proof.Proof.Gen.Reference2Ideal.Run
public import Idealize.ShloMosaic.Lib.Pointwise

@[expose] public section

set_option maxRecDepth 16384

noncomputable section

namespace Cert.Inproj

open Idealize.ShloMosaic Idealize.ShloMosaic.TcCoe
open Cert.Reference2Ideal Cert.Reference2Ideal.Gen

/-! ## The formula -/

/-- A token's entry `k` after the root-mean-square normalization with gain `g`, scaled by `1 + s` and shifted by `t`. -/
def modulated (h g s t : Fin 1024 → EReal) (k : Fin 1024) : EReal :=
  h k * Ideal.rsqrt (Ideal.div (∑ j, h j * h j) (Ideal.ofBits .f32 0x44800000#32) + Ideal.ofBits .f32 0x358637BD#32) * g k * (1 + s k) + t k

section
variable (x : FVec Ideal S16x2048x1024 .f32) (p : FVec Ideal S2048x1024 .f32) (mo : FVec Ideal S288x1x1024 .f32)
  (g : FVec Ideal S2x1024 .f32) (w : FVec Ideal S2x1024x3072 .f32)

/-- Entry `k` of token `r` of batch entry `b`, its position added. -/
def token (b : Fin 16) (r : Fin 2048) (k : Fin 1024) : EReal := x (ix3 b r k) + p (ix2 r k)

/-- Column `q` of the token's projection. Batch entry `b`'s shift and scale are rows `6 b` and `6 b + 1` of the modulation rows. -/
def projected (b : Fin 16) (r : Fin 2048) (q : Fin 3072) : EReal :=
  ∑ k : Fin 1024, modulated (token x p b r) (fun k => g (ix2 0 k)) (fun k => mo (ix3 ⟨b.val * 6 + 1, by omega⟩ 0 k))
    (fun k => mo (ix3 ⟨b.val * 6, by omega⟩ 0 k)) k * w (ix3 0 k q)

/-! ## The reference -/

/-- The tokens with their positions. -/
def refH : FVec Ideal S16x2048x1024 .f32 :=
  addf x (broadcastInDim S16x2048x1024 ![0, 1, 2] bcast_S1x2048x1024_S16x2048x1024_0_1_2 (broadcastInDim S1x2048x1024 ![1, 2] bcast_S2048x1024_S1x2048x1024_1_2 p))
/-- The normalized and modulated tokens. -/
def refA : FVec Ideal S16x2048x1024 .f32 :=
  addf (mulf (mulf (mulf (refH x p) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (refH x p) (refH x p)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S1x16x1x1024 ![0, 0, 1, 0] (shapeCast _ mo shapeCasts_S288x1x1024_S2x24x6x1024) slices_S2x24x6x1024_S1x16x1x1024_0_0_1_0) shapeCasts_S1x16x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S1x16x1x1024 ![0, 0, 0, 0] (shapeCast _ mo shapeCasts_S288x1x1024_S2x24x6x1024) slices_S2x24x6x1024_S1x16x1x1024_0_0_0_0) shapeCasts_S1x16x1x1024_S16x1024)))
/-- Their product with the first layer's weights. -/
def refP : FVec Ideal S16x2048x3072 .f32 :=
  Host.dotGeneral dot_S16x2048x1024_S1024x3072_S16x2048x3072_2_0_01_1_n_n none (refA x p mo g) (shapeCast _ (extractStridedSlice S1x1024x3072 ![0, 0, 0] w slices_S2x1024x3072_S1x1024x3072_0_0_0) shapeCasts_S1x1024x3072_S1024x3072)
/-- The two plain results and the two gates. -/
def refU : FVec Ideal S16x2048x512 .bf16 :=
  truncf .bf16 (extractStridedSlice S16x2048x512 ![0, 0, 0] (refP x p mo g w) slices_S16x2048x3072_S16x2048x512_0_0_0) bitsLt_bf16_f32
def refV : FVec Ideal S16x2048x512 .bf16 :=
  truncf .bf16 (extractStridedSlice S16x2048x512 ![0, 0, 512] (refP x p mo g w) slices_S16x2048x3072_S16x2048x512_0_0_512) bitsLt_bf16_f32
def refG : FVec Ideal S16x2048x1024 .bf16 :=
  truncf .bf16 (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 1024] (refP x p mo g w) slices_S16x2048x3072_S16x2048x1024_0_0_1024))))) bitsLt_bf16_f32
def refL : FVec Ideal S16x2048x1024 .bf16 :=
  truncf .bf16 (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 2048] (refP x p mo g w) slices_S16x2048x3072_S16x2048x1024_0_0_2048))))) bitsLt_bf16_f32

theorem refH_apply (b : Fin 16) (r : Fin 2048) (k : Fin 1024) : (refH x p (ix3 b r k) : EReal) = token x p b r k := by
  unfold refH token
  pointwise

theorem refA_apply (b : Fin 16) (r : Fin 2048) (k : Fin 1024) : (refA x p mo g (ix3 b r k) : EReal)
    = modulated (token x p b r) (fun k => g (ix2 0 k)) (fun k => mo (ix3 ⟨b.val * 6 + 1, by omega⟩ 0 k)) (fun k => mo (ix3 ⟨b.val * 6, by omega⟩ 0 k)) k := by
  unfold refA modulated
  simp only [← refH_apply]
  pointwise

theorem refP_apply (b : Fin 16) (r : Fin 2048) (q : Fin 3072) : (refP x p mo g w (ix3 b r q) : EReal) = projected x p mo g w b r q := by
  unfold refP projected
  simp only [← refA_apply]
  pointwise

theorem refU_apply (b : Fin 16) (r : Fin 2048) (q : Fin 512) : (refU x p mo g w (ix3 b r q) : EReal) = projected x p mo g w b r ⟨q.val, by omega⟩ := by
  rw [← refP_apply]
  unfold refU
  pointwise
theorem refV_apply (b : Fin 16) (r : Fin 2048) (q : Fin 512) : (refV x p mo g w (ix3 b r q) : EReal) = projected x p mo g w b r ⟨512 + q.val, by omega⟩ := by
  rw [← refP_apply]
  unfold refV
  pointwise
theorem refG_apply (b : Fin 16) (r : Fin 2048) (q : Fin 1024) : (refG x p mo g w (ix3 b r q) : EReal) = Ideal.logistic (projected x p mo g w b r ⟨1024 + q.val, by omega⟩) := by
  rw [← refP_apply]
  unfold refG
  pointwise
  rfl
theorem refL_apply (b : Fin 16) (r : Fin 2048) (q : Fin 1024) : (refL x p mo g w (ix3 b r q) : EReal) = Ideal.logistic (projected x p mo g w b r ⟨2048 + q.val, by omega⟩) := by
  rw [← refP_apply]
  unfold refL
  pointwise
  rfl
end

end Cert.Inproj

end
-- ==== Proof.Inproj.lean ====
/- The input projection's kernel at ideal values: its five results, at a place, are the reference's formula. -/
module

public import proofs.«01_k».proof.Proof.Gen.Kernel2Ideal.Value
public import proofs.«01_k».proof.Proof.InprojRef
public import Idealize.ShloMosaic.Lib.Pipeline.ValueKit

@[expose] public section

set_option maxRecDepth 16384

noncomputable section

namespace Cert.Inproj

open Idealize.ShloMosaic Idealize.ShloMosaic.TcCoe Idealize.ShloMosaic.Tactic
open Idealize.SL Idealize.SL.Sem
open Cert.Kernel2Ideal Cert.Kernel2Ideal.Gen

/-! ## The body's values over its blocks -/

theorem pay6_apply (x : FVec Ideal S1x512x1024 .f32) (p : FVec Ideal S512x1024 .f32) (r : Fin 512) (k : Fin 1024) :
    (k0_pay6 (F := Ideal) x p (ix3 0 r k) : EReal) = x (ix3 0 r k) + p (ix2 r k) := by
  unfold k0_pay6 k0_pay5
  pointwise
theorem pay7_apply (x : FVec Ideal S1x512x1024 .f32) (p : FVec Ideal S512x1024 .f32) (g s t : FVec Ideal S1x1x1024 .f32) (r : Fin 512) (k : Fin 1024) :
    (k0_pay7 (F := Ideal) x p g s t (ix2 r k) : EReal)
      = modulated (fun j => x (ix3 0 r j) + p (ix2 r j)) (fun j => g (ix3 0 0 j)) (fun j => s (ix3 0 0 j)) (fun j => t (ix3 0 0 j)) k := by
  unfold k0_pay7 k0_pay5 modulated
  pointwise
theorem pay1_apply (a : FVec Ideal S512x1024 .bf16) (w : FVec Ideal S1x1024x512 .bf16) (r : Fin 512) (q : Fin 512) :
    (k0_pay1 (F := Ideal) a w (ix3 0 r q) : EReal) = (∑ k : Fin 1024, a (ix2 r k) * w (ix3 0 k q) : EReal) := by
  unfold k0_pay1
  pointwise
theorem pay2_apply (a : FVec Ideal S512x1024 .bf16) (w : FVec Ideal S1x1024x512 .bf16) (r : Fin 512) (q : Fin 512) :
    (k0_pay2 (F := Ideal) a w (ix3 0 r q) : EReal) = (∑ k : Fin 1024, a (ix2 r k) * w (ix3 0 k q) : EReal) := by
  unfold k0_pay2
  pointwise
theorem pay3_apply (a : FVec Ideal S512x1024 .bf16) (w : FVec Ideal S1x1024x1024 .bf16) (r : Fin 512) (q : Fin 1024) :
    (k0_pay3 (F := Ideal) a w (ix3 0 r q) : EReal) = Ideal.logistic (∑ k : Fin 1024, a (ix2 r k) * w (ix3 0 k q)) := by
  unfold k0_pay3
  pointwise
theorem pay4_apply (a : FVec Ideal S512x1024 .bf16) (w : FVec Ideal S1x1024x1024 .bf16) (r : Fin 512) (q : Fin 1024) :
    (k0_pay4 (F := Ideal) a w (ix3 0 r q) : EReal) = Ideal.logistic (∑ k : Fin 1024, a (ix2 r k) * w (ix3 0 k q)) := by
  unfold k0_pay4
  pointwise

/-! ## The blocks -/

variable (m : (ℓ : Loc nD τ sig) → Buf (Elt Ideal) ℓ)

theorem V_v0 (c : Dev nD) : V m c main_v0 = (truncf (F := Ideal) .bf16 (m (c.tc.loc main_arg4) : FVec Ideal S2x1024x3072 .f32) bitsLt_bf16_f32 : FVec Ideal S2x1024x3072 .bf16) := by
  unfold V hostOps0
  after_results_simp <;> rfl
theorem V_v1 (c : Dev nD) : V m c main_v1 = shapeCast _ (m (c.tc.loc main_arg3)) shapeCasts_S2x1024_S2x1x1024 := by
  unfold V hostOps0
  after_results_simp <;> rfl
theorem gain_flat (g : FVec Ideal S2x1024 .f32) (a : Fin 2) (k : Fin 1024) : shapeCast S2x1x1024 g shapeCasts_S2x1024_S2x1x1024 (ix3 a 0 k) = g (ix2 a k) := by pointwise

/-- The batch entry and the row block a grid point names. -/
abbrev bOf (t : Fin cfg0.N) : Fin 16 := ⟨(grid0.coords t 0).val, (grid0.coords t 0).isLt⟩
abbrev jOf (t : Fin cfg0.N) : Fin 4 := ⟨(grid0.coords t 1).val, (grid0.coords t 1).isLt⟩

theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val * 6 + 1, 0, 0] := (by decide +kernel : ∀ t : Fin grid0.N, _)
theorem e3 : ∀ t : Fin cfg0.N, win0_3.index t = ![(grid0.coords t 0).val * 6, 0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![(grid0.coords t 0).val, (grid0.coords t 1).val, 0] := (by decide +kernel : ∀ t : Fin grid0.N, _)
theorem e7 : ∀ t : Fin cfg0.N, win0_7.index t = ![(grid0.coords t 0).val, (grid0.coords t 1).val, 0] := (by decide +kernel : ∀ t : Fin grid0.N, _)
theorem e8 : ∀ t : Fin cfg0.N, win0_8.index t = ![(grid0.coords t 0).val, (grid0.coords t 1).val, 0] := (by decide +kernel : ∀ t : Fin grid0.N, _)
theorem e9 : ∀ t : Fin cfg0.N, win0_9.index t = ![(grid0.coords t 0).val, (grid0.coords t 1).val, 0] := (by decide +kernel : ∀ t : Fin grid0.N, _)
theorem e10 : ∀ t : Fin cfg0.N, win0_10.index t = ![(grid0.coords t 0).val, (grid0.coords t 1).val, 0] := (by decide +kernel : ∀ t : Fin grid0.N, _)

variable (c : Dev nD) (t : Fin cfg0.N)

/-- The blocks a point reads, at a place, in terms of the arguments: the tokens, -/
theorem blk0 (r : Fin 512) (k : Fin 1024) : (iblk m c 0 t (ix3 0 r k) : EReal)
    = (m (c.tc.loc main_arg0) : FVec Ideal S16x2048x1024 .f32) (ix3 (bOf t) ⟨(jOf t).val * 512 + r.val, by omega⟩ k) := by
  refine Eq.trans ?_ (congrFun (V_main_arg0 m c) _)
  blk_simp [iblk]
  refine congrArg (V m c main_arg0) ?_
  blk_ext [e0]
/-- the positions, -/
theorem blk1 (r : Fin 512) (k : Fin 1024) : (iblk m c 1 t (ix2 r k) : EReal)
    = (m (c.tc.loc main_arg1) : FVec Ideal S2048x1024 .f32) (ix2 ⟨(jOf t).val * 512 + r.val, by omega⟩ k) := by
  refine Eq.trans ?_ (congrFun (V_main_arg1 m c) _)
  blk_simp [iblk]
  refine congrArg (V m c main_arg1) ?_
  blk_ext [e1]
/-- the scale, -/
theorem blk2 (k : Fin 1024) : (iblk m c 2 t (ix3 0 0 k) : EReal)
    = (m (c.tc.loc main_arg2) : FVec Ideal S288x1x1024 .f32) (ix3 ⟨(bOf t).val * 6 + 1, by omega⟩ 0 k) := by
  refine Eq.trans ?_ (congrFun (V_main_arg2 m c) _)
  blk_simp [iblk]
  refine congrArg (V m c main_arg2) ?_
  blk_ext [e2]
/-- the shift, -/
theorem blk3 (k : Fin 1024) : (iblk m c 3 t (ix3 0 0 k) : EReal)
    = (m (c.tc.loc main_arg2) : FVec Ideal S288x1x1024 .f32) (ix3 ⟨(bOf t).val * 6, by omega⟩ 0 k) := by
  refine Eq.trans ?_ (congrFun (V_main_arg2 m c) _)
  blk_simp [iblk]
  refine congrArg (V m c main_arg2) ?_
  blk_ext [e3]
/-- the gain -/
theorem blk4 (k : Fin 1024) : (iblk m c 4 t (ix3 0 0 k) : EReal) = (m (c.tc.loc main_arg3) : FVec Ideal S2x1024 .f32) (ix2 0 k) := by
  refine Eq.trans ?_ ((congrFun (V_v1 m c) (ix3 0 0 k)).trans (gain_flat _ 0 k))
  blk_simp [iblk]
  refine congrArg (V m c main_v1) ?_
  blk_ext [e4]
/-- and the weights. -/
theorem blk5 (k : Fin 1024) (q : Fin 3072) : (iblk m c 5 t (ix3 0 k q) : EReal) = (m (c.tc.loc main_arg4) : FVec Ideal S2x1024x3072 .f32) (ix3 0 k q) := by
  refine Eq.trans ?_ (congrFun (V_v0 m c) (ix3 0 k q))
  blk_simp [iblk]
  refine congrArg (V m c main_v0) ?_
  blk_ext [e5]

/-! ## The results -/

/-- The kernel's arguments, by name. -/
abbrev aX : FVec Ideal S16x2048x1024 .f32 := m (c.tc.loc main_arg0)
abbrev aP : FVec Ideal S2048x1024 .f32 := m (c.tc.loc main_arg1)
abbrev aM : FVec Ideal S288x1x1024 .f32 := m (c.tc.loc main_arg2)
abbrev aG : FVec Ideal S2x1024 .f32 := m (c.tc.loc main_arg3)
abbrev aW : FVec Ideal S2x1024x3072 .f32 := m (c.tc.loc main_arg4)

/-- The modulated row a point keeps. -/
theorem act_apply (r : Fin 512) (k : Fin 1024) :
    (k0_pay7 (F := Ideal) (iblk m c 0 t) (iblk m c 1 t) (iblk m c 4 t) (iblk m c 2 t) (iblk m c 3 t) (ix2 r k) : EReal)
      = modulated (token (aX m c) (aP m c) (bOf t) ⟨(jOf t).val * 512 + r.val, by omega⟩) (fun k => aG m c (ix2 0 k))
          (fun k => aM m c (ix3 ⟨(bOf t).val * 6 + 1, by omega⟩ 0 k)) (fun k => aM m c (ix3 ⟨(bOf t).val * 6, by omega⟩ 0 k)) k := by
  refine (pay7_apply _ _ _ _ _ r k).trans ?_
  have h : (fun j => (fun a b : EReal => a + b) (iblk m c 0 t (ix3 0 r j)) (iblk m c 1 t (ix2 r j))) = token (aX m c) (aP m c) (bOf t) ⟨(jOf t).val * 512 + r.val, by omega⟩ :=
    funext fun j => congrArg₂ (fun a b : EReal => a + b) (blk0 m c t r j) (blk1 m c t r j)
  exact congrFun (congr (congr (congr (congrArg modulated h) (funext fun j => blk4 m c t j)) (funext fun j => blk2 m c t j)) (funext fun j => blk3 m c t j)) k

/-- A column of the point's product. -/
theorem prod_apply (r : Fin 512) (q : Fin 3072) :
    (∑ k : Fin 1024, (k0_pay7 (F := Ideal) (iblk m c 0 t) (iblk m c 1 t) (iblk m c 4 t) (iblk m c 2 t) (iblk m c 3 t) (ix2 r k) : EReal) * iblk m c 5 t (ix3 0 k q) : EReal)
      = projected (aX m c) (aP m c) (aM m c) (aG m c) (aW m c) (bOf t) ⟨(jOf t).val * 512 + r.val, by omega⟩ q :=
  Finset.sum_congr rfl fun k _ => congrArg₂ (fun a b : EReal => a * b) (act_apply m c t r k) (blk5 m c t k q)

/-- What the body computes once and keeps is the modulated row. -/
theorem pay8_eq : k0_pay8 (F := Ideal) (iblk m c 0 t) (iblk m c 1 t) (iblk m c 2 t) (iblk m c 3 t) (iblk m c 4 t) (iblk m c 5 t)
    = k0_pay7 (F := Ideal) (iblk m c 0 t) (iblk m c 1 t) (iblk m c 4 t) (iblk m c 2 t) (iblk m c 3 t) := by
  unfold k0_pay8
  frame_out

theorem split1024 (y : S1x512x1024.Idx) : ∃ (r : Fin 512) (q : Fin 1024), y = ix3 0 r q :=
  ⟨y 1, y 2, funext fun b => match b with | 0 => Subsingleton.elim (α := Fin 1) _ _ | 1 => rfl | 2 => rfl⟩
theorem split512 (y : S1x512x512.Idx) : ∃ (r q : Fin 512), y = ix3 0 r q :=
  ⟨y 1, y 2, funext fun b => match b with | 0 => Subsingleton.elim (α := Fin 1) _ _ | 1 => rfl | 2 => rfl⟩

/-- The tokens with their positions, -/
theorem final6 : (dats m 0 c).arrAt 6 cfg0.N = (refH (aX m c) (aP m c) : FVec Ideal S16x2048x1024 .f32) := by
  refine (dats m 0 c).arrAt_eq_of_covers 6 _ (by decide +kernel) fun t hf y => ?_
  blk_simp
  rw [after0_6]
  frame_out
  obtain ⟨r, q, rfl⟩ := split1024 y
  refine (pay6_apply _ _ r q).trans ?_
  refine (congrArg₂ (fun a b : EReal => a + b) (blk0 m c t r q) (blk1 m c t r q)).trans ((refH_apply (aX m c) (aP m c) _ _ _).symm.trans ?_)
  refine congrArg (refH (aX m c) (aP m c)) ?_
  blk_ext [e6]

/-- the first plain part of the projection, -/
theorem final7 : (dats m 0 c).arrAt 7 cfg0.N = (refU (aX m c) (aP m c) (aM m c) (aG m c) (aW m c) : FVec Ideal S16x2048x512 .bf16) := by
  refine (dats m 0 c).arrAt_eq_of_covers 7 _ (by decide +kernel) fun t hf y => ?_
  blk_simp
  rw [after0_7]
  frame_out
  rw [pay8_eq]
  obtain ⟨r, q, rfl⟩ := split512 y
  have e : ∀ k : Fin 1024, r0_3.idx (ix3 0 k q) = ix3 0 k ⟨q.val, by omega⟩ := fun k => by
    funext b
    match b with
    | 0 => rfl
    | 1 => exact Fin.ext (by show 0 + 1 * k.val = k.val; omega)
    | 2 => exact Fin.ext (by show 0 + 1 * q.val = q.val; omega)
  refine (pay1_apply _ _ r q).trans ?_
  refine (((Finset.sum_congr rfl fun k _ => congrArg (fun b : EReal => (k0_pay7 (F := Ideal) (iblk m c 0 t) (iblk m c 1 t) (iblk m c 4 t) (iblk m c 2 t) (iblk m c 3 t) (ix2 r k) : EReal) * b)
    (congrArg (iblk m c 5 t) (e k))).trans (prod_apply m c t r ⟨q.val, by omega⟩))).trans ?_
  refine (refU_apply (aX m c) (aP m c) (aM m c) (aG m c) (aW m c) _ _ q).symm.trans ?_
  refine congrArg (refU (aX m c) (aP m c) (aM m c) (aG m c) (aW m c)) ?_
  blk_ext [e7]

/-- the second, -/
theorem final8 : (dats m 0 c).arrAt 8 cfg0.N = (refV (aX m c) (aP m c) (aM m c) (aG m c) (aW m c) : FVec Ideal S16x2048x512 .bf16) := by
  refine (dats m 0 c).arrAt_eq_of_covers 8 _ (by decide +kernel) fun t hf y => ?_
  blk_simp
  rw [after0_8]
  frame_out
  rw [pay8_eq]
  obtain ⟨r, q, rfl⟩ := split512 y
  have e : ∀ k : Fin 1024, r0_5.idx (ix3 0 k q) = ix3 0 k ⟨512 + q.val, by omega⟩ := fun k => by
    funext b
    match b with
    | 0 => rfl
    | 1 => exact Fin.ext (by show 0 + 1 * k.val = k.val; omega)
    | 2 => exact Fin.ext (by show 512 + 1 * q.val = 512 + q.val; omega)
  refine (pay2_apply _ _ r q).trans ?_
  refine (((Finset.sum_congr rfl fun k _ => congrArg (fun b : EReal => (k0_pay7 (F := Ideal) (iblk m c 0 t) (iblk m c 1 t) (iblk m c 4 t) (iblk m c 2 t) (iblk m c 3 t) (ix2 r k) : EReal) * b)
    (congrArg (iblk m c 5 t) (e k))).trans (prod_apply m c t r ⟨512 + q.val, by omega⟩))).trans ?_
  refine (refV_apply (aX m c) (aP m c) (aM m c) (aG m c) (aW m c) _ _ q).symm.trans ?_
  refine congrArg (refV (aX m c) (aP m c) (aM m c) (aG m c) (aW m c)) ?_
  blk_ext [e8]

/-- the first gate -/
theorem final9 : (dats m 0 c).arrAt 9 cfg0.N = (refG (aX m c) (aP m c) (aM m c) (aG m c) (aW m c) : FVec Ideal S16x2048x1024 .bf16) := by
  refine (dats m 0 c).arrAt_eq_of_covers 9 _ (by decide +kernel) fun t hf y => ?_
  blk_simp
  rw [after0_9]
  frame_out
  rw [pay8_eq]
  obtain ⟨r, q, rfl⟩ := split1024 y
  have e : ∀ k : Fin 1024, r0_6.idx (ix3 0 k q) = ix3 0 k ⟨1024 + q.val, by omega⟩ := fun k => by
    funext b
    match b with
    | 0 => rfl
    | 1 => exact Fin.ext (by show 0 + 1 * k.val = k.val; omega)
    | 2 => exact Fin.ext (by show 1024 + 1 * q.val = 1024 + q.val; omega)
  refine (pay3_apply _ _ r q).trans ?_
  refine (congrArg Ideal.logistic ((Finset.sum_congr rfl fun k _ => congrArg (fun b : EReal => (k0_pay7 (F := Ideal) (iblk m c 0 t) (iblk m c 1 t) (iblk m c 4 t) (iblk m c 2 t) (iblk m c 3 t) (ix2 r k) : EReal) * b)
    (congrArg (iblk m c 5 t) (e k))).trans (prod_apply m c t r ⟨1024 + q.val, by omega⟩))).trans ?_
  refine (refG_apply (aX m c) (aP m c) (aM m c) (aG m c) (aW m c) _ _ q).symm.trans ?_
  refine congrArg (refG (aX m c) (aP m c) (aM m c) (aG m c) (aW m c)) ?_
  blk_ext [e9]

/-- and the second. -/
theorem final10 : (dats m 0 c).arrAt 10 cfg0.N = (refL (aX m c) (aP m c) (aM m c) (aG m c) (aW m c) : FVec Ideal S16x2048x1024 .bf16) := by
  refine (dats m 0 c).arrAt_eq_of_covers 10 _ (by decide +kernel) fun t hf y => ?_
  blk_simp
  rw [after0_10]
  frame_out
  rw [pay8_eq]
  obtain ⟨r, q, rfl⟩ := split1024 y
  have e : ∀ k : Fin 1024, r0_7.idx (ix3 0 k q) = ix3 0 k ⟨2048 + q.val, by omega⟩ := fun k => by
    funext b
    match b with
    | 0 => rfl
    | 1 => exact Fin.ext (by show 0 + 1 * k.val = k.val; omega)
    | 2 => exact Fin.ext (by show 2048 + 1 * q.val = 2048 + q.val; omega)
  refine (pay4_apply _ _ r q).trans ?_
  refine (congrArg Ideal.logistic ((Finset.sum_congr rfl fun k _ => congrArg (fun b : EReal => (k0_pay7 (F := Ideal) (iblk m c 0 t) (iblk m c 1 t) (iblk m c 4 t) (iblk m c 2 t) (iblk m c 3 t) (ix2 r k) : EReal) * b)
    (congrArg (iblk m c 5 t) (e k))).trans (prod_apply m c t r ⟨2048 + q.val, by omega⟩))).trans ?_
  refine (refL_apply (aX m c) (aP m c) (aM m c) (aG m c) (aW m c) _ _ q).symm.trans ?_
  refine congrArg (refL (aX m c) (aP m c) (aM m c) (aG m c) (aW m c)) ?_
  blk_ext [e10]

end Cert.Inproj

end
-- ==== Proof.MergeRef.lean ====
/- The merging call's plain reference read at a place: two branches' outputs projected, gated, summed, projected, gated and added to the tokens, which are then normalized. -/
module

public import proofs.«01_k».proof.Proof.Gen.Reference4Ideal.Run
public import Idealize.ShloMosaic.Lib.Pointwise

@[expose] public section

set_option maxRecDepth 16384

noncomputable section

namespace Cert.Merge

open Idealize.ShloMosaic Idealize.ShloMosaic.TcCoe
open Cert.Reference4Ideal Cert.Reference4Ideal.Gen

/-! ## The formula -/

/-- A row times a matrix, at column `q`. -/
def dot {n : ℕ} (x : Fin n → EReal) (w : Fin n → Fin 1024 → EReal) (q : Fin 1024) : EReal := ∑ k, x k * w k q
/-- The gated sum of the two branches at column `q`: the second branch's row `y` is projected twice, and the logistic of one projection scales the other. -/
def branches (x y : Fin 512 → EReal) (a b : Fin 1024 → EReal) (wf wa wb : Fin 512 → Fin 1024 → EReal) (q : Fin 1024) : EReal :=
  a q * dot x wf q + b q * (dot y wa q * Ideal.logistic (dot y wb q))
/-- A token's row after the branches' sum `s` is projected, gated by `e` and added. -/
def merged (h s e : Fin 1024 → EReal) (wo : Fin 1024 → Fin 1024 → EReal) (q : Fin 1024) : EReal := h q + e q * dot s wo q
/-- A row after the root-mean-square normalization with gain `g`, scaled by `1 + s` and shifted by `t`. -/
def normed (h g s t : Fin 1024 → EReal) (k : Fin 1024) : EReal :=
  h k * Ideal.rsqrt (Ideal.div (∑ j, h j * h j) (Ideal.ofBits .f32 0x44800000#32) + Ideal.ofBits .f32 0x358637BD#32) * g k * (1 + s k) + t k

section
variable (h : FVec Ideal S16x2048x1024 .f32) (yf : FVec Ideal S16x2048x512 .bf16) (ys : FVec Ideal S16x2304x512 .bf16)
  (ga gb : FVec Ideal S16x2048x1024 .bf16) (mo : FVec Ideal S288x1x1024 .f32) (g : FVec Ideal S2x1024 .f32)
  (wf wa wb : FVec Ideal S2x512x1024 .f32) (wo : FVec Ideal S2x1024x1024 .f32)

/-- The branches' gated sum for token `r` of batch entry `b`, -/
def sumAt (b : Fin 16) (r : Fin 2048) : Fin 1024 → EReal :=
  branches (fun k => yf (ix3 b r k)) (fun k => ys (ix3 b ⟨r.val, by omega⟩ k)) (fun q => ga (ix3 b r q)) (fun q => gb (ix3 b r q))
    (fun k q => wf (ix3 0 k q)) (fun k q => wa (ix3 0 k q)) (fun k q => wb (ix3 0 k q))
/-- and the token's row with it. Batch entry `b`'s gate is row `6 b + 2` of the modulation rows. -/
def mergedAt (b : Fin 16) (r : Fin 2048) : Fin 1024 → EReal :=
  merged (fun q => h (ix3 b r q)) (sumAt yf ys ga gb wf wa wb b r) (fun q => mo (ix3 ⟨b.val * 6 + 2, by omega⟩ 0 q)) (fun k q => wo (ix3 0 k q))
/-- The row normalized. Its shift and scale are rows `6 b + 3` and `6 b + 4`. -/
def normedAt (b : Fin 16) (r : Fin 2048) : Fin 1024 → EReal :=
  normed (mergedAt h yf ys ga gb mo wf wa wb wo b r) (fun k => g (ix2 0 k)) (fun k => mo (ix3 ⟨b.val * 6 + 4, by omega⟩ 0 k)) (fun k => mo (ix3 ⟨b.val * 6 + 3, by omega⟩ 0 k))

/-! ## The reference -/

/-- The first branch projected, -/
def refA : FVec Ideal S16x2048x1024 .f32 :=
  Host.dotGeneral dot_S16x2048x512_S512x1024_S16x2048x1024_2_0_01_1_n_n none (extf .f32 yf bitsLt_bf16_f32) (shapeCast _ (extractStridedSlice S1x512x1024 ![0, 0, 0] wf slices_S2x512x1024_S1x512x1024_0_0_0) shapeCasts_S1x512x1024_S512x1024)
/-- the second, -/
def refB : FVec Ideal S16x2048x1024 .f32 :=
  mulf (Host.dotGeneral dot_S16x2048x512_S512x1024_S16x2048x1024_2_0_01_1_n_n none (extf .f32 (extractStridedSlice S16x2048x512 ![0, 0, 0] ys slices_S16x2304x512_S16x2048x512_0_0_0) bitsLt_bf16_f32) (shapeCast _ (extractStridedSlice S1x512x1024 ![0, 0, 0] wa slices_S2x512x1024_S1x512x1024_0_0_0) shapeCasts_S1x512x1024_S512x1024)) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (Host.dotGeneral dot_S16x2048x512_S512x1024_S16x2048x1024_2_0_01_1_n_n none (extf .f32 (extractStridedSlice S16x2048x512 ![0, 0, 0] ys slices_S16x2304x512_S16x2048x512_0_0_0) bitsLt_bf16_f32) (shapeCast _ (extractStridedSlice S1x512x1024 ![0, 0, 0] wb slices_S2x512x1024_S1x512x1024_0_0_0) shapeCasts_S1x512x1024_S512x1024))))))
/-- their gated sum, -/
def refS : FVec Ideal S16x2048x1024 .f32 :=
  addf (mulf (extf .f32 ga bitsLt_bf16_f32) (refA yf wf)) (mulf (extf .f32 gb bitsLt_bf16_f32) (refB ys wa wb))
/-- the tokens with its projection -/
def refM : FVec Ideal S16x2048x1024 .f32 :=
  addf h (mulf (broadcastInDim S16x2048x1024 ![0, 1, 2] bcast_S16x1x1024_S16x2048x1024_0_1_2 (broadcastInDim S16x1x1024 ![0, 2] bcast_S16x1024_S16x1x1024_0_2 (shapeCast _ (extractStridedSlice S1x16x1x1024 ![0, 0, 2, 0] (shapeCast _ mo shapeCasts_S288x1x1024_S2x24x6x1024) slices_S2x24x6x1024_S1x16x1x1024_0_0_2_0) shapeCasts_S1x16x1x1024_S16x1024))) (Host.dotGeneral dot_S16x2048x1024_S1024x1024_S16x2048x1024_2_0_01_1_n_n none (refS yf ys ga gb wf wa wb) (shapeCast _ (extractStridedSlice S1x1024x1024 ![0, 0, 0] wo slices_S2x1024x1024_S1x1024x1024_0_0_0) shapeCasts_S1x1024x1024_S1024x1024)))
/-- and the tokens normalized. -/
def refN : FVec Ideal S16x2048x1024 .bf16 :=
  truncf .bf16 (addf (mulf (mulf (mulf (refM h yf ys ga gb mo wf wa wb wo) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (refM h yf ys ga gb mo wf wa wb wo) (refM h yf ys ga gb mo wf wa wb wo)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S1x16x1x1024 ![0, 0, 4, 0] (shapeCast _ mo shapeCasts_S288x1x1024_S2x24x6x1024) slices_S2x24x6x1024_S1x16x1x1024_0_0_4_0) shapeCasts_S1x16x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S1x16x1x1024 ![0, 0, 3, 0] (shapeCast _ mo shapeCasts_S288x1x1024_S2x24x6x1024) slices_S2x24x6x1024_S1x16x1x1024_0_0_3_0) shapeCasts_S1x16x1x1024_S16x1024)))) bitsLt_bf16_f32

theorem refA_apply (b : Fin 16) (r : Fin 2048) (q : Fin 1024) :
    (refA yf wf (ix3 b r q) : EReal) = dot (fun k : Fin 512 => yf (ix3 b r k)) (fun k q => wf (ix3 0 k q)) q := by
  unfold refA dot
  pointwise

theorem refB_apply (b : Fin 16) (r : Fin 2048) (q : Fin 1024) :
    (refB ys wa wb (ix3 b r q) : EReal) = dot (fun k : Fin 512 => ys (ix3 b ⟨r.val, by omega⟩ k)) (fun k q => wa (ix3 0 k q)) q
      * Ideal.logistic (dot (fun k : Fin 512 => ys (ix3 b ⟨r.val, by omega⟩ k)) (fun k q => wb (ix3 0 k q)) q) := by
  unfold refB dot
  pointwise
  rfl

theorem refS_apply (b : Fin 16) (r : Fin 2048) (q : Fin 1024) : (refS yf ys ga gb wf wa wb (ix3 b r q) : EReal) = sumAt yf ys ga gb wf wa wb b r q := by
  unfold sumAt branches
  rw [← refA_apply, ← refB_apply]
  unfold refS
  pointwise

theorem refM_apply (b : Fin 16) (r : Fin 2048) (q : Fin 1024) :
    (refM h yf ys ga gb mo wf wa wb wo (ix3 b r q) : EReal) = mergedAt h yf ys ga gb mo wf wa wb wo b r q := by
  unfold mergedAt merged dot
  simp only [← refS_apply]
  unfold refM
  pointwise

theorem refN_apply (b : Fin 16) (r : Fin 2048) (q : Fin 1024) :
    (refN h yf ys ga gb mo g wf wa wb wo (ix3 b r q) : EReal) = normedAt h yf ys ga gb mo g wf wa wb wo b r q := by
  unfold normedAt normed
  simp only [← refM_apply]
  unfold refN
  pointwise
end

end Cert.Merge

end
-- ==== Proof.Merge.lean ====
/- The merging call's kernel at ideal values: its two results, at a place, are the reference's formula. -/
module

public import proofs.«01_k».proof.Proof.Gen.Kernel4Ideal.Value
public import proofs.«01_k».proof.Proof.MergeRef
public import Idealize.ShloMosaic.Lib.Pipeline.ValueKit

@[expose] public section

set_option maxRecDepth 16384

noncomputable section

namespace Cert.Merge

open Idealize.ShloMosaic Idealize.ShloMosaic.TcCoe Idealize.ShloMosaic.Tactic
open Idealize.SL Idealize.SL.Sem
open Cert.Kernel4Ideal Cert.Kernel4Ideal.Gen

/-! ## The body's values over its blocks -/

theorem pay2_apply (y x : FVec Ideal S1x512x512 .bf16) (wf wa wb : FVec Ideal S1x512x1024 .bf16) (a b : FVec Ideal S1x512x1024 .bf16) (r : Fin 512) (q : Fin 1024) :
    (k0_pay2 (F := Ideal) y x wf wa wb a b (ix2 r q) : EReal)
      = branches (fun k => x (ix3 0 r k)) (fun k => y (ix3 0 r k)) (fun q => a (ix3 0 r q)) (fun q => b (ix3 0 r q))
          (fun k q => wf (ix3 0 k q)) (fun k q => wa (ix3 0 k q)) (fun k q => wb (ix3 0 k q)) q := by
  unfold k0_pay2 branches dot
  pointwise
theorem pay4_apply (s : FVec Ideal S512x1024 .bf16) (h : FVec Ideal S1x512x1024 .f32) (e : FVec Ideal S1x1x1024 .f32) (wo : FVec Ideal S1x1024x1024 .bf16) (r : Fin 512) (q : Fin 1024) :
    (k0_pay4 (F := Ideal) s (k0_pay3 (F := Ideal) h) e wo (ix2 r q) : EReal)
      = merged (fun q => h (ix3 0 r q)) (fun k => s (ix2 r k)) (fun q => e (ix3 0 0 q)) (fun k q => wo (ix3 0 k q)) q := by
  unfold k0_pay4 k0_pay3 merged dot
  pointwise
theorem pay5_apply (s : FVec Ideal S512x1024 .bf16) (h : FVec Ideal S512x1024 .f32) (e : FVec Ideal S1x1x1024 .f32) (wo : FVec Ideal S1x1024x1024 .bf16) (r : Fin 512) (q : Fin 1024) :
    (k0_pay5 (F := Ideal) s h e wo (ix3 0 r q) : EReal) = k0_pay4 (F := Ideal) s h e wo (ix2 r q) := by
  unfold k0_pay5
  pointwise
theorem pay6_apply (s : FVec Ideal S512x1024 .bf16) (h : FVec Ideal S512x1024 .f32) (e : FVec Ideal S1x1x1024 .f32) (wo : FVec Ideal S1x1024x1024 .bf16)
    (g sc sh : FVec Ideal S1x1x1024 .f32) (r : Fin 512) (q : Fin 1024) :
    (k0_pay1 (F := Ideal) (k0_pay6 (F := Ideal) s h e wo g sc sh) (ix3 0 r q) : EReal)
      = normed (fun q => k0_pay4 (F := Ideal) s h e wo (ix2 r q)) (fun k => g (ix3 0 0 k)) (fun k => sc (ix3 0 0 k)) (fun k => sh (ix3 0 0 k)) q := by
  unfold k0_pay1 k0_pay6 normed
  pointwise

/-! ## The blocks -/

variable (m : (ℓ : Loc nD τ sig) → Buf (Elt Ideal) ℓ)

theorem V_v0 (c : Dev nD) : V m c main_v0 = (truncf (F := Ideal) .bf16 (m (c.tc.loc main_arg7) : FVec Ideal S2x512x1024 .f32) bitsLt_bf16_f32 : FVec Ideal S2x512x1024 .bf16) := by
  unfold V hostOps0
  after_results_simp <;> rfl
theorem V_v1 (c : Dev nD) : V m c main_v1 = (truncf (F := Ideal) .bf16 (m (c.tc.loc main_arg8) : FVec Ideal S2x512x1024 .f32) bitsLt_bf16_f32 : FVec Ideal S2x512x1024 .bf16) := by
  unfold V hostOps0
  after_results_simp <;> rfl
theorem V_v2 (c : Dev nD) : V m c main_v2 = (truncf (F := Ideal) .bf16 (m (c.tc.loc main_arg9) : FVec Ideal S2x512x1024 .f32) bitsLt_bf16_f32 : FVec Ideal S2x512x1024 .bf16) := by
  unfold V hostOps0
  after_results_simp <;> rfl
theorem V_v3 (c : Dev nD) : V m c main_v3 = (truncf (F := Ideal) .bf16 (m (c.tc.loc main_arg10) : FVec Ideal S2x1024x1024 .f32) bitsLt_bf16_f32 : FVec Ideal S2x1024x1024 .bf16) := by
  unfold V hostOps0
  after_results_simp <;> rfl
theorem V_v4 (c : Dev nD) : V m c main_v4 = shapeCast _ (m (c.tc.loc main_arg6)) shapeCasts_S2x1024_S2x1x1024 := by
  unfold V hostOps0
  after_results_simp <;> rfl
theorem gain_flat (g : FVec Ideal S2x1024 .f32) (a : Fin 2) (k : Fin 1024) : shapeCast S2x1x1024 g shapeCasts_S2x1024_S2x1x1024 (ix3 a 0 k) = g (ix2 a k) := by pointwise

/-- The batch entry and the row block a grid point names. -/
abbrev bOf (t : Fin cfg0.N) : Fin 16 := ⟨(grid0.coords t 0).val, (grid0.coords t 0).isLt⟩
abbrev jOf (t : Fin cfg0.N) : Fin 4 := ⟨(grid0.coords t 1).val, (grid0.coords t 1).isLt⟩

theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 0).val, (grid0.coords t 1).val, 0] := (by decide +kernel : ∀ t : Fin grid0.N, _)
theorem e2 : ∀ t : Fin cfg0.N, win0_2.index t = ![(grid0.coords t 0).val, (grid0.coords t 1).val, 0] := (by decide +kernel : ∀ t : Fin grid0.N, _)
theorem e3 : ∀ t : Fin cfg0.N, win0_3.index t = ![(grid0.coords t 0).val, (grid0.coords t 1).val, 0] := (by decide +kernel : ∀ t : Fin grid0.N, _)
theorem e4 : ∀ t : Fin cfg0.N, win0_4.index t = ![(grid0.coords t 0).val, (grid0.coords t 1).val, 0] := (by decide +kernel : ∀ t : Fin grid0.N, _)
theorem e5 : ∀ t : Fin cfg0.N, win0_5.index t = ![(grid0.coords t 0).val * 6 + 2, 0, 0] := (by decide +kernel : ∀ t : Fin grid0.N, _)
theorem e6 : ∀ t : Fin cfg0.N, win0_6.index t = ![(grid0.coords t 0).val * 6 + 4, 0, 0] := (by decide +kernel : ∀ t : Fin grid0.N, _)
theorem e7 : ∀ t : Fin cfg0.N, win0_7.index t = ![(grid0.coords t 0).val * 6 + 3, 0, 0] := (by decide +kernel : ∀ t : Fin grid0.N, _)
theorem e8 : ∀ t : Fin cfg0.N, win0_8.index t = ![0, 0, 0] := (by decide +kernel : ∀ t : Fin grid0.N, _)
theorem e9 : ∀ t : Fin cfg0.N, win0_9.index t = ![0, 0, 0] := (by decide +kernel : ∀ t : Fin grid0.N, _)
theorem e10 : ∀ t : Fin cfg0.N, win0_10.index t = ![0, 0, 0] := (by decide +kernel : ∀ t : Fin grid0.N, _)
theorem e11 : ∀ t : Fin cfg0.N, win0_11.index t = ![0, 0, 0] := (by decide +kernel : ∀ t : Fin grid0.N, _)
theorem e12 : ∀ t : Fin cfg0.N, win0_12.index t = ![0, 0, 0] := (by decide +kernel : ∀ t : Fin grid0.N, _)
theorem e13 : ∀ t : Fin cfg0.N, win0_13.index t = ![(grid0.coords t 0).val, (grid0.coords t 1).val, 0] := (by decide +kernel : ∀ t : Fin grid0.N, _)
theorem e14 : ∀ t : Fin cfg0.N, win0_14.index t = ![(grid0.coords t 0).val, (grid0.coords t 1).val, 0] := (by decide +kernel : ∀ t : Fin grid0.N, _)

variable (c : Dev nD) (t : Fin cfg0.N)

/-- The kernel's arguments, by name. -/
abbrev aH : FVec Ideal S16x2048x1024 .f32 := m (c.tc.loc main_arg0)
abbrev aF : FVec Ideal S16x2048x512 .bf16 := m (c.tc.loc main_arg1)
abbrev aS : FVec Ideal S16x2304x512 .bf16 := m (c.tc.loc main_arg2)
abbrev aA : FVec Ideal S16x2048x1024 .bf16 := m (c.tc.loc main_arg3)
abbrev aB : FVec Ideal S16x2048x1024 .bf16 := m (c.tc.loc main_arg4)
abbrev aM : FVec Ideal S288x1x1024 .f32 := m (c.tc.loc main_arg5)
abbrev aG : FVec Ideal S2x1024 .f32 := m (c.tc.loc main_arg6)
abbrev aWf : FVec Ideal S2x512x1024 .f32 := m (c.tc.loc main_arg7)
abbrev aWa : FVec Ideal S2x512x1024 .f32 := m (c.tc.loc main_arg8)
abbrev aWb : FVec Ideal S2x512x1024 .f32 := m (c.tc.loc main_arg9)
abbrev aWo : FVec Ideal S2x1024x1024 .f32 := m (c.tc.loc main_arg10)

/-- The blocks a point reads, at a place, in terms of the arguments: the tokens, -/
theorem blk0 (r : Fin 512) (k : Fin 1024) : (iblk m c 0 t (ix3 0 r k) : EReal) = aH m c (ix3 (bOf t) ⟨(jOf t).val * 512 + r.val, by omega⟩ k) := by
  refine Eq.trans ?_ (congrFun (V_main_arg0 m c) _)
  blk_simp [iblk]
  refine congrArg (V m c main_arg0) ?_
  blk_ext [e0]
/-- the first branch's rows, -/
theorem blk1 (r : Fin 512) (k : Fin 512) : (iblk m c 1 t (ix3 0 r k) : EReal) = aF m c (ix3 (bOf t) ⟨(jOf t).val * 512 + r.val, by omega⟩ k) := by
  refine Eq.trans ?_ (congrFun (V_main_arg1 m c) _)
  blk_simp [iblk]
  refine congrArg (V m c main_arg1) ?_
  blk_ext [e1]
/-- the second's, no block of which is cut, -/
theorem blk2 (r k : Fin 512) : (X0_2 m c t (ix3 0 r k) : EReal) = aS m c (ix3 (bOf t) ⟨(jOf t).val * 512 + r.val, by omega⟩ k) := by
  refine Eq.trans ?_ (congrFun (V_main_arg2 m c) _)
  unfold X0_2 Pipeline.Window.fill
  rw [dif_pos (moved0_2 t _)]
  blk_simp [iblk]
  refine congrArg (V m c main_arg2) ?_
  blk_ext [e2]
/-- the two gates, -/
theorem blk3 (r : Fin 512) (k : Fin 1024) : (iblk m c 3 t (ix3 0 r k) : EReal) = aA m c (ix3 (bOf t) ⟨(jOf t).val * 512 + r.val, by omega⟩ k) := by
  refine Eq.trans ?_ (congrFun (V_main_arg3 m c) _)
  blk_simp [iblk]
  refine congrArg (V m c main_arg3) ?_
  blk_ext [e3]
/-- both of them, -/
theorem blk4 (r : Fin 512) (k : Fin 1024) : (iblk m c 4 t (ix3 0 r k) : EReal) = aB m c (ix3 (bOf t) ⟨(jOf t).val * 512 + r.val, by omega⟩ k) := by
  refine Eq.trans ?_ (congrFun (V_main_arg4 m c) _)
  blk_simp [iblk]
  refine congrArg (V m c main_arg4) ?_
  blk_ext [e4]
/-- the modulation's gate, -/
theorem blk5 (k : Fin 1024) : (iblk m c 5 t (ix3 0 0 k) : EReal) = aM m c (ix3 ⟨(bOf t).val * 6 + 2, by omega⟩ 0 k) := by
  refine Eq.trans ?_ (congrFun (V_main_arg5 m c) _)
  blk_simp [iblk]
  refine congrArg (V m c main_arg5) ?_
  blk_ext [e5]
/-- scale -/
theorem blk6 (k : Fin 1024) : (iblk m c 6 t (ix3 0 0 k) : EReal) = aM m c (ix3 ⟨(bOf t).val * 6 + 4, by omega⟩ 0 k) := by
  refine Eq.trans ?_ (congrFun (V_main_arg5 m c) _)
  blk_simp [iblk]
  refine congrArg (V m c main_arg5) ?_
  blk_ext [e6]
/-- and shift, -/
theorem blk7 (k : Fin 1024) : (iblk m c 7 t (ix3 0 0 k) : EReal) = aM m c (ix3 ⟨(bOf t).val * 6 + 3, by omega⟩ 0 k) := by
  refine Eq.trans ?_ (congrFun (V_main_arg5 m c) _)
  blk_simp [iblk]
  refine congrArg (V m c main_arg5) ?_
  blk_ext [e7]
/-- the gain -/
theorem blk8 (k : Fin 1024) : (iblk m c 8 t (ix3 0 0 k) : EReal) = aG m c (ix2 0 k) := by
  refine Eq.trans ?_ ((congrFun (V_v4 m c) (ix3 0 0 k)).trans (gain_flat _ 0 k))
  blk_simp [iblk]
  refine congrArg (V m c main_v4) ?_
  blk_ext [e8]
/-- and the four weights. -/
theorem blk9 (k : Fin 512) (q : Fin 1024) : (iblk m c 9 t (ix3 0 k q) : EReal) = aWf m c (ix3 0 k q) := by
  refine Eq.trans ?_ (congrFun (V_v0 m c) (ix3 0 k q))
  blk_simp [iblk]
  refine congrArg (V m c main_v0) ?_
  blk_ext [e9]
/-- The second, -/
theorem blk10 (k : Fin 512) (q : Fin 1024) : (iblk m c 10 t (ix3 0 k q) : EReal) = aWa m c (ix3 0 k q) := by
  refine Eq.trans ?_ (congrFun (V_v1 m c) (ix3 0 k q))
  blk_simp [iblk]
  refine congrArg (V m c main_v1) ?_
  blk_ext [e10]
/-- the third -/
theorem blk11 (k : Fin 512) (q : Fin 1024) : (iblk m c 11 t (ix3 0 k q) : EReal) = aWb m c (ix3 0 k q) := by
  refine Eq.trans ?_ (congrFun (V_v2 m c) (ix3 0 k q))
  blk_simp [iblk]
  refine congrArg (V m c main_v2) ?_
  blk_ext [e11]
/-- and the last. -/
theorem blk12 (k : Fin 1024) (q : Fin 1024) : (iblk m c 12 t (ix3 0 k q) : EReal) = aWo m c (ix3 0 k q) := by
  refine Eq.trans ?_ (congrFun (V_v3 m c) (ix3 0 k q))
  blk_simp [iblk]
  refine congrArg (V m c main_v3) ?_
  blk_ext [e12]

/-! ## The results -/

/-- The branches' gated sum a point computes, -/
theorem sum_apply (r : Fin 512) (q : Fin 1024) : (k0_pay2 (F := Ideal) (X0_2 m c t) (iblk m c 1 t) (iblk m c 9 t) (iblk m c 10 t) (iblk m c 11 t) (iblk m c 3 t) (iblk m c 4 t) (ix2 r q) : EReal) = sumAt (aF m c) (aS m c) (aA m c) (aB m c) (aWf m c) (aWa m c) (aWb m c) (bOf t) ⟨(jOf t).val * 512 + r.val, by omega⟩ q := by
  refine (pay2_apply _ _ _ _ _ _ _ r q).trans ?_
  exact congrFun (congr (congr (congr (congr (congr (congr (congrArg branches (funext fun k => blk1 m c t r k)) (funext fun k => blk2 m c t r k))
    (funext fun q => blk3 m c t r q)) (funext fun q => blk4 m c t r q)) (funext fun k => funext fun q => blk9 m c t k q))
    (funext fun k => funext fun q => blk10 m c t k q)) (funext fun k => funext fun q => blk11 m c t k q)) q
/-- and the tokens' rows with it. -/
theorem row_apply (r : Fin 512) (q : Fin 1024) :
    (k0_pay4 (F := Ideal) (k0_pay2 (F := Ideal) (X0_2 m c t) (iblk m c 1 t) (iblk m c 9 t) (iblk m c 10 t) (iblk m c 11 t) (iblk m c 3 t) (iblk m c 4 t)) (k0_pay3 (F := Ideal) (iblk m c 0 t)) (iblk m c 5 t) (iblk m c 12 t) (ix2 r q) : EReal) = mergedAt (aH m c) (aF m c) (aS m c) (aA m c) (aB m c) (aM m c) (aWf m c) (aWa m c) (aWb m c) (aWo m c) (bOf t) ⟨(jOf t).val * 512 + r.val, by omega⟩ q := by
  refine (pay4_apply _ _ _ _ r q).trans ?_
  exact congrFun (congr (congr (congr (congrArg merged (funext fun q => blk0 m c t r q)) (funext fun k => sum_apply m c t r k))
    (funext fun q => blk5 m c t q)) (funext fun k => funext fun q => blk12 m c t k q)) q

theorem split1024 (y : S1x512x1024.Idx) : ∃ (r : Fin 512) (q : Fin 1024), y = ix3 0 r q :=
  ⟨y 1, y 2, funext fun b => match b with | 0 => Subsingleton.elim (α := Fin 1) _ _ | 1 => rfl | 2 => rfl⟩

/-- The tokens after the merge, -/
theorem final13 : (dats m 0 c).arrAt 13 cfg0.N = (refM (aH m c) (aF m c) (aS m c) (aA m c) (aB m c) (aM m c) (aWf m c) (aWa m c) (aWb m c) (aWo m c) : FVec Ideal S16x2048x1024 .f32) := by
  refine (dats m 0 c).arrAt_eq_of_covers 13 _ (by decide +kernel) fun t hf y => ?_
  blk_simp
  rw [after0_13]
  unfold outsAt0
  dsimp only
  frame_out [out0_A_13, kernelRun0_A]
  obtain ⟨r, q, rfl⟩ := split1024 y
  refine (pay5_apply _ _ _ _ r q).trans ((row_apply m c t r q).trans ?_)
  refine (refM_apply (aH m c) (aF m c) (aS m c) (aA m c) (aB m c) (aM m c) (aWf m c) (aWa m c) (aWb m c) (aWo m c) _ _ q).symm.trans ?_
  refine congrArg (refM (aH m c) (aF m c) (aS m c) (aA m c) (aB m c) (aM m c) (aWf m c) (aWa m c) (aWb m c) (aWo m c)) ?_
  blk_ext [e13]

/-- and the tokens normalized. -/
theorem final14 : (dats m 0 c).arrAt 14 cfg0.N = (refN (aH m c) (aF m c) (aS m c) (aA m c) (aB m c) (aM m c) (aG m c) (aWf m c) (aWa m c) (aWb m c) (aWo m c) : FVec Ideal S16x2048x1024 .bf16) := by
  refine (dats m 0 c).arrAt_eq_of_covers 14 _ (by decide +kernel) fun t hf y => ?_
  blk_simp
  rw [after0_14]
  unfold outsAt0
  dsimp only
  frame_out [out0_A_14, kernelRun0_A]
  obtain ⟨r, q, rfl⟩ := split1024 y
  refine (pay6_apply _ _ _ _ _ _ _ r q).trans ?_
  refine (congrFun (congr (congr (congr (congrArg normed (funext fun q => row_apply m c t r q)) (funext fun k => blk8 m c t k))
    (funext fun k => blk6 m c t k)) (funext fun k => blk7 m c t k)) q).trans ?_
  refine (refN_apply (aH m c) (aF m c) (aS m c) (aA m c) (aB m c) (aM m c) (aG m c) (aWf m c) (aWa m c) (aWb m c) (aWo m c) _ _ q).symm.trans ?_
  refine congrArg (refN (aH m c) (aF m c) (aS m c) (aA m c) (aB m c) (aM m c) (aG m c) (aWf m c) (aWa m c) (aWb m c) (aWo m c)) ?_
  blk_ext [e14]

end Cert.Merge

end
-- ==== Proof.FRing.lean ====
/- The three rings of the gated feed-forward: each of the three weight operands is streamed, block by block, through the three
   slots of its scratch, two blocks ahead of the step that reads it. The eleven blocks are streamed again for every row tile. Slots,
   source blocks and semaphores are named here, the printed views are rewritten to these names, and what the launch hands a ring and
   takes back is proved. -/
module

public import proofs.«01_k».proof.Proof.Gen.Kernel5Ideal.Frame
public import Idealize.ShloMosaic.Lib.Ring

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

/-- The contents of a memref's buffer on a device. -/
abbrev BufOf (c : Dev nD) {sp : Space} {S : Shape} {e : EltTy} (M : Memref sig .tc sp S e) : Type := Buf (Elt F) (M.view.loc (c : Thread nD τ))
/-- A memref's buffer held whole. -/
abbrev held (c : Dev nD) {sp : Space} {S : Shape} {e : EltTy} (M : Memref sig .tc sp S e) (f : BufOf (F := F) c M) : sProp 𝕄 :=
  M.view.loc (c : Thread nD τ) ↦{fullShare} f

/-- The slot block `n` lands in, of the three. -/
abbrev sl (n : ℕ) : Fin 3 := Ring.sl 3 n
theorem sl_add3 (n : ℕ) : sl (n + 3) = sl n := Ring.sl_add 3 n

instance : NeZero grid0.N := ⟨by rw [N_0]; decide⟩

/-- The accumulator. -/
abbrev mAcc : Memref sig .tc .vmem S1024x1024 .f32 := Memref.whole cc0_scratch0

theorem inb_slot_col (s : Fin 3) : ∀ a, (![s.val, 0, 0] : Fin 3 → Nat) a + S1x1024x256.size a ≤ S3x1024x256.size a := by
  have := s.isLt; intro a; fin_cases a <;> simp <;> omega
theorem inb_slot_row (s : Fin 3) : ∀ a, (![s.val, 0, 0] : Fin 3 → Nat) a + S1x256x1024.size a ≤ S3x256x1024.size a := by
  have := s.isLt; intro a; fin_cases a <;> simp <;> omega
theorem inb_blk_col (n : ℕ) : ∀ a, (![0, 0, 256 * (n % 11)] : Fin 3 → Nat) a + S1x1024x256.size a ≤ S1x1024x2816.size a := by
  intro a; fin_cases a <;> simp <;> omega
theorem inb_blk_row (n : ℕ) : ∀ a, (![0, 256 * (n % 11), 0] : Fin 3 → Nat) a + S1x256x1024.size a ≤ S1x2816x1024.size a := by
  intro a; fin_cases a <;> simp <;> omega
theorem inb_cell (r s : Fin 3) : ∀ a, (![r.val, s.val] : Fin 2 → Nat) a + S1x1.size a ≤ S3x3.size a := by
  have := r.isLt; have := s.isLt; intro a; fin_cases a <;> simp <;> omega

/-- The share of an operand lent to slot `s`'s transfers: one half, and the two halves of the other. -/
abbrev lent (s : Fin 3) : PosShare TreeShare := if s.val = 0 then fullShare.left else if s.val = 1 then fullShare.right.left else fullShare.right.right

/-- Cell `s` of row `r` of the semaphore array. -/
def cellA (r s : Fin 3) : DmaSems sig S_ := (cc0_scratch4.slice (Rect.unit (s := S3x3) ![r.val, s.val] S1x1.size (inb_cell r s))).squeeze S_ squeezes_S1x1_S_
abbrev cellR (r s : Fin 3) : SemLoc sig := SemLoc.dma (cellA r s).sem
abbrev cellP (c : Dev nD) (r s : Fin 3) : sProp 𝕄 := semVal ((c : Thread nD τ), cellR r s) 0

/-- The printed cells are the named ones. -/
theorem cell_congr (r s : Fin 3) {off : Fin 2 → Nat} (h : ∀ a, off a + S1x1.size a ≤ S3x3.size a) (e : off = ![r.val, s.val]) :
    (cc0_scratch4.slice (Rect.unit (s := S3x3) off S1x1.size h)).squeeze S_ squeezes_S1x1_S_ = cellA r s :=
  congrArg (fun A : DmaSems sig S1x1 => A.squeeze S_ squeezes_S1x1_S_) (SemArray.slice_unit_congr _ e _ _)

/-! ## The gate weights' ring -/

abbrev scG : Memref sig .tc .vmem S3x1024x256 .f32 := Memref.whole cc0_scratch1
abbrev opG : Memref sig .tc .hbm S1x1024x2816 .f32 := Memref.whole main_arg1
/-- Slot `s` of the scratch. -/
def slotG (s : Fin 3) : Memref sig .tc .vmem S1024x256 .f32 :=
  (scG.slice (Rect.unit (s := S3x1024x256) ![s.val, 0, 0] S1x1024x256.size (inb_slot_col s)) (fun _ => rfl)).squeeze S1024x256 squeezes_S1x1024x256_S1024x256
/-- Block `n` of the operand, the blocks counted around. -/
def blkG (n : ℕ) : Memref sig .tc .hbm S1024x256 .f32 :=
  (opG.slice (Rect.unit (s := S1x1024x2816) ![0, 0, 256 * (n % 11)] S1x1024x256.size (inb_blk_col n)) (fun _ => rfl)).squeeze S1024x256 squeezes_S1x1024x256_S1024x256

theorem slotG_congr (s : Fin 3) {off : Fin 3 → Nat} (h : ∀ a, off a + S1x1024x256.size a ≤ S3x1024x256.size a) (e : off = ![s.val, 0, 0]) :
    (scG.slice (Rect.unit (s := S3x1024x256) off S1x1024x256.size h) (fun _ => rfl)).squeeze S1024x256 squeezes_S1x1024x256_S1024x256 = slotG s :=
  congrArg (fun M : Memref sig .tc .vmem S1x1024x256 .f32 => M.squeeze S1024x256 squeezes_S1x1024x256_S1024x256) (Memref.slice_unit_congr _ e _ _ (fun _ => rfl) (fun _ => rfl))
theorem blkG_congr (n : ℕ) {off : Fin 3 → Nat} (h : ∀ a, off a + S1x1024x256.size a ≤ S1x1024x2816.size a) (e : off = ![0, 0, 256 * (n % 11)]) :
    (opG.slice (Rect.unit (s := S1x1024x2816) off S1x1024x256.size h) (fun _ => rfl)).squeeze S1024x256 squeezes_S1x1024x256_S1024x256 = blkG n :=
  congrArg (fun M : Memref sig .tc .hbm S1x1024x256 .f32 => M.squeeze S1024x256 squeezes_S1x1024x256_S1024x256)
    (Memref.slice_unit_congr _ e _ _ (fun _ => rfl) (fun _ => rfl))

section
variable (c : Dev nD) (W : BufOf (F := F) c opG)
/-- Slot `s` held at `f`; what a transfer of block `n` into slot `s` borrows of the operand; the rest of that slot's copy; that copy whole. -/
abbrev slotPG (s : Fin 3) (f : BufOf (F := F) c (slotG s)) : sProp 𝕄 := (slotG s).view.loc (c : Thread nD τ) ↦[(slotG s).view.set]{fullShare} f
abbrev srcPG (s : Fin 3) (n : ℕ) : sProp 𝕄 := (blkG n).view.loc (c : Thread nD τ) ↦[(blkG n).view.set]{lent s} W
def restPG (s : Fin 3) (n : ℕ) : sProp 𝕄 := ((c : Thread nD τ).loc main_arg1) ↦[Finset.univ \ (blkG n).view.set]{lent s} W
abbrev wholePG (s : Fin 3) : sProp 𝕄 := ((c : Thread nD τ).loc main_arg1) ↦[Finset.univ]{lent s} W
/-- What slot `s` holds once block `n` landed in it. -/
abbrev landedG (s : Fin 3) (n : ℕ) (f : BufOf (F := F) c (slotG s)) : BufOf (F := F) c (slotG s) :=
  (slotG s).view.writes (Elt F) f [⟨Rect.whole S1024x256, ReadAs.same.apply ((blkG n).view.read (Elt F) W)⟩]
/-- Block `n` in flight into slot `s`: its arrival delivers the slot landed and returns what was borrowed. -/
abbrev flightPG (s : Fin 3) (n : ℕ) (f : BufOf (F := F) c (slotG s)) : sProp 𝕄 :=
  Transfers.Flight countersEmb (c : Thread nD τ) (cellR 0 s) default ((slotG s).view.amount (cellR 0 s))
    iprop(slotPG c s (landedG c W s n f) ∗ srcPG c W s n)
/-- A slot with block `n` in flight into it; a free slot. -/
def flyG (s : Fin 3) (n : ℕ) : sProp 𝕄 := iprop(∃ f, flightPG c W s n f ∗ restPG c W s n)
def freeG (s : Fin 3) : sProp 𝕄 := iprop(cellP c 0 s ∗ ∃ f, slotPG c s f ∗ wholePG c W s)

omit [FloatOps F] in
theorem splitG (s : Fin 3) (n : ℕ) : wholePG (F := F) c W s ⊣⊢ iprop(srcPG c W s n ∗ restPG c W s n) := by
  unfold restPG; exact pointsTo_split_subset (Finset.subset_univ _)
omit [FloatOps F] in
theorem copiesG : (held c opG W : sProp 𝕄) ⊣⊢ iprop(wholePG c W 0 ∗ wholePG c W 1 ∗ wholePG c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetG (s : Fin 3) : Finset S3x1024x256.Idx := (Rect.unit (s := S3x1024x256) ![s.val, 0, 0] S1x1024x256.size (inb_slot_col s)).set
theorem slotSetG_eq (s : Fin 3) : (slotG s).view.set = slotSetG s := by
  simp only [slotG, Memref.view_squeeze, View.set_reshape]; exact View.set_slice_whole _ _
theorem slotsG_disjoint (s s' : Fin 3) (h : s ≠ s') : Disjoint (slotSetG s) (slotSetG s') :=
  Ring.lead_disjoint (s := S3x1024x256) (0 : Fin 3) 1 (fun s : Fin 3 => (![s.val, 0, 0] : Fin 3 → Nat)) S1x1024x256.size (inb_slot_col) (fun s => by simp) rfl s s' h
theorem slotsG_cover : Finset.univ.biUnion slotSetG = Finset.univ :=
  Ring.lead_cover (s := S3x1024x256) (0 : Fin 3) 1 (fun s : Fin 3 => (![s.val, 0, 0] : Fin 3 → Nat)) S1x1024x256.size (inb_slot_col) (fun s => by simp)
    (fun s a ha => by fin_cases a <;> first | exact absurd rfl ha | rfl) rfl (fun a ha => by fin_cases a <;> first | exact absurd rfl ha | rfl) rfl

section
variable (c : Dev nD) (W : BufOf (F := F) c opG)
omit [FloatOps F] in
theorem slotPG_eq (s : Fin 3) (f) : slotPG (F := F) c s f = (((c : Thread nD τ).loc cc0_scratch1) ↦[slotSetG s]{fullShare} f : sProp 𝕄) := by
  unfold slotPG; rw [slotSetG_eq]; rfl
omit [FloatOps F] in
/-- Into the ring: the scratch at anything, the cells at zero and the operand whole are three free slots; -/
theorem ringG_in : iprop((∃ d, owns (c : Thread nD τ) scG fullShare d) ∗ (cellP (F := F) c 0 0 ∗ cellP c 0 1 ∗ cellP c 0 2) ∗ held c opG W)
    ⊢ iprop(freeG c W 0 ∗ freeG c W 1 ∗ freeG c W 2) := by
  unfold freeG
  iintro ⟨HS, ⟨H0, H1, H2⟩, HW⟩
  ihave HS' := (show iprop(∃ d, owns (c : Thread nD τ) scG fullShare d) ⊢ (iprop((∃ f, slotPG (F := F) c 0 f) ∗ (∃ f, slotPG (F := F) c 1 f) ∗ ∃ f, slotPG (F := F) c 2 f) : sProp 𝕄) from by
    simp only [scG, owns_whole]
    exact Ring.slots3_split (U := Pipeline.UD sig nD τ) (ℓ := (c : Thread nD τ).loc cc0_scratch1) (q := fullShare) slotSetG slotsG_disjoint slotsG_cover
      (slotPG c 0) (slotPG c 1) (slotPG c 2) (slotPG_eq c 0) (slotPG_eq c 1) (slotPG_eq c 2)) $$ HS
  icases HS' with ⟨⟨%d0, HS0⟩, ⟨%d1, HS1⟩, ⟨%d2, HS2⟩⟩
  ihave HW' := (copiesG (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringG_out : iprop(freeG (F := F) c W 0 ∗ freeG c W 1 ∗ freeG c W 2)
    ⊢ iprop((∃ d, owns (c : Thread nD τ) scG fullShare d) ∗ (cellP (F := F) c 0 0 ∗ cellP c 0 1 ∗ cellP c 0 2) ∗ held c opG W) := by
  unfold freeG
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPG (F := F) c 0 f) ∗ (∃ f, slotPG (F := F) c 1 f) ∗ ∃ f, slotPG (F := F) c 2 f) : sProp 𝕄) ⊢ iprop(∃ d, owns (c : Thread nD τ) scG fullShare d) from by
      simp only [scG, owns_whole]
      exact Ring.slots3_join (U := Pipeline.UD sig nD τ) (ℓ := (c : Thread nD τ).loc cc0_scratch1) (q := fullShare) slotSetG slotsG_disjoint slotsG_cover
        (slotPG c 0) (slotPG c 1) (slotPG c 2) (slotPG_eq c 0) (slotPG_eq c 1) (slotPG_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesG (F := F) c W).2
  isplitl [HW0]; · iexact HW0
  isplitl [HW1]; · iexact HW1
  iexact HW2
end

/-! ## The up weights' ring -/

abbrev scU : Memref sig .tc .vmem S3x1024x256 .f32 := Memref.whole cc0_scratch2
abbrev opU : Memref sig .tc .hbm S1x1024x2816 .f32 := Memref.whole main_arg2
/-- Slot `s` of the scratch. -/
def slotU (s : Fin 3) : Memref sig .tc .vmem S1024x256 .f32 :=
  (scU.slice (Rect.unit (s := S3x1024x256) ![s.val, 0, 0] S1x1024x256.size (inb_slot_col s)) (fun _ => rfl)).squeeze S1024x256 squeezes_S1x1024x256_S1024x256
/-- Block `n` of the operand, the blocks counted around. -/
def blkU (n : ℕ) : Memref sig .tc .hbm S1024x256 .f32 :=
  (opU.slice (Rect.unit (s := S1x1024x2816) ![0, 0, 256 * (n % 11)] S1x1024x256.size (inb_blk_col n)) (fun _ => rfl)).squeeze S1024x256 squeezes_S1x1024x256_S1024x256

theorem slotU_congr (s : Fin 3) {off : Fin 3 → Nat} (h : ∀ a, off a + S1x1024x256.size a ≤ S3x1024x256.size a) (e : off = ![s.val, 0, 0]) :
    (scU.slice (Rect.unit (s := S3x1024x256) off S1x1024x256.size h) (fun _ => rfl)).squeeze S1024x256 squeezes_S1x1024x256_S1024x256 = slotU s :=
  congrArg (fun M : Memref sig .tc .vmem S1x1024x256 .f32 => M.squeeze S1024x256 squeezes_S1x1024x256_S1024x256) (Memref.slice_unit_congr _ e _ _ (fun _ => rfl) (fun _ => rfl))
theorem blkU_congr (n : ℕ) {off : Fin 3 → Nat} (h : ∀ a, off a + S1x1024x256.size a ≤ S1x1024x2816.size a) (e : off = ![0, 0, 256 * (n % 11)]) :
    (opU.slice (Rect.unit (s := S1x1024x2816) off S1x1024x256.size h) (fun _ => rfl)).squeeze S1024x256 squeezes_S1x1024x256_S1024x256 = blkU n :=
  congrArg (fun M : Memref sig .tc .hbm S1x1024x256 .f32 => M.squeeze S1024x256 squeezes_S1x1024x256_S1024x256)
    (Memref.slice_unit_congr _ e _ _ (fun _ => rfl) (fun _ => rfl))

section
variable (c : Dev nD) (W : BufOf (F := F) c opU)
/-- Slot `s` held at `f`; what a transfer of block `n` into slot `s` borrows of the operand; the rest of that slot's copy; that copy whole. -/
abbrev slotPU (s : Fin 3) (f : BufOf (F := F) c (slotU s)) : sProp 𝕄 := (slotU s).view.loc (c : Thread nD τ) ↦[(slotU s).view.set]{fullShare} f
abbrev srcPU (s : Fin 3) (n : ℕ) : sProp 𝕄 := (blkU n).view.loc (c : Thread nD τ) ↦[(blkU n).view.set]{lent s} W
def restPU (s : Fin 3) (n : ℕ) : sProp 𝕄 := ((c : Thread nD τ).loc main_arg2) ↦[Finset.univ \ (blkU n).view.set]{lent s} W
abbrev wholePU (s : Fin 3) : sProp 𝕄 := ((c : Thread nD τ).loc main_arg2) ↦[Finset.univ]{lent s} W
/-- What slot `s` holds once block `n` landed in it. -/
abbrev landedU (s : Fin 3) (n : ℕ) (f : BufOf (F := F) c (slotU s)) : BufOf (F := F) c (slotU s) :=
  (slotU s).view.writes (Elt F) f [⟨Rect.whole S1024x256, ReadAs.same.apply ((blkU n).view.read (Elt F) W)⟩]
/-- Block `n` in flight into slot `s`: its arrival delivers the slot landed and returns what was borrowed. -/
abbrev flightPU (s : Fin 3) (n : ℕ) (f : BufOf (F := F) c (slotU s)) : sProp 𝕄 :=
  Transfers.Flight countersEmb (c : Thread nD τ) (cellR 1 s) default ((slotU s).view.amount (cellR 1 s))
    iprop(slotPU c s (landedU c W s n f) ∗ srcPU c W s n)
/-- A slot with block `n` in flight into it; a free slot. -/
def flyU (s : Fin 3) (n : ℕ) : sProp 𝕄 := iprop(∃ f, flightPU c W s n f ∗ restPU c W s n)
def freeU (s : Fin 3) : sProp 𝕄 := iprop(cellP c 1 s ∗ ∃ f, slotPU c s f ∗ wholePU c W s)

omit [FloatOps F] in
theorem splitU (s : Fin 3) (n : ℕ) : wholePU (F := F) c W s ⊣⊢ iprop(srcPU c W s n ∗ restPU c W s n) := by
  unfold restPU; exact pointsTo_split_subset (Finset.subset_univ _)
omit [FloatOps F] in
theorem copiesU : (held c opU W : sProp 𝕄) ⊣⊢ iprop(wholePU c W 0 ∗ wholePU c W 1 ∗ wholePU c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetU (s : Fin 3) : Finset S3x1024x256.Idx := (Rect.unit (s := S3x1024x256) ![s.val, 0, 0] S1x1024x256.size (inb_slot_col s)).set
theorem slotSetU_eq (s : Fin 3) : (slotU s).view.set = slotSetU s := by
  simp only [slotU, Memref.view_squeeze, View.set_reshape]; exact View.set_slice_whole _ _
theorem slotsU_disjoint (s s' : Fin 3) (h : s ≠ s') : Disjoint (slotSetU s) (slotSetU s') :=
  Ring.lead_disjoint (s := S3x1024x256) (0 : Fin 3) 1 (fun s : Fin 3 => (![s.val, 0, 0] : Fin 3 → Nat)) S1x1024x256.size (inb_slot_col) (fun s => by simp) rfl s s' h
theorem slotsU_cover : Finset.univ.biUnion slotSetU = Finset.univ :=
  Ring.lead_cover (s := S3x1024x256) (0 : Fin 3) 1 (fun s : Fin 3 => (![s.val, 0, 0] : Fin 3 → Nat)) S1x1024x256.size (inb_slot_col) (fun s => by simp)
    (fun s a ha => by fin_cases a <;> first | exact absurd rfl ha | rfl) rfl (fun a ha => by fin_cases a <;> first | exact absurd rfl ha | rfl) rfl

section
variable (c : Dev nD) (W : BufOf (F := F) c opU)
omit [FloatOps F] in
theorem slotPU_eq (s : Fin 3) (f) : slotPU (F := F) c s f = (((c : Thread nD τ).loc cc0_scratch2) ↦[slotSetU s]{fullShare} f : sProp 𝕄) := by
  unfold slotPU; rw [slotSetU_eq]; rfl
omit [FloatOps F] in
/-- Into the ring: the scratch at anything, the cells at zero and the operand whole are three free slots; -/
theorem ringU_in : iprop((∃ d, owns (c : Thread nD τ) scU fullShare d) ∗ (cellP (F := F) c 1 0 ∗ cellP c 1 1 ∗ cellP c 1 2) ∗ held c opU W)
    ⊢ iprop(freeU c W 0 ∗ freeU c W 1 ∗ freeU c W 2) := by
  unfold freeU
  iintro ⟨HS, ⟨H0, H1, H2⟩, HW⟩
  ihave HS' := (show iprop(∃ d, owns (c : Thread nD τ) scU fullShare d) ⊢ (iprop((∃ f, slotPU (F := F) c 0 f) ∗ (∃ f, slotPU (F := F) c 1 f) ∗ ∃ f, slotPU (F := F) c 2 f) : sProp 𝕄) from by
    simp only [scU, owns_whole]
    exact Ring.slots3_split (U := Pipeline.UD sig nD τ) (ℓ := (c : Thread nD τ).loc cc0_scratch2) (q := fullShare) slotSetU slotsU_disjoint slotsU_cover
      (slotPU c 0) (slotPU c 1) (slotPU c 2) (slotPU_eq c 0) (slotPU_eq c 1) (slotPU_eq c 2)) $$ HS
  icases HS' with ⟨⟨%d0, HS0⟩, ⟨%d1, HS1⟩, ⟨%d2, HS2⟩⟩
  ihave HW' := (copiesU (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringU_out : iprop(freeU (F := F) c W 0 ∗ freeU c W 1 ∗ freeU c W 2)
    ⊢ iprop((∃ d, owns (c : Thread nD τ) scU fullShare d) ∗ (cellP (F := F) c 1 0 ∗ cellP c 1 1 ∗ cellP c 1 2) ∗ held c opU W) := by
  unfold freeU
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPU (F := F) c 0 f) ∗ (∃ f, slotPU (F := F) c 1 f) ∗ ∃ f, slotPU (F := F) c 2 f) : sProp 𝕄) ⊢ iprop(∃ d, owns (c : Thread nD τ) scU fullShare d) from by
      simp only [scU, owns_whole]
      exact Ring.slots3_join (U := Pipeline.UD sig nD τ) (ℓ := (c : Thread nD τ).loc cc0_scratch2) (q := fullShare) slotSetU slotsU_disjoint slotsU_cover
        (slotPU c 0) (slotPU c 1) (slotPU c 2) (slotPU_eq c 0) (slotPU_eq c 1) (slotPU_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesU (F := F) c W).2
  isplitl [HW0]; · iexact HW0
  isplitl [HW1]; · iexact HW1
  iexact HW2
end

/-! ## The down weights' ring -/

abbrev scD : Memref sig .tc .vmem S3x256x1024 .f32 := Memref.whole cc0_scratch3
abbrev opD : Memref sig .tc .hbm S1x2816x1024 .f32 := Memref.whole main_arg3
/-- Slot `s` of the scratch. -/
def slotD (s : Fin 3) : Memref sig .tc .vmem S256x1024 .f32 :=
  (scD.slice (Rect.unit (s := S3x256x1024) ![s.val, 0, 0] S1x256x1024.size (inb_slot_row s)) (fun _ => rfl)).squeeze S256x1024 squeezes_S1x256x1024_S256x1024
/-- Block `n` of the operand, the blocks counted around. -/
def blkD (n : ℕ) : Memref sig .tc .hbm S256x1024 .f32 :=
  (opD.slice (Rect.unit (s := S1x2816x1024) ![0, 256 * (n % 11), 0] S1x256x1024.size (inb_blk_row n)) (fun _ => rfl)).squeeze S256x1024 squeezes_S1x256x1024_S256x1024

theorem slotD_congr (s : Fin 3) {off : Fin 3 → Nat} (h : ∀ a, off a + S1x256x1024.size a ≤ S3x256x1024.size a) (e : off = ![s.val, 0, 0]) :
    (scD.slice (Rect.unit (s := S3x256x1024) off S1x256x1024.size h) (fun _ => rfl)).squeeze S256x1024 squeezes_S1x256x1024_S256x1024 = slotD s :=
  congrArg (fun M : Memref sig .tc .vmem S1x256x1024 .f32 => M.squeeze S256x1024 squeezes_S1x256x1024_S256x1024) (Memref.slice_unit_congr _ e _ _ (fun _ => rfl) (fun _ => rfl))
theorem blkD_congr (n : ℕ) {off : Fin 3 → Nat} (h : ∀ a, off a + S1x256x1024.size a ≤ S1x2816x1024.size a) (e : off = ![0, 256 * (n % 11), 0]) :
    (opD.slice (Rect.unit (s := S1x2816x1024) off S1x256x1024.size h) (fun _ => rfl)).squeeze S256x1024 squeezes_S1x256x1024_S256x1024 = blkD n :=
  congrArg (fun M : Memref sig .tc .hbm S1x256x1024 .f32 => M.squeeze S256x1024 squeezes_S1x256x1024_S256x1024)
    (Memref.slice_unit_congr _ e _ _ (fun _ => rfl) (fun _ => rfl))

section
variable (c : Dev nD) (W : BufOf (F := F) c opD)
/-- Slot `s` held at `f`; what a transfer of block `n` into slot `s` borrows of the operand; the rest of that slot's copy; that copy whole. -/
abbrev slotPD (s : Fin 3) (f : BufOf (F := F) c (slotD s)) : sProp 𝕄 := (slotD s).view.loc (c : Thread nD τ) ↦[(slotD s).view.set]{fullShare} f
abbrev srcPD (s : Fin 3) (n : ℕ) : sProp 𝕄 := (blkD n).view.loc (c : Thread nD τ) ↦[(blkD n).view.set]{lent s} W
def restPD (s : Fin 3) (n : ℕ) : sProp 𝕄 := ((c : Thread nD τ).loc main_arg3) ↦[Finset.univ \ (blkD n).view.set]{lent s} W
abbrev wholePD (s : Fin 3) : sProp 𝕄 := ((c : Thread nD τ).loc main_arg3) ↦[Finset.univ]{lent s} W
/-- What slot `s` holds once block `n` landed in it. -/
abbrev landedD (s : Fin 3) (n : ℕ) (f : BufOf (F := F) c (slotD s)) : BufOf (F := F) c (slotD s) :=
  (slotD s).view.writes (Elt F) f [⟨Rect.whole S256x1024, ReadAs.same.apply ((blkD n).view.read (Elt F) W)⟩]
/-- Block `n` in flight into slot `s`: its arrival delivers the slot landed and returns what was borrowed. -/
abbrev flightPD (s : Fin 3) (n : ℕ) (f : BufOf (F := F) c (slotD s)) : sProp 𝕄 :=
  Transfers.Flight countersEmb (c : Thread nD τ) (cellR 2 s) default ((slotD s).view.amount (cellR 2 s))
    iprop(slotPD c s (landedD c W s n f) ∗ srcPD c W s n)
/-- A slot with block `n` in flight into it; a free slot. -/
def flyD (s : Fin 3) (n : ℕ) : sProp 𝕄 := iprop(∃ f, flightPD c W s n f ∗ restPD c W s n)
def freeD (s : Fin 3) : sProp 𝕄 := iprop(cellP c 2 s ∗ ∃ f, slotPD c s f ∗ wholePD c W s)

omit [FloatOps F] in
theorem splitD (s : Fin 3) (n : ℕ) : wholePD (F := F) c W s ⊣⊢ iprop(srcPD c W s n ∗ restPD c W s n) := by
  unfold restPD; exact pointsTo_split_subset (Finset.subset_univ _)
omit [FloatOps F] in
theorem copiesD : (held c opD W : sProp 𝕄) ⊣⊢ iprop(wholePD c W 0 ∗ wholePD c W 1 ∗ wholePD c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

abbrev slotSetD (s : Fin 3) : Finset S3x256x1024.Idx := (Rect.unit (s := S3x256x1024) ![s.val, 0, 0] S1x256x1024.size (inb_slot_row s)).set
theorem slotSetD_eq (s : Fin 3) : (slotD s).view.set = slotSetD s := by
  simp only [slotD, Memref.view_squeeze, View.set_reshape]; exact View.set_slice_whole _ _
theorem slotsD_disjoint (s s' : Fin 3) (h : s ≠ s') : Disjoint (slotSetD s) (slotSetD s') :=
  Ring.lead_disjoint (s := S3x256x1024) (0 : Fin 3) 1 (fun s : Fin 3 => (![s.val, 0, 0] : Fin 3 → Nat)) S1x256x1024.size (inb_slot_row) (fun s => by simp) rfl s s' h
theorem slotsD_cover : Finset.univ.biUnion slotSetD = Finset.univ :=
  Ring.lead_cover (s := S3x256x1024) (0 : Fin 3) 1 (fun s : Fin 3 => (![s.val, 0, 0] : Fin 3 → Nat)) S1x256x1024.size (inb_slot_row) (fun s => by simp)
    (fun s a ha => by fin_cases a <;> first | exact absurd rfl ha | rfl) rfl (fun a ha => by fin_cases a <;> first | exact absurd rfl ha | rfl) rfl

section
variable (c : Dev nD) (W : BufOf (F := F) c opD)
omit [FloatOps F] in
theorem slotPD_eq (s : Fin 3) (f) : slotPD (F := F) c s f = (((c : Thread nD τ).loc cc0_scratch3) ↦[slotSetD s]{fullShare} f : sProp 𝕄) := by
  unfold slotPD; rw [slotSetD_eq]; rfl
omit [FloatOps F] in
/-- Into the ring: the scratch at anything, the cells at zero and the operand whole are three free slots; -/
theorem ringD_in : iprop((∃ d, owns (c : Thread nD τ) scD fullShare d) ∗ (cellP (F := F) c 2 0 ∗ cellP c 2 1 ∗ cellP c 2 2) ∗ held c opD W)
    ⊢ iprop(freeD c W 0 ∗ freeD c W 1 ∗ freeD c W 2) := by
  unfold freeD
  iintro ⟨HS, ⟨H0, H1, H2⟩, HW⟩
  ihave HS' := (show iprop(∃ d, owns (c : Thread nD τ) scD fullShare d) ⊢ (iprop((∃ f, slotPD (F := F) c 0 f) ∗ (∃ f, slotPD (F := F) c 1 f) ∗ ∃ f, slotPD (F := F) c 2 f) : sProp 𝕄) from by
    simp only [scD, owns_whole]
    exact Ring.slots3_split (U := Pipeline.UD sig nD τ) (ℓ := (c : Thread nD τ).loc cc0_scratch3) (q := fullShare) slotSetD slotsD_disjoint slotsD_cover
      (slotPD c 0) (slotPD c 1) (slotPD c 2) (slotPD_eq c 0) (slotPD_eq c 1) (slotPD_eq c 2)) $$ HS
  icases HS' with ⟨⟨%d0, HS0⟩, ⟨%d1, HS1⟩, ⟨%d2, HS2⟩⟩
  ihave HW' := (copiesD (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2]; · iexact H2
  iexists d2; isplitl [HS2]; · iexact HS2
  iexact HW2
omit [FloatOps F] in
/-- and out of it. -/
theorem ringD_out : iprop(freeD (F := F) c W 0 ∗ freeD c W 1 ∗ freeD c W 2)
    ⊢ iprop((∃ d, owns (c : Thread nD τ) scD fullShare d) ∗ (cellP (F := F) c 2 0 ∗ cellP c 2 1 ∗ cellP c 2 2) ∗ held c opD W) := by
  unfold freeD
  iintro ⟨⟨H0, ⟨%d0, HS0, HW0⟩⟩, ⟨H1, ⟨%d1, HS1, HW1⟩⟩, ⟨H2, ⟨%d2, HS2, HW2⟩⟩⟩
  isplitl [HS0 HS1 HS2]
  · iapply (show (iprop((∃ f, slotPD (F := F) c 0 f) ∗ (∃ f, slotPD (F := F) c 1 f) ∗ ∃ f, slotPD (F := F) c 2 f) : sProp 𝕄) ⊢ iprop(∃ d, owns (c : Thread nD τ) scD fullShare d) from by
      simp only [scD, owns_whole]
      exact Ring.slots3_join (U := Pipeline.UD sig nD τ) (ℓ := (c : Thread nD τ).loc cc0_scratch3) (q := fullShare) slotSetD slotsD_disjoint slotsD_cover
        (slotPD c 0) (slotPD c 1) (slotPD c 2) (slotPD_eq c 0) (slotPD_eq c 1) (slotPD_eq c 2))
    isplitl [HS0]; · iexists d0; iexact HS0
    isplitl [HS1]; · iexists d1; iexact HS1
    iexists d2; iexact HS2
  isplitl [H0 H1 H2]
  · isplitl [H0]; · iexact H0
    isplitl [H1]; · iexact H1
    iexact H2
  iapply (copiesD (F := F) c W).2
  isplitl [HW0]; · iexact HW0
  isplitl [HW1]; · iexact HW1
  iexact HW2
end

/-! ## The printed views and cells are the named ones -/

theorem coff1 : ∀ t : Fin grid0.N, k0_off1 (grid0.coords t) = ![0, (sl t.val).val] := by decide +kernel
@[sl_canon] theorem canon1 (t : Fin grid0.N) (h1 : k0_cond1 (grid0.coords t) = 1#1) (h2 : k0_cond2 (grid0.coords t) = 1#1) :
    (cc0_scratch4.slice (Rect.unit (s := S3x3) (k0_off1 (grid0.coords t)) S1x1.size (k0_off1_inb (grid0.coords t) h1 h2))).squeeze S_ squeezes_S1x1_S_ = cellA 0 (sl t.val) :=
  cell_congr _ _ _ (coff1 t)
theorem coff2 : ∀ t : Fin grid0.N, k0_off2 (grid0.coords t) = ![(sl t.val).val, 0, 0] := by decide +kernel
@[sl_canon] theorem canon2G (t : Fin grid0.N) (h1 : k0_cond1 (grid0.coords t) = 1#1) (h2 : k0_cond2 (grid0.coords t) = 1#1) :
    (scG.slice (Rect.unit (s := S3x1024x256) (k0_off2 (grid0.coords t)) S1x1024x256.size (k0_off2_inb (grid0.coords t) h1 h2)) (fun _ => rfl)).squeeze S1024x256 squeezes_S1x1024x256_S1024x256 = slotG (sl t.val) :=
  slotG_congr _ _ (coff2 t)
@[sl_canon] theorem canon2U (t : Fin grid0.N) (h1 : k0_cond1 (grid0.coords t) = 1#1) (h2 : k0_cond2 (grid0.coords t) = 1#1) :
    (scU.slice (Rect.unit (s := S3x1024x256) (k0_off2 (grid0.coords t)) S1x1024x256.size (k0_off2_inb (grid0.coords t) h1 h2)) (fun _ => rfl)).squeeze S1024x256 squeezes_S1x1024x256_S1024x256 = slotU (sl t.val) :=
  slotU_congr _ _ (coff2 t)
theorem coff3 : ∀ t : Fin grid0.N, k0_off3 (grid0.coords t) = ![0, 0, 256 * ((t.val) % 11)] := by decide +kernel
@[sl_canon] theorem canon3G (t : Fin grid0.N) (h1 : k0_cond1 (grid0.coords t) = 1#1) (h2 : k0_cond2 (grid0.coords t) = 1#1) :
    (opG.slice (Rect.unit (s := S1x1024x2816) (k0_off3 (grid0.coords t)) S1x1024x256.size (k0_off3_inb (grid0.coords t) h1 h2)) (fun _ => rfl)).squeeze S1024x256 squeezes_S1x1024x256_S1024x256 = blkG t.val :=
  blkG_congr _ _ (coff3 t)
@[sl_canon] theorem canon3U (t : Fin grid0.N) (h1 : k0_cond1 (grid0.coords t) = 1#1) (h2 : k0_cond2 (grid0.coords t) = 1#1) :
    (opU.slice (Rect.unit (s := S1x1024x2816) (k0_off3 (grid0.coords t)) S1x1024x256.size (k0_off3_inb (grid0.coords t) h1 h2)) (fun _ => rfl)).squeeze S1024x256 squeezes_S1x1024x256_S1024x256 = blkU t.val :=
  blkU_congr _ _ (coff3 t)
theorem coff4 : ∀ t : Fin grid0.N, k0_off4 (grid0.coords t) = ![1, (sl t.val).val] := by decide +kernel
@[sl_canon] theorem canon4 (t : Fin grid0.N) (h1 : k0_cond1 (grid0.coords t) = 1#1) (h2 : k0_cond2 (grid0.coords t) = 1#1) :
    (cc0_scratch4.slice (Rect.unit (s := S3x3) (k0_off4 (grid0.coords t)) S1x1.size (k0_off4_inb (grid0.coords t) h1 h2))).squeeze S_ squeezes_S1x1_S_ = cellA 1 (sl t.val) :=
  cell_congr _ _ _ (coff4 t)
theorem coff5 : ∀ t : Fin grid0.N, k0_off5 (grid0.coords t) = ![2, (sl t.val).val] := by decide +kernel
@[sl_canon] theorem canon5 (t : Fin grid0.N) (h1 : k0_cond1 (grid0.coords t) = 1#1) (h2 : k0_cond2 (grid0.coords t) = 1#1) :
    (cc0_scratch4.slice (Rect.unit (s := S3x3) (k0_off5 (grid0.coords t)) S1x1.size (k0_off5_inb (grid0.coords t) h1 h2))).squeeze S_ squeezes_S1x1_S_ = cellA 2 (sl t.val) :=
  cell_congr _ _ _ (coff5 t)
theorem coff6 : ∀ t : Fin grid0.N, k0_off6 (grid0.coords t) = ![(sl t.val).val, 0, 0] := by decide +kernel
@[sl_canon] theorem canon6D (t : Fin grid0.N) (h1 : k0_cond1 (grid0.coords t) = 1#1) (h2 : k0_cond2 (grid0.coords t) = 1#1) :
    (scD.slice (Rect.unit (s := S3x256x1024) (k0_off6 (grid0.coords t)) S1x256x1024.size (k0_off6_inb (grid0.coords t) h1 h2)) (fun _ => rfl)).squeeze S256x1024 squeezes_S1x256x1024_S256x1024 = slotD (sl t.val) :=
  slotD_congr _ _ (coff6 t)
theorem coff7 : ∀ t : Fin grid0.N, k0_off7 (grid0.coords t) = ![0, 256 * ((t.val) % 11), 0] := by decide +kernel
@[sl_canon] theorem canon7D (t : Fin grid0.N) (h1 : k0_cond1 (grid0.coords t) = 1#1) (h2 : k0_cond2 (grid0.coords t) = 1#1) :
    (opD.slice (Rect.unit (s := S1x2816x1024) (k0_off7 (grid0.coords t)) S1x256x1024.size (k0_off7_inb (grid0.coords t) h1 h2)) (fun _ => rfl)).squeeze S256x1024 squeezes_S1x256x1024_S256x1024 = blkD t.val :=
  blkD_congr _ _ (coff7 t)
theorem coff8 : ∀ t : Fin grid0.N, k0_off8 (grid0.coords t) = ![0, (sl (t.val + 1)).val] := by decide +kernel
@[sl_canon] theorem canon8 (t : Fin grid0.N) (h1 : k0_cond1 (grid0.coords t) = 1#1) (h3 : k0_cond3 (grid0.coords t) = 1#1) :
    (cc0_scratch4.slice (Rect.unit (s := S3x3) (k0_off8 (grid0.coords t)) S1x1.size (k0_off8_inb (grid0.coords t) h1 h3))).squeeze S_ squeezes_S1x1_S_ = cellA 0 (sl (t.val + 1)) :=
  cell_congr _ _ _ (coff8 t)
theorem coff9 : ∀ t : Fin grid0.N, k0_off9 (grid0.coords t) = ![(sl (t.val + 1)).val, 0, 0] := by decide +kernel
@[sl_canon] theorem canon9G (t : Fin grid0.N) (h1 : k0_cond1 (grid0.coords t) = 1#1) (h3 : k0_cond3 (grid0.coords t) = 1#1) :
    (scG.slice (Rect.unit (s := S3x1024x256) (k0_off9 (grid0.coords t)) S1x1024x256.size (k0_off9_inb (grid0.coords t) h1 h3)) (fun _ => rfl)).squeeze S1024x256 squeezes_S1x1024x256_S1024x256 = slotG (sl (t.val + 1)) :=
  slotG_congr _ _ (coff9 t)
@[sl_canon] theorem canon9U (t : Fin grid0.N) (h1 : k0_cond1 (grid0.coords t) = 1#1) (h3 : k0_cond3 (grid0.coords t) = 1#1) :
    (scU.slice (Rect.unit (s := S3x1024x256) (k0_off9 (grid0.coords t)) S1x1024x256.size (k0_off9_inb (grid0.coords t) h1 h3)) (fun _ => rfl)).squeeze S1024x256 squeezes_S1x1024x256_S1024x256 = slotU (sl (t.val + 1)) :=
  slotU_congr _ _ (coff9 t)
theorem coff10 : ∀ t : Fin grid0.N, k0_off10 (grid0.coords t) = ![0, 0, 256 * ((t.val + 1) % 11)] := by decide +kernel
@[sl_canon] theorem canon10G (t : Fin grid0.N) (h1 : k0_cond1 (grid0.coords t) = 1#1) (h3 : k0_cond3 (grid0.coords t) = 1#1) :
    (opG.slice (Rect.unit (s := S1x1024x2816) (k0_off10 (grid0.coords t)) S1x1024x256.size (k0_off10_inb (grid0.coords t) h1 h3)) (fun _ => rfl)).squeeze S1024x256 squeezes_S1x1024x256_S1024x256 = blkG (t.val + 1) :=
  blkG_congr _ _ (coff10 t)
@[sl_canon] theorem canon10U (t : Fin grid0.N) (h1 : k0_cond1 (grid0.coords t) = 1#1) (h3 : k0_cond3 (grid0.coords t) = 1#1) :
    (opU.slice (Rect.unit (s := S1x1024x2816) (k0_off10 (grid0.coords t)) S1x1024x256.size (k0_off10_inb (grid0.coords t) h1 h3)) (fun _ => rfl)).squeeze S1024x256 squeezes_S1x1024x256_S1024x256 = blkU (t.val + 1) :=
  blkU_congr _ _ (coff10 t)
theorem coff11 : ∀ t : Fin grid0.N, k0_off11 (grid0.coords t) = ![1, (sl (t.val + 1)).val] := by decide +kernel
@[sl_canon] theorem canon11 (t : Fin grid0.N) (h1 : k0_cond1 (grid0.coords t) = 1#1) (h3 : k0_cond3 (grid0.coords t) = 1#1) :
    (cc0_scratch4.slice (Rect.unit (s := S3x3) (k0_off11 (grid0.coords t)) S1x1.size (k0_off11_inb (grid0.coords t) h1 h3))).squeeze S_ squeezes_S1x1_S_ = cellA 1 (sl (t.val + 1)) :=
  cell_congr _ _ _ (coff11 t)
theorem coff12 : ∀ t : Fin grid0.N, k0_off12 (grid0.coords t) = ![2, (sl (t.val + 1)).val] := by decide +kernel
@[sl_canon] theorem canon12 (t : Fin grid0.N) (h1 : k0_cond1 (grid0.coords t) = 1#1) (h3 : k0_cond3 (grid0.coords t) = 1#1) :
    (cc0_scratch4.slice (Rect.unit (s := S3x3) (k0_off12 (grid0.coords t)) S1x1.size (k0_off12_inb (grid0.coords t) h1 h3))).squeeze S_ squeezes_S1x1_S_ = cellA 2 (sl (t.val + 1)) :=
  cell_congr _ _ _ (coff12 t)
theorem coff13 : ∀ t : Fin grid0.N, k0_off13 (grid0.coords t) = ![(sl (t.val + 1)).val, 0, 0] := by decide +kernel
@[sl_canon] theorem canon13D (t : Fin grid0.N) (h1 : k0_cond1 (grid0.coords t) = 1#1) (h3 : k0_cond3 (grid0.coords t) = 1#1) :
    (scD.slice (Rect.unit (s := S3x256x1024) (k0_off13 (grid0.coords t)) S1x256x1024.size (k0_off13_inb (grid0.coords t) h1 h3)) (fun _ => rfl)).squeeze S256x1024 squeezes_S1x256x1024_S256x1024 = slotD (sl (t.val + 1)) :=
  slotD_congr _ _ (coff13 t)
theorem coff14 : ∀ t : Fin grid0.N, k0_off14 (grid0.coords t) = ![0, 256 * ((t.val + 1) % 11), 0] := by decide +kernel
@[sl_canon] theorem canon14D (t : Fin grid0.N) (h1 : k0_cond1 (grid0.coords t) = 1#1) (h3 : k0_cond3 (grid0.coords t) = 1#1) :
    (opD.slice (Rect.unit (s := S1x2816x1024) (k0_off14 (grid0.coords t)) S1x256x1024.size (k0_off14_inb (grid0.coords t) h1 h3)) (fun _ => rfl)).squeeze S256x1024 squeezes_S1x256x1024_S256x1024 = blkD (t.val + 1) :=
  blkD_congr _ _ (coff14 t)
theorem coff15 : ∀ t : Fin grid0.N, k0_off15 (grid0.coords t) = ![0, (sl (t.val + 2)).val] := by decide +kernel
@[sl_canon] theorem canon15 (t : Fin grid0.N) (h4 : k0_cond4 (grid0.coords t) = 1#1) :
    (cc0_scratch4.slice (Rect.unit (s := S3x3) (k0_off15 (grid0.coords t)) S1x1.size (k0_off15_inb (grid0.coords t) h4))).squeeze S_ squeezes_S1x1_S_ = cellA 0 (sl (t.val + 2)) :=
  cell_congr _ _ _ (coff15 t)
theorem coff16 : ∀ t : Fin grid0.N, k0_off16 (grid0.coords t) = ![(sl (t.val + 2)).val, 0, 0] := by decide +kernel
@[sl_canon] theorem canon16G (t : Fin grid0.N) (h4 : k0_cond4 (grid0.coords t) = 1#1) :
    (scG.slice (Rect.unit (s := S3x1024x256) (k0_off16 (grid0.coords t)) S1x1024x256.size (k0_off16_inb (grid0.coords t) h4)) (fun _ => rfl)).squeeze S1024x256 squeezes_S1x1024x256_S1024x256 = slotG (sl (t.val + 2)) :=
  slotG_congr _ _ (coff16 t)
@[sl_canon] theorem canon16U (t : Fin grid0.N) (h4 : k0_cond4 (grid0.coords t) = 1#1) :
    (scU.slice (Rect.unit (s := S3x1024x256) (k0_off16 (grid0.coords t)) S1x1024x256.size (k0_off16_inb (grid0.coords t) h4)) (fun _ => rfl)).squeeze S1024x256 squeezes_S1x1024x256_S1024x256 = slotU (sl (t.val + 2)) :=
  slotU_congr _ _ (coff16 t)
theorem coff17 : ∀ t : Fin grid0.N, k0_off17 (grid0.coords t) = ![0, 0, 256 * ((t.val + 2) % 11)] := by decide +kernel
@[sl_canon] theorem canon17G (t : Fin grid0.N) (h4 : k0_cond4 (grid0.coords t) = 1#1) :
    (opG.slice (Rect.unit (s := S1x1024x2816) (k0_off17 (grid0.coords t)) S1x1024x256.size (k0_off17_inb (grid0.coords t) h4)) (fun _ => rfl)).squeeze S1024x256 squeezes_S1x1024x256_S1024x256 = blkG (t.val + 2) :=
  blkG_congr _ _ (coff17 t)
@[sl_canon] theorem canon17U (t : Fin grid0.N) (h4 : k0_cond4 (grid0.coords t) = 1#1) :
    (opU.slice (Rect.unit (s := S1x1024x2816) (k0_off17 (grid0.coords t)) S1x1024x256.size (k0_off17_inb (grid0.coords t) h4)) (fun _ => rfl)).squeeze S1024x256 squeezes_S1x1024x256_S1024x256 = blkU (t.val + 2) :=
  blkU_congr _ _ (coff17 t)
theorem coff18 : ∀ t : Fin grid0.N, k0_off18 (grid0.coords t) = ![1, (sl (t.val + 2)).val] := by decide +kernel
@[sl_canon] theorem canon18 (t : Fin grid0.N) (h4 : k0_cond4 (grid0.coords t) = 1#1) :
    (cc0_scratch4.slice (Rect.unit (s := S3x3) (k0_off18 (grid0.coords t)) S1x1.size (k0_off18_inb (grid0.coords t) h4))).squeeze S_ squeezes_S1x1_S_ = cellA 1 (sl (t.val + 2)) :=
  cell_congr _ _ _ (coff18 t)
theorem coff19 : ∀ t : Fin grid0.N, k0_off19 (grid0.coords t) = ![2, (sl (t.val + 2)).val] := by decide +kernel
@[sl_canon] theorem canon19 (t : Fin grid0.N) (h4 : k0_cond4 (grid0.coords t) = 1#1) :
    (cc0_scratch4.slice (Rect.unit (s := S3x3) (k0_off19 (grid0.coords t)) S1x1.size (k0_off19_inb (grid0.coords t) h4))).squeeze S_ squeezes_S1x1_S_ = cellA 2 (sl (t.val + 2)) :=
  cell_congr _ _ _ (coff19 t)
theorem coff20 : ∀ t : Fin grid0.N, k0_off20 (grid0.coords t) = ![(sl (t.val + 2)).val, 0, 0] := by decide +kernel
@[sl_canon] theorem canon20D (t : Fin grid0.N) (h4 : k0_cond4 (grid0.coords t) = 1#1) :
    (scD.slice (Rect.unit (s := S3x256x1024) (k0_off20 (grid0.coords t)) S1x256x1024.size (k0_off20_inb (grid0.coords t) h4)) (fun _ => rfl)).squeeze S256x1024 squeezes_S1x256x1024_S256x1024 = slotD (sl (t.val + 2)) :=
  slotD_congr _ _ (coff20 t)
theorem coff21 : ∀ t : Fin grid0.N, k0_off21 (grid0.coords t) = ![0, 256 * ((t.val + 2) % 11), 0] := by decide +kernel
@[sl_canon] theorem canon21D (t : Fin grid0.N) (h4 : k0_cond4 (grid0.coords t) = 1#1) :
    (opD.slice (Rect.unit (s := S1x2816x1024) (k0_off21 (grid0.coords t)) S1x256x1024.size (k0_off21_inb (grid0.coords t) h4)) (fun _ => rfl)).squeeze S256x1024 squeezes_S1x256x1024_S256x1024 = blkD (t.val + 2) :=
  blkD_congr _ _ (coff21 t)
theorem coff22 : ∀ t : Fin grid0.N, k0_off22 (grid0.coords t) = ![0, (sl t.val).val] := by decide +kernel
@[sl_canon] theorem canon22 (t : Fin grid0.N) (h5 : k0_cond5 (grid0.coords t) = 1#1) :
    (cc0_scratch4.slice (Rect.unit (s := S3x3) (k0_off22 (grid0.coords t)) S1x1.size (k0_off22_inb (grid0.coords t) h5))).squeeze S_ squeezes_S1x1_S_ = cellA 0 (sl t.val) :=
  cell_congr _ _ _ (coff22 t)
theorem coff23 : ∀ t : Fin grid0.N, k0_off23 (grid0.coords t) = ![(sl t.val).val, 0, 0] := by decide +kernel
@[sl_canon] theorem canon23G (t : Fin grid0.N) (h5 : k0_cond5 (grid0.coords t) = 1#1) :
    (scG.slice (Rect.unit (s := S3x1024x256) (k0_off23 (grid0.coords t)) S1x1024x256.size (k0_off23_inb (grid0.coords t) h5)) (fun _ => rfl)).squeeze S1024x256 squeezes_S1x1024x256_S1024x256 = slotG (sl t.val) :=
  slotG_congr _ _ (coff23 t)
@[sl_canon] theorem canon23U (t : Fin grid0.N) (h5 : k0_cond5 (grid0.coords t) = 1#1) :
    (scU.slice (Rect.unit (s := S3x1024x256) (k0_off23 (grid0.coords t)) S1x1024x256.size (k0_off23_inb (grid0.coords t) h5)) (fun _ => rfl)).squeeze S1024x256 squeezes_S1x1024x256_S1024x256 = slotU (sl t.val) :=
  slotU_congr _ _ (coff23 t)
theorem coff24 : ∀ t : Fin grid0.N, k0_off24 (grid0.coords t) = ![0, 0, 256 * ((t.val) % 11)] := by decide +kernel
@[sl_canon] theorem canon24G (t : Fin grid0.N) (h5 : k0_cond5 (grid0.coords t) = 1#1) :
    (opG.slice (Rect.unit (s := S1x1024x2816) (k0_off24 (grid0.coords t)) S1x1024x256.size (k0_off24_inb (grid0.coords t) h5)) (fun _ => rfl)).squeeze S1024x256 squeezes_S1x1024x256_S1024x256 = blkG t.val :=
  blkG_congr _ _ (coff24 t)
@[sl_canon] theorem canon24U (t : Fin grid0.N) (h5 : k0_cond5 (grid0.coords t) = 1#1) :
    (opU.slice (Rect.unit (s := S1x1024x2816) (k0_off24 (grid0.coords t)) S1x1024x256.size (k0_off24_inb (grid0.coords t) h5)) (fun _ => rfl)).squeeze S1024x256 squeezes_S1x1024x256_S1024x256 = blkU t.val :=
  blkU_congr _ _ (coff24 t)
theorem coff25 : ∀ t : Fin grid0.N, k0_off25 (grid0.coords t) = ![1, (sl t.val).val] := by decide +kernel
@[sl_canon] theorem canon25 (t : Fin grid0.N) (h5 : k0_cond5 (grid0.coords t) = 1#1) :
    (cc0_scratch4.slice (Rect.unit (s := S3x3) (k0_off25 (grid0.coords t)) S1x1.size (k0_off25_inb (grid0.coords t) h5))).squeeze S_ squeezes_S1x1_S_ = cellA 1 (sl t.val) :=
  cell_congr _ _ _ (coff25 t)
theorem coff26 : ∀ t : Fin grid0.N, k0_off26 (grid0.coords t) = ![2, (sl t.val).val] := by decide +kernel
@[sl_canon] theorem canon26 (t : Fin grid0.N) (h5 : k0_cond5 (grid0.coords t) = 1#1) :
    (cc0_scratch4.slice (Rect.unit (s := S3x3) (k0_off26 (grid0.coords t)) S1x1.size (k0_off26_inb (grid0.coords t) h5))).squeeze S_ squeezes_S1x1_S_ = cellA 2 (sl t.val) :=
  cell_congr _ _ _ (coff26 t)
theorem coff27 : ∀ t : Fin grid0.N, k0_off27 (grid0.coords t) = ![(sl t.val).val, 0, 0] := by decide +kernel
@[sl_canon] theorem canon27D (t : Fin grid0.N) (h5 : k0_cond5 (grid0.coords t) = 1#1) :
    (scD.slice (Rect.unit (s := S3x256x1024) (k0_off27 (grid0.coords t)) S1x256x1024.size (k0_off27_inb (grid0.coords t) h5)) (fun _ => rfl)).squeeze S256x1024 squeezes_S1x256x1024_S256x1024 = slotD (sl t.val) :=
  slotD_congr _ _ (coff27 t)
theorem coff28 : ∀ t : Fin grid0.N, k0_off28 (grid0.coords t) = ![0, 256 * ((t.val) % 11), 0] := by decide +kernel
@[sl_canon] theorem canon28D (t : Fin grid0.N) (h5 : k0_cond5 (grid0.coords t) = 1#1) :
    (opD.slice (Rect.unit (s := S1x2816x1024) (k0_off28 (grid0.coords t)) S1x256x1024.size (k0_off28_inb (grid0.coords t) h5)) (fun _ => rfl)).squeeze S256x1024 squeezes_S1x256x1024_S256x1024 = blkD t.val :=
  blkD_congr _ _ (coff28 t)

theorem coff29 : ∀ t : Fin grid0.N, k0_off29 (grid0.coords t) = ![(sl t.val).val, 0, 0] := by decide +kernel
theorem coff30 : ∀ t : Fin grid0.N, k0_off30 (grid0.coords t) = ![(sl t.val).val, 0, 0] := by decide +kernel
instance (priority := high) closed29 (t : Fin grid0.N) : ClosedOff (k0_off29 (grid0.coords t)) := ⟨![(sl t.val).val, 0, 0], coff29 t⟩
instance (priority := high) closed30 (t : Fin grid0.N) : ClosedOff (k0_off30 (grid0.coords t)) := ⟨![(sl t.val).val, 0, 0], coff30 t⟩

/-! ## The body's conditions -/

/-- Whether the accumulator is cleared. -/
abbrev clears (i : grid0.Coords) : BitVec 1 := Scalar.cmpi .ne (Scalar.extui (Scalar.cmpi .eq (BitVec.ofNat 32 (i 1).val) 0#32)) 0#32

theorem cond1_iff : ∀ t : Fin grid0.N, k0_cond1 (grid0.coords t) = 1#1 ↔ t.val = 0 := by decide +kernel
theorem cond2_on : ∀ t : Fin grid0.N, k0_cond2 (grid0.coords t) = 1#1 := by decide +kernel
theorem cond3_iff : ∀ t : Fin grid0.N, k0_cond3 (grid0.coords t) = 1#1 ↔ t.val + 1 < 352 := by decide +kernel
theorem cond4_iff : ∀ t : Fin grid0.N, k0_cond4 (grid0.coords t) = 1#1 ↔ t.val + 2 < 352 := by decide +kernel
theorem cond5_on : ∀ t : Fin grid0.N, k0_cond5 (grid0.coords t) = 1#1 := by decide +kernel
theorem clears_iff : ∀ t : Fin grid0.N, clears (grid0.coords t) = 1#1 ↔ t.val % 11 = 0 := by decide +kernel
theorem cond7_iff : ∀ t : Fin grid0.N, k0_cond7 (grid0.coords t) = 1#1 ↔ t.val % 11 = 10 := by decide +kernel
theorem step_lt (t : Fin grid0.N) : t.val < 352 := Nat.lt_of_lt_of_eq t.isLt N_0

end Cert.Ffn

end
-- ==== Proof.FStep.lean ====
/- One step of the gated feed-forward as mathematics on whole blocks: what a step adds to a row tile, what the body's loads
   and stores of whole buffers and landed slots read and leave. -/
module

public import proofs.«01_k».proof.Proof.FRing
public import proofs.«01_k».proof.Proof.Gen.Kernel5Ideal.Skeleton
public import Idealize.ShloMosaic.Lib.WritesUnit
public import Idealize.ShloMosaic.Lib.VecWindow
public import Idealize.ShloMosaic.Lib.Pipeline.Value

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

/-- One block's contribution to a row tile: the hidden units' gates and ups are products of the tile with the block's columns, and their
    gated product times the block's rows is added to what is there. -/
def accStep (xb : FVec F S1024x1024 .bf16) (g u : Vec F S1024x256 .f32) (o : FVec F S1024x1024 .f32) (d : Vec F S256x1024 .f32) : FVec F S1024x1024 .f32 :=
  let h : FVec F S1024x256 .f32 := matmul dot_S1024x1024_S1024x256_S1024x256_1_0_0_1_n_n none xb (truncf .bf16 g bitsLt_bf16_f32) (constant S1024x256 .f32 0x00000000#32)
  let p : FVec F S1024x256 .f32 := mulf (mulf h (logistic h)) (matmul dot_S1024x1024_S1024x256_S1024x256_1_0_0_1_n_n none xb (truncf .bf16 u bitsLt_bf16_f32) (constant S1024x256 .f32 0x00000000#32))
  addf o (matmul dot_S1024x256_S256x1024_S1024x1024_1_0_0_1_n_n none (truncf .bf16 p bitsLt_bf16_f32) (truncf .bf16 d bitsLt_bf16_f32) (constant S1024x1024 .f32 0x00000000#32))

theorem shapeCast_same {e : EltTy} (x : Vec F S1024x1024 e) (h) : shapeCast S1024x1024 x h = x := by
  funext y; exact congrArg x (by simp)

theorem pay1_step (x : Vec F S1024x1024 .bf16) (g u : Vec F S1x1024x256 .f32) (o : Vec F S1024x1024 .f32) (d : Vec F S1x256x1024 .f32)
    {x' : Vec F S1024x1024 .bf16} {g' u' : Vec F S1024x256 .f32} {o' : Vec F S1024x1024 .f32} {d' : Vec F S256x1024 .f32}
    (hx : x = x') (hg : shapeCast S1024x256 g shapeCasts_S1x1024x256_S1024x256 = g') (hu : shapeCast S1024x256 u shapeCasts_S1x1024x256_S1024x256 = u')
    (ho : o = o') (hd : shapeCast S256x1024 d shapeCasts_S1x256x1024_S256x1024 = d') :
    k0_pay1 x (k0_pay4 x g) (k0_pay5 u) o d = accStep x' g' u' o' d' := by
  subst hx hg hu ho hd
  exact shapeCast_same (e := .f32) _ _

theorem read_landed {κ : Kind} {sp : Space} {S : Shape} {e : EltTy} (v : View sig κ sp S e) (f : v.ty.Contents (Elt F)) (w : S.Idx → Elt F e) :
    v.read (Elt F) (v.writes (Elt F) f [⟨Rect.whole S, w⟩]) = w := by
  have key : ∀ y, v.read (Elt F) (v.writes (Elt F) f [⟨Rect.whole S, w⟩]) ((Rect.whole S).emb y) = w y := fun y =>
    View.read_slice_write_emb (Val := Elt F) (v := v) (Rect.whole S) f w (Finset.mem_univ y)
  funext y; simpa using key y

/-- A whole-buffer store's value is what the buffer then reads, whatever was stored before. -/
theorem read_stored {κ : Kind} {sp : Space} (v : View sig κ sp S1024x1024 .f32) (f : v.ty.Contents (Elt F)) (h) (w : S1024x1024.Idx → Elt F .f32)
    (L : List (View.Piece (Elt F) S1024x1024 .f32)) :
    v.read (Elt F) (v.writes (Elt F) f (⟨Rect.unit ![0, 0] S1024x1024.size h, w⟩ :: L)) = w :=
  funext fun y => View.read_writes_cons_unit_of_mem v f h w L y y rfl fun a => by fin_cases a <;> simp
theorem readAt_tile {κ : Kind} {sp : Space} {e : EltTy} (v : View sig κ sp S1024x1024 e) (f : v.ty.Contents (Elt F)) (h) :
    v.readAt (Elt F) (Rect.unit (s := S1024x1024) ![0, 0] S1024x1024.size h).toLoadRect f = v.read (Elt F) f := by
  funext y
  exact congrArg (v.read (Elt F) f) (funext fun a => Fin.ext (by fin_cases a <;> simp [Rect.unit, LoadRect.idx, Rect.toLoadRect]))
theorem readAt_row {κ : Kind} {sp : Space} {e : EltTy} (v : View sig κ sp S1x1x1024 e) (f : v.ty.Contents (Elt F)) (h) :
    v.readAt (Elt F) (Rect.unit (s := S1x1x1024) ![0, 0, 0] S1x1x1024.size h).toLoadRect f = v.read (Elt F) f := by
  funext y
  exact congrArg (v.read (Elt F) f) (funext fun a => Fin.ext (match a with
    | 0 => (by show 0 + 1 * (y 0).val = (y 0).val; omega)
    | 1 => (by show 0 + 1 * (y 1).val = (y 1).val; omega)
    | 2 => (by show 0 + 1 * (y 2).val = (y 2).val; omega)))
theorem pay2_eq {h h' : Vec F S1024x1024 .f32} {g g' : Vec F S1x1x1024 .f32} {s s' : Vec F S1024x1024 .f32} (eh : h = h') (eg : g = g') (es : s = s') :
    k0_pay2 h g s = k0_pay2 h' g' s' := by subst eh eg es; rfl
theorem cov_tile {κ : Kind} {sp : Space} {e : EltTy} (v : View sig κ sp S1024x1024 e) (h) (w : S1024x1024.Idx → Elt F e) :
    v.readCov [(⟨Rect.unit ![0, 0] S1024x1024.size h, w⟩ : View.Piece (Elt F) S1024x1024 e)] (Rect.unit ![0, 0] S1024x1024.size h).toLoadRect = w :=
  View.readCov_unit_zero (S := S1024x1024) v (by funext a; fin_cases a <;> rfl) h w

/-- Slot `s`, loaded after block `n` landed in it, gives that block. -/
theorem slotG_load (c : Dev nD) (s : Fin 3) {off : Fin 3 → Nat} (h : ∀ a, off a + S1x1024x256.size a ≤ S3x1024x256.size a) (e : off = ![s.val, 0, 0]) (f : BufOf (F := F) c (slotG s)) :
    shapeCast S1024x256 (View.readAt (Elt F) scG.view (Rect.unit (s := S3x1024x256) off S1x1024x256.size h).toLoadRect f) shapeCasts_S1x1024x256_S1024x256 = (slotG s).view.read (Elt F) f := by
  subst e; rfl
theorem loadG (c : Dev nD) (t : Fin grid0.N) (n : ℕ) (W : BufOf (F := F) c opG) (f : BufOf (F := F) c (slotG (sl t.val))) :
    shapeCast S1024x256 (View.readAt (Elt F) scG.view (Rect.unit (s := S3x1024x256) (k0_off29 (grid0.coords t)) S1x1024x256.size (k0_off29_inb (grid0.coords t))).toLoadRect (landedG c W (sl t.val) n f)) shapeCasts_S1x1024x256_S1024x256
      = (blkG n).view.read (Elt F) W :=
  (slotG_load c _ _ (coff29 t) _).trans (read_landed _ _ _)

/-- Slot `s`, loaded after block `n` landed in it, gives that block. -/
theorem slotU_load (c : Dev nD) (s : Fin 3) {off : Fin 3 → Nat} (h : ∀ a, off a + S1x1024x256.size a ≤ S3x1024x256.size a) (e : off = ![s.val, 0, 0]) (f : BufOf (F := F) c (slotU s)) :
    shapeCast S1024x256 (View.readAt (Elt F) scU.view (Rect.unit (s := S3x1024x256) off S1x1024x256.size h).toLoadRect f) shapeCasts_S1x1024x256_S1024x256 = (slotU s).view.read (Elt F) f := by
  subst e; rfl
theorem loadU (c : Dev nD) (t : Fin grid0.N) (n : ℕ) (W : BufOf (F := F) c opU) (f : BufOf (F := F) c (slotU (sl t.val))) :
    shapeCast S1024x256 (View.readAt (Elt F) scU.view (Rect.unit (s := S3x1024x256) (k0_off29 (grid0.coords t)) S1x1024x256.size (k0_off29_inb (grid0.coords t))).toLoadRect (landedU c W (sl t.val) n f)) shapeCasts_S1x1024x256_S1024x256
      = (blkU n).view.read (Elt F) W :=
  (slotU_load c _ _ (coff29 t) _).trans (read_landed _ _ _)

/-- Slot `s`, loaded after block `n` landed in it, gives that block. -/
theorem slotD_load (c : Dev nD) (s : Fin 3) {off : Fin 3 → Nat} (h : ∀ a, off a + S1x256x1024.size a ≤ S3x256x1024.size a) (e : off = ![s.val, 0, 0]) (f : BufOf (F := F) c (slotD s)) :
    shapeCast S256x1024 (View.readAt (Elt F) scD.view (Rect.unit (s := S3x256x1024) off S1x256x1024.size h).toLoadRect f) shapeCasts_S1x256x1024_S256x1024 = (slotD s).view.read (Elt F) f := by
  subst e; rfl
theorem loadD (c : Dev nD) (t : Fin grid0.N) (n : ℕ) (W : BufOf (F := F) c opD) (f : BufOf (F := F) c (slotD (sl t.val))) :
    shapeCast S256x1024 (View.readAt (Elt F) scD.view (Rect.unit (s := S3x256x1024) (k0_off30 (grid0.coords t)) S1x256x1024.size (k0_off30_inb (grid0.coords t))).toLoadRect (landedD c W (sl t.val) n f)) shapeCasts_S1x256x1024_S256x1024
      = (blkD n).view.read (Elt F) W :=
  (slotD_load c _ _ (coff30 t) _).trans (read_landed _ _ _)

end Cert.Ffn

end
-- ==== Proof.FInv.lean ====
/- The feed-forward pipeline's invariant and what each point leaves: the three rings of weight blocks, the running sum. -/
module

public import proofs.«01_k».proof.Proof.FStep
public import proofs.«01_k».proof.Proof.Gen.Kernel5Ideal.Frame
public import proofs.«01_k».proof.Proof.Gen.Kernel5Ideal.Points

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

/-! ## The rings before a point -/

section
variable (c : Dev nD) (W : BufOf (F := F) c opG)

/-- What the slot of block `t + k` is before point `t`: the block in flight, for the two blocks next due; else at rest. -/
def atG (t k : ℕ) : sProp 𝕄 := if 0 < t ∧ k < 2 ∧ t + k < 352 then flyG c W (sl (t + k)) (t + k) else freeG c W (sl (t + k))
/-- The ring before point `t`. -/
def ringG (t : ℕ) : sProp 𝕄 := iprop(atG c W t 0 ∗ atG c W t 1 ∗ atG c W t 2)

theorem atG_shift (t : ℕ) (h : 0 < t) : atG c W (t + 1) 0 = atG c W t 1 := by
  have e : (0 < t + 1 ∧ 0 < 2 ∧ t + 1 + 0 < 352) ↔ (0 < t ∧ 1 < 2 ∧ t + 1 < 352) := by omega
  unfold atG
  by_cases hc : 0 < t ∧ 1 < 2 ∧ t + 1 < 352
  · rw [if_pos hc, if_pos (e.mpr hc)]
  · rw [if_neg hc, if_neg (fun x => hc (e.mp x))]
theorem atG_fly (t k : ℕ) (h : 0 < t) (hk : k < 2) (hn : t + k < 352) : atG c W t k = flyG c W (sl (t + k)) (t + k) := by
  unfold atG; rw [if_pos ⟨h, hk, hn⟩]
theorem atG_free (t k : ℕ) (h : ¬ (0 < t ∧ k < 2 ∧ t + k < 352)) : atG c W t k = freeG c W (sl (t + k)) := by unfold atG; rw [if_neg h]
theorem atG_last (t : ℕ) : atG c W (t + 1) 2 = freeG c W (sl t) := by
  rw [atG_free c W (t + 1) 2 (by omega), show t + 1 + 2 = t + 3 from rfl, sl_add3]

/-- The first point finds every slot at rest, -/
theorem ringG_start (t : ℕ) (h : t = 0) : ringG c W t = iprop(freeG c W (sl t) ∗ freeG c W (sl (t + 1)) ∗ freeG c W (sl (t + 2))) := by
  subst h; unfold ringG; rw [atG_free c W 0 0 (by omega), atG_free c W 0 1 (by omega), atG_free c W 0 2 (by omega)]
/-- and leaves the two next blocks in flight; -/
theorem ringG_one (t : ℕ) (h : t = 0) : ringG c W (t + 1)
    = iprop(flyG c W (sl (t + 1)) (t + 1) ∗ flyG c W (sl (t + 2)) (t + 2) ∗ freeG c W (sl t)) := by
  unfold ringG; rw [atG_fly c W (t + 1) 0 (by omega) (by omega) (by omega), atG_fly c W (t + 1) 1 (by omega) (by omega) (by omega), atG_last]
/-- a later point finds its own block in flight; -/
theorem ringG_at (t : ℕ) (h : 0 < t) (hn : t < 352) : ringG c W t
    = iprop(flyG c W (sl t) t ∗ atG c W t 1 ∗ freeG c W (sl (t + 2))) := by
  unfold ringG; rw [atG_fly c W t 0 h (by omega) hn, atG_free c W t 2 (by omega)]; rfl
/-- with two further blocks left it leaves the one after the next in flight, -/
theorem ringG_more (t : ℕ) (h : 0 < t) (hn : t + 2 < 352) : ringG c W (t + 1)
    = iprop(atG c W t 1 ∗ flyG c W (sl (t + 2)) (t + 2) ∗ freeG c W (sl t)) := by
  unfold ringG; rw [atG_shift c W t h, atG_fly c W (t + 1) 1 (by omega) (by omega) (by omega), atG_last]
/-- and otherwise nothing new. -/
theorem ringG_less (t : ℕ) (h : 0 < t) (hn : 352 ≤ t + 2) : ringG c W (t + 1)
    = iprop(atG c W t 1 ∗ freeG c W (sl (t + 2)) ∗ freeG c W (sl t)) := by
  unfold ringG; rw [atG_shift c W t h, atG_free c W (t + 1) 1 (by omega), atG_last]
theorem ringG_end : ringG c W 352 = iprop(freeG c W 1 ∗ freeG c W 2 ∗ freeG c W 0) := by
  unfold ringG; rw [atG_free c W 352 0 (by omega), atG_free c W 352 1 (by omega), atG_free c W 352 2 (by omega)]
  rw [show sl (352 + 0) = 1 from by decide, show sl (352 + 1) = 2 from by decide, show sl (352 + 2) = 0 from by decide]
theorem ringG_zero : ringG c W 0 = iprop(freeG c W 0 ∗ freeG c W 1 ∗ freeG c W 2) := by
  rw [ringG_start c W 0 rfl, show sl 0 = 0 from by decide, show sl (0 + 1) = 1 from by decide, show sl (0 + 2) = 2 from by decide]
end

section
variable (c : Dev nD) (W : BufOf (F := F) c opU)

/-- What the slot of block `t + k` is before point `t`: the block in flight, for the two blocks next due; else at rest. -/
def atU (t k : ℕ) : sProp 𝕄 := if 0 < t ∧ k < 2 ∧ t + k < 352 then flyU c W (sl (t + k)) (t + k) else freeU c W (sl (t + k))
/-- The ring before point `t`. -/
def ringU (t : ℕ) : sProp 𝕄 := iprop(atU c W t 0 ∗ atU c W t 1 ∗ atU c W t 2)

theorem atU_shift (t : ℕ) (h : 0 < t) : atU c W (t + 1) 0 = atU c W t 1 := by
  have e : (0 < t + 1 ∧ 0 < 2 ∧ t + 1 + 0 < 352) ↔ (0 < t ∧ 1 < 2 ∧ t + 1 < 352) := by omega
  unfold atU
  by_cases hc : 0 < t ∧ 1 < 2 ∧ t + 1 < 352
  · rw [if_pos hc, if_pos (e.mpr hc)]
  · rw [if_neg hc, if_neg (fun x => hc (e.mp x))]
theorem atU_fly (t k : ℕ) (h : 0 < t) (hk : k < 2) (hn : t + k < 352) : atU c W t k = flyU c W (sl (t + k)) (t + k) := by
  unfold atU; rw [if_pos ⟨h, hk, hn⟩]
theorem atU_free (t k : ℕ) (h : ¬ (0 < t ∧ k < 2 ∧ t + k < 352)) : atU c W t k = freeU c W (sl (t + k)) := by unfold atU; rw [if_neg h]
theorem atU_last (t : ℕ) : atU c W (t + 1) 2 = freeU c W (sl t) := by
  rw [atU_free c W (t + 1) 2 (by omega), show t + 1 + 2 = t + 3 from rfl, sl_add3]

/-- The first point finds every slot at rest, -/
theorem ringU_start (t : ℕ) (h : t = 0) : ringU c W t = iprop(freeU c W (sl t) ∗ freeU c W (sl (t + 1)) ∗ freeU c W (sl (t + 2))) := by
  subst h; unfold ringU; rw [atU_free c W 0 0 (by omega), atU_free c W 0 1 (by omega), atU_free c W 0 2 (by omega)]
/-- and leaves the two next blocks in flight; -/
theorem ringU_one (t : ℕ) (h : t = 0) : ringU c W (t + 1)
    = iprop(flyU c W (sl (t + 1)) (t + 1) ∗ flyU c W (sl (t + 2)) (t + 2) ∗ freeU c W (sl t)) := by
  unfold ringU; rw [atU_fly c W (t + 1) 0 (by omega) (by omega) (by omega), atU_fly c W (t + 1) 1 (by omega) (by omega) (by omega), atU_last]
/-- a later point finds its own block in flight; -/
theorem ringU_at (t : ℕ) (h : 0 < t) (hn : t < 352) : ringU c W t
    = iprop(flyU c W (sl t) t ∗ atU c W t 1 ∗ freeU c W (sl (t + 2))) := by
  unfold ringU; rw [atU_fly c W t 0 h (by omega) hn, atU_free c W t 2 (by omega)]; rfl
/-- with two further blocks left it leaves the one after the next in flight, -/
theorem ringU_more (t : ℕ) (h : 0 < t) (hn : t + 2 < 352) : ringU c W (t + 1)
    = iprop(atU c W t 1 ∗ flyU c W (sl (t + 2)) (t + 2) ∗ freeU c W (sl t)) := by
  unfold ringU; rw [atU_shift c W t h, atU_fly c W (t + 1) 1 (by omega) (by omega) (by omega), atU_last]
/-- and otherwise nothing new. -/
theorem ringU_less (t : ℕ) (h : 0 < t) (hn : 352 ≤ t + 2) : ringU c W (t + 1)
    = iprop(atU c W t 1 ∗ freeU c W (sl (t + 2)) ∗ freeU c W (sl t)) := by
  unfold ringU; rw [atU_shift c W t h, atU_free c W (t + 1) 1 (by omega), atU_last]
theorem ringU_end : ringU c W 352 = iprop(freeU c W 1 ∗ freeU c W 2 ∗ freeU c W 0) := by
  unfold ringU; rw [atU_free c W 352 0 (by omega), atU_free c W 352 1 (by omega), atU_free c W 352 2 (by omega)]
  rw [show sl (352 + 0) = 1 from by decide, show sl (352 + 1) = 2 from by decide, show sl (352 + 2) = 0 from by decide]
theorem ringU_zero : ringU c W 0 = iprop(freeU c W 0 ∗ freeU c W 1 ∗ freeU c W 2) := by
  rw [ringU_start c W 0 rfl, show sl 0 = 0 from by decide, show sl (0 + 1) = 1 from by decide, show sl (0 + 2) = 2 from by decide]
end

section
variable (c : Dev nD) (W : BufOf (F := F) c opD)

/-- What the slot of block `t + k` is before point `t`: the block in flight, for the two blocks next due; else at rest. -/
def atD (t k : ℕ) : sProp 𝕄 := if 0 < t ∧ k < 2 ∧ t + k < 352 then flyD c W (sl (t + k)) (t + k) else freeD c W (sl (t + k))
/-- The ring before point `t`. -/
def ringD (t : ℕ) : sProp 𝕄 := iprop(atD c W t 0 ∗ atD c W t 1 ∗ atD c W t 2)

theorem atD_shift (t : ℕ) (h : 0 < t) : atD c W (t + 1) 0 = atD c W t 1 := by
  have e : (0 < t + 1 ∧ 0 < 2 ∧ t + 1 + 0 < 352) ↔ (0 < t ∧ 1 < 2 ∧ t + 1 < 352) := by omega
  unfold atD
  by_cases hc : 0 < t ∧ 1 < 2 ∧ t + 1 < 352
  · rw [if_pos hc, if_pos (e.mpr hc)]
  · rw [if_neg hc, if_neg (fun x => hc (e.mp x))]
theorem atD_fly (t k : ℕ) (h : 0 < t) (hk : k < 2) (hn : t + k < 352) : atD c W t k = flyD c W (sl (t + k)) (t + k) := by
  unfold atD; rw [if_pos ⟨h, hk, hn⟩]
theorem atD_free (t k : ℕ) (h : ¬ (0 < t ∧ k < 2 ∧ t + k < 352)) : atD c W t k = freeD c W (sl (t + k)) := by unfold atD; rw [if_neg h]
theorem atD_last (t : ℕ) : atD c W (t + 1) 2 = freeD c W (sl t) := by
  rw [atD_free c W (t + 1) 2 (by omega), show t + 1 + 2 = t + 3 from rfl, sl_add3]

/-- The first point finds every slot at rest, -/
theorem ringD_start (t : ℕ) (h : t = 0) : ringD c W t = iprop(freeD c W (sl t) ∗ freeD c W (sl (t + 1)) ∗ freeD c W (sl (t + 2))) := by
  subst h; unfold ringD; rw [atD_free c W 0 0 (by omega), atD_free c W 0 1 (by omega), atD_free c W 0 2 (by omega)]
/-- and leaves the two next blocks in flight; -/
theorem ringD_one (t : ℕ) (h : t = 0) : ringD c W (t + 1)
    = iprop(flyD c W (sl (t + 1)) (t + 1) ∗ flyD c W (sl (t + 2)) (t + 2) ∗ freeD c W (sl t)) := by
  unfold ringD; rw [atD_fly c W (t + 1) 0 (by omega) (by omega) (by omega), atD_fly c W (t + 1) 1 (by omega) (by omega) (by omega), atD_last]
/-- a later point finds its own block in flight; -/
theorem ringD_at (t : ℕ) (h : 0 < t) (hn : t < 352) : ringD c W t
    = iprop(flyD c W (sl t) t ∗ atD c W t 1 ∗ freeD c W (sl (t + 2))) := by
  unfold ringD; rw [atD_fly c W t 0 h (by omega) hn, atD_free c W t 2 (by omega)]; rfl
/-- with two further blocks left it leaves the one after the next in flight, -/
theorem ringD_more (t : ℕ) (h : 0 < t) (hn : t + 2 < 352) : ringD c W (t + 1)
    = iprop(atD c W t 1 ∗ flyD c W (sl (t + 2)) (t + 2) ∗ freeD c W (sl t)) := by
  unfold ringD; rw [atD_shift c W t h, atD_fly c W (t + 1) 1 (by omega) (by omega) (by omega), atD_last]
/-- and otherwise nothing new. -/
theorem ringD_less (t : ℕ) (h : 0 < t) (hn : 352 ≤ t + 2) : ringD c W (t + 1)
    = iprop(atD c W t 1 ∗ freeD c W (sl (t + 2)) ∗ freeD c W (sl t)) := by
  unfold ringD; rw [atD_shift c W t h, atD_free c W (t + 1) 1 (by omega), atD_last]
theorem ringD_end : ringD c W 352 = iprop(freeD c W 1 ∗ freeD c W 2 ∗ freeD c W 0) := by
  unfold ringD; rw [atD_free c W 352 0 (by omega), atD_free c W 352 1 (by omega), atD_free c W 352 2 (by omega)]
  rw [show sl (352 + 0) = 1 from by decide, show sl (352 + 1) = 2 from by decide, show sl (352 + 2) = 0 from by decide]
theorem ringD_zero : ringD c W 0 = iprop(freeD c W 0 ∗ freeD c W 1 ∗ freeD c W 2) := by
  rw [ringD_start c W 0 rfl, show sl 0 = 0 from by decide, show sl (0 + 1) = 1 from by decide, show sl (0 + 2) = 2 from by decide]
end

/-! ## What the points leave -/

variable (m : (ℓ : Loc nD τ sig) → Buf (Elt F) ℓ)

theorem tile_lt (i : ℕ) : 11 * min i 31 < cfg0.N := Nat.lt_of_lt_of_eq (by omega : 11 * min i 31 < 352) N_0.symm
/-- The rows of row tile `i`. -/
def xTile (c : Dev nD) (i : ℕ) : Vec F S1024x1024 .bf16 := iblk m c 0 ⟨11 * min i 31, tile_lt i⟩
/-- Block `n` of the three weights. -/
def gB (c : Dev nD) (n : ℕ) : Vec F S1024x256 .f32 := (blkG n).view.read (Elt F) (V m c main_arg1)
def uB (c : Dev nD) (n : ℕ) : Vec F S1024x256 .f32 := (blkU n).view.read (Elt F) (V m c main_arg2)
def dB (c : Dev nD) (n : ℕ) : Vec F S256x1024 .f32 := (blkD n).view.read (Elt F) (V m c main_arg3)

/-- The running sum of row tile `i` over its first `j` blocks. -/
def accN (c : Dev nD) (i : ℕ) : ℕ → FVec F S1024x1024 .f32
  | 0 => k0_pay3
  | j + 1 => accStep (xTile m c i) (gB m c (11 * i + j)) (uB m c (11 * i + j)) (accN c i j) (dB m c (11 * i + j))

/-- What point `t` leaves in the accumulator, -/
def accAt (c : Dev nD) (t : ℕ) : FVec F S1024x1024 .f32 := accN m c (t / 11) (t % 11 + 1)
/-- and, at a tile's last point, in the output's staging buffer. -/
def outAt (c : Dev nD) (t : Fin cfg0.N) : FVec F S1024x1024 .f32 :=
  k0_pay2 (iblk m c 1 t : Vec F S1024x1024 .f32) (iblk m c 2 t : Vec F S1x1x1024 .f32) (accAt m c t.val)

theorem ix0_0 : ∀ t : Fin grid0.N, win0_0.index t = ![t.val / 11, 0] := by decide +kernel

/-- A point's block of rows is its row tile's. -/
theorem iblk_tile (c : Dev nD) (t : Fin cfg0.N) : (iblk m c 0 t : Vec F S1024x1024 .bf16) = xTile m c (t.val / 11) := by
  have ht : t.val < 352 := step_lt t
  unfold xTile iblk
  funext y
  refine congrArg (V m c main_arg0) (funext fun b => Fin.ext ?_)
  refine ((Pipeline.Window.rect_emb_val win0_0 t y b).trans ?_).trans (Pipeline.Window.rect_emb_val win0_0 ⟨11 * min (t.val / 11) 31, tile_lt _⟩ y b).symm
  rw [ix0_0, ix0_0]
  have e : 11 * min (t.val / 11) 31 / 11 = t.val / 11 := by omega
  dsimp only
  rw [e]

theorem accAt_first (c : Dev nD) (t : Fin cfg0.N) (h : t.val % 11 = 0) :
    accAt m c t.val = accStep (iblk m c 0 t : Vec F S1024x1024 .bf16) (gB m c t.val) (uB m c t.val) k0_pay3 (dB m c t.val) := by
  rw [iblk_tile]
  unfold accAt
  rw [h]
  show accStep _ (gB m c (11 * (t.val / 11) + 0)) (uB m c (11 * (t.val / 11) + 0)) _ (dB m c (11 * (t.val / 11) + 0)) = _
  rw [show 11 * (t.val / 11) + 0 = t.val from by omega]
  rfl
theorem accAt_next (c : Dev nD) (t : Fin cfg0.N) :
    accAt m c t.val = accStep (iblk m c 0 t : Vec F S1024x1024 .bf16) (gB m c t.val) (uB m c t.val) (accN m c (t.val / 11) (t.val % 11)) (dB m c t.val) := by
  rw [iblk_tile]
  unfold accAt
  show accStep _ (gB m c (11 * (t.val / 11) + t.val % 11)) (uB m c (11 * (t.val / 11) + t.val % 11)) _ (dB m c (11 * (t.val / 11) + t.val % 11)) = _
  rw [show 11 * (t.val / 11) + t.val % 11 = t.val from by omega]
/-- What is left is what the next point finds, inside a tile. -/
theorem accAt_succ (c : Dev nD) (t : ℕ) (h : (t + 1) % 11 ≠ 0) : accAt m c t = accN m c ((t + 1) / 11) ((t + 1) % 11) := by
  unfold accAt
  rw [show (t + 1) / 11 = t / 11 from by omega, show (t + 1) % 11 = t % 11 + 1 from by omega]

/-! ## The proof data -/

/-- The invariant before point `n`: the running sum of the tile under way, the generator register, the three rings. -/
def PhiR (c : Dev nD) (n : ℕ) : sProp 𝕄 :=
  iprop((∃ s, ⌜n % 11 ≠ 0 → s = accN m c (n / 11) (n % 11)⌝ ∗ owns (c : Thread nD τ) mAcc fullShare s)
    ∗ (∃ r, prngReg c r)
    ∗ ringG c (V m c main_arg1) n ∗ ringU c (V m c main_arg2) n ∗ ringD c (V m c main_arg3) n)

/-- The proof data: the arrays as the region finds them; the inputs' buffers left at their blocks, the output's at the gated sum. -/
def dats (p : Fin 1) (c : Dev nD) : Dat τ (Elt F) Unit ℕ (Pipeline.UD sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiR m c t.val
  q _ := fullShare
  owed _ := 0

abbrev dat (c : Dev nD) : Dat τ (Elt F) Unit ℕ (Pipeline.UD sig nD τ) ℕ cfg0 c := dats m 0 c

theorem A_eq (c : Dev nD) (w : Fin 5) : (dat m c).A w = V m c (Pipeline.arrRef spec0 w) := by dsimp only [dat, dats]
theorem PhiR_castSucc (c : Dev nD) (t : Fin cfg0.N) : (dat m c).Φ t.castSucc = PhiR m c t.val := by
  dsimp only [dat, dats]; simp only [Fin.coe_castSucc]
theorem PhiR_succ (c : Dev nD) (t : Fin cfg0.N) : (dat m c).Φ t.succ = PhiR m c (t.val + 1) := by
  dsimp only [dat, dats]; simp only [Fin.val_succ]
theorem after0 (c : Dev nD) (t : Fin cfg0.N) : (dat m c).after 0 t = iblk m c 0 t := by dsimp only [dat, dats]
theorem after1 (c : Dev nD) (t : Fin cfg0.N) : (dat m c).after 1 t = iblk m c 1 t := by dsimp only [dat, dats]
theorem after2 (c : Dev nD) (t : Fin cfg0.N) : (dat m c).after 2 t = iblk m c 2 t := by dsimp only [dat, dats]
theorem after3 (c : Dev nD) (t : Fin cfg0.N) : (dat m c).after 3 t = iblk m c 3 t := by dsimp only [dat, dats]
theorem after4 (c : Dev nD) (t : Fin cfg0.N) : (dat m c).after 4 t = outAt m c t := by dsimp only [dat, dats]

theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Ffn

end
-- ==== Proof.FRunA.lean ====
/- The feed-forward's body, run at the first point: blocks 0, 1 and 2 are issued, the accumulator is cleared, block 0 is waited for and used. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body at the first point: blocks 0, 1 and 2 are issued, the accumulator is cleared, block 0 is waited for and used. -/
theorem run_A (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : k0_cond1 (grid0.coords t) = 1#1) (h2 : k0_cond2 (grid0.coords t) = 1#1) (h3 : k0_cond3 (grid0.coords t) = 1#1) (h4 : k0_cond4 (grid0.coords t) = 1#1) (h5 : k0_cond5 (grid0.coords t) = 1#1) (h6 : clears (grid0.coords t) = 1#1) (h7 : ¬ k0_cond7 (grid0.coords t) = 1#1)
    (x : Vec F S1024x1024 .bf16) (s : Vec F S1024x1024 .f32) (W : Waits sig Unit) (K : PUnit → sProp 𝕄) :
    iprop(owns (c : Thread nD τ) arg2 fullShare x ∗ owns (c : Thread nD τ) mAcc fullShare s ∗ freeG c Wg (sl t.val) ∗ freeG c Wg (sl (t.val + 1)) ∗ freeG c Wg (sl (t.val + 2)) ∗ freeU c Wu (sl t.val) ∗ freeU c Wu (sl (t.val + 1)) ∗ freeU c Wu (sl (t.val + 2)) ∗ freeD c Wd (sl t.val) ∗ freeD c Wd (sl (t.val + 1)) ∗ freeD c Wd (sl (t.val + 2)) ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) k0_pay3 ((blkD t.val).view.read (Elt F) Wd)) ∗ freeG c Wg (sl t.val) ∗ flyG c Wg (sl (t.val + 1)) (t.val + 1) ∗ flyG c Wg (sl (t.val + 2)) (t.val + 2) ∗ freeU c Wu (sl t.val) ∗ flyU c Wu (sl (t.val + 1)) (t.val + 1) ∗ flyU c Wu (sl (t.val + 2)) (t.val + 2) ∗ freeD c Wd (sl t.val) ∗ flyD c Wd (sl (t.val + 1)) (t.val + 1) ∗ flyD c Wd (sl (t.val + 2)) (t.val + 2) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨Hcg0, ⟨%fg0, Hsg0, Hwg0⟩⟩, ⟨Hcg1, ⟨%fg1, Hsg1, Hwg1⟩⟩, ⟨Hcg2, ⟨%fg2, Hsg2, Hwg2⟩⟩, ⟨Hcu0, ⟨%fu0, Hsu0, Hwu0⟩⟩, ⟨Hcu1, ⟨%fu1, Hsu1, Hwu1⟩⟩, ⟨Hcu2, ⟨%fu2, Hsu2, Hwu2⟩⟩, ⟨Hcd0, ⟨%fd0, Hsd0, Hwd0⟩⟩, ⟨Hcd1, ⟨%fd1, Hsd1, Hwd1⟩⟩, ⟨Hcd2, ⟨%fd2, Hsd2, Hwd2⟩⟩, HW, Hk⟩
  ihave Hxg0 := (splitG c Wg (sl t.val) t.val).1 $$ Hwg0
  icases Hxg0 with ⟨Hhg0, Hrg0⟩
  ihave Hxg1 := (splitG c Wg (sl (t.val + 1)) (t.val + 1)).1 $$ Hwg1
  icases Hxg1 with ⟨Hhg1, Hrg1⟩
  ihave Hxg2 := (splitG c Wg (sl (t.val + 2)) (t.val + 2)).1 $$ Hwg2
  icases Hxg2 with ⟨Hhg2, Hrg2⟩
  ihave Hxu0 := (splitU c Wu (sl t.val) t.val).1 $$ Hwu0
  icases Hxu0 with ⟨Hhu0, Hru0⟩
  ihave Hxu1 := (splitU c Wu (sl (t.val + 1)) (t.val + 1)).1 $$ Hwu1
  icases Hxu1 with ⟨Hhu1, Hru1⟩
  ihave Hxu2 := (splitU c Wu (sl (t.val + 2)) (t.val + 2)).1 $$ Hwu2
  icases Hxu2 with ⟨Hhu2, Hru2⟩
  ihave Hxd0 := (splitD c Wd (sl t.val) t.val).1 $$ Hwd0
  icases Hxd0 with ⟨Hhd0, Hrd0⟩
  ihave Hxd1 := (splitD c Wd (sl (t.val + 1)) (t.val + 1)).1 $$ Hwd1
  icases Hxd1 with ⟨Hhd1, Hrd1⟩
  ihave Hxd2 := (splitD c Wd (sl (t.val + 2)) (t.val + 2)).1 $$ Hwd2
  icases Hxd2 with ⟨Hhd2, Hrd2⟩
  obtain rfl := harg2.eq_unread hfx
  obtain rfl : fs = s := (View.read_whole _ _).symm.trans hfs
  sl_exec (disch := first | sl_exact h1 | sl_exact h2 | sl_exact h3 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) (cov_tile mAcc.view inb_S1024x1024_S1024x1024_0_0 _) (loadD c t t.val Wd _))
  isplitl [Hcg0 Hsg0 Hhg0 Hrg0]
  · isplitl [Hcg0]; · iexact Hcg0
    iexists _; isplitl [Hsg0]; · iexact Hsg0
    iapply (splitG c Wg (sl t.val) t.val).2
    isplitl [Hhg0]; · iexact Hhg0
    iexact Hrg0
  isplitl [Hcg1 Hrg1]
  · iexists _; isplitl [Hcg1]; · iexact Hcg1
    iexact Hrg1
  isplitl [Hcg2 Hrg2]
  · iexists _; isplitl [Hcg2]; · iexact Hcg2
    iexact Hrg2
  isplitl [Hcu0 Hsu0 Hhu0 Hru0]
  · isplitl [Hcu0]; · iexact Hcu0
    iexists _; isplitl [Hsu0]; · iexact Hsu0
    iapply (splitU c Wu (sl t.val) t.val).2
    isplitl [Hhu0]; · iexact Hhu0
    iexact Hru0
  isplitl [Hcu1 Hru1]
  · iexists _; isplitl [Hcu1]; · iexact Hcu1
    iexact Hru1
  isplitl [Hcu2 Hru2]
  · iexists _; isplitl [Hcu2]; · iexact Hcu2
    iexact Hru2
  isplitl [Hcd0 Hsd0 Hhd0 Hrd0]
  · isplitl [Hcd0]; · iexact Hcd0
    iexists _; isplitl [Hsd0]; · iexact Hsd0
    iapply (splitD c Wd (sl t.val) t.val).2
    isplitl [Hhd0]; · iexact Hhd0
    iexact Hrd0
  isplitl [Hcd1 Hrd1]
  · iexists _; isplitl [Hcd1]; · iexact Hcd1
    iexact Hrd1
  isplitl [Hcd2 Hrd2]
  · iexists _; isplitl [Hcd2]; · iexact Hcd2
    iexact Hrd2
  iexists _; iexact HW

end Cert.Ffn

end
-- ==== Proof.FRunB.lean ====
/- The feed-forward's body, run at the first step of a later row tile, two further blocks being left. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body at the first step of a later row tile, two further blocks being left. -/
theorem run_B (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : ¬ k0_cond1 (grid0.coords t) = 1#1) (h4 : k0_cond4 (grid0.coords t) = 1#1) (h5 : k0_cond5 (grid0.coords t) = 1#1) (h6 : clears (grid0.coords t) = 1#1) (h7 : ¬ k0_cond7 (grid0.coords t) = 1#1)
    (x : Vec F S1024x1024 .bf16) (s : Vec F S1024x1024 .f32) (W : Waits sig Unit) (K : PUnit → sProp 𝕄) :
    iprop(owns (c : Thread nD τ) arg2 fullShare x ∗ owns (c : Thread nD τ) mAcc fullShare s ∗ flyG c Wg (sl t.val) t.val ∗ freeG c Wg (sl (t.val + 2)) ∗ flyU c Wu (sl t.val) t.val ∗ freeU c Wu (sl (t.val + 2)) ∗ flyD c Wd (sl t.val) t.val ∗ freeD c Wd (sl (t.val + 2)) ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) k0_pay3 ((blkD t.val).view.read (Elt F) Wd)) ∗ freeG c Wg (sl t.val) ∗ flyG c Wg (sl (t.val + 2)) (t.val + 2) ∗ freeU c Wu (sl t.val) ∗ flyU c Wu (sl (t.val + 2)) (t.val + 2) ∗ freeD c Wd (sl t.val) ∗ flyD c Wd (sl (t.val + 2)) (t.val + 2) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨%fg0, Hfg0, Hrg0⟩, ⟨Hcg2, ⟨%fg2, Hsg2, Hwg2⟩⟩, ⟨%fu0, Hfu0, Hru0⟩, ⟨Hcu2, ⟨%fu2, Hsu2, Hwu2⟩⟩, ⟨%fd0, Hfd0, Hrd0⟩, ⟨Hcd2, ⟨%fd2, Hsd2, Hwd2⟩⟩, HW, Hk⟩
  ihave Hxg2 := (splitG c Wg (sl (t.val + 2)) (t.val + 2)).1 $$ Hwg2
  icases Hxg2 with ⟨Hhg2, Hrg2⟩
  ihave Hxu2 := (splitU c Wu (sl (t.val + 2)) (t.val + 2)).1 $$ Hwu2
  icases Hxu2 with ⟨Hhu2, Hru2⟩
  ihave Hxd2 := (splitD c Wd (sl (t.val + 2)) (t.val + 2)).1 $$ Hwd2
  icases Hxd2 with ⟨Hhd2, Hrd2⟩
  obtain rfl := harg2.eq_unread hfx
  obtain rfl : fs = s := (View.read_whole _ _).symm.trans hfs
  sl_exec (disch := first | sl_exact h1 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) (cov_tile mAcc.view inb_S1024x1024_S1024x1024_0_0 _) (loadD c t t.val Wd _))
  isplitl [Hfg0 Hfg0_dst Hfg0_src Hrg0]
  · isplitl [Hfg0]; · iexact Hfg0
    iexists _; isplitl [Hfg0_dst]; · iexact Hfg0_dst
    iapply (splitG c Wg (sl t.val) t.val).2
    isplitl [Hfg0_src]; · iexact Hfg0_src
    iexact Hrg0
  isplitl [Hcg2 Hrg2]
  · iexists _; isplitl [Hcg2]; · iexact Hcg2
    iexact Hrg2
  isplitl [Hfu0 Hfu0_dst Hfu0_src Hru0]
  · isplitl [Hfu0]; · iexact Hfu0
    iexists _; isplitl [Hfu0_dst]; · iexact Hfu0_dst
    iapply (splitU c Wu (sl t.val) t.val).2
    isplitl [Hfu0_src]; · iexact Hfu0_src
    iexact Hru0
  isplitl [Hcu2 Hru2]
  · iexists _; isplitl [Hcu2]; · iexact Hcu2
    iexact Hru2
  isplitl [Hfd0 Hfd0_dst Hfd0_src Hrd0]
  · isplitl [Hfd0]; · iexact Hfd0
    iexists _; isplitl [Hfd0_dst]; · iexact Hfd0_dst
    iapply (splitD c Wd (sl t.val) t.val).2
    isplitl [Hfd0_src]; · iexact Hfd0_src
    iexact Hrd0
  isplitl [Hcd2 Hrd2]
  · iexists _; isplitl [Hcd2]; · iexact Hcd2
    iexact Hrd2
  iexists _; iexact HW

end Cert.Ffn

end
-- ==== Proof.FRunC.lean ====
/- The feed-forward's body, run inside a row tile, two further blocks being left. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body inside a row tile, two further blocks being left. -/
theorem run_C (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : ¬ k0_cond1 (grid0.coords t) = 1#1) (h4 : k0_cond4 (grid0.coords t) = 1#1) (h5 : k0_cond5 (grid0.coords t) = 1#1) (h6 : ¬ clears (grid0.coords t) = 1#1) (h7 : ¬ k0_cond7 (grid0.coords t) = 1#1)
    (x : Vec F S1024x1024 .bf16) (s : Vec F S1024x1024 .f32) (W : Waits sig Unit) (K : PUnit → sProp 𝕄) :
    iprop(owns (c : Thread nD τ) arg2 fullShare x ∗ owns (c : Thread nD τ) mAcc fullShare s ∗ flyG c Wg (sl t.val) t.val ∗ freeG c Wg (sl (t.val + 2)) ∗ flyU c Wu (sl t.val) t.val ∗ freeU c Wu (sl (t.val + 2)) ∗ flyD c Wd (sl t.val) t.val ∗ freeD c Wd (sl (t.val + 2)) ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) s ((blkD t.val).view.read (Elt F) Wd)) ∗ freeG c Wg (sl t.val) ∗ flyG c Wg (sl (t.val + 2)) (t.val + 2) ∗ freeU c Wu (sl t.val) ∗ flyU c Wu (sl (t.val + 2)) (t.val + 2) ∗ freeD c Wd (sl t.val) ∗ flyD c Wd (sl (t.val + 2)) (t.val + 2) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨%fg0, Hfg0, Hrg0⟩, ⟨Hcg2, ⟨%fg2, Hsg2, Hwg2⟩⟩, ⟨%fu0, Hfu0, Hru0⟩, ⟨Hcu2, ⟨%fu2, Hsu2, Hwu2⟩⟩, ⟨%fd0, Hfd0, Hrd0⟩, ⟨Hcd2, ⟨%fd2, Hsd2, Hwd2⟩⟩, HW, Hk⟩
  ihave Hxg2 := (splitG c Wg (sl (t.val + 2)) (t.val + 2)).1 $$ Hwg2
  icases Hxg2 with ⟨Hhg2, Hrg2⟩
  ihave Hxu2 := (splitU c Wu (sl (t.val + 2)) (t.val + 2)).1 $$ Hwu2
  icases Hxu2 with ⟨Hhu2, Hru2⟩
  ihave Hxd2 := (splitD c Wd (sl (t.val + 2)) (t.val + 2)).1 $$ Hwd2
  icases Hxd2 with ⟨Hhd2, Hrd2⟩
  obtain rfl := harg2.eq_unread hfx
  obtain rfl : fs = s := (View.read_whole _ _).symm.trans hfs
  sl_exec (disch := first | sl_exact h1 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [Hfg0 Hfg0_dst Hfg0_src Hrg0]
  · isplitl [Hfg0]; · iexact Hfg0
    iexists _; isplitl [Hfg0_dst]; · iexact Hfg0_dst
    iapply (splitG c Wg (sl t.val) t.val).2
    isplitl [Hfg0_src]; · iexact Hfg0_src
    iexact Hrg0
  isplitl [Hcg2 Hrg2]
  · iexists _; isplitl [Hcg2]; · iexact Hcg2
    iexact Hrg2
  isplitl [Hfu0 Hfu0_dst Hfu0_src Hru0]
  · isplitl [Hfu0]; · iexact Hfu0
    iexists _; isplitl [Hfu0_dst]; · iexact Hfu0_dst
    iapply (splitU c Wu (sl t.val) t.val).2
    isplitl [Hfu0_src]; · iexact Hfu0_src
    iexact Hru0
  isplitl [Hcu2 Hru2]
  · iexists _; isplitl [Hcu2]; · iexact Hcu2
    iexact Hru2
  isplitl [Hfd0 Hfd0_dst Hfd0_src Hrd0]
  · isplitl [Hfd0]; · iexact Hfd0
    iexists _; isplitl [Hfd0_dst]; · iexact Hfd0_dst
    iapply (splitD c Wd (sl t.val) t.val).2
    isplitl [Hfd0_src]; · iexact Hfd0_src
    iexact Hrd0
  isplitl [Hcd2 Hrd2]
  · iexists _; isplitl [Hcd2]; · iexact Hcd2
    iexact Hrd2
  iexists _; iexact HW

end Cert.Ffn

end
-- ==== Proof.FRunD.lean ====
/- The feed-forward's body, run inside the last row tile, where no further block is issued. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body inside the last row tile, where no further block is issued. -/
theorem run_D (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : ¬ k0_cond1 (grid0.coords t) = 1#1) (h4 : ¬ k0_cond4 (grid0.coords t) = 1#1) (h5 : k0_cond5 (grid0.coords t) = 1#1) (h6 : ¬ clears (grid0.coords t) = 1#1) (h7 : ¬ k0_cond7 (grid0.coords t) = 1#1)
    (x : Vec F S1024x1024 .bf16) (s : Vec F S1024x1024 .f32) (W : Waits sig Unit) (K : PUnit → sProp 𝕄) :
    iprop(owns (c : Thread nD τ) arg2 fullShare x ∗ owns (c : Thread nD τ) mAcc fullShare s ∗ flyG c Wg (sl t.val) t.val ∗ flyU c Wu (sl t.val) t.val ∗ flyD c Wd (sl t.val) t.val ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) s ((blkD t.val).view.read (Elt F) Wd)) ∗ freeG c Wg (sl t.val) ∗ freeU c Wu (sl t.val) ∗ freeD c Wd (sl t.val) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨%fg0, Hfg0, Hrg0⟩, ⟨%fu0, Hfu0, Hru0⟩, ⟨%fd0, Hfd0, Hrd0⟩, HW, Hk⟩
  obtain rfl := harg2.eq_unread hfx
  obtain rfl : fs = s := (View.read_whole _ _).symm.trans hfs
  sl_exec (disch := first | sl_exact h1 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [Hfg0 Hfg0_dst Hfg0_src Hrg0]
  · isplitl [Hfg0]; · iexact Hfg0
    iexists _; isplitl [Hfg0_dst]; · iexact Hfg0_dst
    iapply (splitG c Wg (sl t.val) t.val).2
    isplitl [Hfg0_src]; · iexact Hfg0_src
    iexact Hrg0
  isplitl [Hfu0 Hfu0_dst Hfu0_src Hru0]
  · isplitl [Hfu0]; · iexact Hfu0
    iexists _; isplitl [Hfu0_dst]; · iexact Hfu0_dst
    iapply (splitU c Wu (sl t.val) t.val).2
    isplitl [Hfu0_src]; · iexact Hfu0_src
    iexact Hru0
  isplitl [Hfd0 Hfd0_dst Hfd0_src Hrd0]
  · isplitl [Hfd0]; · iexact Hfd0
    iexists _; isplitl [Hfd0_dst]; · iexact Hfd0_dst
    iapply (splitD c Wd (sl t.val) t.val).2
    isplitl [Hfd0_src]; · iexact Hfd0_src
    iexact Hrd0
  iexists _; iexact HW

end Cert.Ffn

end
-- ==== Proof.FRunE.lean ====
/- The feed-forward's body, run at the last step of a row tile but the last: the output is written. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body at the last step of a row tile but the last: the output is written. -/
theorem run_E (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : ¬ k0_cond1 (grid0.coords t) = 1#1) (h4 : k0_cond4 (grid0.coords t) = 1#1) (h5 : k0_cond5 (grid0.coords t) = 1#1) (h6 : ¬ clears (grid0.coords t) = 1#1) (h7 : k0_cond7 (grid0.coords t) = 1#1)
    (x : Vec F S1024x1024 .bf16) (s : Vec F S1024x1024 .f32) (h : Vec F S1024x1024 .f32) (g : Vec F S1x1x1024 .f32) (o : Vec F S1024x1024 .f32) (W : Waits sig Unit) (K : PUnit → sProp 𝕄) :
    iprop(owns (c : Thread nD τ) arg2 fullShare x ∗ owns (c : Thread nD τ) mAcc fullShare s ∗ owns (c : Thread nD τ) arg6 fullShare h ∗ owns (c : Thread nD τ) arg7 fullShare g ∗ owns (c : Thread nD τ) arg9 fullShare o ∗ flyG c Wg (sl t.val) t.val ∗ freeG c Wg (sl (t.val + 2)) ∗ flyU c Wu (sl t.val) t.val ∗ freeU c Wu (sl (t.val + 2)) ∗ flyD c Wd (sl t.val) t.val ∗ freeD c Wd (sl (t.val + 2)) ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) s ((blkD t.val).view.read (Elt F) Wd)) ∗ owns (c : Thread nD τ) arg6 fullShare h ∗ owns (c : Thread nD τ) arg7 fullShare g ∗ owns (c : Thread nD τ) arg9 fullShare (k0_pay2 h g (accStep x ((blkG t.val).view.read (Elt F) Wg) ((blkU t.val).view.read (Elt F) Wu) s ((blkD t.val).view.read (Elt F) Wd))) ∗ freeG c Wg (sl t.val) ∗ flyG c Wg (sl (t.val + 2)) (t.val + 2) ∗ freeU c Wu (sl t.val) ∗ flyU c Wu (sl (t.val + 2)) (t.val + 2) ∗ freeD c Wd (sl t.val) ∗ flyD c Wd (sl (t.val + 2)) (t.val + 2) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨%fh, %hfh, HH⟩, ⟨%fg, %hfg, HG⟩, ⟨%fo, %hfo, HO⟩, ⟨%fg0, Hfg0, Hrg0⟩, ⟨Hcg2, ⟨%fg2, Hsg2, Hwg2⟩⟩, ⟨%fu0, Hfu0, Hru0⟩, ⟨Hcu2, ⟨%fu2, Hsu2, Hwu2⟩⟩, ⟨%fd0, Hfd0, Hrd0⟩, ⟨Hcd2, ⟨%fd2, Hsd2, Hwd2⟩⟩, HW, Hk⟩
  ihave Hxg2 := (splitG c Wg (sl (t.val + 2)) (t.val + 2)).1 $$ Hwg2
  icases Hxg2 with ⟨Hhg2, Hrg2⟩
  ihave Hxu2 := (splitU c Wu (sl (t.val + 2)) (t.val + 2)).1 $$ Hwu2
  icases Hxu2 with ⟨Hhu2, Hru2⟩
  ihave Hxd2 := (splitD c Wd (sl (t.val + 2)) (t.val + 2)).1 $$ Hwd2
  icases Hxd2 with ⟨Hhd2, Hrd2⟩
  obtain rfl := harg2.eq_unread hfx
  obtain rfl : fs = s := (View.read_whole _ _).symm.trans hfs
  obtain rfl := harg6.eq_unread hfh; obtain rfl := harg7.eq_unread hfg; obtain rfl := harg9.eq_unread hfo
  sl_exec (disch := first | sl_exact h1 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [HH]
  · iexists _; isplitr; · ipureintro; exact harg6.read_unread _
    iexact HH
  isplitl [HG]
  · iexists _; isplitr; · ipureintro; exact harg7.read_unread _
    iexact HG
  isplitl [HO]
  · iexists _; isplitr; swap
    · iexact HO
    ipureintro
    refine (read_stored _ _ _ _ _).trans ?_
    dsimp only
    refine pay2_eq ((readAt_tile _ _ _).trans (harg6.read_unread _)) ((readAt_row _ _ _).trans (harg7.read_unread _)) ?_
    refine (cov_tile mAcc.view inb_S1024x1024_S1024x1024_0_0 _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [Hfg0 Hfg0_dst Hfg0_src Hrg0]
  · isplitl [Hfg0]; · iexact Hfg0
    iexists _; isplitl [Hfg0_dst]; · iexact Hfg0_dst
    iapply (splitG c Wg (sl t.val) t.val).2
    isplitl [Hfg0_src]; · iexact Hfg0_src
    iexact Hrg0
  isplitl [Hcg2 Hrg2]
  · iexists _; isplitl [Hcg2]; · iexact Hcg2
    iexact Hrg2
  isplitl [Hfu0 Hfu0_dst Hfu0_src Hru0]
  · isplitl [Hfu0]; · iexact Hfu0
    iexists _; isplitl [Hfu0_dst]; · iexact Hfu0_dst
    iapply (splitU c Wu (sl t.val) t.val).2
    isplitl [Hfu0_src]; · iexact Hfu0_src
    iexact Hru0
  isplitl [Hcu2 Hru2]
  · iexists _; isplitl [Hcu2]; · iexact Hcu2
    iexact Hru2
  isplitl [Hfd0 Hfd0_dst Hfd0_src Hrd0]
  · isplitl [Hfd0]; · iexact Hfd0
    iexists _; isplitl [Hfd0_dst]; · iexact Hfd0_dst
    iapply (splitD c Wd (sl t.val) t.val).2
    isplitl [Hfd0_src]; · iexact Hfd0_src
    iexact Hrd0
  isplitl [Hcd2 Hrd2]
  · iexists _; isplitl [Hcd2]; · iexact Hcd2
    iexact Hrd2
  iexists _; iexact HW

end Cert.Ffn

end
-- ==== Proof.FRunF.lean ====
/- The feed-forward's body, run at the last point: the output is written and no block is issued. -/
module

public import proofs.«01_k».proof.Proof.FStep

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (Pipeline.UD sig nD τ) ℕ

attribute [local irreducible] k0_cond1 k0_cond2 k0_cond3 k0_cond4 k0_cond5 k0_cond7

set_option maxHeartbeats 4000000 in
/-- The body at the last point: the output is written and no block is issued. -/
theorem run_F (c : Dev nD) (t : Fin grid0.N) (arg2 : Memref sig .tc .vmem S1024x1024 .bf16) (harg2 : arg2.IsWhole)
    (arg6 : Memref sig .tc .vmem S1024x1024 .f32) (harg6 : arg6.IsWhole) (arg7 : Memref sig .tc .vmem S1x1x1024 .f32) (harg7 : arg7.IsWhole)
    (arg8 : Memref sig .tc .vmem S1x1024 .f32) (harg8 : arg8.IsWhole) (arg9 : Memref sig .tc .vmem S1024x1024 .f32) (harg9 : arg9.IsWhole)
    (Wg : BufOf (F := F) c opG) (Wu : BufOf (F := F) c opU) (Wd : BufOf (F := F) c opD)
    (h1 : ¬ k0_cond1 (grid0.coords t) = 1#1) (h4 : ¬ k0_cond4 (grid0.coords t) = 1#1) (h5 : k0_cond5 (grid0.coords t) = 1#1) (h6 : ¬ clears (grid0.coords t) = 1#1) (h7 : k0_cond7 (grid0.coords t) = 1#1)
    (x : Vec F S1024x1024 .bf16) (s : Vec F S1024x1024 .f32) (h : Vec F S1024x1024 .f32) (g : Vec F S1x1x1024 .f32) (o : Vec F S1024x1024 .f32) (W : Waits sig Unit) (K : PUnit → sProp 𝕄) :
    iprop(owns (c : Thread nD τ) arg2 fullShare x ∗ owns (c : Thread nD τ) mAcc fullShare s ∗ owns (c : Thread nD τ) arg6 fullShare h ∗ owns (c : Thread nD τ) arg7 fullShare g ∗ owns (c : Thread nD τ) arg9 fullShare o ∗ flyG c Wg (sl t.val) t.val ∗ flyU c Wu (sl t.val) t.val ∗ flyD c Wd (sl t.val) t.val ∗ owes (c : Thread nD τ) 0 W
        ∗ (iprop(owns (c : Thread nD τ) arg2 fullShare x ∗ owns (c : Thread nD τ) mAcc fullShare (accStep x ((blkG t.val).view.read (Elt F) Wg) ((blkU t.val).view.read (Elt F) Wu) s ((blkD t.val).view.read (Elt F) Wd)) ∗ owns (c : Thread nD τ) arg6 fullShare h ∗ owns (c : Thread nD τ) arg7 fullShare g ∗ owns (c : Thread nD τ) arg9 fullShare (k0_pay2 h g (accStep x ((blkG t.val).view.read (Elt F) Wg) ((blkU t.val).view.read (Elt F) Wu) s ((blkD t.val).view.read (Elt F) Wd))) ∗ freeG c Wg (sl t.val) ∗ freeU c Wu (sl t.val) ∗ freeD c Wd (sl t.val) ∗ ∃ W', owes (c : Thread nD τ) 0 W') -∗ K ⟨⟩))
      ⊢ wp frame (wpE (defs₀ (F := F)) Variants.none c none) Set.univ (cc0_ffn (grid0.coords t) arg2 harg2 (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) K := by
  simp only [cc0_ffn_eq_skeleton]; unfold cc0_ffn_skel
  simp only [k0_part1_eq_skeleton]; unfold k0_part1_skel
  unfold owns flyG freeG flyU freeU flyD freeD
  iintro ⟨⟨%fx, %hfx, HX⟩, ⟨%fs, %hfs, HA⟩, ⟨%fh, %hfh, HH⟩, ⟨%fg, %hfg, HG⟩, ⟨%fo, %hfo, HO⟩, ⟨%fg0, Hfg0, Hrg0⟩, ⟨%fu0, Hfu0, Hru0⟩, ⟨%fd0, Hfd0, Hrd0⟩, HW, Hk⟩
  obtain rfl := harg2.eq_unread hfx
  obtain rfl : fs = s := (View.read_whole _ _).symm.trans hfs
  obtain rfl := harg6.eq_unread hfh; obtain rfl := harg7.eq_unread hfg; obtain rfl := harg9.eq_unread hfo
  sl_exec (disch := first | sl_exact h1 | sl_exact h4 | sl_exact h5 | sl_exact h6 | sl_exact h7)
  sl_step
  iapply Hk
  isplitl [HX]
  · iexists _; isplitr; · ipureintro; exact harg2.read_unread _
    iexact HX
  isplitl [HA]
  · iexists _; isplitr; swap
    · iexact HA
    ipureintro
    refine (read_stored _ _ _ _ _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [HH]
  · iexists _; isplitr; · ipureintro; exact harg6.read_unread _
    iexact HH
  isplitl [HG]
  · iexists _; isplitr; · ipureintro; exact harg7.read_unread _
    iexact HG
  isplitl [HO]
  · iexists _; isplitr; swap
    · iexact HO
    ipureintro
    refine (read_stored _ _ _ _ _).trans ?_
    dsimp only
    refine pay2_eq ((readAt_tile _ _ _).trans (harg6.read_unread _)) ((readAt_row _ _ _).trans (harg7.read_unread _)) ?_
    refine (cov_tile mAcc.view inb_S1024x1024_S1024x1024_0_0 _).trans ?_
    dsimp only
    exact (pay1_step _ _ _ _ _ ((readAt_tile _ _ _).trans (harg2.read_unread _)) (loadG c t t.val Wg _) (loadU c t t.val Wu _) ((readAt_tile _ _ _).trans hfs) (loadD c t t.val Wd _))
  isplitl [Hfg0 Hfg0_dst Hfg0_src Hrg0]
  · isplitl [Hfg0]; · iexact Hfg0
    iexists _; isplitl [Hfg0_dst]; · iexact Hfg0_dst
    iapply (splitG c Wg (sl t.val) t.val).2
    isplitl [Hfg0_src]; · iexact Hfg0_src
    iexact Hrg0
  isplitl [Hfu0 Hfu0_dst Hfu0_src Hru0]
  · isplitl [Hfu0]; · iexact Hfu0
    iexists _; isplitl [Hfu0_dst]; · iexact Hfu0_dst
    iapply (splitU c Wu (sl t.val) t.val).2
    isplitl [Hfu0_src]; · iexact Hfu0_src
    iexact Hru0
  isplitl [Hfd0 Hfd0_dst Hfd0_src Hrd0]
  · isplitl [Hfd0]; · iexact Hfd0
    iexists _; isplitl [Hfd0_dst]; · iexact Hfd0_dst
    iapply (splitD c Wd (sl t.val) t.val).2
    isplitl [Hfd0_src]; · iexact Hfd0_src
    iexact Hrd0
  iexists _; iexact HW

end Cert.Ffn

end
-- ==== Proof.FBody.lean ====
/- The feed-forward's body at every grid point, from the invariant to the invariant. -/
module

public import proofs.«01_k».proof.Proof.FInv
public import proofs.«01_k».proof.Proof.FRunA
public import proofs.«01_k».proof.Proof.FRunB
public import proofs.«01_k».proof.Proof.FRunC
public import proofs.«01_k».proof.Proof.FRunD
public import proofs.«01_k».proof.Proof.FRunE
public import proofs.«01_k».proof.Proof.FRunF

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ)

/-! ## The body's staging buffers and its call -/

abbrev ms0 (t : Fin cfg0.N) : Memref sig .tc .vmem S1024x1024 .bf16 := win0_0.stage (cfg0.slots t 0)
abbrev ms1 (t : Fin cfg0.N) : Memref sig .tc .vmem S1024x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1024x1024 .f32 := win0_4.stage (cfg0.slots t 4)
theorem hms0 (t : Fin cfg0.N) : (ms0 t).IsWhole := hstage0_0 ((cfg0.slots t 0).cast nbuf0_0)
theorem hms1 (t : Fin cfg0.N) : (ms1 t).IsWhole := hstage0_1 ((cfg0.slots t 1).cast nbuf0_1)
theorem hms2 (t : Fin cfg0.N) : (ms2 t).IsWhole := hstage0_2 ((cfg0.slots t 2).cast nbuf0_2)
theorem hms3 (t : Fin cfg0.N) : (ms3 t).IsWhole := hstage0_3 ((cfg0.slots t 3).cast nbuf0_3)
theorem hms4 (t : Fin cfg0.N) : (ms4 t).IsWhole := hstage0_4 ((cfg0.slots t 4).cast nbuf0_4)

/-- The body as point `t` calls it. -/
def bodyAt (t : Fin cfg0.N) : Prog (TpuEff nD τ sig (Elt F) Λ₀ .tc) PUnit :=
  cc0_ffn (grid0.coords t) (ms0 t) (hms0 t) (Memref.whole main_arg1) (Memref.isWhole_whole _) (Memref.whole main_arg2) (Memref.isWhole_whole _) (Memref.whole main_arg3) (Memref.isWhole_whole _) (ms1 t) (hms1 t) (ms2 t) (hms2 t) (ms3 t) (hms3 t) (ms4 t) (hms4 t) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem defs₀_row (t : Fin cfg0.N) : defs₀ (F := F) .tc cfg0.body (cfg0.bodyArgs t (cfg0.slots t)) = bodyAt t := by
  unfold defs₀; rw [Defs.onTc_tc]; rfl

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d)))
/-- and what it returns. -/
def bodyPost (c : Dev nD) (t : Fin cfg0.N) : sProp 𝕄 :=
  iprop((dat m c).Φ t.succ ∗ (dat m c).owesAt () t.succ ∗ (dat m c).leavesExact 0 t ∗ (dat m c).leavesExact 1 t ∗ (dat m c).leavesExact 2 t
    ∗ (dat m c).leavesExact 3 t ∗ (dat m c).leavesExact 4 t)

theorem leaves0 (c : Dev nD) (t : Fin cfg0.N) : (dat m c).leavesExact 0 t = owns (c : Thread nD τ) (ms0 t) fullShare (iblk m c 0 t) := by
  rw [← after0]
theorem leaves1 (c : Dev nD) (t : Fin cfg0.N) : (dat m c).leavesExact 1 t = owns (c : Thread nD τ) (ms1 t) fullShare (iblk m c 1 t) := by
  rw [← after1]
theorem leaves2 (c : Dev nD) (t : Fin cfg0.N) : (dat m c).leavesExact 2 t = owns (c : Thread nD τ) (ms2 t) fullShare (iblk m c 2 t) := by
  rw [← after2]
theorem leaves3 (c : Dev nD) (t : Fin cfg0.N) : (dat m c).leavesExact 3 t = owns (c : Thread nD τ) (ms3 t) fullShare (iblk m c 3 t) := by
  rw [← after3]

theorem idle4_iff (t : Fin cfg0.N) : cfg0.idle 4 (grid0.coords t) = true ↔ t.val % 11 ≠ 10 := by
  refine Iff.trans ?_ (not_congr (cond7_iff t))
  show (!(k0_cond7 (grid0.coords t) == 1#1)) = true ↔ _
  simp

/-- At a tile's last point the output's buffer is left at the gated sum; -/
theorem leaves4_live (c : Dev nD) (t : Fin cfg0.N) (h : t.val % 11 = 10) :
    (dat m c).leavesExact 4 t = owns (c : Thread nD τ) (ms4 t) fullShare (outAt m c t) := by
  have e : cfg0.idle 4 (grid0.coords t) = false := Bool.eq_false_iff.mpr fun x => (idle4_iff t).mp x h
  unfold Dat.leavesExact
  change (match cfg0.idle 4 (grid0.coords t) with | true => _ | false => _) = _
  rw [e, after4]
/-- elsewhere it is left alone. -/
theorem leaves4_idle (c : Dev nD) (t : Fin cfg0.N) (h : t.val % 11 ≠ 10) (d) :
    (owns (c : Thread nD τ) (ms4 t) fullShare ((dat m c).before 4 t d) : sProp 𝕄) ⊢ (dat m c).leavesExact 4 t := by
  rw [Dat.leavesExact_idle (dat m c) 4 t ((idle4_iff t).mpr h) (Bool.eq_false_iff.mpr fun x => h ((flush0_4 t).mp x))]
  iintro H; iexists d; iexact H

set_option maxHeartbeats 4000000 in
/-- The first point. -/
theorem body_A (c : Dev nD) (t : Fin cfg0.N) (h0 : t.val = 0) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  unfold Dat.owesAt Pipeline.owesWithin PhiR
  rw [show (dat m c).owed t.castSucc = 0 from rfl, show (dat m c).owed t.succ = 0 from rfl]
  rw [ringG_start c (V m c main_arg1) t.val h0, ringU_start c (V m c main_arg2) t.val h0, ringD_start c (V m c main_arg3) t.val h0,
    ringG_one c (V m c main_arg1) t.val h0, ringU_one c (V m c main_arg2) t.val h0, ringD_one c (V m c main_arg3) t.val h0]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  iapply (run_A c t (ms0 t) (hms0 t) (ms1 t) (hms1 t) (ms2 t) (hms2 t) (ms3 t) (hms3 t) (ms4 t) (hms4 t) (V m c main_arg1) (V m c main_arg2) (V m c main_arg3) ((cond1_iff t).mpr (by omega)) (cond2_on t) ((cond3_iff t).mpr (by omega)) ((cond4_iff t).mpr (by omega)) (cond5_on t) ((clears_iff t).mpr (by omega)) (fun x => absurd ((cond7_iff t).mp x) (by omega)) (iblk m c 0 t) s W _)
  isplitl [H0]; · iexact H0
  isplitl [HA]; · iexact HA
  isplitl [HG0]; · iexact HG0
  isplitl [HG1]; · iexact HG1
  isplitl [HG2]; · iexact HG2
  isplitl [HU0]; · iexact HU0
  isplitl [HU1]; · iexact HU1
  isplitl [HU2]; · iexact HU2
  isplitl [HD0]; · iexact HD0
  isplitl [HD1]; · iexact HD1
  isplitl [HD2]; · iexact HD2
  isplitl [HW]; · iexact HW
  iintro ⟨H0, HA, HG0, HG1, HG2, HU0, HU1, HU2, HD0, HD1, HD2, ⟨%W', HW'⟩⟩
  isplitl [HA Hr HG0 HG1 HG2 HU0 HU1 HU2 HD0 HD1 HD2]
  · isplitl [HA]
    · iexists _; isplitr; swap; · iexact HA
      ipureintro; exact fun h => (accAt_first m c t (by omega)).symm.trans (accAt_succ m c t.val h)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (leaves4_idle m c t (by omega) d4)
  iexact H4

set_option maxHeartbeats 4000000 in
/-- A later tile's first point. -/
theorem body_B (c : Dev nD) (t : Fin cfg0.N) (h0 : 0 < t.val) (hn : t.val + 2 < 352) (h7 : t.val % 11 = 0) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  unfold Dat.owesAt Pipeline.owesWithin PhiR
  rw [show (dat m c).owed t.castSucc = 0 from rfl, show (dat m c).owed t.succ = 0 from rfl]
  rw [ringG_at c (V m c main_arg1) t.val h0 ht, ringU_at c (V m c main_arg2) t.val h0 ht, ringD_at c (V m c main_arg3) t.val h0 ht,
    ringG_more c (V m c main_arg1) t.val h0 (by omega), ringU_more c (V m c main_arg2) t.val h0 (by omega), ringD_more c (V m c main_arg3) t.val h0 (by omega)]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  iapply (run_B c t (ms0 t) (hms0 t) (ms1 t) (hms1 t) (ms2 t) (hms2 t) (ms3 t) (hms3 t) (ms4 t) (hms4 t) (V m c main_arg1) (V m c main_arg2) (V m c main_arg3) (fun x => absurd ((cond1_iff t).mp x) (by omega)) ((cond4_iff t).mpr (by omega)) (cond5_on t) ((clears_iff t).mpr (by omega)) (fun x => absurd ((cond7_iff t).mp x) (by omega)) (iblk m c 0 t) s W _)
  isplitl [H0]; · iexact H0
  isplitl [HA]; · iexact HA
  isplitl [HG0]; · iexact HG0
  isplitl [HG2]; · iexact HG2
  isplitl [HU0]; · iexact HU0
  isplitl [HU2]; · iexact HU2
  isplitl [HD0]; · iexact HD0
  isplitl [HD2]; · iexact HD2
  isplitl [HW]; · iexact HW
  iintro ⟨H0, HA, HG0, HG2, HU0, HU2, HD0, HD2, ⟨%W', HW'⟩⟩
  isplitl [HA Hr HG0 HG1 HG2 HU0 HU1 HU2 HD0 HD1 HD2]
  · isplitl [HA]
    · iexists _; isplitr; swap; · iexact HA
      ipureintro; exact fun h => (accAt_first m c t (by omega)).symm.trans (accAt_succ m c t.val h)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (leaves4_idle m c t (by omega) d4)
  iexact H4

set_option maxHeartbeats 4000000 in
/-- A point inside a tile, two further blocks being left. -/
theorem body_C (c : Dev nD) (t : Fin cfg0.N) (h0 : 0 < t.val) (hn : t.val + 2 < 352) (h7 : t.val % 11 ≠ 0) (h8 : t.val % 11 ≠ 10) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  unfold Dat.owesAt Pipeline.owesWithin PhiR
  rw [show (dat m c).owed t.castSucc = 0 from rfl, show (dat m c).owed t.succ = 0 from rfl]
  rw [ringG_at c (V m c main_arg1) t.val h0 ht, ringU_at c (V m c main_arg2) t.val h0 ht, ringD_at c (V m c main_arg3) t.val h0 ht,
    ringG_more c (V m c main_arg1) t.val h0 (by omega), ringU_more c (V m c main_arg2) t.val h0 (by omega), ringD_more c (V m c main_arg3) t.val h0 (by omega)]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  obtain rfl := hs (by omega)
  iapply (run_C c t (ms0 t) (hms0 t) (ms1 t) (hms1 t) (ms2 t) (hms2 t) (ms3 t) (hms3 t) (ms4 t) (hms4 t) (V m c main_arg1) (V m c main_arg2) (V m c main_arg3) (fun x => absurd ((cond1_iff t).mp x) (by omega)) ((cond4_iff t).mpr (by omega)) (cond5_on t) (fun x => absurd ((clears_iff t).mp x) (by omega)) (fun x => absurd ((cond7_iff t).mp x) (by omega)) (iblk m c 0 t) (accN m c (t.val / 11) (t.val % 11)) W _)
  isplitl [H0]; · iexact H0
  isplitl [HA]; · iexact HA
  isplitl [HG0]; · iexact HG0
  isplitl [HG2]; · iexact HG2
  isplitl [HU0]; · iexact HU0
  isplitl [HU2]; · iexact HU2
  isplitl [HD0]; · iexact HD0
  isplitl [HD2]; · iexact HD2
  isplitl [HW]; · iexact HW
  iintro ⟨H0, HA, HG0, HG2, HU0, HU2, HD0, HD2, ⟨%W', HW'⟩⟩
  isplitl [HA Hr HG0 HG1 HG2 HU0 HU1 HU2 HD0 HD1 HD2]
  · isplitl [HA]
    · iexists _; isplitr; swap; · iexact HA
      ipureintro; exact fun h => (accAt_next m c t).symm.trans (accAt_succ m c t.val h)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (leaves4_idle m c t (by omega) d4)
  iexact H4

set_option maxHeartbeats 4000000 in
/-- The last point but one. -/
theorem body_D (c : Dev nD) (t : Fin cfg0.N) (h0 : 0 < t.val) (hn : 352 ≤ t.val + 2) (h8 : t.val % 11 ≠ 10) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  unfold Dat.owesAt Pipeline.owesWithin PhiR
  rw [show (dat m c).owed t.castSucc = 0 from rfl, show (dat m c).owed t.succ = 0 from rfl]
  rw [ringG_at c (V m c main_arg1) t.val h0 ht, ringU_at c (V m c main_arg2) t.val h0 ht, ringD_at c (V m c main_arg3) t.val h0 ht,
    ringG_less c (V m c main_arg1) t.val h0 (by omega), ringU_less c (V m c main_arg2) t.val h0 (by omega), ringD_less c (V m c main_arg3) t.val h0 (by omega)]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  obtain rfl := hs (by omega)
  iapply (run_D c t (ms0 t) (hms0 t) (ms1 t) (hms1 t) (ms2 t) (hms2 t) (ms3 t) (hms3 t) (ms4 t) (hms4 t) (V m c main_arg1) (V m c main_arg2) (V m c main_arg3) (fun x => absurd ((cond1_iff t).mp x) (by omega)) (fun x => absurd ((cond4_iff t).mp x) (by omega)) (cond5_on t) (fun x => absurd ((clears_iff t).mp x) (by omega)) (fun x => absurd ((cond7_iff t).mp x) (by omega)) (iblk m c 0 t) (accN m c (t.val / 11) (t.val % 11)) W _)
  isplitl [H0]; · iexact H0
  isplitl [HA]; · iexact HA
  isplitl [HG0]; · iexact HG0
  isplitl [HU0]; · iexact HU0
  isplitl [HD0]; · iexact HD0
  isplitl [HW]; · iexact HW
  iintro ⟨H0, HA, HG0, HU0, HD0, ⟨%W', HW'⟩⟩
  isplitl [HA Hr HG0 HG1 HG2 HU0 HU1 HU2 HD0 HD1 HD2]
  · isplitl [HA]
    · iexists _; isplitr; swap; · iexact HA
      ipureintro; exact fun h => (accAt_next m c t).symm.trans (accAt_succ m c t.val h)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (leaves4_idle m c t (by omega) d4)
  iexact H4

set_option maxHeartbeats 4000000 in
/-- A tile's last point, two further blocks being left. -/
theorem body_E (c : Dev nD) (t : Fin cfg0.N) (h0 : 0 < t.val) (hn : t.val + 2 < 352) (h8 : t.val % 11 = 10) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  rw [leaves4_live m c t (by omega)]
  unfold Dat.owesAt Pipeline.owesWithin PhiR
  rw [show (dat m c).owed t.castSucc = 0 from rfl, show (dat m c).owed t.succ = 0 from rfl]
  rw [ringG_at c (V m c main_arg1) t.val h0 ht, ringU_at c (V m c main_arg2) t.val h0 ht, ringD_at c (V m c main_arg3) t.val h0 ht,
    ringG_more c (V m c main_arg1) t.val h0 (by omega), ringU_more c (V m c main_arg2) t.val h0 (by omega), ringD_more c (V m c main_arg3) t.val h0 (by omega)]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  obtain rfl := hs (by omega)
  iapply (run_E c t (ms0 t) (hms0 t) (ms1 t) (hms1 t) (ms2 t) (hms2 t) (ms3 t) (hms3 t) (ms4 t) (hms4 t) (V m c main_arg1) (V m c main_arg2) (V m c main_arg3) (fun x => absurd ((cond1_iff t).mp x) (by omega)) ((cond4_iff t).mpr (by omega)) (cond5_on t) (fun x => absurd ((clears_iff t).mp x) (by omega)) ((cond7_iff t).mpr (by omega)) (iblk m c 0 t) (accN m c (t.val / 11) (t.val % 11)) (iblk m c 1 t) (iblk m c 2 t) ((dat m c).before 4 t d4) W _)
  isplitl [H0]; · iexact H0
  isplitl [HA]; · iexact HA
  isplitl [H1]; · iexact H1
  isplitl [H2]; · iexact H2
  isplitl [H4]; · iexact H4
  isplitl [HG0]; · iexact HG0
  isplitl [HG2]; · iexact HG2
  isplitl [HU0]; · iexact HU0
  isplitl [HU2]; · iexact HU2
  isplitl [HD0]; · iexact HD0
  isplitl [HD2]; · iexact HD2
  isplitl [HW]; · iexact HW
  iintro ⟨H0, HA, H1, H2, H4, HG0, HG2, HU0, HU2, HD0, HD2, ⟨%W', HW'⟩⟩
  isplitl [HA Hr HG0 HG1 HG2 HU0 HU1 HU2 HD0 HD1 HD2]
  · isplitl [HA]
    · iexists _; isplitr; swap; · iexact HA
      ipureintro; exact fun h => absurd h (by omega)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold outAt
  rw [accAt_next]
  unfold gB uB dB
  iexact H4

set_option maxHeartbeats 4000000 in
/-- The last point. -/
theorem body_F (c : Dev nD) (t : Fin cfg0.N) (h0 : 0 < t.val) (hn : 352 ≤ t.val + 2) (h8 : t.val % 11 = 10) :
    bodyPre m c t ⊢ wp frame (wpE (defs₀ (F := F)) Variants.none c none) Set.univ (bodyAt t) (fun _ => bodyPost m c t) := by
  have ht : t.val < 352 := step_lt t
  unfold bodyPre bodyPost bodyAt
  rw [PhiR_castSucc, PhiR_succ, leaves0, leaves1, leaves2, leaves3]
  simp only [before0, before1, before2, before3]
  rw [leaves4_live m c t (by omega)]
  unfold Dat.owesAt Pipeline.owesWithin PhiR
  rw [show (dat m c).owed t.castSucc = 0 from rfl, show (dat m c).owed t.succ = 0 from rfl]
  rw [ringG_at c (V m c main_arg1) t.val h0 ht, ringU_at c (V m c main_arg2) t.val h0 ht, ringD_at c (V m c main_arg3) t.val h0 ht,
    ringG_less c (V m c main_arg1) t.val h0 (by omega), ringU_less c (V m c main_arg2) t.val h0 (by omega), ringD_less c (V m c main_arg3) t.val h0 (by omega)]
  iintro ⟨⟨⟨%s, %hs, HA⟩, Hr, ⟨HG0, HG1, HG2⟩, ⟨HU0, HU1, HU2⟩, ⟨HD0, HD1, HD2⟩⟩, ⟨%W, -, HW⟩, ⟨%d0, H0⟩, ⟨%d1, H1⟩, ⟨%d2, H2⟩, ⟨%d3, H3⟩, ⟨%d4, H4⟩⟩
  obtain rfl := hs (by omega)
  iapply (run_F c t (ms0 t) (hms0 t) (ms1 t) (hms1 t) (ms2 t) (hms2 t) (ms3 t) (hms3 t) (ms4 t) (hms4 t) (V m c main_arg1) (V m c main_arg2) (V m c main_arg3) (fun x => absurd ((cond1_iff t).mp x) (by omega)) (fun x => absurd ((cond4_iff t).mp x) (by omega)) (cond5_on t) (fun x => absurd ((clears_iff t).mp x) (by omega)) ((cond7_iff t).mpr (by omega)) (iblk m c 0 t) (accN m c (t.val / 11) (t.val % 11)) (iblk m c 1 t) (iblk m c 2 t) ((dat m c).before 4 t d4) W _)
  isplitl [H0]; · iexact H0
  isplitl [HA]; · iexact HA
  isplitl [H1]; · iexact H1
  isplitl [H2]; · iexact H2
  isplitl [H4]; · iexact H4
  isplitl [HG0]; · iexact HG0
  isplitl [HU0]; · iexact HU0
  isplitl [HD0]; · iexact HD0
  isplitl [HW]; · iexact HW
  iintro ⟨H0, HA, H1, H2, H4, HG0, HU0, HD0, ⟨%W', HW'⟩⟩
  isplitl [HA Hr HG0 HG1 HG2 HU0 HU1 HU2 HD0 HD1 HD2]
  · isplitl [HA]
    · iexists _; isplitr; swap; · iexact HA
      ipureintro; exact fun h => absurd h (by omega)
    isplitl [Hr]; · iexact Hr
    isplitl [HG0 HG1 HG2]
    · isplitl [HG1]; · iexact HG1
      isplitl [HG2]; · iexact HG2
      iexact HG0
    isplitl [HU0 HU1 HU2]
    · isplitl [HU1]; · iexact HU1
      isplitl [HU2]; · iexact HU2
      iexact HU0
    isplitl [HD1]; · iexact HD1
    isplitl [HD2]; · iexact HD2
    iexact HD0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold outAt
  rw [accAt_next]
  unfold gB uB dB
  iexact H4

/-- The body at any point. -/
theorem sound_body (c : Dev nD) (t : Fin cfg0.N) :
    bodyPre m c t ⊢ wp frame (wpE (defs₀ (F := F)) Variants.none c none) Set.univ (bodyAt t) (fun _ => bodyPost m c t) := by
  by_cases h0 : t.val = 0
  · exact body_A m c t h0
  have h0' : 0 < t.val := Nat.pos_of_ne_zero h0
  by_cases hn : t.val + 2 < 352
  · by_cases h7 : t.val % 11 = 0
    · exact body_B m c t h0' hn h7
    · by_cases h8 : t.val % 11 = 10
      · exact body_E m c t h0' hn h8
      · exact body_C m c t h0' hn h7 h8
  · by_cases h8 : t.val % 11 = 10
    · exact body_F m c t h0' (Nat.le_of_not_lt hn) h8
    · exact body_D m c t h0' (Nat.le_of_not_lt hn) h8

/-- The library's body obligation, at every point. -/
theorem body_obligation (c : Dev nD) : BodyObligation (dat m c) (defs₀ (F := F)) Variants.none () Set.univ := fun t => by
  rw [bigSep_W0, bigSep_W0, defs₀_row t]
  exact triple_restated (sound_body m c t) rfl .rfl fun _ => .rfl

end Cert.Ffn

end
-- ==== Proof.FLaunch.lean ====
/- The feed-forward's launch: what the region is handed is the invariant, the invariant gives it back; the whole run, and what it leaves unchanged. -/
module

public import proofs.«01_k».proof.Proof.FBody
public import proofs.«01_k».proof.Proof.Gen.Kernel5Ideal.Launch

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the region is handed -/

/-- The kernel's own nine cells. -/
def cells : Fin 9 → SemLoc sig := ![SemLoc.dma 9, SemLoc.dma 10, SemLoc.dma 11, SemLoc.dma 12, SemLoc.dma 13, SemLoc.dma 14, SemLoc.dma 15, SemLoc.dma 16, SemLoc.dma 17]
theorem cells_own : Pipeline.OwnSemFacts spec0 cells := by decide
omit [FloatOps F] in
theorem cells_eq (c : Dev nD) :
    (Pipeline.ownSems0 (Ix := Unit) (Name := ℕ) (U := Pipeline.UD sig nD τ) (Lvl := ℕ) (Val := Elt F) (τ := τ) cells c : sProp 𝕄)
      = iprop(cellP c 0 0 ∗ cellP c 0 1 ∗ cellP c 0 2 ∗ cellP c 1 0 ∗ cellP c 1 1 ∗ cellP c 1 2 ∗ cellP c 2 0 ∗ cellP c 2 1 ∗ cellP c 2 2) := by
  rw [Pipeline.ownSems0_eq_of_list c cells [0, 1, 2, 3, 4, 5, 6, 7, 8] (by decide) (by decide)]; rfl

/-- The three weight arrays the body copies blocks from. -/
def weights : Finset (Ref sig .tc) := {main_arg1, main_arg2, main_arg3}
theorem weights_sub : weights ⊆ Pipeline.restRefs sig spec0 := by decide
theorem weights_eq (c : Dev nD) :
    (bigSep weights (fun b => ((c : Thread nD τ).loc b) ↦{fullShare} V m c b) : sProp 𝕄)
      = iprop(held c opG (V m c main_arg1) ∗ held c opU (V m c main_arg2) ∗ held c opD (V m c main_arg3)) := by
  rw [BI.bigSep_eq_bigSepL_of_eq [main_arg1, main_arg2, main_arg3] (by decide) (by decide)]; rfl

theorem region_eq (c : Dev nD) : (Pipeline.ΦD cells spec0 weights (V m) c : sProp 𝕄)
    = iprop(((∃ d, owns (c : Thread nD τ) mAcc fullShare d) ∗ (∃ d, owns (c : Thread nD τ) scG fullShare d) ∗ (∃ d, owns (c : Thread nD τ) scU fullShare d) ∗ (∃ d, owns (c : Thread nD τ) scD fullShare d))
      ∗ (∃ r, prngReg c r)
      ∗ (cellP c 0 0 ∗ cellP c 0 1 ∗ cellP c 0 2 ∗ cellP c 1 0 ∗ cellP c 1 1 ∗ cellP c 1 2 ∗ cellP c 2 0 ∗ cellP c 2 1 ∗ cellP c 2 2)
      ∗ (held c opG (V m c main_arg1) ∗ held c opU (V m c main_arg2) ∗ held c opD (V m c main_arg3))) := by
  rw [Pipeline.ΦD_eq, scopedRest0_eq, cells_eq, weights_eq]; simp only [mAcc, scG, scU, scD, owns_whole]; try rfl

theorem hin (c : Dev nD) : Pipeline.ΦD cells spec0 weights (V m) c ⊢ (dat m c).Φ 0 := by
  rw [region_eq, show (dat m c).Φ 0 = PhiR m c 0 from rfl]
  unfold PhiR
  rw [ringG_zero, ringU_zero, ringD_zero]
  iintro ⟨⟨HX, HSG, HSU, HSD⟩, Hr, ⟨HG0, HG1, HG2, HU0, HU1, HU2, HD0, HD1, HD2⟩, ⟨HWG, HWU, HWD⟩⟩
  isplitl [HX]
  · icases HX with ⟨%d, HX⟩
    iexists d; isplitr; swap; · iexact HX
    ipureintro; exact fun h => absurd rfl h
  isplitl [Hr]; · iexact Hr
  isplitl [HSG HG0 HG1 HG2 HWG]
  · iapply (ringG_in c (V m c main_arg1))
    isplitl [HSG]; · iexact HSG
    isplitl [HG0 HG1 HG2]
    · isplitl [HG0]; · iexact HG0
      isplitl [HG1]; · iexact HG1
      iexact HG2
    iexact HWG
  isplitl [HSU HU0 HU1 HU2 HWU]
  · iapply (ringU_in c (V m c main_arg2))
    isplitl [HSU]; · iexact HSU
    isplitl [HU0 HU1 HU2]
    · isplitl [HU0]; · iexact HU0
      isplitl [HU1]; · iexact HU1
      iexact HU2
    iexact HWU
  iapply (ringD_in c (V m c main_arg3))
  isplitl [HSD]; · iexact HSD
  isplitl [HD0 HD1 HD2]
  · isplitl [HD0]; · iexact HD0
    isplitl [HD1]; · iexact HD1
    iexact HD2
  iexact HWD

theorem hout (c : Dev nD) : (dat m c).Φ (Fin.last cfg0.N) ⊢ Pipeline.ΦD cells spec0 weights (V m) c := by
  rw [region_eq, show (dat m c).Φ (Fin.last cfg0.N) = PhiR m c grid0.N from rfl]
  unfold PhiR
  rw [show grid0.N = 352 from N_0, ringG_end, ringU_end, ringD_end]
  iintro ⟨⟨%xb, -, HX⟩, Hr, ⟨HG1, HG2, HG0⟩, ⟨HU1, HU2, HU0⟩, ⟨HD1, HD2, HD0⟩⟩
  ihave HQG := (ringG_out c (V m c main_arg1)) $$ [HG0 HG1 HG2]
  · isplitl [HG0]; · iexact HG0
    isplitl [HG1]; · iexact HG1
    iexact HG2
  icases HQG with ⟨HSG, ⟨HG0, HG1, HG2⟩, HWG⟩
  ihave HQU := (ringU_out c (V m c main_arg2)) $$ [HU0 HU1 HU2]
  · isplitl [HU0]; · iexact HU0
    isplitl [HU1]; · iexact HU1
    iexact HU2
  icases HQU with ⟨HSU, ⟨HU0, HU1, HU2⟩, HWU⟩
  ihave HQD := (ringD_out c (V m c main_arg3)) $$ [HD0 HD1 HD2]
  · isplitl [HD0]; · iexact HD0
    isplitl [HD1]; · iexact HD1
    iexact HD2
  icases HQD with ⟨HSD, ⟨HD0, HD1, HD2⟩, HWD⟩
  isplitl [HX HSG HSU HSD]
  · isplitl [HX]; · iexists xb; iexact HX
    isplitl [HSG]; · iexact HSG
    isplitl [HSU]; · iexact HSU
    iexact HSD
  isplitl [Hr]; · iexact Hr
  isplitl [HG0 HG1 HG2 HU0 HU1 HU2 HD0 HD1 HD2]
  · isplitl [HG0]; · iexact HG0
    isplitl [HG1]; · iexact HG1
    isplitl [HG2]; · iexact HG2
    isplitl [HU0]; · iexact HU0
    isplitl [HU1]; · iexact HU1
    isplitl [HU2]; · iexact HU2
    isplitl [HD0]; · iexact HD0
    isplitl [HD1]; · iexact HD1
    iexact HD2
  isplitl [HWG]; · iexact HWG
  isplitl [HWU]; · iexact HWU
  iexact HWD

/-! ## The run -/

set_option backward.isDefEq.respectTransparency.types false in
/-- Every run of the program from `m` ends, with every array as the proof data compute it, every other buffer as the host
    operations leave it, and every semaphore counter at zero. -/
theorem run_main : θ_run (defs (F := F)) (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 cells defs₀ Variants.none
    cells_own weights weights_sub m ρ main
    (hbody := fun c => (body_obligation m c).loose)
    (hshare := fun c => (dat m c).share_full fun _ => rfl)
    (howed := fun _ _ => rfl) (V := V m) (hmain := hmain m Variants.none) (hA := fun c w => A_eq m c w)
    (hin := fun c => hin m c) (hout := fun c => hout m c)

/-- Every run ends with the result as the proof data compute it, the arguments unchanged and every counter at zero. -/
theorem run_result : θ_run (defs (F := F)) (onTc (τ := τ) (main (F := F))) ⟨m, fun _ => 0, ρ⟩ (fun r => (∀ c : Dev nD,
      r.2.mem ((c.tc : Thread nD τ).loc main_v2) = (dat m c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c => ⟨(h.1 c).1 4,
      ((h.1 c).1 0).trans (((dat m c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 1).trans (((dat m c).arrAt_in 1 rfl _).trans ((A_eq m c 1).trans (V_main_arg4 m c))),
      ((h.1 c).1 2).trans (((dat m c).arrAt_in 2 rfl _).trans ((A_eq m c 2).trans (V_main_arg5 m c)))⟩, h.2⟩) (run_main m ρ)

end Cert.Ffn

end
-- ==== Proof.FMachine.lean ====
/- The feed-forward at machine values is the text of the one at ideal values: its frame is the generic run's. -/
module

public import proofs.«01_k».proof.Proof.FLaunch
public import proofs.«01_k».proof.Defs
public import proofs.«01_k».proof.Proof.Gen.Kernel5
public import proofs.«01_k».proof.Proof.Gen.Kernel5Ideal

@[expose] public section

set_option maxRecDepth 16384

noncomputable section

namespace Cert.Ffn

open Idealize.ShloMosaic Idealize.ShloMosaic.TcCoe Idealize.SL.Sem

attribute [local instance] Cert.Kernel5.Gen.facts Cert.Kernel5Ideal.Gen.facts

/-- The two printed bodies are one: their first parts, -/
theorem part_same : Cert.Kernel5.k0_part1 (F := Bits) = Cert.Kernel5Ideal.k0_part1 (F := Bits) := rfl
/-- and the whole. -/
theorem body_same : Cert.Kernel5.cc0_ffn (F := Bits) = Cert.Kernel5Ideal.cc0_ffn (F := Bits) := rfl
/-- So are the two body tables, -/
theorem rows_same : Cert.Kernel5.defs₀ (F := Bits) = Cert.Kernel5Ideal.defs₀ (F := Bits) := by
  funext p l x
  match p with
  | .tc =>
    match l, x with
    | ⟨0, _⟩, (t, s) =>
      unfold Cert.Kernel5.defs₀ Cert.Kernel5Ideal.defs₀
      rw [Defs.onTc_tc, Defs.onTc_tc]
      dsimp only
      rw [body_same]
      rfl
    | ⟨_ + 1, h⟩, _ => exact absurd h (Nat.not_lt.2 (Nat.le_add_left _ _))
  | .scScalar _ => rfl
  | .scVector _ _ => rfl
/-- the pipelines' tables, -/
theorem defs_same : Cert.Kernel5.defs (F := Bits) = Cert.Kernel5Ideal.defs (F := Bits) :=
  congrArg (Pipeline.defs (Cert.Kernel5Ideal.pcfgs (F := Bits))) rows_same
/-- and the two host programs. -/
theorem main_same : Cert.Kernel5.main (F := Bits) = Cert.Kernel5Ideal.main (F := Bits) := rfl

/-- The feed-forward at machine values ends, its arguments unchanged and every counter at zero. -/
theorem frame_kernel5 : Cert.quiescent_Kernel5 := by
  intro m ρ _
  rw [defs_same, main_same]
  exact (θ_run Cert.Kernel5Ideal.defs _ _).mono (fun _ h => ⟨fun c => (h.1 c).2, h.2⟩) (run_result (F := Bits) m ρ)

/-- The feed-forward at ideal values ends, its arguments unchanged and every counter at zero. -/
theorem frame_ideal5 : Cert.quiescent_Kernel5Ideal := fun m ρ _ =>
  (θ_run Cert.Kernel5Ideal.defs _ _).mono (fun _ h => ⟨fun c => (h.1 c).2, h.2⟩) (run_result (F := Ideal) m ρ)

end Cert.Ffn

end
-- ==== Proof.FValue.lean ====
/- The feed-forward's result, array row by array row: the tile's whole sum, gated and added to the tokens. -/
module

public import proofs.«01_k».proof.Proof.FLaunch
public import Idealize.ShloMosaic.Lib.Pointwise

@[expose] public section

set_option maxRecDepth 16384

noncomputable section

namespace Cert.Ffn

open Idealize.ShloMosaic Idealize.ShloMosaic.TcCoe Idealize.ShloMosaic.Tactic
open Idealize.SL Idealize.SL.Sem
open Cert.Kernel5Ideal Cert.Kernel5Ideal.Gen

variable {F : FTy → Type} [FloatOps F]
variable (m : (ℓ : Loc nD τ sig) → Buf (Elt F) ℓ)

theorem ix0_1 : ∀ t : Fin grid0.N, win0_1.index t = ![t.val / 11, 0] := by decide +kernel
theorem ix0_2 : ∀ t : Fin grid0.N, win0_2.index t = ![6 * (t.val / 22) + 5, 0, 0] := by decide +kernel
theorem ix0_4 : ∀ t : Fin grid0.N, win0_4.index t = ![t.val / 11, 0] := by decide +kernel

/-- The last point of row tile `i`. -/
def lastOf (i : ℕ) : Fin cfg0.N := ⟨11 * min i 31 + 10, Nat.lt_of_lt_of_eq (by omega : 11 * min i 31 + 10 < 352) N_0.symm⟩

/-- The tokens' block at tile `i`'s last point: rows `1024 i` on, -/
theorem hTile_apply (c : Dev nD) (i : ℕ) (hi : i < 32) (r q : Fin 1024) :
    (iblk m c 1 (lastOf i) : Vec F S1024x1024 .f32) (ix2 r q) = (m ((c : Thread nD τ).loc main_arg4) : S32768x1024.Idx → F .f32) (ix2 ⟨1024 * i + r.val, by omega⟩ q) := by
  rw [← V_main_arg4 m c]
  unfold iblk
  refine congrArg (V m c main_arg4) (funext fun b => Fin.ext ?_)
  refine (Pipeline.Window.rect_emb_val win0_1 (lastOf i) (ix2 r q) b).trans ?_
  rw [ix0_1]
  match b with
  | 0 => show (11 * min i 31 + 10) / 11 * 1024 + r.val = 1024 * i + r.val; omega
  | 1 => show 0 * 1024 + q.val = q.val; omega
/-- the gate's block there: row `6 (i / 2) + 5` of the modulation rows, -/
theorem eTile_apply (c : Dev nD) (i : ℕ) (hi : i < 32) (q : Fin 1024) :
    (iblk m c 2 (lastOf i) : Vec F S1x1x1024 .f32) (ix3 0 0 q) = (m ((c : Thread nD τ).loc main_arg5) : S288x1x1024.Idx → F .f32) (ix3 ⟨i / 2 * 6 + 5, by omega⟩ 0 q) := by
  rw [← V_main_arg5 m c]
  unfold iblk
  refine congrArg (V m c main_arg5) (funext fun b => Fin.ext ?_)
  refine (Pipeline.Window.rect_emb_val win0_2 (lastOf i) (ix3 0 0 q) b).trans ?_
  rw [ix0_2]
  match b with
  | 0 => show (6 * ((11 * min i 31 + 10) / 22) + 5) * 1 + 0 = i / 2 * 6 + 5; omega
  | 1 => show 0 * 1 + 0 = 0; omega
  | 2 => show 0 * 1024 + q.val = q.val; omega
/-- and the tile's rows. -/
theorem xTile_apply (c : Dev nD) (i : ℕ) (hi : i < 32) (r k : Fin 1024) :
    xTile m c i (ix2 r k) = (m ((c : Thread nD τ).loc main_arg0) : S32768x1024.Idx → F .bf16) (ix2 ⟨1024 * i + r.val, by omega⟩ k) := by
  rw [← V_main_arg0 m c]
  unfold xTile iblk
  refine congrArg (V m c main_arg0) (funext fun b => Fin.ext ?_)
  refine (Pipeline.Window.rect_emb_val win0_0 _ (ix2 r k) b).trans ?_
  rw [ix0_0]
  match b with
  | 0 => show 11 * min i 31 / 11 * 1024 + r.val = 1024 * i + r.val; omega
  | 1 => show 0 * 1024 + k.val = k.val; omega

/-- The result. -/
def whole (c : Dev nD) : S32768x1024.Idx → F .f32 := fun i =>
  outAt m c (lastOf ((i 0).val / 1024)) (ix2 ⟨(i 0).val % 1024, Nat.mod_lt _ (by decide)⟩ (i 1))

/-- Where the output's block at point `t` lies in the array. -/
theorem blk4_0 (t : Fin cfg0.N) (x : S1024x1024.Idx) : (((win0_4.blk t).view.emb x : S32768x1024.Idx) 0 : ℕ) = 1024 * (t.val / 11) + (x 0).val := by
  refine (Pipeline.Window.rect_emb_val win0_4 t x (0 : Fin 2)).trans ?_
  rw [ix0_4 t]
  show t.val / 11 * 1024 + (x 0).val = _
  omega
theorem blk4_1 (t : Fin cfg0.N) (x : S1024x1024.Idx) : ((win0_4.blk t).view.emb x : S32768x1024.Idx) 1 = x 1 := by
  refine Fin.ext ((Pipeline.Window.rect_emb_val win0_4 t x (1 : Fin 2)).trans ?_)
  rw [ix0_4 t]
  show 0 * 1024 + (x 1).val = _
  omega

theorem flushed4 (c : Dev nD) (t : Fin cfg0.N) (h : (cfg0.win 4).flush t = true) :
    (dat m c).flushed 4 t = ((cfg0.win 4).blk t).view.read (Elt F) (whole m c) := by
  have h10 := (flush0_4 t).mp h
  have ht : t.val < 352 := step_lt t
  refine Eq.trans (show (dat m c).flushed 4 t = (outAt m c t : S1024x1024.Idx → F .f32) from after4 m c t) ?_
  funext x
  show _ = whole m c ((win0_4.blk t).view.emb x)
  unfold whole
  have e0 := blk4_0 t x
  have e1 := blk4_1 t x
  have hx : (x 0).val < 1024 := (x 0).isLt
  rw [e1]
  have q : lastOf ((((win0_4.blk t).view.emb x : S32768x1024.Idx) 0 : ℕ) / 1024) = t := Fin.ext (by
    show 11 * min ((((win0_4.blk t).view.emb x : S32768x1024.Idx) 0 : ℕ) / 1024) 31 + 10 = t.val
    omega)
  rw [q]
  refine congrArg (outAt m c t) (funext fun b => ?_)
  match b with
  | 0 => exact Fin.ext (by show (x 0).val = _ % 1024; omega)
  | 1 => rfl

/-- The result at a place: the tile's gated sum there. -/
theorem result_apply (c : Dev nD) (R : Fin 32768) (q : Fin 1024) :
    ((dat m c).arrAt 4 cfg0.N : S32768x1024.Idx → F .f32) (ix2 R q) = outAt m c (lastOf (R.val / 1024)) (ix2 ⟨R.val % 1024, Nat.mod_lt _ (by decide)⟩ q) := by
  have hm := (win0_4.blk (lastOf (R.val / 1024))).view.emb_mem_set (ix2 ⟨R.val % 1024, Nat.mod_lt _ (by decide)⟩ q : S1024x1024.Idx)
  have e : ((win0_4.blk (lastOf (R.val / 1024))).view.emb (ix2 ⟨R.val % 1024, Nat.mod_lt _ (by decide)⟩ q : S1024x1024.Idx) : S32768x1024.Idx) = ix2 R q := by
    funext b
    match b with
    | 0 =>
      refine Fin.ext ((blk4_0 _ _).trans ?_)
      show 1024 * ((11 * min (R.val / 1024) 31 + 10) / 11) + R.val % 1024 = R.val
      omega
    | 1 => exact blk4_1 _ _
  rw [e] at hm
  refine ((dat m c).arrAt_apply_of_mem 4 (whole m c) (fun t h => flushed4 m c t h) cfg0.N (lastOf (R.val / 1024)) (ix2 R q) (lastOf _).isLt
    ((flush0_4 _).mpr (by show (11 * min (R.val / 1024) 31 + 10) % 11 = 10; omega)) hm).trans ?_
  rfl

end Cert.Ffn

end
-- ==== Proof.FRef.lean ====
/- The feed-forward's plain reference read at a place: a token's row through the gated hidden units, gated and added to the token. -/
module

public import proofs.«01_k».proof.Proof.Gen.Reference5Ideal.Run
public import Idealize.ShloMosaic.Lib.Pointwise

@[expose] public section

set_option maxRecDepth 16384

noncomputable section

namespace Cert.Ffn

open Idealize.ShloMosaic Idealize.ShloMosaic.TcCoe
open Cert.Reference5Ideal Cert.Reference5Ideal.Gen

/-! ## The formula -/

/-- Hidden unit `f` of a row `x`: the gate's product times its logistic, times the up product. -/
def hidden (x : Fin 1024 → EReal) (g u : Fin 1024 → Fin 2816 → EReal) (f : Fin 2816) : EReal :=
  (∑ k, x k * g k f) * Ideal.logistic (∑ k, x k * g k f) * ∑ k, x k * u k f
/-- The row's feed-forward at column `q`, scaled by the gate `e` and added to the token `h`. -/
def ffnRow (x : Fin 1024 → EReal) (g u : Fin 1024 → Fin 2816 → EReal) (d : Fin 2816 → Fin 1024 → EReal) (h e : Fin 1024 → EReal) (q : Fin 1024) : EReal :=
  h q + e q * ∑ f, hidden x g u f * d f q

section
variable (x : FVec Ideal S32768x1024 .bf16) (wg wu : FVec Ideal S1x1024x2816 .f32) (wd : FVec Ideal S1x2816x1024 .f32)
  (h : FVec Ideal S32768x1024 .f32) (mo : FVec Ideal S288x1x1024 .f32)

/-! ## The reference -/

/-- The hidden units of every token, -/
def refH : FVec Ideal S32768x2816 .f32 :=
  mulf (mulf (Host.dotGeneral dot_S32768x1024_S1024x2816_S32768x2816_1_0_0_1_n_n none (extf .f32 x bitsLt_bf16_f32) (shapeCast _ wg shapeCasts_S1x1024x2816_S1024x2816))
      (Host.divf (broadcastInDim S32768x2816 ![] bcast_S_S32768x2816 (constant S_ .f32 0x3F800000#32)) (addf (broadcastInDim S32768x2816 ![] bcast_S_S32768x2816 (constant S_ .f32 0x3F800000#32))
        (Host.exp (Host.negf (Host.dotGeneral dot_S32768x1024_S1024x2816_S32768x2816_1_0_0_1_n_n none (extf .f32 x bitsLt_bf16_f32) (shapeCast _ wg shapeCasts_S1x1024x2816_S1024x2816)))))))
    (Host.dotGeneral dot_S32768x1024_S1024x2816_S32768x2816_1_0_0_1_n_n none (extf .f32 x bitsLt_bf16_f32) (shapeCast _ wu shapeCasts_S1x1024x2816_S1024x2816))
/-- the feed-forward of every token, -/
def refY : FVec Ideal S32768x1024 .f32 :=
  Host.dotGeneral dot_S32768x2816_S2816x1024_S32768x1024_1_0_0_1_n_n none (refH x wg wu) (shapeCast _ wd shapeCasts_S1x2816x1024_S2816x1024)
/-- the tokens with it, a batch entry at a time, -/
def refB : FVec Ideal S16x2048x1024 .f32 :=
  addf (shapeCast _ h shapeCasts_S32768x1024_S16x2048x1024) (mulf (broadcastInDim S16x2048x1024 ![0, 1, 2] bcast_S16x1x1024_S16x2048x1024_0_1_2
    (broadcastInDim S16x1x1024 ![0, 2] bcast_S16x1024_S16x1x1024_0_2 (shapeCast _ (extractStridedSlice S1x16x1x1024 ![0, 0, 5, 0] (shapeCast _ mo shapeCasts_S288x1x1024_S2x24x6x1024) slices_S2x24x6x1024_S1x16x1x1024_0_0_5_0) shapeCasts_S1x16x1x1024_S16x1024)))
    (shapeCast _ (refY x wg wu wd) shapeCasts_S32768x1024_S16x2048x1024))
/-- and flat. -/
def refOut : FVec Ideal S32768x1024 .f32 := shapeCast _ (refB x wg wu wd h mo) shapeCasts_S16x2048x1024_S32768x1024

theorem refH_apply (R : Fin 32768) (f : Fin 2816) :
    (refH x wg wu (ix2 R f) : EReal) = hidden (fun k => x (ix2 R k)) (fun k f => wg (ix3 0 k f)) (fun k f => wu (ix3 0 k f)) f := by
  unfold refH hidden
  pointwise
  rfl

theorem refY_apply (R : Fin 32768) (q : Fin 1024) :
    (refY x wg wu wd (ix2 R q) : EReal) = ∑ f, hidden (fun k => x (ix2 R k)) (fun k f => wg (ix3 0 k f)) (fun k f => wu (ix3 0 k f)) f * wd (ix3 0 f q) := by
  simp only [← refH_apply]
  unfold refY
  pointwise

/-- Batch entry `b`'s gate is row `6 b + 5` of the modulation rows. -/
theorem refB_apply (b : Fin 16) (r : Fin 2048) (q : Fin 1024) :
    (refB x wg wu wd h mo (ix3 b r q) : EReal) = h (ix2 ⟨b.val * 2048 + r.val, by omega⟩ q) + mo (ix3 ⟨b.val * 6 + 5, by omega⟩ 0 q) * refY x wg wu wd (ix2 ⟨b.val * 2048 + r.val, by omega⟩ q) := by
  unfold refB
  pointwise

theorem refOut_apply (R : Fin 32768) (q : Fin 1024) :
    (refOut x wg wu wd h mo (ix2 R q) : EReal) = ffnRow (fun k => x (ix2 R k)) (fun k f => wg (ix3 0 k f)) (fun k f => wu (ix3 0 k f)) (fun f q => wd (ix3 0 f q))
      (fun q => h (ix2 R q)) (fun q => mo (ix3 ⟨R.val / 2048 * 6 + 5, by omega⟩ 0 q)) q := by
  have e : (refOut x wg wu wd h mo (ix2 R q) : EReal) = refB x wg wu wd h mo (ix3 ⟨R.val / 2048, by omega⟩ ⟨R.val % 2048, by omega⟩ q) := by
    unfold refOut
    pointwise
  have e' : (⟨R.val / 2048 * 2048 + R.val % 2048, by omega⟩ : Fin 32768) = R := Fin.ext (by dsimp only; omega)
  rw [e, refB_apply]
  simp only [e', refY_apply]
  rfl
end

end Cert.Ffn

end
-- ==== Proof.FSum.lean ====
/- The feed-forward's running sum at ideal values: after a tile's eleven blocks it is the sum over all hidden units. -/
module

public import proofs.«01_k».proof.Proof.FValue
public import proofs.«01_k».proof.Proof.FRef

@[expose] public section

set_option maxRecDepth 16384

noncomputable section

namespace Cert.Ffn

open Idealize.ShloMosaic Idealize.ShloMosaic.TcCoe Idealize.ShloMosaic.Tactic
open Idealize.SL Idealize.SL.Sem
open Cert.Kernel5Ideal Cert.Kernel5Ideal.Gen

/-- A block's columns of the gate weights, at a place, -/
theorem blkG_read {F : FTy → Type} (W : S1x1024x2816.Idx → F .f32) (n : ℕ) (k : Fin 1024) (f : Fin 256) :
    (blkG n).view.read (Elt F) W (ix2 k f) = W (ix3 0 k ⟨256 * (n % 11) + f.val, by omega⟩) := by
  have e : (blkG n).view.read (Elt F) W = shapeCast S1024x256 (fun y : S1x1024x256.Idx =>
      W ((Rect.unit (s := S1x1024x2816) ![0, 0, 256 * (n % 11)] S1x1024x256.size (inb_blk_col n)).emb y)) shapeCasts_S1x1024x256_S1024x256 := rfl
  rw [e]
  pointwise
  refine congrArg W (funext fun b => Fin.ext ?_)
  match b with
  | 0 => rfl
  | 1 => show 0 + 1 * k.val = k.val; omega
  | 2 => show 256 * (n % 11) + 1 * f.val = 256 * (n % 11) + f.val; omega

/-- of the up weights, -/
theorem blkU_read {F : FTy → Type} (W : S1x1024x2816.Idx → F .f32) (n : ℕ) (k : Fin 1024) (f : Fin 256) :
    (blkU n).view.read (Elt F) W (ix2 k f) = W (ix3 0 k ⟨256 * (n % 11) + f.val, by omega⟩) := by
  have e : (blkU n).view.read (Elt F) W = shapeCast S1024x256 (fun y : S1x1024x256.Idx =>
      W ((Rect.unit (s := S1x1024x2816) ![0, 0, 256 * (n % 11)] S1x1024x256.size (inb_blk_col n)).emb y)) shapeCasts_S1x1024x256_S1024x256 := rfl
  rw [e]
  pointwise
  refine congrArg W (funext fun b => Fin.ext ?_)
  match b with
  | 0 => rfl
  | 1 => show 0 + 1 * k.val = k.val; omega
  | 2 => show 256 * (n % 11) + 1 * f.val = 256 * (n % 11) + f.val; omega

/-- and a block's rows of the down weights. -/
theorem blkD_read {F : FTy → Type} (W : S1x2816x1024.Idx → F .f32) (n : ℕ) (f : Fin 256) (q : Fin 1024) :
    (blkD n).view.read (Elt F) W (ix2 f q) = W (ix3 0 ⟨256 * (n % 11) + f.val, by omega⟩ q) := by
  have e : (blkD n).view.read (Elt F) W = shapeCast S256x1024 (fun y : S1x256x1024.Idx =>
      W ((Rect.unit (s := S1x2816x1024) ![0, 256 * (n % 11), 0] S1x256x1024.size (inb_blk_row n)).emb y)) shapeCasts_S1x256x1024_S256x1024 := rfl
  rw [e]
  pointwise
  refine congrArg W (funext fun b => Fin.ext ?_)
  match b with
  | 0 => rfl
  | 1 => show 256 * (n % 11) + 1 * f.val = 256 * (n % 11) + f.val; omega
  | 2 => show 0 + 1 * q.val = q.val; omega

variable (m : (ℓ : Loc nD τ sig) → Buf (Elt Ideal) ℓ)

/-- What one block adds to an entry. -/
theorem accStep_apply (x : FVec Ideal S1024x1024 .bf16) (g u : FVec Ideal S1024x256 .f32) (o : FVec Ideal S1024x1024 .f32) (d : FVec Ideal S256x1024 .f32)
    (r q : Fin 1024) :
    accStep x g u o d (ix2 r q) = o (ix2 r q)
      + ∑ f : Fin 256, ((∑ k : Fin 1024, x (ix2 r k) * g (ix2 k f)) * Ideal.logistic (∑ k : Fin 1024, x (ix2 r k) * g (ix2 k f))
          * ∑ k : Fin 1024, x (ix2 r k) * u (ix2 k f)) * d (ix2 f q) := by
  unfold accStep
  pointwise

theorem zero_apply (r q : Fin 1024) : (k0_pay3 (F := Ideal)) (ix2 r q) = (0 : EReal) := by
  unfold k0_pay3
  pointwise

/-- The last point's output: the token plus the gated sum. -/
theorem out_apply (h : FVec Ideal S1024x1024 .f32) (g : FVec Ideal S1x1x1024 .f32) (s : FVec Ideal S1024x1024 .f32) (r q : Fin 1024) :
    (k0_pay2 (F := Ideal) h g s (ix2 r q) : EReal) = h (ix2 r q) + g (ix3 0 0 q) * s (ix2 r q) := by
  unfold k0_pay2
  pointwise

/-! ## A row tile's sum -/

theorem place (i : ℕ) (j : ℕ) (hj : j < 11) (f : Fin 256) (h) :
    (⟨256 * ((11 * i + j) % 11) + f.val, h⟩ : Fin 2816) = ⟨j * 256 + f.val, by omega⟩ := Fin.ext (by dsimp only; omega)

/-- The blocks of the weights a tile's steps read, in terms of the arguments. -/
theorem gB_apply (c : Dev nD) (i j : ℕ) (hj : j < 11) (k : Fin 1024) (f : Fin 256) :
    gB m c (11 * i + j) (ix2 k f) = (m (c.tc.loc main_arg1) : FVec Ideal S1x1024x2816 .f32) (ix3 0 k ⟨j * 256 + f.val, by omega⟩) := by
  unfold gB
  refine (blkG_read (F := Ideal) (V m c main_arg1) _ k f).trans ?_
  rw [V_main_arg1, place i j hj]
theorem uB_apply (c : Dev nD) (i j : ℕ) (hj : j < 11) (k : Fin 1024) (f : Fin 256) :
    uB m c (11 * i + j) (ix2 k f) = (m (c.tc.loc main_arg2) : FVec Ideal S1x1024x2816 .f32) (ix3 0 k ⟨j * 256 + f.val, by omega⟩) := by
  unfold uB
  refine (blkU_read (F := Ideal) (V m c main_arg2) _ k f).trans ?_
  rw [V_main_arg2, place i j hj]
theorem dB_apply (c : Dev nD) (i j : ℕ) (hj : j < 11) (f : Fin 256) (q : Fin 1024) :
    dB m c (11 * i + j) (ix2 f q) = (m (c.tc.loc main_arg3) : FVec Ideal S1x2816x1024 .f32) (ix3 0 ⟨j * 256 + f.val, by omega⟩ q) := by
  unfold dB
  refine (blkD_read (F := Ideal) (V m c main_arg3) _ f q).trans ?_
  rw [V_main_arg3, place i j hj]

section
variable (x : Fin 1024 → EReal) (g u : Fin 1024 → Fin 2816 → EReal) (d : Fin 2816 → Fin 1024 → EReal) (q : Fin 1024)
/-- What block `s` of the hidden units adds. -/
def blockOut (s : ℕ) : EReal := if h : s < 11 then ∑ f : Fin 256, hidden x g u ⟨s * 256 + f.val, by omega⟩ * d ⟨s * 256 + f.val, by omega⟩ q else 0

theorem blocks_sum : ∑ s ∈ Finset.range 11, blockOut x g u d q s = ∑ f, hidden x g u f * d f q := by
  rw [Finset.sum_range]
  refine Eq.trans ?_ (Fin.sum_univ_tiles 11 256 rfl (fun f : Fin 2816 => hidden x g u f * d f q)).symm
  exact Finset.sum_congr rfl fun s _ => dif_pos s.isLt
end

variable (c : Dev nD)

theorem accN_apply (i : ℕ) (hi : i < 32) (r q : Fin 1024) : ∀ j, j ≤ 11 →
    accN m c i j (ix2 r q) = ∑ s ∈ Finset.range j, blockOut
      (fun k => (m (c.tc.loc main_arg0) : FVec Ideal S32768x1024 .bf16) (ix2 ⟨1024 * i + r.val, by omega⟩ k))
      (fun k f => (m (c.tc.loc main_arg1) : FVec Ideal S1x1024x2816 .f32) (ix3 0 k f))
      (fun k f => (m (c.tc.loc main_arg2) : FVec Ideal S1x1024x2816 .f32) (ix3 0 k f))
      (fun f q => (m (c.tc.loc main_arg3) : FVec Ideal S1x2816x1024 .f32) (ix3 0 f q)) q s
  | 0, _ => zero_apply r q
  | j + 1, hj => by
    rw [Finset.sum_range_succ, ← accN_apply i hi r q j (by omega)]
    refine (accStep_apply _ _ _ _ _ r q).trans (congrArg (fun y : EReal => accN m c i j (ix2 r q) + y) ?_)
    unfold blockOut
    rw [dif_pos (show j < 11 by omega)]
    refine Finset.sum_congr rfl fun f _ => ?_
    unfold hidden
    rw [dB_apply m c i j (by omega)]
    simp only [xTile_apply m c i hi, gB_apply m c i j (show j < 11 by omega), uB_apply m c i j (show j < 11 by omega)]

/-- The result at an entry, in terms of the arguments. -/
theorem result_ideal (R : Fin 32768) (q : Fin 1024) :
    ((dat m c).arrAt 4 cfg0.N : S32768x1024.Idx → EReal) (ix2 R q)
      = ffnRow (fun k => (m (c.tc.loc main_arg0) : FVec Ideal S32768x1024 .bf16) (ix2 R k))
          (fun k f => (m (c.tc.loc main_arg1) : FVec Ideal S1x1024x2816 .f32) (ix3 0 k f))
          (fun k f => (m (c.tc.loc main_arg2) : FVec Ideal S1x1024x2816 .f32) (ix3 0 k f))
          (fun f q => (m (c.tc.loc main_arg3) : FVec Ideal S1x2816x1024 .f32) (ix3 0 f q))
          (fun q => (m (c.tc.loc main_arg4) : FVec Ideal S32768x1024 .f32) (ix2 R q))
          (fun q => (m (c.tc.loc main_arg5) : FVec Ideal S288x1x1024 .f32) (ix3 ⟨R.val / 2048 * 6 + 5, by omega⟩ 0 q)) q := by
  have hi : R.val / 1024 < 32 := by omega
  have e : (⟨1024 * (R.val / 1024) + R.val % 1024, by omega⟩ : Fin 32768) = R := Fin.ext (by dsimp only; omega)
  have e2 : R.val / 1024 / 2 = R.val / 2048 := by omega
  refine (result_apply m c R q).trans ?_
  unfold outAt
  refine (out_apply _ _ _ _ q).trans ?_
  rw [hTile_apply m c _ hi, eTile_apply m c _ hi]
  have ea : accAt m c (lastOf (R.val / 1024)).val = accN m c (R.val / 1024) 11 := by
    unfold accAt
    rw [show (lastOf (R.val / 1024)).val = 11 * (R.val / 1024) + 10 from by show 11 * min (R.val / 1024) 31 + 10 = _; omega,
      show (11 * (R.val / 1024) + 10) / 11 = R.val / 1024 from by omega, show (11 * (R.val / 1024) + 10) % 11 + 1 = 11 from by omega]
  rw [ea, accN_apply m c _ hi _ q 11 le_rfl, blocks_sum]
  unfold ffnRow
  simp only [e, e2]

/-- The reference's result at the launch contents is the kernel's. -/
theorem result_eq :
    refOut (m (c.tc.loc main_arg0)) (m (c.tc.loc main_arg1)) (m (c.tc.loc main_arg2)) (m (c.tc.loc main_arg3)) (m (c.tc.loc main_arg4)) (m (c.tc.loc main_arg5))
      = ((dat m c).arrAt 4 cfg0.N : S32768x1024.Idx → EReal) := by
  funext i
  obtain ⟨R, q, rfl⟩ : ∃ (R : Fin 32768) (q : Fin 1024), i = ix2 R q := ⟨i 0, i 1, by funext b; match b with | 0 => rfl | 1 => rfl⟩
  exact (refOut_apply _ _ _ _ _ _ R q).trans (result_ideal m c R q).symm

end Cert.Ffn

end
-- ==== Proof.lean ====
/- The certificate: the claims of Defs.lean, each by its theorem. -/
module

public import proofs.«01_k».proof.Proof.Machine
public import proofs.«01_k».proof.Proof.Sum
public import proofs.«01_k».proof.Proof.Reference
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_rows_in_range
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.CMachine
public import proofs.«01_k».proof.Proof.CValue
public import proofs.«01_k».proof.Proof.Inproj
public import proofs.«01_k».proof.Proof.InprojRef
public import proofs.«01_k».proof.Proof.Merge
public import proofs.«01_k».proof.Proof.Gen.Kernel5Ideal
public import proofs.«01_k».proof.Proof.Gen.Kernel5Ideal.Frame
public import proofs.«01_k».proof.Proof.Gen.Kernel5Ideal.Launch
public import proofs.«01_k».proof.Proof.Gen.Kernel5Ideal.Skeleton
public import proofs.«01_k».proof.Proof.Gen.Kernel5
public import proofs.«01_k».proof.Proof.Gen.Reference5Ideal
public import proofs.«01_k».proof.Proof.Gen.Reference5Ideal.Run
public import proofs.«01_k».proof.Proof.FMachine
public import proofs.«01_k».proof.Proof.FSum
public import proofs.«01_k».proof.Proof.MergeRef
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_plan_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_plan_in_range.Gen.facts
  Cert.Kernel2.Gen.facts Cert.Kernel2Ideal.Gen.facts Cert.Reference2Ideal.Gen.facts
  Cert.Kernel3.Gen.facts Cert.Kernel3Ideal.Gen.facts Cert.Reference3Ideal.Gen.facts Cert.Pre_rows_in_range.Gen.facts
  Cert.Kernel4.Gen.facts Cert.Kernel4Ideal.Gen.facts Cert.Reference4Ideal.Gen.facts
  Cert.Kernel5.Gen.facts Cert.Kernel5Ideal.Gen.facts Cert.Reference5Ideal.Gen.facts

/-- The reference at ideal values ends, its arguments unchanged and every counter at zero. -/
theorem frame_ref : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- From arguments that agree and a plan in range the kernel and the reference, at ideal values, give the same array. -/
theorem algebraic : Cert.algebraic_KernelIdeal_ReferenceIdeal := by
  intro m ρ m' ρ' hpre hag
  have hp := Gffn.planOk_of_pre _ _ _ _ _ _ (hpre 0)
  refine ⟨fun c => (Gffn.dat m (Gffn.adm m hp) c).arrAt 1 Cert.KernelIdeal.grid0.N, ?_, ?_⟩
  · exact (θ_run Cert.KernelIdeal.defs _ _).mono (fun _ h => h.1) (Gffn.run_result (F := Ideal) m ρ hp)
  · refine (θ_run Cert.ReferenceIdeal.defs _ _).mono (fun r h c => ⟨(h c).1.trans ?_, (h c).2⟩) (Cert.ReferenceIdeal.Value.run (F := Ideal) m' ρ')
    obtain rfl : c = 0 := Subsingleton.elim _ _
    obtain ⟨e0, e1, e2, e3, e4, e5⟩ := hag 0
    rw [e0, e1, e2, e3, e4, e5]
    exact Gffn.result_eq m hp

/-- The input projection runs, on bits and at ideal values, and so does its reference: each ends, its arguments unchanged and every counter at zero. -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ref2 : Cert.quiescent_Reference2Ideal := by
  intro m ρ _
  exact (θ_run Cert.Reference2Ideal.defs _ _).mono
    (fun r h => ⟨fun c => (h c).2.2.2.2.2, sem_eq_zero_of_no_sems (by decide) r.2⟩) (Cert.Reference2Ideal.Value.run (F := Ideal) m ρ)

/-- From arguments that agree the input projection and its reference, at ideal values, give the same five arrays. -/
theorem algebraic2 : Cert.algebraic_Kernel2Ideal_Reference2Ideal := by
  intro m ρ m' ρ' _ hag
  refine ⟨_, _, _, _, _, Cert.Kernel2Ideal.Value.run_blocks (F := Ideal) m ρ, ?_⟩
  refine (θ_run Cert.Reference2Ideal.defs _ _).mono (fun r h c => ?_) (Cert.Reference2Ideal.Value.run (F := Ideal) m' ρ')
  obtain ⟨h0, h1, h2, h3, h4, hk⟩ := h c
  obtain ⟨e0, e1, e2, e3, e4⟩ := hag c
  refine ⟨h0.trans ?_, h1.trans ?_, h2.trans ?_, h3.trans ?_, h4.trans ?_, hk⟩
  · rw [e0, e1]; exact (Inproj.final6 m c).symm
  · rw [e0, e1, e2, e3, e4]; exact (Inproj.final7 m c).symm
  · rw [e0, e1, e2, e3, e4]; exact (Inproj.final8 m c).symm
  · rw [e0, e1, e2, e3, e4]; exact (Inproj.final9 m c).symm
  · rw [e0, e1, e2, e3, e4]; exact (Inproj.final10 m c).symm

/-- The combining call's reference at ideal values ends, its arguments unchanged and every counter at zero. -/
theorem frame_ref3 : Cert.quiescent_Reference3Ideal := by
  intro m ρ _
  exact (θ_run Cert.Reference3Ideal.defs _ _).mono
    (fun r h => ⟨fun c => (h c).2, sem_eq_zero_of_no_sems (by decide) r.2⟩) (Cert.Reference3Ideal.Value.run (F := Ideal) m ρ)

/-- From arguments that agree and positions in range the combining call and its reference, at ideal values, give the same array. -/
theorem algebraic3 : Cert.algebraic_Kernel3Ideal_Reference3Ideal := by
  intro m ρ m' ρ' hpre hag
  have hp := Combine.rows_of_pre _ _ _ _ _ _ (hpre 0)
  refine ⟨fun c => (Combine.dat m (Combine.adm m) c).arrAt 4 Cert.Kernel3Ideal.grid0.N, ?_, ?_⟩
  · exact (θ_run Cert.Kernel3Ideal.defs _ _).mono (fun _ h => h.1) (Combine.run_result (F := Ideal) m ρ hp)
  · refine (θ_run Cert.Reference3Ideal.defs _ _).mono (fun r h c => ⟨(h c).1.trans ?_, (h c).2⟩) (Cert.Reference3Ideal.Value.run (F := Ideal) m' ρ')
    obtain rfl : c = 0 := Subsingleton.elim _ _
    obtain ⟨e0, e1, e2, e3, e4, e5⟩ := hag 0
    unfold Cert.Reference3Ideal.Value.res_main_v36
    rw [e0, e1, e2, e3, e4, e5]
    exact Combine.result_eq m hp

/-- The merging call runs, on bits and at ideal values, and so does its reference: each ends, its arguments unchanged and every counter at zero. -/
theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_ref4 : Cert.quiescent_Reference4Ideal := by
  intro m ρ _
  exact (θ_run Cert.Reference4Ideal.defs _ _).mono
    (fun r h => ⟨fun c => (h c).2.2, sem_eq_zero_of_no_sems (by decide) r.2⟩) (Cert.Reference4Ideal.Value.run (F := Ideal) m ρ)

/-- From arguments that agree the merging call and its reference, at ideal values, give the same two arrays. -/
theorem algebraic4 : Cert.algebraic_Kernel4Ideal_Reference4Ideal := by
  intro m ρ m' ρ' _ hag
  refine ⟨_, _, Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, h1, hk⟩ := h c
  obtain ⟨e0, e1, e2, e3, e4, e5, e6, e7, e8, e9, e10⟩ := hag c
  refine ⟨h0.trans ?_, h1.trans ?_, hk⟩
  · rw [e0, e1, e2, e3, e4, e5, e7, e8, e9, e10]; exact (Merge.final13 m c).symm
  · unfold Cert.Reference4Ideal.Value.res_main_v61
    rw [e0, e1, e2, e3, e4, e5, e6, e7, e8, e9, e10]; exact (Merge.final14 m c).symm

/-- The feed-forward's reference ends, its arguments unchanged and every counter at zero. -/
theorem frame_ref5 : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run (F := Ideal) m ρ)

/-- From arguments that agree the feed-forward and its reference, at ideal values, give the same array. -/
theorem algebraic5 : Cert.algebraic_Kernel5Ideal_Reference5Ideal := by
  intro m ρ m' ρ' _ hag
  refine ⟨fun c => (Ffn.dat m c).arrAt 4 Cert.Kernel5Ideal.cfg0.N, ?_, ?_⟩
  · exact (θ_run Cert.Kernel5Ideal.defs _ _).mono (fun _ h => h.1) (Ffn.run_result (F := Ideal) m ρ)
  · refine (θ_run Cert.Reference5Ideal.defs _ _).mono (fun r h c => ⟨(h c).1.trans ?_, (h c).2⟩) (Cert.Reference5Ideal.Value.run (F := Ideal) m' ρ')
    obtain ⟨e0, e1, e2, e3, e4, e5⟩ := hag c
    rw [e0, e1, e2, e3, e4, e5]
    exact Ffn.result_eq m c

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_plan_in_range.Gen.facts, Cert.Pre_rows_in_range.Gen.facts,
  Gffn.frame_kernel, Gffn.frame_ideal, frame_ref, frame_kernel2, frame_ideal2, frame_ref2, Combine.frame_kernel3, Combine.frame_ideal3, frame_ref3,
  frame_kernel4, frame_ideal4, frame_ref4, Ffn.frame_kernel5, Ffn.frame_ideal5, frame_ref5,
  trivial, algebraic, trivial, algebraic2, trivial, algebraic3, trivial, algebraic4, trivial, algebraic5⟩

end Cert.Proof

end
